-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_OddProj (m : (ℓ : Loc Cert.OddProj.nD Cert.OddProj.τ Cert.OddProj.sig) → Buf (Elt Bits) ℓ) : Prop :=
  True

def Pre_OddProjIdeal (m : (ℓ : Loc Cert.OddProjIdeal.nD Cert.OddProjIdeal.τ Cert.OddProjIdeal.sig) → Buf (Elt Ideal) ℓ) : Prop :=
  True

def Pre_OddProjRefIdeal (m : (ℓ : Loc Cert.OddProjRefIdeal.nD Cert.OddProjRefIdeal.τ Cert.OddProjRefIdeal.sig) → Buf (Elt Ideal) ℓ) : Prop :=
  True

def Pre_OddOut (m : (ℓ : Loc Cert.OddOut.nD Cert.OddOut.τ Cert.OddOut.sig) → Buf (Elt Bits) ℓ) : Prop :=
  True

def Pre_OddOutIdeal (m : (ℓ : Loc Cert.OddOutIdeal.nD Cert.OddOutIdeal.τ Cert.OddOutIdeal.sig) → Buf (Elt Ideal) ℓ) : Prop :=
  True

def Pre_OddOutRefIdeal (m : (ℓ : Loc Cert.OddOutRefIdeal.nD Cert.OddOutRefIdeal.τ Cert.OddOutRefIdeal.sig) → Buf (Elt Ideal) ℓ) : Prop :=
  True

def Pre_EvenProj (m : (ℓ : Loc Cert.EvenProj.nD Cert.EvenProj.τ Cert.EvenProj.sig) → Buf (Elt Bits) ℓ) : Prop :=
  True

def Pre_EvenProjIdeal (m : (ℓ : Loc Cert.EvenProjIdeal.nD Cert.EvenProjIdeal.τ Cert.EvenProjIdeal.sig) → Buf (Elt Ideal) ℓ) : Prop :=
  True

def Pre_EvenProjRefIdeal (m : (ℓ : Loc Cert.EvenProjRefIdeal.nD Cert.EvenProjRefIdeal.τ Cert.EvenProjRefIdeal.sig) → Buf (Elt Ideal) ℓ) : Prop :=
  True

def Pre_EvenOut (m : (ℓ : Loc Cert.EvenOut.nD Cert.EvenOut.τ Cert.EvenOut.sig) → Buf (Elt Bits) ℓ) : Prop :=
  True

def Pre_EvenOutIdeal (m : (ℓ : Loc Cert.EvenOutIdeal.nD Cert.EvenOutIdeal.τ Cert.EvenOutIdeal.sig) → Buf (Elt Ideal) ℓ) : Prop :=
  True

def Pre_EvenOutRefIdeal (m : (ℓ : Loc Cert.EvenOutRefIdeal.nD Cert.EvenOutRefIdeal.τ Cert.EvenOutRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_OddProj [hOddProj : Cert.OddProj.Facts] : Prop :=
  ∀ (m : (ℓ : Loc Cert.OddProj.nD Cert.OddProj.τ Cert.OddProj.sig) → Buf (Elt Bits) ℓ) (g : Dev Cert.OddProj.nD → PrngReg), Pre_OddProj m →
    θ_run (Cert.OddProj.defs (F := Bits)) (onTc (τ := Cert.OddProj.τ) (Cert.OddProj.main (F := Bits))) ⟨m, fun _ => 0, g⟩ (fun r => (∀ c : Dev Cert.OddProj.nD,
      r.2.mem ((c.tc : Thread Cert.OddProj.nD Cert.OddProj.τ).loc Cert.OddProj.main_arg0) = m ((c.tc : Thread Cert.OddProj.nD Cert.OddProj.τ).loc Cert.OddProj.main_arg0)
      ∧ r.2.mem ((c.tc : Thread Cert.OddProj.nD Cert.OddProj.τ).loc Cert.OddProj.main_arg1) = m ((c.tc : Thread Cert.OddProj.nD Cert.OddProj.τ).loc Cert.OddProj.main_arg1)
      ∧ r.2.mem ((c.tc : Thread Cert.OddProj.nD Cert.OddProj.τ).loc Cert.OddProj.main_arg2) = m ((c.tc : Thread Cert.OddProj.nD Cert.OddProj.τ).loc Cert.OddProj.main_arg2))
      ∧ r.2.sem = fun _ => 0)

def quiescent_OddProjIdeal [hOddProjIdeal : Cert.OddProjIdeal.Facts] : Prop :=
  ∀ (m : (ℓ : Loc Cert.OddProjIdeal.nD Cert.OddProjIdeal.τ Cert.OddProjIdeal.sig) → Buf (Elt Ideal) ℓ) (g : Dev Cert.OddProjIdeal.nD → PrngReg), Pre_OddProjIdeal m →
    θ_run (Cert.OddProjIdeal.defs (F := Ideal)) (onTc (τ := Cert.OddProjIdeal.τ) (Cert.OddProjIdeal.main (F := Ideal))) ⟨m, fun _ => 0, g⟩ (fun r => (∀ c : Dev Cert.OddProjIdeal.nD,
      r.2.mem ((c.tc : Thread Cert.OddProjIdeal.nD Cert.OddProjIdeal.τ).loc Cert.OddProjIdeal.main_arg0) = m ((c.tc : Thread Cert.OddProjIdeal.nD Cert.OddProjIdeal.τ).loc Cert.OddProjIdeal.main_arg0)
      ∧ r.2.mem ((c.tc : Thread Cert.OddProjIdeal.nD Cert.OddProjIdeal.τ).loc Cert.OddProjIdeal.main_arg1) = m ((c.tc : Thread Cert.OddProjIdeal.nD Cert.OddProjIdeal.τ).loc Cert.OddProjIdeal.main_arg1)
      ∧ r.2.mem ((c.tc : Thread Cert.OddProjIdeal.nD Cert.OddProjIdeal.τ).loc Cert.OddProjIdeal.main_arg2) = m ((c.tc : Thread Cert.OddProjIdeal.nD Cert.OddProjIdeal.τ).loc Cert.OddProjIdeal.main_arg2))
      ∧ r.2.sem = fun _ => 0)

def quiescent_OddProjRefIdeal [hOddProjRefIdeal : Cert.OddProjRefIdeal.Facts] : Prop :=
  ∀ (m : (ℓ : Loc Cert.OddProjRefIdeal.nD Cert.OddProjRefIdeal.τ Cert.OddProjRefIdeal.sig) → Buf (Elt Ideal) ℓ) (g : Dev Cert.OddProjRefIdeal.nD → PrngReg), Pre_OddProjRefIdeal m →
    θ_run (Cert.OddProjRefIdeal.defs (F := Ideal)) (onTc (τ := Cert.OddProjRefIdeal.τ) (Cert.OddProjRefIdeal.main (F := Ideal))) ⟨m, fun _ => 0, g⟩ (fun r => (∀ c : Dev Cert.OddProjRefIdeal.nD,
      r.2.mem ((c.tc : Thread Cert.OddProjRefIdeal.nD Cert.OddProjRefIdeal.τ).loc Cert.OddProjRefIdeal.main_arg0) = m ((c.tc : Thread Cert.OddProjRefIdeal.nD Cert.OddProjRefIdeal.τ).loc Cert.OddProjRefIdeal.main_arg0)
      ∧ r.2.mem ((c.tc : Thread Cert.OddProjRefIdeal.nD Cert.OddProjRefIdeal.τ).loc Cert.OddProjRefIdeal.main_arg1) = m ((c.tc : Thread Cert.OddProjRefIdeal.nD Cert.OddProjRefIdeal.τ).loc Cert.OddProjRefIdeal.main_arg1)
      ∧ r.2.mem ((c.tc : Thread Cert.OddProjRefIdeal.nD Cert.OddProjRefIdeal.τ).loc Cert.OddProjRefIdeal.main_arg2) = m ((c.tc : Thread Cert.OddProjRefIdeal.nD Cert.OddProjRefIdeal.τ).loc Cert.OddProjRefIdeal.main_arg2))
      ∧ r.2.sem = fun _ => 0)

def quiescent_OddOut [hOddOut : Cert.OddOut.Facts] : Prop :=
  ∀ (m : (ℓ : Loc Cert.OddOut.nD Cert.OddOut.τ Cert.OddOut.sig) → Buf (Elt Bits) ℓ) (g : Dev Cert.OddOut.nD → PrngReg), Pre_OddOut m →
    θ_run (Cert.OddOut.defs (F := Bits)) (onTc (τ := Cert.OddOut.τ) (Cert.OddOut.main (F := Bits))) ⟨m, fun _ => 0, g⟩ (fun r => (∀ c : Dev Cert.OddOut.nD,
      r.2.mem ((c.tc : Thread Cert.OddOut.nD Cert.OddOut.τ).loc Cert.OddOut.main_arg0) = m ((c.tc : Thread Cert.OddOut.nD Cert.OddOut.τ).loc Cert.OddOut.main_arg0)
      ∧ r.2.mem ((c.tc : Thread Cert.OddOut.nD Cert.OddOut.τ).loc Cert.OddOut.main_arg1) = m ((c.tc : Thread Cert.OddOut.nD Cert.OddOut.τ).loc Cert.OddOut.main_arg1)
      ∧ r.2.mem ((c.tc : Thread Cert.OddOut.nD Cert.OddOut.τ).loc Cert.OddOut.main_arg2) = m ((c.tc : Thread Cert.OddOut.nD Cert.OddOut.τ).loc Cert.OddOut.main_arg2)
      ∧ r.2.mem ((c.tc : Thread Cert.OddOut.nD Cert.OddOut.τ).loc Cert.OddOut.main_arg3) = m ((c.tc : Thread Cert.OddOut.nD Cert.OddOut.τ).loc Cert.OddOut.main_arg3))
      ∧ r.2.sem = fun _ => 0)

def quiescent_OddOutIdeal [hOddOutIdeal : Cert.OddOutIdeal.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
      ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
      ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3))
      ∧ r.2.sem = fun _ => 0)

def quiescent_OddOutRefIdeal [hOddOutRefIdeal : Cert.OddOutRefIdeal.Facts] : Prop :=
  ∀ (m : (ℓ : Loc Cert.OddOutRefIdeal.nD Cert.OddOutRefIdeal.τ Cert.OddOutRefIdeal.sig) → Buf (Elt Ideal) ℓ) (g : Dev Cert.OddOutRefIdeal.nD → PrngReg), Pre_OddOutRefIdeal m →
    θ_run (Cert.OddOutRefIdeal.defs (F := Ideal)) (onTc (τ := Cert.OddOutRefIdeal.τ) (Cert.OddOutRefIdeal.main (F := Ideal))) ⟨m, fun _ => 0, g⟩ (fun r => (∀ c : Dev Cert.OddOutRefIdeal.nD,
      r.2.mem ((c.tc : Thread Cert.OddOutRefIdeal.nD Cert.OddOutRefIdeal.τ).loc Cert.OddOutRefIdeal.main_arg0) = m ((c.tc : Thread Cert.OddOutRefIdeal.nD Cert.OddOutRefIdeal.τ).loc Cert.OddOutRefIdeal.main_arg0)
      ∧ r.2.mem ((c.tc : Thread Cert.OddOutRefIdeal.nD Cert.OddOutRefIdeal.τ).loc Cert.OddOutRefIdeal.main_arg1) = m ((c.tc : Thread Cert.OddOutRefIdeal.nD Cert.OddOutRefIdeal.τ).loc Cert.OddOutRefIdeal.main_arg1)
      ∧ r.2.mem ((c.tc : Thread Cert.OddOutRefIdeal.nD Cert.OddOutRefIdeal.τ).loc Cert.OddOutRefIdeal.main_arg2) = m ((c.tc : Thread Cert.OddOutRefIdeal.nD Cert.OddOutRefIdeal.τ).loc Cert.OddOutRefIdeal.main_arg2)
      ∧ r.2.mem ((c.tc : Thread Cert.OddOutRefIdeal.nD Cert.OddOutRefIdeal.τ).loc Cert.OddOutRefIdeal.main_arg3) = m ((c.tc : Thread Cert.OddOutRefIdeal.nD Cert.OddOutRefIdeal.τ).loc Cert.OddOutRefIdeal.main_arg3))
      ∧ r.2.sem = fun _ => 0)

def quiescent_EvenProj [hEvenProj : Cert.EvenProj.Facts] : Prop :=
  ∀ (m : (ℓ : Loc Cert.EvenProj.nD Cert.EvenProj.τ Cert.EvenProj.sig) → Buf (Elt Bits) ℓ) (g : Dev Cert.EvenProj.nD → PrngReg), Pre_EvenProj m →
    θ_run (Cert.EvenProj.defs (F := Bits)) (onTc (τ := Cert.EvenProj.τ) (Cert.EvenProj.main (F := Bits))) ⟨m, fun _ => 0, g⟩ (fun r => (∀ c : Dev Cert.EvenProj.nD,
      r.2.mem ((c.tc : Thread Cert.EvenProj.nD Cert.EvenProj.τ).loc Cert.EvenProj.main_arg0) = m ((c.tc : Thread Cert.EvenProj.nD Cert.EvenProj.τ).loc Cert.EvenProj.main_arg0)
      ∧ r.2.mem ((c.tc : Thread Cert.EvenProj.nD Cert.EvenProj.τ).loc Cert.EvenProj.main_arg1) = m ((c.tc : Thread Cert.EvenProj.nD Cert.EvenProj.τ).loc Cert.EvenProj.main_arg1)
      ∧ r.2.mem ((c.tc : Thread Cert.EvenProj.nD Cert.EvenProj.τ).loc Cert.EvenProj.main_arg2) = m ((c.tc : Thread Cert.EvenProj.nD Cert.EvenProj.τ).loc Cert.EvenProj.main_arg2)
      ∧ r.2.mem ((c.tc : Thread Cert.EvenProj.nD Cert.EvenProj.τ).loc Cert.EvenProj.main_arg3) = m ((c.tc : Thread Cert.EvenProj.nD Cert.EvenProj.τ).loc Cert.EvenProj.main_arg3)
      ∧ r.2.mem ((c.tc : Thread Cert.EvenProj.nD Cert.EvenProj.τ).loc Cert.EvenProj.main_arg4) = m ((c.tc : Thread Cert.EvenProj.nD Cert.EvenProj.τ).loc Cert.EvenProj.main_arg4)
      ∧ r.2.mem ((c.tc : Thread Cert.EvenProj.nD Cert.EvenProj.τ).loc Cert.EvenProj.main_arg5) = m ((c.tc : Thread Cert.EvenProj.nD Cert.EvenProj.τ).loc Cert.EvenProj.main_arg5)
      ∧ r.2.mem ((c.tc : Thread Cert.EvenProj.nD Cert.EvenProj.τ).loc Cert.EvenProj.main_arg6) = m ((c.tc : Thread Cert.EvenProj.nD Cert.EvenProj.τ).loc Cert.EvenProj.main_arg6))
      ∧ r.2.sem = fun _ => 0)

def quiescent_EvenProjIdeal [hEvenProjIdeal : Cert.EvenProjIdeal.Facts] : Prop :=
  ∀ (m : (ℓ : Loc Cert.EvenProjIdeal.nD Cert.EvenProjIdeal.τ Cert.EvenProjIdeal.sig) → Buf (Elt Ideal) ℓ) (g : Dev Cert.EvenProjIdeal.nD → PrngReg), Pre_EvenProjIdeal m →
    θ_run (Cert.EvenProjIdeal.defs (F := Ideal)) (onTc (τ := Cert.EvenProjIdeal.τ) (Cert.EvenProjIdeal.main (F := Ideal))) ⟨m, fun _ => 0, g⟩ (fun r => (∀ c : Dev Cert.EvenProjIdeal.nD,
      r.2.mem ((c.tc : Thread Cert.EvenProjIdeal.nD Cert.EvenProjIdeal.τ).loc Cert.EvenProjIdeal.main_arg0) = m ((c.tc : Thread Cert.EvenProjIdeal.nD Cert.EvenProjIdeal.τ).loc Cert.EvenProjIdeal.main_arg0)
      ∧ r.2.mem ((c.tc : Thread Cert.EvenProjIdeal.nD Cert.EvenProjIdeal.τ).loc Cert.EvenProjIdeal.main_arg1) = m ((c.tc : Thread Cert.EvenProjIdeal.nD Cert.EvenProjIdeal.τ).loc Cert.EvenProjIdeal.main_arg1)
      ∧ r.2.mem ((c.tc : Thread Cert.EvenProjIdeal.nD Cert.EvenProjIdeal.τ).loc Cert.EvenProjIdeal.main_arg2) = m ((c.tc : Thread Cert.EvenProjIdeal.nD Cert.EvenProjIdeal.τ).loc Cert.EvenProjIdeal.main_arg2)
      ∧ r.2.mem ((c.tc : Thread Cert.EvenProjIdeal.nD Cert.EvenProjIdeal.τ).loc Cert.EvenProjIdeal.main_arg3) = m ((c.tc : Thread Cert.EvenProjIdeal.nD Cert.EvenProjIdeal.τ).loc Cert.EvenProjIdeal.main_arg3)
      ∧ r.2.mem ((c.tc : Thread Cert.EvenProjIdeal.nD Cert.EvenProjIdeal.τ).loc Cert.EvenProjIdeal.main_arg4) = m ((c.tc : Thread Cert.EvenProjIdeal.nD Cert.EvenProjIdeal.τ).loc Cert.EvenProjIdeal.main_arg4)
      ∧ r.2.mem ((c.tc : Thread Cert.EvenProjIdeal.nD Cert.EvenProjIdeal.τ).loc Cert.EvenProjIdeal.main_arg5) = m ((c.tc : Thread Cert.EvenProjIdeal.nD Cert.EvenProjIdeal.τ).loc Cert.EvenProjIdeal.main_arg5)
      ∧ r.2.mem ((c.tc : Thread Cert.EvenProjIdeal.nD Cert.EvenProjIdeal.τ).loc Cert.EvenProjIdeal.main_arg6) = m ((c.tc : Thread Cert.EvenProjIdeal.nD Cert.EvenProjIdeal.τ).loc Cert.EvenProjIdeal.main_arg6))
      ∧ r.2.sem = fun _ => 0)

def quiescent_EvenProjRefIdeal [hEvenProjRefIdeal : Cert.EvenProjRefIdeal.Facts] : Prop :=
  ∀ (m : (ℓ : Loc Cert.EvenProjRefIdeal.nD Cert.EvenProjRefIdeal.τ Cert.EvenProjRefIdeal.sig) → Buf (Elt Ideal) ℓ) (g : Dev Cert.EvenProjRefIdeal.nD → PrngReg), Pre_EvenProjRefIdeal m →
    θ_run (Cert.EvenProjRefIdeal.defs (F := Ideal)) (onTc (τ := Cert.EvenProjRefIdeal.τ) (Cert.EvenProjRefIdeal.main (F := Ideal))) ⟨m, fun _ => 0, g⟩ (fun r => (∀ c : Dev Cert.EvenProjRefIdeal.nD,
      r.2.mem ((c.tc : Thread Cert.EvenProjRefIdeal.nD Cert.EvenProjRefIdeal.τ).loc Cert.EvenProjRefIdeal.main_arg0) = m ((c.tc : Thread Cert.EvenProjRefIdeal.nD Cert.EvenProjRefIdeal.τ).loc Cert.EvenProjRefIdeal.main_arg0)
      ∧ r.2.mem ((c.tc : Thread Cert.EvenProjRefIdeal.nD Cert.EvenProjRefIdeal.τ).loc Cert.EvenProjRefIdeal.main_arg1) = m ((c.tc : Thread Cert.EvenProjRefIdeal.nD Cert.EvenProjRefIdeal.τ).loc Cert.EvenProjRefIdeal.main_arg1)
      ∧ r.2.mem ((c.tc : Thread Cert.EvenProjRefIdeal.nD Cert.EvenProjRefIdeal.τ).loc Cert.EvenProjRefIdeal.main_arg2) = m ((c.tc : Thread Cert.EvenProjRefIdeal.nD Cert.EvenProjRefIdeal.τ).loc Cert.EvenProjRefIdeal.main_arg2)
      ∧ r.2.mem ((c.tc : Thread Cert.EvenProjRefIdeal.nD Cert.EvenProjRefIdeal.τ).loc Cert.EvenProjRefIdeal.main_arg3) = m ((c.tc : Thread Cert.EvenProjRefIdeal.nD Cert.EvenProjRefIdeal.τ).loc Cert.EvenProjRefIdeal.main_arg3)
      ∧ r.2.mem ((c.tc : Thread Cert.EvenProjRefIdeal.nD Cert.EvenProjRefIdeal.τ).loc Cert.EvenProjRefIdeal.main_arg4) = m ((c.tc : Thread Cert.EvenProjRefIdeal.nD Cert.EvenProjRefIdeal.τ).loc Cert.EvenProjRefIdeal.main_arg4)
      ∧ r.2.mem ((c.tc : Thread Cert.EvenProjRefIdeal.nD Cert.EvenProjRefIdeal.τ).loc Cert.EvenProjRefIdeal.main_arg5) = m ((c.tc : Thread Cert.EvenProjRefIdeal.nD Cert.EvenProjRefIdeal.τ).loc Cert.EvenProjRefIdeal.main_arg5)
      ∧ r.2.mem ((c.tc : Thread Cert.EvenProjRefIdeal.nD Cert.EvenProjRefIdeal.τ).loc Cert.EvenProjRefIdeal.main_arg6) = m ((c.tc : Thread Cert.EvenProjRefIdeal.nD Cert.EvenProjRefIdeal.τ).loc Cert.EvenProjRefIdeal.main_arg6))
      ∧ r.2.sem = fun _ => 0)

def quiescent_EvenOut [hEvenOut : Cert.EvenOut.Facts] : Prop :=
  ∀ (m : (ℓ : Loc Cert.EvenOut.nD Cert.EvenOut.τ Cert.EvenOut.sig) → Buf (Elt Bits) ℓ) (g : Dev Cert.EvenOut.nD → PrngReg), Pre_EvenOut m →
    θ_run (Cert.EvenOut.defs (F := Bits)) (onTc (τ := Cert.EvenOut.τ) (Cert.EvenOut.main (F := Bits))) ⟨m, fun _ => 0, g⟩ (fun r => (∀ c : Dev Cert.EvenOut.nD,
      r.2.mem ((c.tc : Thread Cert.EvenOut.nD Cert.EvenOut.τ).loc Cert.EvenOut.main_arg0) = m ((c.tc : Thread Cert.EvenOut.nD Cert.EvenOut.τ).loc Cert.EvenOut.main_arg0)
      ∧ r.2.mem ((c.tc : Thread Cert.EvenOut.nD Cert.EvenOut.τ).loc Cert.EvenOut.main_arg1) = m ((c.tc : Thread Cert.EvenOut.nD Cert.EvenOut.τ).loc Cert.EvenOut.main_arg1)
      ∧ r.2.mem ((c.tc : Thread Cert.EvenOut.nD Cert.EvenOut.τ).loc Cert.EvenOut.main_arg2) = m ((c.tc : Thread Cert.EvenOut.nD Cert.EvenOut.τ).loc Cert.EvenOut.main_arg2)
      ∧ r.2.mem ((c.tc : Thread Cert.EvenOut.nD Cert.EvenOut.τ).loc Cert.EvenOut.main_arg3) = m ((c.tc : Thread Cert.EvenOut.nD Cert.EvenOut.τ).loc Cert.EvenOut.main_arg3)
      ∧ r.2.mem ((c.tc : Thread Cert.EvenOut.nD Cert.EvenOut.τ).loc Cert.EvenOut.main_arg4) = m ((c.tc : Thread Cert.EvenOut.nD Cert.EvenOut.τ).loc Cert.EvenOut.main_arg4)
      ∧ r.2.mem ((c.tc : Thread Cert.EvenOut.nD Cert.EvenOut.τ).loc Cert.EvenOut.main_arg5) = m ((c.tc : Thread Cert.EvenOut.nD Cert.EvenOut.τ).loc Cert.EvenOut.main_arg5)
      ∧ r.2.mem ((c.tc : Thread Cert.EvenOut.nD Cert.EvenOut.τ).loc Cert.EvenOut.main_arg6) = m ((c.tc : Thread Cert.EvenOut.nD Cert.EvenOut.τ).loc Cert.EvenOut.main_arg6))
      ∧ r.2.sem = fun _ => 0)

def quiescent_EvenOutIdeal [hEvenOutIdeal : Cert.EvenOutIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
      ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
      ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
      ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
      ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5)
      ∧ r.2.mem ((c.tc : Thread Cert.EvenOutIdeal.nD Cert.EvenOutIdeal.τ).loc Cert.EvenOutIdeal.main_arg6) = m ((c.tc : Thread Cert.EvenOutIdeal.nD Cert.EvenOutIdeal.τ).loc Cert.EvenOutIdeal.main_arg6))
      ∧ r.2.sem = fun _ => 0)

def quiescent_EvenOutRefIdeal [hEvenOutRefIdeal : Cert.EvenOutRefIdeal.Facts] : Prop :=
  ∀ (m : (ℓ : Loc Cert.EvenOutRefIdeal.nD Cert.EvenOutRefIdeal.τ Cert.EvenOutRefIdeal.sig) → Buf (Elt Ideal) ℓ) (g : Dev Cert.EvenOutRefIdeal.nD → PrngReg), Pre_EvenOutRefIdeal m →
    θ_run (Cert.EvenOutRefIdeal.defs (F := Ideal)) (onTc (τ := Cert.EvenOutRefIdeal.τ) (Cert.EvenOutRefIdeal.main (F := Ideal))) ⟨m, fun _ => 0, g⟩ (fun r => (∀ c : Dev Cert.EvenOutRefIdeal.nD,
      r.2.mem ((c.tc : Thread Cert.EvenOutRefIdeal.nD Cert.EvenOutRefIdeal.τ).loc Cert.EvenOutRefIdeal.main_arg0) = m ((c.tc : Thread Cert.EvenOutRefIdeal.nD Cert.EvenOutRefIdeal.τ).loc Cert.EvenOutRefIdeal.main_arg0)
      ∧ r.2.mem ((c.tc : Thread Cert.EvenOutRefIdeal.nD Cert.EvenOutRefIdeal.τ).loc Cert.EvenOutRefIdeal.main_arg1) = m ((c.tc : Thread Cert.EvenOutRefIdeal.nD Cert.EvenOutRefIdeal.τ).loc Cert.EvenOutRefIdeal.main_arg1)
      ∧ r.2.mem ((c.tc : Thread Cert.EvenOutRefIdeal.nD Cert.EvenOutRefIdeal.τ).loc Cert.EvenOutRefIdeal.main_arg2) = m ((c.tc : Thread Cert.EvenOutRefIdeal.nD Cert.EvenOutRefIdeal.τ).loc Cert.EvenOutRefIdeal.main_arg2)
      ∧ r.2.mem ((c.tc : Thread Cert.EvenOutRefIdeal.nD Cert.EvenOutRefIdeal.τ).loc Cert.EvenOutRefIdeal.main_arg3) = m ((c.tc : Thread Cert.EvenOutRefIdeal.nD Cert.EvenOutRefIdeal.τ).loc Cert.EvenOutRefIdeal.main_arg3)
      ∧ r.2.mem ((c.tc : Thread Cert.EvenOutRefIdeal.nD Cert.EvenOutRefIdeal.τ).loc Cert.EvenOutRefIdeal.main_arg4) = m ((c.tc : Thread Cert.EvenOutRefIdeal.nD Cert.EvenOutRefIdeal.τ).loc Cert.EvenOutRefIdeal.main_arg4)
      ∧ r.2.mem ((c.tc : Thread Cert.EvenOutRefIdeal.nD Cert.EvenOutRefIdeal.τ).loc Cert.EvenOutRefIdeal.main_arg5) = m ((c.tc : Thread Cert.EvenOutRefIdeal.nD Cert.EvenOutRefIdeal.τ).loc Cert.EvenOutRefIdeal.main_arg5)
      ∧ r.2.mem ((c.tc : Thread Cert.EvenOutRefIdeal.nD Cert.EvenOutRefIdeal.τ).loc Cert.EvenOutRefIdeal.main_arg6) = m ((c.tc : Thread Cert.EvenOutRefIdeal.nD Cert.EvenOutRefIdeal.τ).loc Cert.EvenOutRefIdeal.main_arg6))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale_log2e" .f32 0x3E16C740#32 (((3424635 / 33554432) * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_OddProj_OddProjIdeal : Prop :=
  True

def algebraic_OddProjIdeal_OddProjRefIdeal [hOddProjIdeal : Cert.OddProjIdeal.Facts] [hOddProjRefIdeal : Cert.OddProjRefIdeal.Facts] : Prop :=
  ∀ (m : (ℓ : Loc Cert.OddProjIdeal.nD Cert.OddProjIdeal.τ Cert.OddProjIdeal.sig) → Buf (Elt Ideal) ℓ) (g : Dev Cert.OddProjIdeal.nD → PrngReg)
    (m' : (ℓ : Loc Cert.OddProjRefIdeal.nD Cert.OddProjRefIdeal.τ Cert.OddProjRefIdeal.sig) → Buf (Elt Ideal) ℓ) (g' : Dev Cert.OddProjRefIdeal.nD → PrngReg), Pre_OddProjIdeal m →
    (∀ c : Dev Cert.OddProjIdeal.nD,
      m' ((c.tc : Thread Cert.OddProjRefIdeal.nD Cert.OddProjRefIdeal.τ).loc Cert.OddProjRefIdeal.main_arg0) = m ((c.tc : Thread Cert.OddProjIdeal.nD Cert.OddProjIdeal.τ).loc Cert.OddProjIdeal.main_arg0)
      ∧ m' ((c.tc : Thread Cert.OddProjRefIdeal.nD Cert.OddProjRefIdeal.τ).loc Cert.OddProjRefIdeal.main_arg1) = m ((c.tc : Thread Cert.OddProjIdeal.nD Cert.OddProjIdeal.τ).loc Cert.OddProjIdeal.main_arg1)
      ∧ m' ((c.tc : Thread Cert.OddProjRefIdeal.nD Cert.OddProjRefIdeal.τ).loc Cert.OddProjRefIdeal.main_arg2) = m ((c.tc : Thread Cert.OddProjIdeal.nD Cert.OddProjIdeal.τ).loc Cert.OddProjIdeal.main_arg2)) →
    ∃ (v0 : (c : Dev Cert.OddProjIdeal.nD) → Buf (Elt Ideal) ((c.tc : Thread Cert.OddProjIdeal.nD Cert.OddProjIdeal.τ).loc Cert.OddProjIdeal.main_v20_0)) (v1 : (c : Dev Cert.OddProjIdeal.nD) → Buf (Elt Ideal) ((c.tc : Thread Cert.OddProjIdeal.nD Cert.OddProjIdeal.τ).loc Cert.OddProjIdeal.main_v20_1)) (v2 : (c : Dev Cert.OddProjIdeal.nD) → Buf (Elt Ideal) ((c.tc : Thread Cert.OddProjIdeal.nD Cert.OddProjIdeal.τ).loc Cert.OddProjIdeal.main_v20_2)) (v3 : (c : Dev Cert.OddProjIdeal.nD) → Buf (Elt Ideal) ((c.tc : Thread Cert.OddProjIdeal.nD Cert.OddProjIdeal.τ).loc Cert.OddProjIdeal.main_v20_3)),
      θ_run (Cert.OddProjIdeal.defs (F := Ideal)) (onTc (τ := Cert.OddProjIdeal.τ) (Cert.OddProjIdeal.main (F := Ideal))) ⟨m, fun _ => 0, g⟩ (fun r => ∀ c : Dev Cert.OddProjIdeal.nD,
          r.2.mem ((c.tc : Thread Cert.OddProjIdeal.nD Cert.OddProjIdeal.τ).loc Cert.OddProjIdeal.main_v20_0) = v0 c
          ∧ r.2.mem ((c.tc : Thread Cert.OddProjIdeal.nD Cert.OddProjIdeal.τ).loc Cert.OddProjIdeal.main_v20_1) = v1 c
          ∧ r.2.mem ((c.tc : Thread Cert.OddProjIdeal.nD Cert.OddProjIdeal.τ).loc Cert.OddProjIdeal.main_v20_2) = v2 c
          ∧ r.2.mem ((c.tc : Thread Cert.OddProjIdeal.nD Cert.OddProjIdeal.τ).loc Cert.OddProjIdeal.main_v20_3) = v3 c
          ∧ r.2.mem ((c.tc : Thread Cert.OddProjIdeal.nD Cert.OddProjIdeal.τ).loc Cert.OddProjIdeal.main_arg0) = m ((c.tc : Thread Cert.OddProjIdeal.nD Cert.OddProjIdeal.τ).loc Cert.OddProjIdeal.main_arg0)
          ∧ r.2.mem ((c.tc : Thread Cert.OddProjIdeal.nD Cert.OddProjIdeal.τ).loc Cert.OddProjIdeal.main_arg1) = m ((c.tc : Thread Cert.OddProjIdeal.nD Cert.OddProjIdeal.τ).loc Cert.OddProjIdeal.main_arg1)
          ∧ r.2.mem ((c.tc : Thread Cert.OddProjIdeal.nD Cert.OddProjIdeal.τ).loc Cert.OddProjIdeal.main_arg2) = m ((c.tc : Thread Cert.OddProjIdeal.nD Cert.OddProjIdeal.τ).loc Cert.OddProjIdeal.main_arg2))
      ∧ θ_run (Cert.OddProjRefIdeal.defs (F := Ideal)) (onTc (τ := Cert.OddProjRefIdeal.τ) (Cert.OddProjRefIdeal.main (F := Ideal))) ⟨m', fun _ => 0, g'⟩ (fun r => ∀ c : Dev Cert.OddProjRefIdeal.nD,
          r.2.mem ((c.tc : Thread Cert.OddProjRefIdeal.nD Cert.OddProjRefIdeal.τ).loc Cert.OddProjRefIdeal.main_v89) = v0 c
          ∧ r.2.mem ((c.tc : Thread Cert.OddProjRefIdeal.nD Cert.OddProjRefIdeal.τ).loc Cert.OddProjRefIdeal.main_v91) = v1 c
          ∧ r.2.mem ((c.tc : Thread Cert.OddProjRefIdeal.nD Cert.OddProjRefIdeal.τ).loc Cert.OddProjRefIdeal.main_v92) = v2 c
          ∧ r.2.mem ((c.tc : Thread Cert.OddProjRefIdeal.nD Cert.OddProjRefIdeal.τ).loc Cert.OddProjRefIdeal.main_v93) = v3 c
          ∧ r.2.mem ((c.tc : Thread Cert.OddProjRefIdeal.nD Cert.OddProjRefIdeal.τ).loc Cert.OddProjRefIdeal.main_arg0) = m' ((c.tc : Thread Cert.OddProjRefIdeal.nD Cert.OddProjRefIdeal.τ).loc Cert.OddProjRefIdeal.main_arg0)
          ∧ r.2.mem ((c.tc : Thread Cert.OddProjRefIdeal.nD Cert.OddProjRefIdeal.τ).loc Cert.OddProjRefIdeal.main_arg1) = m' ((c.tc : Thread Cert.OddProjRefIdeal.nD Cert.OddProjRefIdeal.τ).loc Cert.OddProjRefIdeal.main_arg1)
          ∧ r.2.mem ((c.tc : Thread Cert.OddProjRefIdeal.nD Cert.OddProjRefIdeal.τ).loc Cert.OddProjRefIdeal.main_arg2) = m' ((c.tc : Thread Cert.OddProjRefIdeal.nD Cert.OddProjRefIdeal.τ).loc Cert.OddProjRefIdeal.main_arg2))

def preserves_OddOut_OddOutIdeal : Prop :=
  True

def algebraic_OddOutIdeal_OddOutRefIdeal [hOddOutIdeal : Cert.OddOutIdeal.Facts] [hOddOutRefIdeal : Cert.OddOutRefIdeal.Facts] : Prop :=
  ∀ (m : (ℓ : Loc Cert.OddOutIdeal.nD Cert.OddOutIdeal.τ Cert.OddOutIdeal.sig) → Buf (Elt Ideal) ℓ) (g : Dev Cert.OddOutIdeal.nD → PrngReg)
    (m' : (ℓ : Loc Cert.OddOutRefIdeal.nD Cert.OddOutRefIdeal.τ Cert.OddOutRefIdeal.sig) → Buf (Elt Ideal) ℓ) (g' : Dev Cert.OddOutRefIdeal.nD → PrngReg), Pre_OddOutIdeal m →
    (∀ c : Dev Cert.OddOutIdeal.nD,
      m' ((c.tc : Thread Cert.OddOutRefIdeal.nD Cert.OddOutRefIdeal.τ).loc Cert.OddOutRefIdeal.main_arg0) = m ((c.tc : Thread Cert.OddOutIdeal.nD Cert.OddOutIdeal.τ).loc Cert.OddOutIdeal.main_arg0)
      ∧ m' ((c.tc : Thread Cert.OddOutRefIdeal.nD Cert.OddOutRefIdeal.τ).loc Cert.OddOutRefIdeal.main_arg1) = m ((c.tc : Thread Cert.OddOutIdeal.nD Cert.OddOutIdeal.τ).loc Cert.OddOutIdeal.main_arg1)
      ∧ m' ((c.tc : Thread Cert.OddOutRefIdeal.nD Cert.OddOutRefIdeal.τ).loc Cert.OddOutRefIdeal.main_arg2) = m ((c.tc : Thread Cert.OddOutIdeal.nD Cert.OddOutIdeal.τ).loc Cert.OddOutIdeal.main_arg2)
      ∧ m' ((c.tc : Thread Cert.OddOutRefIdeal.nD Cert.OddOutRefIdeal.τ).loc Cert.OddOutRefIdeal.main_arg3) = m ((c.tc : Thread Cert.OddOutIdeal.nD Cert.OddOutIdeal.τ).loc Cert.OddOutIdeal.main_arg3)) →
    ∃ (v0 : (c : Dev Cert.OddOutIdeal.nD) → Buf (Elt Ideal) ((c.tc : Thread Cert.OddOutIdeal.nD Cert.OddOutIdeal.τ).loc Cert.OddOutIdeal.main_v2)),
      θ_run (Cert.OddOutIdeal.defs (F := Ideal)) (onTc (τ := Cert.OddOutIdeal.τ) (Cert.OddOutIdeal.main (F := Ideal))) ⟨m, fun _ => 0, g⟩ (fun r => ∀ c : Dev Cert.OddOutIdeal.nD,
          r.2.mem ((c.tc : Thread Cert.OddOutIdeal.nD Cert.OddOutIdeal.τ).loc Cert.OddOutIdeal.main_v2) = v0 c
          ∧ r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
          ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
          ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
          ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3))
      ∧ θ_run (Cert.OddOutRefIdeal.defs (F := Ideal)) (onTc (τ := Cert.OddOutRefIdeal.τ) (Cert.OddOutRefIdeal.main (F := Ideal))) ⟨m', fun _ => 0, g'⟩ (fun r => ∀ c : Dev Cert.OddOutRefIdeal.nD,
          r.2.mem ((c.tc : Thread Cert.OddOutRefIdeal.nD Cert.OddOutRefIdeal.τ).loc Cert.OddOutRefIdeal.main_v15) = v0 c
          ∧ r.2.mem ((c.tc : Thread Cert.OddOutRefIdeal.nD Cert.OddOutRefIdeal.τ).loc Cert.OddOutRefIdeal.main_arg0) = m' ((c.tc : Thread Cert.OddOutRefIdeal.nD Cert.OddOutRefIdeal.τ).loc Cert.OddOutRefIdeal.main_arg0)
          ∧ r.2.mem ((c.tc : Thread Cert.OddOutRefIdeal.nD Cert.OddOutRefIdeal.τ).loc Cert.OddOutRefIdeal.main_arg1) = m' ((c.tc : Thread Cert.OddOutRefIdeal.nD Cert.OddOutRefIdeal.τ).loc Cert.OddOutRefIdeal.main_arg1)
          ∧ r.2.mem ((c.tc : Thread Cert.OddOutRefIdeal.nD Cert.OddOutRefIdeal.τ).loc Cert.OddOutRefIdeal.main_arg2) = m' ((c.tc : Thread Cert.OddOutRefIdeal.nD Cert.OddOutRefIdeal.τ).loc Cert.OddOutRefIdeal.main_arg2)
          ∧ r.2.mem ((c.tc : Thread Cert.OddOutRefIdeal.nD Cert.OddOutRefIdeal.τ).loc Cert.OddOutRefIdeal.main_arg3) = m' ((c.tc : Thread Cert.OddOutRefIdeal.nD Cert.OddOutRefIdeal.τ).loc Cert.OddOutRefIdeal.main_arg3))

def preserves_EvenProj_EvenProjIdeal : Prop :=
  True

def algebraic_EvenProjIdeal_EvenProjRefIdeal [hEvenProjIdeal : Cert.EvenProjIdeal.Facts] [hEvenProjRefIdeal : Cert.EvenProjRefIdeal.Facts] : Prop :=
  ∀ (m : (ℓ : Loc Cert.EvenProjIdeal.nD Cert.EvenProjIdeal.τ Cert.EvenProjIdeal.sig) → Buf (Elt Ideal) ℓ) (g : Dev Cert.EvenProjIdeal.nD → PrngReg)
    (m' : (ℓ : Loc Cert.EvenProjRefIdeal.nD Cert.EvenProjRefIdeal.τ Cert.EvenProjRefIdeal.sig) → Buf (Elt Ideal) ℓ) (g' : Dev Cert.EvenProjRefIdeal.nD → PrngReg), Pre_EvenProjIdeal m →
    (∀ c : Dev Cert.EvenProjIdeal.nD,
      m' ((c.tc : Thread Cert.EvenProjRefIdeal.nD Cert.EvenProjRefIdeal.τ).loc Cert.EvenProjRefIdeal.main_arg0) = m ((c.tc : Thread Cert.EvenProjIdeal.nD Cert.EvenProjIdeal.τ).loc Cert.EvenProjIdeal.main_arg0)
      ∧ m' ((c.tc : Thread Cert.EvenProjRefIdeal.nD Cert.EvenProjRefIdeal.τ).loc Cert.EvenProjRefIdeal.main_arg1) = m ((c.tc : Thread Cert.EvenProjIdeal.nD Cert.EvenProjIdeal.τ).loc Cert.EvenProjIdeal.main_arg1)
      ∧ m' ((c.tc : Thread Cert.EvenProjRefIdeal.nD Cert.EvenProjRefIdeal.τ).loc Cert.EvenProjRefIdeal.main_arg2) = m ((c.tc : Thread Cert.EvenProjIdeal.nD Cert.EvenProjIdeal.τ).loc Cert.EvenProjIdeal.main_arg2)
      ∧ m' ((c.tc : Thread Cert.EvenProjRefIdeal.nD Cert.EvenProjRefIdeal.τ).loc Cert.EvenProjRefIdeal.main_arg3) = m ((c.tc : Thread Cert.EvenProjIdeal.nD Cert.EvenProjIdeal.τ).loc Cert.EvenProjIdeal.main_arg3)
      ∧ m' ((c.tc : Thread Cert.EvenProjRefIdeal.nD Cert.EvenProjRefIdeal.τ).loc Cert.EvenProjRefIdeal.main_arg4) = m ((c.tc : Thread Cert.EvenProjIdeal.nD Cert.EvenProjIdeal.τ).loc Cert.EvenProjIdeal.main_arg4)
      ∧ m' ((c.tc : Thread Cert.EvenProjRefIdeal.nD Cert.EvenProjRefIdeal.τ).loc Cert.EvenProjRefIdeal.main_arg5) = m ((c.tc : Thread Cert.EvenProjIdeal.nD Cert.EvenProjIdeal.τ).loc Cert.EvenProjIdeal.main_arg5)
      ∧ m' ((c.tc : Thread Cert.EvenProjRefIdeal.nD Cert.EvenProjRefIdeal.τ).loc Cert.EvenProjRefIdeal.main_arg6) = m ((c.tc : Thread Cert.EvenProjIdeal.nD Cert.EvenProjIdeal.τ).loc Cert.EvenProjIdeal.main_arg6)) →
    ∃ (v0 : (c : Dev Cert.EvenProjIdeal.nD) → Buf (Elt Ideal) ((c.tc : Thread Cert.EvenProjIdeal.nD Cert.EvenProjIdeal.τ).loc Cert.EvenProjIdeal.main_v76_1)) (v1 : (c : Dev Cert.EvenProjIdeal.nD) → Buf (Elt Ideal) ((c.tc : Thread Cert.EvenProjIdeal.nD Cert.EvenProjIdeal.τ).loc Cert.EvenProjIdeal.main_v76_2)) (v2 : (c : Dev Cert.EvenProjIdeal.nD) → Buf (Elt Ideal) ((c.tc : Thread Cert.EvenProjIdeal.nD Cert.EvenProjIdeal.τ).loc Cert.EvenProjIdeal.main_v76_3)) (v3 : (c : Dev Cert.EvenProjIdeal.nD) → Buf (Elt Ideal) ((c.tc : Thread Cert.EvenProjIdeal.nD Cert.EvenProjIdeal.τ).loc Cert.EvenProjIdeal.main_v76_4)) (v4 : (c : Dev Cert.EvenProjIdeal.nD) → Buf (Elt Ideal) ((c.tc : Thread Cert.EvenProjIdeal.nD Cert.EvenProjIdeal.τ).loc Cert.EvenProjIdeal.main_v76_8)) (v5 : (c : Dev Cert.EvenProjIdeal.nD) → Buf (Elt Ideal) ((c.tc : Thread Cert.EvenProjIdeal.nD Cert.EvenProjIdeal.τ).loc Cert.EvenProjIdeal.main_v76_10)) (v6 : (c : Dev Cert.EvenProjIdeal.nD) → Buf (Elt Ideal) ((c.tc : Thread Cert.EvenProjIdeal.nD Cert.EvenProjIdeal.τ).loc Cert.EvenProjIdeal.main_v76_11)) (v7 : (c : Dev Cert.EvenProjIdeal.nD) → Buf (Elt Ideal) ((c.tc : Thread Cert.EvenProjIdeal.nD Cert.EvenProjIdeal.τ).loc Cert.EvenProjIdeal.main_v76_12)) (v8 : (c : Dev Cert.EvenProjIdeal.nD) → Buf (Elt Ideal) ((c.tc : Thread Cert.EvenProjIdeal.nD Cert.EvenProjIdeal.τ).loc Cert.EvenProjIdeal.main_v76_13)),
      θ_run (Cert.EvenProjIdeal.defs (F := Ideal)) (onTc (τ := Cert.EvenProjIdeal.τ) (Cert.EvenProjIdeal.main (F := Ideal))) ⟨m, fun _ => 0, g⟩ (fun r => ∀ c : Dev Cert.EvenProjIdeal.nD,
          r.2.mem ((c.tc : Thread Cert.EvenProjIdeal.nD Cert.EvenProjIdeal.τ).loc Cert.EvenProjIdeal.main_v76_1) = v0 c
          ∧ r.2.mem ((c.tc : Thread Cert.EvenProjIdeal.nD Cert.EvenProjIdeal.τ).loc Cert.EvenProjIdeal.main_v76_2) = v1 c
          ∧ r.2.mem ((c.tc : Thread Cert.EvenProjIdeal.nD Cert.EvenProjIdeal.τ).loc Cert.EvenProjIdeal.main_v76_3) = v2 c
          ∧ r.2.mem ((c.tc : Thread Cert.EvenProjIdeal.nD Cert.EvenProjIdeal.τ).loc Cert.EvenProjIdeal.main_v76_4) = v3 c
          ∧ r.2.mem ((c.tc : Thread Cert.EvenProjIdeal.nD Cert.EvenProjIdeal.τ).loc Cert.EvenProjIdeal.main_v76_8) = v4 c
          ∧ r.2.mem ((c.tc : Thread Cert.EvenProjIdeal.nD Cert.EvenProjIdeal.τ).loc Cert.EvenProjIdeal.main_v76_10) = v5 c
          ∧ r.2.mem ((c.tc : Thread Cert.EvenProjIdeal.nD Cert.EvenProjIdeal.τ).loc Cert.EvenProjIdeal.main_v76_11) = v6 c
          ∧ r.2.mem ((c.tc : Thread Cert.EvenProjIdeal.nD Cert.EvenProjIdeal.τ).loc Cert.EvenProjIdeal.main_v76_12) = v7 c
          ∧ r.2.mem ((c.tc : Thread Cert.EvenProjIdeal.nD Cert.EvenProjIdeal.τ).loc Cert.EvenProjIdeal.main_v76_13) = v8 c
          ∧ r.2.mem ((c.tc : Thread Cert.EvenProjIdeal.nD Cert.EvenProjIdeal.τ).loc Cert.EvenProjIdeal.main_arg0) = m ((c.tc : Thread Cert.EvenProjIdeal.nD Cert.EvenProjIdeal.τ).loc Cert.EvenProjIdeal.main_arg0)
          ∧ r.2.mem ((c.tc : Thread Cert.EvenProjIdeal.nD Cert.EvenProjIdeal.τ).loc Cert.EvenProjIdeal.main_arg1) = m ((c.tc : Thread Cert.EvenProjIdeal.nD Cert.EvenProjIdeal.τ).loc Cert.EvenProjIdeal.main_arg1)
          ∧ r.2.mem ((c.tc : Thread Cert.EvenProjIdeal.nD Cert.EvenProjIdeal.τ).loc Cert.EvenProjIdeal.main_arg2) = m ((c.tc : Thread Cert.EvenProjIdeal.nD Cert.EvenProjIdeal.τ).loc Cert.EvenProjIdeal.main_arg2)
          ∧ r.2.mem ((c.tc : Thread Cert.EvenProjIdeal.nD Cert.EvenProjIdeal.τ).loc Cert.EvenProjIdeal.main_arg3) = m ((c.tc : Thread Cert.EvenProjIdeal.nD Cert.EvenProjIdeal.τ).loc Cert.EvenProjIdeal.main_arg3)
          ∧ r.2.mem ((c.tc : Thread Cert.EvenProjIdeal.nD Cert.EvenProjIdeal.τ).loc Cert.EvenProjIdeal.main_arg4) = m ((c.tc : Thread Cert.EvenProjIdeal.nD Cert.EvenProjIdeal.τ).loc Cert.EvenProjIdeal.main_arg4)
          ∧ r.2.mem ((c.tc : Thread Cert.EvenProjIdeal.nD Cert.EvenProjIdeal.τ).loc Cert.EvenProjIdeal.main_arg5) = m ((c.tc : Thread Cert.EvenProjIdeal.nD Cert.EvenProjIdeal.τ).loc Cert.EvenProjIdeal.main_arg5)
          ∧ r.2.mem ((c.tc : Thread Cert.EvenProjIdeal.nD Cert.EvenProjIdeal.τ).loc Cert.EvenProjIdeal.main_arg6) = m ((c.tc : Thread Cert.EvenProjIdeal.nD Cert.EvenProjIdeal.τ).loc Cert.EvenProjIdeal.main_arg6))
      ∧ θ_run (Cert.EvenProjRefIdeal.defs (F := Ideal)) (onTc (τ := Cert.EvenProjRefIdeal.τ) (Cert.EvenProjRefIdeal.main (F := Ideal))) ⟨m', fun _ => 0, g'⟩ (fun r => ∀ c : Dev Cert.EvenProjRefIdeal.nD,
          r.2.mem ((c.tc : Thread Cert.EvenProjRefIdeal.nD Cert.EvenProjRefIdeal.τ).loc Cert.EvenProjRefIdeal.main_v79) = v0 c
          ∧ r.2.mem ((c.tc : Thread Cert.EvenProjRefIdeal.nD Cert.EvenProjRefIdeal.τ).loc Cert.EvenProjRefIdeal.main_v81) = v1 c
          ∧ r.2.mem ((c.tc : Thread Cert.EvenProjRefIdeal.nD Cert.EvenProjRefIdeal.τ).loc Cert.EvenProjRefIdeal.main_v84) = v2 c
          ∧ r.2.mem ((c.tc : Thread Cert.EvenProjRefIdeal.nD Cert.EvenProjRefIdeal.τ).loc Cert.EvenProjRefIdeal.main_v90) = v3 c
          ∧ r.2.mem ((c.tc : Thread Cert.EvenProjRefIdeal.nD Cert.EvenProjRefIdeal.τ).loc Cert.EvenProjRefIdeal.main_v91) = v4 c
          ∧ r.2.mem ((c.tc : Thread Cert.EvenProjRefIdeal.nD Cert.EvenProjRefIdeal.τ).loc Cert.EvenProjRefIdeal.main_v93) = v5 c
          ∧ r.2.mem ((c.tc : Thread Cert.EvenProjRefIdeal.nD Cert.EvenProjRefIdeal.τ).loc Cert.EvenProjRefIdeal.main_v96) = v6 c
          ∧ r.2.mem ((c.tc : Thread Cert.EvenProjRefIdeal.nD Cert.EvenProjRefIdeal.τ).loc Cert.EvenProjRefIdeal.main_v97) = v7 c
          ∧ r.2.mem ((c.tc : Thread Cert.EvenProjRefIdeal.nD Cert.EvenProjRefIdeal.τ).loc Cert.EvenProjRefIdeal.main_v98) = v8 c
          ∧ r.2.mem ((c.tc : Thread Cert.EvenProjRefIdeal.nD Cert.EvenProjRefIdeal.τ).loc Cert.EvenProjRefIdeal.main_arg0) = m' ((c.tc : Thread Cert.EvenProjRefIdeal.nD Cert.EvenProjRefIdeal.τ).loc Cert.EvenProjRefIdeal.main_arg0)
          ∧ r.2.mem ((c.tc : Thread Cert.EvenProjRefIdeal.nD Cert.EvenProjRefIdeal.τ).loc Cert.EvenProjRefIdeal.main_arg1) = m' ((c.tc : Thread Cert.EvenProjRefIdeal.nD Cert.EvenProjRefIdeal.τ).loc Cert.EvenProjRefIdeal.main_arg1)
          ∧ r.2.mem ((c.tc : Thread Cert.EvenProjRefIdeal.nD Cert.EvenProjRefIdeal.τ).loc Cert.EvenProjRefIdeal.main_arg2) = m' ((c.tc : Thread Cert.EvenProjRefIdeal.nD Cert.EvenProjRefIdeal.τ).loc Cert.EvenProjRefIdeal.main_arg2)
          ∧ r.2.mem ((c.tc : Thread Cert.EvenProjRefIdeal.nD Cert.EvenProjRefIdeal.τ).loc Cert.EvenProjRefIdeal.main_arg3) = m' ((c.tc : Thread Cert.EvenProjRefIdeal.nD Cert.EvenProjRefIdeal.τ).loc Cert.EvenProjRefIdeal.main_arg3)
          ∧ r.2.mem ((c.tc : Thread Cert.EvenProjRefIdeal.nD Cert.EvenProjRefIdeal.τ).loc Cert.EvenProjRefIdeal.main_arg4) = m' ((c.tc : Thread Cert.EvenProjRefIdeal.nD Cert.EvenProjRefIdeal.τ).loc Cert.EvenProjRefIdeal.main_arg4)
          ∧ r.2.mem ((c.tc : Thread Cert.EvenProjRefIdeal.nD Cert.EvenProjRefIdeal.τ).loc Cert.EvenProjRefIdeal.main_arg5) = m' ((c.tc : Thread Cert.EvenProjRefIdeal.nD Cert.EvenProjRefIdeal.τ).loc Cert.EvenProjRefIdeal.main_arg5)
          ∧ r.2.mem ((c.tc : Thread Cert.EvenProjRefIdeal.nD Cert.EvenProjRefIdeal.τ).loc Cert.EvenProjRefIdeal.main_arg6) = m' ((c.tc : Thread Cert.EvenProjRefIdeal.nD Cert.EvenProjRefIdeal.τ).loc Cert.EvenProjRefIdeal.main_arg6))

def preserves_EvenOut_EvenOutIdeal : Prop :=
  True

def algebraic_EvenOutIdeal_EvenOutRefIdeal [hEvenOutIdeal : Cert.EvenOutIdeal.Facts] [hEvenOutRefIdeal : Cert.EvenOutRefIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg)
    (m' : (ℓ : Loc Cert.EvenOutRefIdeal.nD Cert.EvenOutRefIdeal.τ Cert.EvenOutRefIdeal.sig) → Buf (Elt Ideal) ℓ) (g' : Dev Cert.EvenOutRefIdeal.nD → PrngReg), Pre_EvenOutIdeal m →
    (∀ c : Dev Cert.EvenOutIdeal.nD,
      m' ((c.tc : Thread Cert.EvenOutRefIdeal.nD Cert.EvenOutRefIdeal.τ).loc Cert.EvenOutRefIdeal.main_arg0) = m ((c.tc : Thread Cert.EvenOutIdeal.nD Cert.EvenOutIdeal.τ).loc Cert.EvenOutIdeal.main_arg0)
      ∧ m' ((c.tc : Thread Cert.EvenOutRefIdeal.nD Cert.EvenOutRefIdeal.τ).loc Cert.EvenOutRefIdeal.main_arg1) = m ((c.tc : Thread Cert.EvenOutIdeal.nD Cert.EvenOutIdeal.τ).loc Cert.EvenOutIdeal.main_arg1)
      ∧ m' ((c.tc : Thread Cert.EvenOutRefIdeal.nD Cert.EvenOutRefIdeal.τ).loc Cert.EvenOutRefIdeal.main_arg2) = m ((c.tc : Thread Cert.EvenOutIdeal.nD Cert.EvenOutIdeal.τ).loc Cert.EvenOutIdeal.main_arg2)
      ∧ m' ((c.tc : Thread Cert.EvenOutRefIdeal.nD Cert.EvenOutRefIdeal.τ).loc Cert.EvenOutRefIdeal.main_arg3) = m ((c.tc : Thread Cert.EvenOutIdeal.nD Cert.EvenOutIdeal.τ).loc Cert.EvenOutIdeal.main_arg3)
      ∧ m' ((c.tc : Thread Cert.EvenOutRefIdeal.nD Cert.EvenOutRefIdeal.τ).loc Cert.EvenOutRefIdeal.main_arg4) = m ((c.tc : Thread Cert.EvenOutIdeal.nD Cert.EvenOutIdeal.τ).loc Cert.EvenOutIdeal.main_arg4)
      ∧ m' ((c.tc : Thread Cert.EvenOutRefIdeal.nD Cert.EvenOutRefIdeal.τ).loc Cert.EvenOutRefIdeal.main_arg5) = m ((c.tc : Thread Cert.EvenOutIdeal.nD Cert.EvenOutIdeal.τ).loc Cert.EvenOutIdeal.main_arg5)
      ∧ m' ((c.tc : Thread Cert.EvenOutRefIdeal.nD Cert.EvenOutRefIdeal.τ).loc Cert.EvenOutRefIdeal.main_arg6) = m ((c.tc : Thread Cert.EvenOutIdeal.nD Cert.EvenOutIdeal.τ).loc Cert.EvenOutIdeal.main_arg6)) →
    ∃ (v0 : (c : Dev Cert.EvenOutIdeal.nD) → Buf (Elt Ideal) ((c.tc : Thread Cert.EvenOutIdeal.nD Cert.EvenOutIdeal.τ).loc Cert.EvenOutIdeal.main_v7)),
      θ_run (Cert.EvenOutIdeal.defs (F := Ideal)) (onTc (τ := Cert.EvenOutIdeal.τ) (Cert.EvenOutIdeal.main (F := Ideal))) ⟨m, fun _ => 0, g⟩ (fun r => ∀ c : Dev Cert.EvenOutIdeal.nD,
          r.2.mem ((c.tc : Thread Cert.EvenOutIdeal.nD Cert.EvenOutIdeal.τ).loc Cert.EvenOutIdeal.main_v7) = v0 c
          ∧ r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
          ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
          ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
          ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
          ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
          ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5)
          ∧ r.2.mem ((c.tc : Thread Cert.EvenOutIdeal.nD Cert.EvenOutIdeal.τ).loc Cert.EvenOutIdeal.main_arg6) = m ((c.tc : Thread Cert.EvenOutIdeal.nD Cert.EvenOutIdeal.τ).loc Cert.EvenOutIdeal.main_arg6))
      ∧ θ_run (Cert.EvenOutRefIdeal.defs (F := Ideal)) (onTc (τ := Cert.EvenOutRefIdeal.τ) (Cert.EvenOutRefIdeal.main (F := Ideal))) ⟨m', fun _ => 0, g'⟩ (fun r => ∀ c : Dev Cert.EvenOutRefIdeal.nD,
          r.2.mem ((c.tc : Thread Cert.EvenOutRefIdeal.nD Cert.EvenOutRefIdeal.τ).loc Cert.EvenOutRefIdeal.main_v20) = v0 c
          ∧ r.2.mem ((c.tc : Thread Cert.EvenOutRefIdeal.nD Cert.EvenOutRefIdeal.τ).loc Cert.EvenOutRefIdeal.main_arg0) = m' ((c.tc : Thread Cert.EvenOutRefIdeal.nD Cert.EvenOutRefIdeal.τ).loc Cert.EvenOutRefIdeal.main_arg0)
          ∧ r.2.mem ((c.tc : Thread Cert.EvenOutRefIdeal.nD Cert.EvenOutRefIdeal.τ).loc Cert.EvenOutRefIdeal.main_arg1) = m' ((c.tc : Thread Cert.EvenOutRefIdeal.nD Cert.EvenOutRefIdeal.τ).loc Cert.EvenOutRefIdeal.main_arg1)
          ∧ r.2.mem ((c.tc : Thread Cert.EvenOutRefIdeal.nD Cert.EvenOutRefIdeal.τ).loc Cert.EvenOutRefIdeal.main_arg2) = m' ((c.tc : Thread Cert.EvenOutRefIdeal.nD Cert.EvenOutRefIdeal.τ).loc Cert.EvenOutRefIdeal.main_arg2)
          ∧ r.2.mem ((c.tc : Thread Cert.EvenOutRefIdeal.nD Cert.EvenOutRefIdeal.τ).loc Cert.EvenOutRefIdeal.main_arg3) = m' ((c.tc : Thread Cert.EvenOutRefIdeal.nD Cert.EvenOutRefIdeal.τ).loc Cert.EvenOutRefIdeal.main_arg3)
          ∧ r.2.mem ((c.tc : Thread Cert.EvenOutRefIdeal.nD Cert.EvenOutRefIdeal.τ).loc Cert.EvenOutRefIdeal.main_arg4) = m' ((c.tc : Thread Cert.EvenOutRefIdeal.nD Cert.EvenOutRefIdeal.τ).loc Cert.EvenOutRefIdeal.main_arg4)
          ∧ r.2.mem ((c.tc : Thread Cert.EvenOutRefIdeal.nD Cert.EvenOutRefIdeal.τ).loc Cert.EvenOutRefIdeal.main_arg5) = m' ((c.tc : Thread Cert.EvenOutRefIdeal.nD Cert.EvenOutRefIdeal.τ).loc Cert.EvenOutRefIdeal.main_arg5)
          ∧ r.2.mem ((c.tc : Thread Cert.EvenOutRefIdeal.nD Cert.EvenOutRefIdeal.τ).loc Cert.EvenOutRefIdeal.main_arg6) = m' ((c.tc : Thread Cert.EvenOutRefIdeal.nD Cert.EvenOutRefIdeal.τ).loc Cert.EvenOutRefIdeal.main_arg6))

def Claim : Prop :=
  ∃ (hKernel : Cert.Kernel.Facts) (hKernelIdeal : Cert.KernelIdeal.Facts) (hReferenceIdeal : Cert.ReferenceIdeal.Facts) (hOddProj : Cert.OddProj.Facts) (hOddProjIdeal : Cert.OddProjIdeal.Facts) (hOddProjRefIdeal : Cert.OddProjRefIdeal.Facts) (hOddOut : Cert.OddOut.Facts) (hOddOutIdeal : Cert.OddOutIdeal.Facts) (hOddOutRefIdeal : Cert.OddOutRefIdeal.Facts) (hEvenProj : Cert.EvenProj.Facts) (hEvenProjIdeal : Cert.EvenProjIdeal.Facts) (hEvenProjRefIdeal : Cert.EvenProjRefIdeal.Facts) (hEvenOut : Cert.EvenOut.Facts) (hEvenOutIdeal : Cert.EvenOutIdeal.Facts) (hEvenOutRefIdeal : Cert.EvenOutRefIdeal.Facts),
    quiescent_Kernel (hKernel := hKernel)
    ∧ quiescent_KernelIdeal (hKernelIdeal := hKernelIdeal)
    ∧ quiescent_ReferenceIdeal (hReferenceIdeal := hReferenceIdeal)
    ∧ quiescent_OddProj (hOddProj := hOddProj)
    ∧ quiescent_OddProjIdeal (hOddProjIdeal := hOddProjIdeal)
    ∧ quiescent_OddProjRefIdeal (hOddProjRefIdeal := hOddProjRefIdeal)
    ∧ quiescent_OddOut (hOddOut := hOddOut)
    ∧ quiescent_OddOutIdeal (hOddOutIdeal := hOddOutIdeal)
    ∧ quiescent_OddOutRefIdeal (hOddOutRefIdeal := hOddOutRefIdeal)
    ∧ quiescent_EvenProj (hEvenProj := hEvenProj)
    ∧ quiescent_EvenProjIdeal (hEvenProjIdeal := hEvenProjIdeal)
    ∧ quiescent_EvenProjRefIdeal (hEvenProjRefIdeal := hEvenProjRefIdeal)
    ∧ quiescent_EvenOut (hEvenOut := hEvenOut)
    ∧ quiescent_EvenOutIdeal (hEvenOutIdeal := hEvenOutIdeal)
    ∧ quiescent_EvenOutRefIdeal (hEvenOutRefIdeal := hEvenOutRefIdeal)
    ∧ preserves_Kernel_KernelIdeal
    ∧ algebraic_KernelIdeal_ReferenceIdeal (hKernelIdeal := hKernelIdeal) (hReferenceIdeal := hReferenceIdeal)
    ∧ preserves_OddProj_OddProjIdeal
    ∧ algebraic_OddProjIdeal_OddProjRefIdeal (hOddProjIdeal := hOddProjIdeal) (hOddProjRefIdeal := hOddProjRefIdeal)
    ∧ preserves_OddOut_OddOutIdeal
    ∧ algebraic_OddOutIdeal_OddOutRefIdeal (hOddOutIdeal := hOddOutIdeal) (hOddOutRefIdeal := hOddOutRefIdeal)
    ∧ preserves_EvenProj_EvenProjIdeal
    ∧ algebraic_EvenProjIdeal_EvenProjRefIdeal (hEvenProjIdeal := hEvenProjIdeal) (hEvenProjRefIdeal := hEvenProjRefIdeal)
    ∧ preserves_EvenOut_EvenOutIdeal
    ∧ algebraic_EvenOutIdeal_EvenOutRefIdeal (hEvenOutIdeal := hEvenOutIdeal) (hEvenOutRefIdeal := hEvenOutRefIdeal)
-- ==== Kernel.lean ====
abbrev S8x16384x512 : Shape := ⟨3, ![8, 16384, 512]⟩
abbrev S16384x512 : Shape := ⟨2, ![16384, 512]⟩
abbrev S8x16384x256 : Shape := ⟨3, ![8, 16384, 256]⟩
abbrev S8x512x512 : Shape := ⟨3, ![8, 512, 512]⟩
abbrev S512x512 : Shape := ⟨2, ![512, 512]⟩
abbrev S8x512x256 : Shape := ⟨3, ![8, 512, 256]⟩
abbrev S4096x128 : Shape := ⟨2, ![4096, 128]⟩
abbrev S4096x256 : Shape := ⟨2, ![4096, 256]⟩
abbrev S4096x512 : Shape := ⟨2, ![4096, 512]⟩
abbrev S4096x1 : Shape := ⟨2, ![4096, 1]⟩
abbrev S1x512 : Shape := ⟨2, ![1, 512]⟩
abbrev S4096 : Shape := ⟨1, ![4096]⟩
abbrev S512x256 : Shape := ⟨2, ![512, 256]⟩

abbrev nBuf : Space → Nat
  | .hbm => 3
  | .vmem => 13
  | .smem => 0
  | _ => 0

abbrev bufTy : (tb : Table) → Fin (tcTables nBuf tb) → BufTy
  | .hbm, ⟨0, _⟩ => ⟨S8x16384x512, .bf16⟩
  | .hbm, ⟨1, _⟩ => ⟨S16384x512, .bf16⟩
  | .hbm, ⟨2, _⟩ => ⟨S8x16384x256, .bf16⟩
  | .local _ .vmem, ⟨0, _⟩ => ⟨S8x512x512, .bf16⟩
  | .local _ .vmem, ⟨1, _⟩ => ⟨S8x512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S8x512x256, .bf16⟩
  | .local _ .vmem, ⟨7, _⟩ => ⟨S8x512x256, .bf16⟩
  | .local _ .vmem, ⟨8, _⟩ => ⟨S4096x128, .f32⟩
  | .local _ .vmem, ⟨9, _⟩ => ⟨S4096x128, .f32⟩
  | .local _ .vmem, ⟨10, _⟩ => ⟨S4096x256, .f32⟩
  | .local _ .vmem, ⟨11, _⟩ => ⟨S4096x512, .f32⟩
  | .local _ .vmem, ⟨12, _⟩ => ⟨S4096x512, .f32⟩
  | _, _ => ⟨S8x16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 16], ![false, false, false]⟩

def k0_cond6 (i : grid0.Coords) : BitVec 1 :=
  let arg2 : BitVec 32 := BitVec.ofNat 32 (i 2).val
  let arg1 : BitVec 32 := BitVec.ofNat 32 (i 1).val
  let c1_i32 : BitVec 32 := 1#32
  let v0 : BitVec 32 := Scalar.addi arg1 c1_i32
  let c512_i32 : BitVec 32 := 512#32
  let v1 : BitVec 32 := Scalar.muli v0 c512_i32
  let c512_i32_0 : BitVec 32 := 512#32
  let v2 : BitVec 32 := Scalar.addi v1 c512_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let c1_i32_33 : BitVec 32 := 1#32
  let v67 : BitVec 32 := Scalar.subi v20 c1_i32_33
  let v68 : BitVec 1 := Scalar.cmpi .eq arg2 v67
  let v69 : BitVec 32 := Scalar.extui v68
  let c0_i32_34 : BitVec 32 := 0#32
  let v70 : BitVec 1 := Scalar.cmpi .ne v69 c0_i32_34
  v70

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c512_i32 : BitVec 32 := 512#32
  let v1 : BitVec 32 := Scalar.muli v0 c512_i32
  let c512_i32_0 : BitVec 32 := 512#32
  let v2 : BitVec 32 := Scalar.addi v1 c512_i32_0
  let c1_i32_1 : BitVec 32 := 1#32
  let v3 : BitVec 32 := Scalar.subi v2 c1_i32_1
  let c512_i32_2 : BitVec 32 := 512#32
  let v4 : BitVec 32 := Scalar.divsi v3 c512_i32_2
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let c1_i32_7 : BitVec 32 := 1#32
  let v19 : BitVec 32 := Scalar.subi v4 c1_i32_7
  let v20 : BitVec 32 := Scalar.select v18 v19 v4
  let c1_i32_8 : BitVec 32 := 1#32
  let v21 : BitVec 32 := Scalar.subi v20 c1_i32_8
  let c16_i32 : BitVec 32 := 16#32
  let v22 : BitVec 32 := Scalar.muli arg0 c16_i32
  let c0_i32_9 : BitVec 32 := 0#32
  let v23 : BitVec 32 := Scalar.addi arg2 c0_i32_9
  let v24 : BitVec 32 := Scalar.minsi v23 v21
  let v25 : BitVec 32 := Scalar.addi v22 v24
  let c0_i32_10 : BitVec 32 := 0#32
  let c0_i32_11 : BitVec 32 := 0#32
  ![v25.toNat, c0_i32_10.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c512_i32 : BitVec 32 := 512#32
  let v1 : BitVec 32 := Scalar.muli v0 c512_i32
  let c512_i32_0 : BitVec 32 := 512#32
  let v2 : BitVec 32 := Scalar.addi v1 c512_i32_0
  let c1_i32_1 : BitVec 32 := 1#32
  let v3 : BitVec 32 := Scalar.subi v2 c1_i32_1
  let c512_i32_2 : BitVec 32 := 512#32
  let v4 : BitVec 32 := Scalar.divsi v3 c512_i32_2
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let c1_i32_7 : BitVec 32 := 1#32
  let v19 : BitVec 32 := Scalar.subi v4 c1_i32_7
  let v20 : BitVec 32 := Scalar.select v18 v19 v4
  let c1_i32_8 : BitVec 32 := 1#32
  let v21 : BitVec 32 := Scalar.subi v20 c1_i32_8
  let c16_i32 : BitVec 32 := 16#32
  let v22 : BitVec 32 := Scalar.muli arg0 c16_i32
  let c1_i32_9 : BitVec 32 := 1#32
  let v23 : BitVec 32 := Scalar.addi arg2 c1_i32_9
  let v24 : BitVec 32 := Scalar.minsi v23 v21
  let v25 : BitVec 32 := Scalar.addi v22 v24
  let c0_i32_10 : BitVec 32 := 0#32
  let c0_i32_11 : BitVec 32 := 0#32
  ![v25.toNat, c0_i32_10.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S8x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S8x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== KernelIdeal.lean ====
variable {F : FTy → Type} [FloatOps F] [Named F]
def κ : String → Option EReal := fun
  | "mask" => some ⊥
  | "scale_log2e" => some (((3424635 / 33554432) * (Real.log 2)⁻¹ : ℝ) : EReal)
  | _ => none
-- ==== ReferenceIdeal.lean ====
abbrev S8x16384x512 : Shape := ⟨3, ![8, 16384, 512]⟩
abbrev S16384x512 : Shape := ⟨2, ![16384, 512]⟩
abbrev S8x2x8192x512 : Shape := ⟨4, ![8, 2, 8192, 512]⟩
abbrev S2x8192x512 : Shape := ⟨3, ![2, 8192, 512]⟩
abbrev S8192 : Shape := ⟨1, ![8192]⟩
abbrev S2x8192x8x8192 : Shape := ⟨4, ![2, 8192, 8, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S1x8192x1x8192 : Shape := ⟨4, ![1, 8192, 1, 8192]⟩
abbrev S2x8192x8 : Shape := ⟨3, ![2, 8192, 8]⟩
abbrev S2x8192x8x1 : Shape := ⟨4, ![2, 8192, 8, 1]⟩
abbrev S2x8192x8x512 : Shape := ⟨4, ![2, 8192, 8, 512]⟩
abbrev S2x8192x8x256 : Shape := ⟨4, ![2, 8192, 8, 256]⟩
abbrev S8x2x8192x256 : Shape := ⟨4, ![8, 2, 8192, 256]⟩
abbrev S8x16384x256 : Shape := ⟨3, ![8, 16384, 256]⟩

abbrev nBuf : Space → Nat
  | .hbm => 54
  | .vmem => 0
  | .smem => 0
  | _ => 0

abbrev bufTy : (tb : Table) → Fin (tcTables nBuf tb) → BufTy
  | .hbm, ⟨0, _⟩ => ⟨S8x16384x512, .bf16⟩
  | .hbm, ⟨1, _⟩ => ⟨S16384x512, .bf16⟩
  | .hbm, ⟨2, _⟩ => ⟨S8x16384x512, .f32⟩
  | .hbm, ⟨3, _⟩ => ⟨S8x2x8192x512, .f32⟩
  | .hbm, ⟨4, _⟩ => ⟨S16384x512, .f32⟩
  | .hbm, ⟨5, _⟩ => ⟨S2x8192x512, .f32⟩
  | .hbm, ⟨6, _⟩ => ⟨S8192, .i32⟩
  | .hbm, ⟨7, _⟩ => ⟨S8192, .i32⟩
  | .hbm, ⟨8, _⟩ => ⟨S2x8192x8x8192, .f32⟩
  | .hbm, ⟨9, _⟩ => ⟨S2x8192x8x8192, .f32⟩
  | .hbm, ⟨10, _⟩ => ⟨S_, .f32⟩
  | .hbm, ⟨11, _⟩ => ⟨S2x8192x8x8192, .f32⟩
  | .hbm, ⟨12, _⟩ => ⟨S2x8192x8x8192, .f32⟩
  | .hbm, ⟨13, _⟩ => ⟨S1x8192, .i32⟩
  | .hbm, ⟨14, _⟩ => ⟨S8192x1, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S1x8192x1x8192, .i1⟩
  | .hbm, ⟨19, _⟩ => ⟨S_, .f32⟩
  | .hbm, ⟨20, _⟩ => ⟨S_, .f32⟩
  | .hbm, ⟨21, _⟩ => ⟨S2x8192x8x8192, .i1⟩
  | .hbm, ⟨22, _⟩ => ⟨S2x8192x8x8192, .f32⟩
  | .hbm, ⟨23, _⟩ => ⟨S2x8192x8x8192, .f32⟩
  | .hbm, ⟨24, _⟩ => ⟨S_, .f32⟩
  | .hbm, ⟨25, _⟩ => ⟨S2x8192x8, .f32⟩
  | .hbm, ⟨26, _⟩ => ⟨S2x8192x8x1, .f32⟩
  | .hbm, ⟨27, _⟩ => ⟨S_, .f32⟩
  | .hbm, ⟨28, _⟩ => ⟨S2x8192x8x1, .f32⟩
  | .hbm, ⟨29, _⟩ => ⟨S2x8192x8x1, .i1⟩
  | .hbm, ⟨30, _⟩ => ⟨S_, .f32⟩
  | .hbm, ⟨31, _⟩ => ⟨S2x8192x8x1, .f32⟩
  | .hbm, ⟨32, _⟩ => ⟨S2x8192x8x1, .i1⟩
  | .hbm, ⟨33, _⟩ => ⟨S2x8192x8x1, .i1⟩
  | .hbm, ⟨34, _⟩ => ⟨S_, .f32⟩
  | .hbm, ⟨35, _⟩ => ⟨S_, .f32⟩
  | .hbm, ⟨36, _⟩ => ⟨S2x8192x8x1, .f32⟩
  | .hbm, ⟨37, _⟩ => ⟨S2x8192x8x1, .f32⟩
  | .hbm, ⟨38, _⟩ => ⟨S2x8192x8x8192, .f32⟩
  | .hbm, ⟨39, _⟩ => ⟨S2x8192x8x8192, .f32⟩
  | .hbm, ⟨40, _⟩ => ⟨S2x8192x8x8192, .f32⟩
  | .hbm, ⟨41, _⟩ => ⟨S_, .f32⟩
  | .hbm, ⟨42, _⟩ => ⟨S2x8192x8, .f32⟩
  | .hbm, ⟨43, _⟩ => ⟨S2x8192x8x1, .f32⟩
  | .hbm, ⟨44, _⟩ => ⟨S_, .f32⟩
  | .hbm, ⟨45, _⟩ => ⟨S2x8192x8x1, .f32⟩
  | .hbm, ⟨46, _⟩ => ⟨S2x8192x8x1, .f32⟩
  | .hbm, ⟨47, _⟩ => ⟨S2x8192x8x8192, .f32⟩
  | .hbm, ⟨48, _⟩ => ⟨S2x8192x8x8192, .f32⟩
  | .hbm, ⟨49, _⟩ => ⟨S2x8192x8x512, .f32⟩
  | .hbm, ⟨50, _⟩ => ⟨S2x8192x8x256, .f32⟩
  | .hbm, ⟨51, _⟩ => ⟨S8x2x8192x256, .f32⟩
  | .hbm, ⟨52, _⟩ => ⟨S8x16384x256, .f32⟩
  | .hbm, ⟨53, _⟩ => ⟨S8x16384x256, .bf16⟩
  | _, _ => ⟨S8x16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== OddProj.lean ====
abbrev S16384x1024 : Shape := ⟨2, ![16384, 1024]⟩
abbrev S1024 : Shape := ⟨1, ![1024]⟩
abbrev S1024x6144 : Shape := ⟨2, ![1024, 6144]⟩
abbrev S8192 : Shape := ⟨1, ![8192]⟩
abbrev S64 : Shape := ⟨1, ![64]⟩
abbrev S_ : Shape := ⟨0, ![]⟩
abbrev S8192x1 : Shape := ⟨2, ![8192, 1]⟩
abbrev S1x64 : Shape := ⟨2, ![1, 64]⟩
abbrev S8192x64 : Shape := ⟨2, ![8192, 64]⟩
abbrev S8192x128 : Shape := ⟨2, ![8192, 128]⟩
abbrev S1x1024 : Shape := ⟨2, ![1, 1024]⟩
abbrev S16384x2048 : Shape := ⟨2, ![16384, 2048]⟩
abbrev S256x1024 : Shape := ⟨2, ![256, 1024]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩
abbrev S1024x128 : Shape := ⟨2, ![1024, 128]⟩
abbrev S1024x2048 : Shape := ⟨2, ![1024, 2048]⟩

abbrev nBuf : Space → Nat
  | .hbm => 29
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x6144, .f32⟩
  | .hbm, ⟨3, _⟩ => ⟨S8192, .i32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S8192, .f32⟩
  | .hbm, ⟨13, _⟩ => ⟨S8192x1, .f32⟩
  | .hbm, ⟨14, _⟩ => ⟨S1x64, .f32⟩
  | .hbm, ⟨15, _⟩ => ⟨S8192x64, .f32⟩
  | .hbm, ⟨16, _⟩ => ⟨S8192x64, .f32⟩
  | .hbm, ⟨17, _⟩ => ⟨S8192x64, .f32⟩
  | .hbm, ⟨18, _⟩ => ⟨S8192x64, .f32⟩
  | .hbm, ⟨19, _⟩ => ⟨S8192x64, .f32⟩
  | .hbm, ⟨20, _⟩ => ⟨S8192x128, .f32⟩
  | .hbm, ⟨21, _⟩ => ⟨S8192x64, .f32⟩
  | .hbm, ⟨22, _⟩ => ⟨S8192x128, .f32⟩
  | .hbm, ⟨23, _⟩ => ⟨S1x1024, .f32⟩
  | .hbm, ⟨24, _⟩ => ⟨S1024x6144, .bf16⟩
  | .hbm, ⟨25, _⟩ => ⟨S16384x1024, .bf16⟩
  | .hbm, ⟨26, _⟩ => ⟨S16384x1024, .bf16⟩
  | .hbm, ⟨27, _⟩ => ⟨S16384x2048, .f32⟩
  | .hbm, ⟨28, _⟩ => ⟨S16384x2048, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x6144, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20_0 : Ref sig .tc := ⟨.hbm, 25, rfl⟩
abbrev main_v20_1 : Ref sig .tc := ⟨.hbm, 26, rfl⟩
abbrev main_v20_2 : Ref sig .tc := ⟨.hbm, 27, rfl⟩
abbrev main_v20_3 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OddProjRefIdeal.lean ====
abbrev S16384x1024 : Shape := ⟨2, ![16384, 1024]⟩
abbrev S1024 : Shape := ⟨1, ![1024]⟩
abbrev S1024x6144 : Shape := ⟨2, ![1024, 6144]⟩
abbrev S2x8192x1024 : Shape := ⟨3, ![2, 8192, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x6144 : Shape := ⟨3, ![2, 8192, 6144]⟩
abbrev S2x8192x2048 : Shape := ⟨3, ![2, 8192, 2048]⟩
abbrev S8192 : Shape := ⟨1, ![8192]⟩
abbrev S2x8192x8x128 : Shape := ⟨4, ![2, 8192, 8, 128]⟩
abbrev S64 : Shape := ⟨1, ![64]⟩
abbrev S8192x1 : Shape := ⟨2, ![8192, 1]⟩
abbrev S1x64 : Shape := ⟨2, ![1, 64]⟩
abbrev S8192x64 : Shape := ⟨2, ![8192, 64]⟩
abbrev S8192x1x64 : Shape := ⟨3, ![8192, 1, 64]⟩
abbrev S2x8192x8x64 : Shape := ⟨4, ![2, 8192, 8, 64]⟩
abbrev S1x8192x1x64 : Shape := ⟨4, ![1, 8192, 1, 64]⟩
abbrev S16384x2048 : Shape := ⟨2, ![16384, 2048]⟩

abbrev nBuf : Space → Nat
  | .hbm => 105
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x6144, .f32⟩
  | .hbm, ⟨3, _⟩ => ⟨S2x8192x1024, .f32⟩
  | .hbm, ⟨4, _⟩ => ⟨S2x8192x1024, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x1024, .f32⟩
  | .hbm, ⟨16, _⟩ => ⟨S2x8192x1024, .f32⟩
  | .hbm, ⟨17, _⟩ => ⟨S1x1x1024, .f32⟩
  | .hbm, ⟨18, _⟩ => ⟨S2x8192x1024, .f32⟩
  | .hbm, ⟨19, _⟩ => ⟨S2x8192x1024, .f32⟩
  | .hbm, ⟨20, _⟩ => ⟨S2x8192x6144, .f32⟩
  | .hbm, ⟨21, _⟩ => ⟨S2x8192x1024, .f32⟩
  | .hbm, ⟨22, _⟩ => ⟨S2x8192x1024, .f32⟩
  | .hbm, ⟨23, _⟩ => ⟨S2x8192x2048, .f32⟩
  | .hbm, ⟨24, _⟩ => ⟨S2x8192x2048, .f32⟩
  | .hbm, ⟨25, _⟩ => ⟨S8192, .i32⟩
  | .hbm, ⟨26, _⟩ => ⟨S2x8192x8x128, .f32⟩
  | .hbm, ⟨27, _⟩ => ⟨S64, .f32⟩
  | .hbm, ⟨28, _⟩ => ⟨S64, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S8192, .f32⟩
  | .hbm, ⟨36, _⟩ => ⟨S8192x1, .f32⟩
  | .hbm, ⟨37, _⟩ => ⟨S1x64, .f32⟩
  | .hbm, ⟨38, _⟩ => ⟨S8192x64, .f32⟩
  | .hbm, ⟨39, _⟩ => ⟨S8192x64, .f32⟩
  | .hbm, ⟨40, _⟩ => ⟨S8192x64, .f32⟩
  | .hbm, ⟨41, _⟩ => ⟨S8192x1x64, .f32⟩
  | .hbm, ⟨42, _⟩ => ⟨S8192x1x64, .f32⟩
  | .hbm, ⟨43, _⟩ => ⟨S8192x1x64, .f32⟩
  | .hbm, ⟨44, _⟩ => ⟨S2x8192x8x64, .f32⟩
  | .hbm, ⟨45, _⟩ => ⟨S2x8192x8x64, .f32⟩
  | .hbm, ⟨46, _⟩ => ⟨S1x8192x1x64, .f32⟩
  | .hbm, ⟨47, _⟩ => ⟨S2x8192x8x64, .f32⟩
  | .hbm, ⟨48, _⟩ => ⟨S2x8192x8x64, .f32⟩
  | .hbm, ⟨49, _⟩ => ⟨S1x8192x1x64, .f32⟩
  | .hbm, ⟨50, _⟩ => ⟨S2x8192x8x64, .f32⟩
  | .hbm, ⟨51, _⟩ => ⟨S2x8192x8x64, .f32⟩
  | .hbm, ⟨52, _⟩ => ⟨S2x8192x8x64, .f32⟩
  | .hbm, ⟨53, _⟩ => ⟨S1x8192x1x64, .f32⟩
  | .hbm, ⟨54, _⟩ => ⟨S2x8192x8x64, .f32⟩
  | .hbm, ⟨55, _⟩ => ⟨S2x8192x8x64, .f32⟩
  | .hbm, ⟨56, _⟩ => ⟨S1x8192x1x64, .f32⟩
  | .hbm, ⟨57, _⟩ => ⟨S2x8192x8x64, .f32⟩
  | .hbm, ⟨58, _⟩ => ⟨S2x8192x8x64, .f32⟩
  | .hbm, ⟨59, _⟩ => ⟨S2x8192x8x64, .f32⟩
  | .hbm, ⟨60, _⟩ => ⟨S2x8192x8x128, .f32⟩
  | .hbm, ⟨61, _⟩ => ⟨S2x8192x8x128, .f32⟩
  | .hbm, ⟨62, _⟩ => ⟨S64, .f32⟩
  | .hbm, ⟨63, _⟩ => ⟨S64, .f32⟩
  | .hbm, ⟨64, _⟩ => ⟨S_, .f32⟩
  | .hbm, ⟨65, _⟩ => ⟨S64, .f32⟩
  | .hbm, ⟨66, _⟩ => ⟨S64, .f32⟩
  | .hbm, ⟨67, _⟩ => ⟨S_, .f32⟩
  | .hbm, ⟨68, _⟩ => ⟨S64, .f32⟩
  | .hbm, ⟨69, _⟩ => ⟨S64, .f32⟩
  | .hbm, ⟨70, _⟩ => ⟨S8192, .f32⟩
  | .hbm, ⟨71, _⟩ => ⟨S8192x1, .f32⟩
  | .hbm, ⟨72, _⟩ => ⟨S1x64, .f32⟩
  | .hbm, ⟨73, _⟩ => ⟨S8192x64, .f32⟩
  | .hbm, ⟨74, _⟩ => ⟨S8192x64, .f32⟩
  | .hbm, ⟨75, _⟩ => ⟨S8192x64, .f32⟩
  | .hbm, ⟨76, _⟩ => ⟨S8192x1x64, .f32⟩
  | .hbm, ⟨77, _⟩ => ⟨S8192x1x64, .f32⟩
  | .hbm, ⟨78, _⟩ => ⟨S8192x1x64, .f32⟩
  | .hbm, ⟨79, _⟩ => ⟨S2x8192x8x64, .f32⟩
  | .hbm, ⟨80, _⟩ => ⟨S2x8192x8x64, .f32⟩
  | .hbm, ⟨81, _⟩ => ⟨S1x8192x1x64, .f32⟩
  | .hbm, ⟨82, _⟩ => ⟨S2x8192x8x64, .f32⟩
  | .hbm, ⟨83, _⟩ => ⟨S2x8192x8x64, .f32⟩
  | .hbm, ⟨84, _⟩ => ⟨S1x8192x1x64, .f32⟩
  | .hbm, ⟨85, _⟩ => ⟨S2x8192x8x64, .f32⟩
  | .hbm, ⟨86, _⟩ => ⟨S2x8192x8x64, .f32⟩
  | .hbm, ⟨87, _⟩ => ⟨S2x8192x8x64, .f32⟩
  | .hbm, ⟨88, _⟩ => ⟨S1x8192x1x64, .f32⟩
  | .hbm, ⟨89, _⟩ => ⟨S2x8192x8x64, .f32⟩
  | .hbm, ⟨90, _⟩ => ⟨S2x8192x8x64, .f32⟩
  | .hbm, ⟨91, _⟩ => ⟨S1x8192x1x64, .f32⟩
  | .hbm, ⟨92, _⟩ => ⟨S2x8192x8x64, .f32⟩
  | .hbm, ⟨93, _⟩ => ⟨S2x8192x8x64, .f32⟩
  | .hbm, ⟨94, _⟩ => ⟨S2x8192x8x64, .f32⟩
  | .hbm, ⟨95, _⟩ => ⟨S2x8192x8x128, .f32⟩
  | .hbm, ⟨96, _⟩ => ⟨S_, .f32⟩
  | .hbm, ⟨97, _⟩ => ⟨S2x8192x8x128, .f32⟩
  | .hbm, ⟨98, _⟩ => ⟨S2x8192x8x128, .f32⟩
  | .hbm, ⟨99, _⟩ => ⟨S16384x1024, .f32⟩
  | .hbm, ⟨100, _⟩ => ⟨S16384x1024, .bf16⟩
  | .hbm, ⟨101, _⟩ => ⟨S16384x1024, .f32⟩
  | .hbm, ⟨102, _⟩ => ⟨S16384x1024, .bf16⟩
  | .hbm, ⟨103, _⟩ => ⟨S16384x2048, .f32⟩
  | .hbm, ⟨104, _⟩ => ⟨S16384x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_cst_4 : Ref sig .tc := ⟨.hbm, 64, rfl⟩
abbrev main_v56 : Ref sig .tc := ⟨.hbm, 65, rfl⟩
abbrev main_v57 : Ref sig .tc := ⟨.hbm, 66, rfl⟩
abbrev main_cst_5 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_cst_6 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩

abbrev nD : Nat := 1
abbrev τ : Topo := Topo.v7x

variable {F : FTy → Type} [FloatOps F]
-- ==== OddOut.lean ====
abbrev S16384x1024 : Shape := ⟨2, ![16384, 1024]⟩
abbrev S16384x2048 : Shape := ⟨2, ![16384, 2048]⟩
abbrev S2048x1024 : Shape := ⟨2, ![2048, 1024]⟩
abbrev S1024 : Shape := ⟨1, ![1024]⟩
abbrev S1x1024 : Shape := ⟨2, ![1, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S16384x2048, .bf16⟩
  | .hbm, ⟨2, _⟩ => ⟨S2048x1024, .f32⟩
  | .hbm, ⟨3, _⟩ => ⟨S1024, .f32⟩
  | .hbm, ⟨4, _⟩ => ⟨S2048x1024, .bf16⟩
  | .hbm, ⟨5, _⟩ => ⟨S1x1024, .f32⟩
  | .hbm, ⟨6, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x2048, .bf16⟩
  | .local _ .vmem, ⟨3, _⟩ => ⟨S256x2048, .bf16⟩
  | .local _ .vmem, ⟨4, _⟩ => ⟨S2048x1024, .bf16⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OddOutRefIdeal.lean ====
abbrev S16384x1024 : Shape := ⟨2, ![16384, 1024]⟩
abbrev S16384x2048 : Shape := ⟨2, ![16384, 2048]⟩
abbrev S2048x1024 : Shape := ⟨2, ![2048, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2048, .bf16⟩
  | .hbm, ⟨2, _⟩ => ⟨S2048x1024, .f32⟩
  | .hbm, ⟨3, _⟩ => ⟨S1024, .f32⟩
  | .hbm, ⟨4, _⟩ => ⟨S16384x2048, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== EvenProj.lean ====
abbrev S16384x1024 : Shape := ⟨2, ![16384, 1024]⟩
abbrev S1024 : Shape := ⟨1, ![1024]⟩
abbrev S1024x3384 : Shape := ⟨2, ![1024, 3384]⟩
abbrev S768 : Shape := ⟨1, ![768]⟩
abbrev S256 : Shape := ⟨1, ![256]⟩
abbrev S768x8x96 : Shape := ⟨3, ![768, 8, 96]⟩
abbrev S256x8x64 : Shape := ⟨3, ![256, 8, 64]⟩
abbrev S1024x768 : Shape := ⟨2, ![1024, 768]⟩
abbrev S1024x256 : Shape := ⟨2, ![1024, 256]⟩
abbrev S1024x32 : Shape := ⟨2, ![1024, 32]⟩
abbrev S1024x512 : Shape := ⟨2, ![1024, 512]⟩
abbrev S1024x24 : Shape := ⟨2, ![1024, 24]⟩
abbrev S1024x16 : Shape := ⟨2, ![1024, 16]⟩
abbrev S1x1024x1x16 : Shape := ⟨4, ![1, 1024, 1, 16]⟩
abbrev S1x1024x8x16 : Shape := ⟨4, ![1, 1024, 8, 16]⟩
abbrev S1024x128 : Shape := ⟨2, ![1024, 128]⟩
abbrev S1024x8x64 : Shape := ⟨3, ![1024, 8, 64]⟩
abbrev S_ : Shape := ⟨0, ![]⟩
abbrev S1024x8x128 : Shape := ⟨3, ![1024, 8, 128]⟩
abbrev S1024x1024 : Shape := ⟨2, ![1024, 1024]⟩
abbrev S1024x2x2x64 : Shape := ⟨4, ![1024, 2, 2, 64]⟩
abbrev S1024x2x2x128 : Shape := ⟨4, ![1024, 2, 2, 128]⟩
abbrev S1024x6272 : Shape := ⟨2, ![1024, 6272]⟩
abbrev S768x8x64 : Shape := ⟨3, ![768, 8, 64]⟩
abbrev S768x8x128 : Shape := ⟨3, ![768, 8, 128]⟩
abbrev S768x1024 : Shape := ⟨2, ![768, 1024]⟩
abbrev S768x8x16 : Shape := ⟨3, ![768, 8, 16]⟩
abbrev S768x128 : Shape := ⟨2, ![768, 128]⟩
abbrev S768x1280 : Shape := ⟨2, ![768, 1280]⟩
abbrev S8x64x256 : Shape := ⟨3, ![8, 64, 256]⟩
abbrev S8x128x256 : Shape := ⟨3, ![8, 128, 256]⟩
abbrev S8192 : Shape := ⟨1, ![8192]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S1x8192x1x16 : Shape := ⟨4, ![1, 8192, 1, 16]⟩
abbrev S1x8192x8x16 : Shape := ⟨4, ![1, 8192, 8, 16]⟩
abbrev S8192x128 : Shape := ⟨2, ![8192, 128]⟩
abbrev S1x1024 : Shape := ⟨2, ![1, 1024]⟩
abbrev S1x768 : Shape := ⟨2, ![1, 768]⟩
abbrev S1x256 : Shape := ⟨2, ![1, 256]⟩
abbrev S512x1024 : Shape := ⟨2, ![512, 1024]⟩
abbrev S8x16384x512 : Shape := ⟨3, ![8, 16384, 512]⟩
abbrev S16384x512 : Shape := ⟨2, ![16384, 512]⟩
abbrev S16384x256 : Shape := ⟨2, ![16384, 256]⟩
abbrev S16384x128 : Shape := ⟨2, ![16384, 128]⟩
abbrev S2x256x8192 : Shape := ⟨3, ![2, 256, 8192]⟩
abbrev S256x1024 : Shape := ⟨2, ![256, 1024]⟩
abbrev S256x128 : Shape := ⟨2, ![256, 128]⟩
abbrev S8x256x512 : Shape := ⟨3, ![8, 256, 512]⟩
abbrev S256x512 : Shape := ⟨2, ![256, 512]⟩
abbrev S256x256 : Shape := ⟨2, ![256, 256]⟩
abbrev S1x256x256 : Shape := ⟨3, ![1, 256, 256]⟩
abbrev S256x1 : Shape := ⟨2, ![256, 1]⟩
abbrev S256x768 : Shape := ⟨2, ![256, 768]⟩
abbrev S1x128 : Shape := ⟨2, ![1, 128]⟩
abbrev S1x128x256 : Shape := ⟨3, ![1, 128, 256]⟩
abbrev S128x256 : Shape := ⟨2, ![128, 256]⟩
abbrev S1x256x128 : Shape := ⟨3, ![1, 256, 128]⟩

abbrev nBuf : Space → Nat
  | .hbm => 115
  | .vmem => 41
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3384, .f32⟩
  | .hbm, ⟨3, _⟩ => ⟨S768, .f32⟩
  | .hbm, ⟨4, _⟩ => ⟨S256, .f32⟩
  | .hbm, ⟨5, _⟩ => ⟨S768x8x96, .f32⟩
  | .hbm, ⟨6, _⟩ => ⟨S256x8x64, .f32⟩
  | .hbm, ⟨7, _⟩ => ⟨S1024x768, .f32⟩
  | .hbm, ⟨8, _⟩ => ⟨S1024x256, .f32⟩
  | .hbm, ⟨9, _⟩ => ⟨S1024x32, .f32⟩
  | .hbm, ⟨10, _⟩ => ⟨S1024x512, .f32⟩
  | .hbm, ⟨11, _⟩ => ⟨S1024x512, .f32⟩
  | .hbm, ⟨12, _⟩ => ⟨S1024x256, .f32⟩
  | .hbm, ⟨13, _⟩ => ⟨S1024x256, .f32⟩
  | .hbm, ⟨14, _⟩ => ⟨S1024x256, .f32⟩
  | .hbm, ⟨15, _⟩ => ⟨S1024x24, .f32⟩
  | .hbm, ⟨16, _⟩ => ⟨S1024x512, .f32⟩
  | .hbm, ⟨17, _⟩ => ⟨S1024x16, .f32⟩
  | .hbm, ⟨18, _⟩ => ⟨S1x1024x1x16, .f32⟩
  | .hbm, ⟨19, _⟩ => ⟨S1x1024x8x16, .f32⟩
  | .hbm, ⟨20, _⟩ => ⟨S1024x128, .f32⟩
  | .hbm, ⟨21, _⟩ => ⟨S1024x16, .f32⟩
  | .hbm, ⟨22, _⟩ => ⟨S1x1024x1x16, .f32⟩
  | .hbm, ⟨23, _⟩ => ⟨S1x1024x8x16, .f32⟩
  | .hbm, ⟨24, _⟩ => ⟨S1024x128, .f32⟩
  | .hbm, ⟨25, _⟩ => ⟨S1024x8x64, .f32⟩
  | .hbm, ⟨26, _⟩ => ⟨S_, .i32⟩
  | .hbm, ⟨27, _⟩ => ⟨S_, .f32⟩
  | .hbm, ⟨28, _⟩ => ⟨S1024x8x128, .f32⟩
  | .hbm, ⟨29, _⟩ => ⟨S1024x1024, .f32⟩
  | .hbm, ⟨30, _⟩ => ⟨S1024x8x64, .f32⟩
  | .hbm, ⟨31, _⟩ => ⟨S_, .i32⟩
  | .hbm, ⟨32, _⟩ => ⟨S_, .f32⟩
  | .hbm, ⟨33, _⟩ => ⟨S1024x8x128, .f32⟩
  | .hbm, ⟨34, _⟩ => ⟨S1024x1024, .f32⟩
  | .hbm, ⟨35, _⟩ => ⟨S1024x2x2x64, .f32⟩
  | .hbm, ⟨36, _⟩ => ⟨S1024x2x2x64, .f32⟩
  | .hbm, ⟨37, _⟩ => ⟨S_, .i32⟩
  | .hbm, ⟨38, _⟩ => ⟨S_, .f32⟩
  | .hbm, ⟨39, _⟩ => ⟨S1024x2x2x128, .f32⟩
  | .hbm, ⟨40, _⟩ => ⟨S1024x512, .f32⟩
  | .hbm, ⟨41, _⟩ => ⟨S1024x2x2x64, .f32⟩
  | .hbm, ⟨42, _⟩ => ⟨S1024x2x2x64, .f32⟩
  | .hbm, ⟨43, _⟩ => ⟨S_, .i32⟩
  | .hbm, ⟨44, _⟩ => ⟨S_, .f32⟩
  | .hbm, ⟨45, _⟩ => ⟨S1024x2x2x128, .f32⟩
  | .hbm, ⟨46, _⟩ => ⟨S1024x512, .f32⟩
  | .hbm, ⟨47, _⟩ => ⟨S_, .i32⟩
  | .hbm, ⟨48, _⟩ => ⟨S_, .f32⟩
  | .hbm, ⟨49, _⟩ => ⟨S1024x128, .f32⟩
  | .hbm, ⟨50, _⟩ => ⟨S1024x8x64, .f32⟩
  | .hbm, ⟨51, _⟩ => ⟨S_, .i32⟩
  | .hbm, ⟨52, _⟩ => ⟨S_, .f32⟩
  | .hbm, ⟨53, _⟩ => ⟨S1024x8x128, .f32⟩
  | .hbm, ⟨54, _⟩ => ⟨S1024x1024, .f32⟩
  | .hbm, ⟨55, _⟩ => ⟨S1024x6272, .f32⟩
  | .hbm, ⟨56, _⟩ => ⟨S1024x6272, .bf16⟩
  | .hbm, ⟨57, _⟩ => ⟨S768x8x64, .f32⟩
  | .hbm, ⟨58, _⟩ => ⟨S_, .i32⟩
  | .hbm, ⟨59, _⟩ => ⟨S_, .f32⟩
  | .hbm, ⟨60, _⟩ => ⟨S768x8x128, .f32⟩
  | .hbm, ⟨61, _⟩ => ⟨S768x1024, .f32⟩
  | .hbm, ⟨62, _⟩ => ⟨S768x8x16, .f32⟩
  | .hbm, ⟨63, _⟩ => ⟨S768x128, .f32⟩
  | .hbm, ⟨64, _⟩ => ⟨S768x8x16, .f32⟩
  | .hbm, ⟨65, _⟩ => ⟨S768x128, .f32⟩
  | .hbm, ⟨66, _⟩ => ⟨S768x1280, .f32⟩
  | .hbm, ⟨67, _⟩ => ⟨S768x1280, .bf16⟩
  | .hbm, ⟨68, _⟩ => ⟨S8x64x256, .f32⟩
  | .hbm, ⟨69, _⟩ => ⟨S_, .i32⟩
  | .hbm, ⟨70, _⟩ => ⟨S_, .f32⟩
  | .hbm, ⟨71, _⟩ => ⟨S8x128x256, .f32⟩
  | .hbm, ⟨72, _⟩ => ⟨S8x128x256, .bf16⟩
  | .hbm, ⟨73, _⟩ => ⟨S8192, .i32⟩
  | .hbm, ⟨74, _⟩ => ⟨S16, .f32⟩
  | .hbm, ⟨75, _⟩ => ⟨S16, .f32⟩
  | .hbm, ⟨76, _⟩ => ⟨S_, .f32⟩
  | .hbm, ⟨77, _⟩ => ⟨S16, .f32⟩
  | .hbm, ⟨78, _⟩ => ⟨S16, .f32⟩
  | .hbm, ⟨79, _⟩ => ⟨S_, .f32⟩
  | .hbm, ⟨80, _⟩ => ⟨S16, .f32⟩
  | .hbm, ⟨81, _⟩ => ⟨S16, .f32⟩
  | .hbm, ⟨82, _⟩ => ⟨S8192, .f32⟩
  | .hbm, ⟨83, _⟩ => ⟨S8192x1, .f32⟩
  | .hbm, ⟨84, _⟩ => ⟨S1x16, .f32⟩
  | .hbm, ⟨85, _⟩ => ⟨S8192x16, .f32⟩
  | .hbm, ⟨86, _⟩ => ⟨S8192x16, .f32⟩
  | .hbm, ⟨87, _⟩ => ⟨S8192x16, .f32⟩
  | .hbm, ⟨88, _⟩ => ⟨S8192x16, .f32⟩
  | .hbm, ⟨89, _⟩ => ⟨S1x8192x1x16, .f32⟩
  | .hbm, ⟨90, _⟩ => ⟨S1x8192x8x16, .f32⟩
  | .hbm, ⟨91, _⟩ => ⟨S8192x128, .f32⟩
  | .hbm, ⟨92, _⟩ => ⟨S8192x16, .f32⟩
  | .hbm, ⟨93, _⟩ => ⟨S1x8192x1x16, .f32⟩
  | .hbm, ⟨94, _⟩ => ⟨S1x8192x8x16, .f32⟩
  | .hbm, ⟨95, _⟩ => ⟨S8192x128, .f32⟩
  | .hbm, ⟨96, _⟩ => ⟨S1x1024, .f32⟩
  | .hbm, ⟨97, _⟩ => ⟨S1x768, .f32⟩
  | .hbm, ⟨98, _⟩ => ⟨S1x256, .f32⟩
  | .hbm, ⟨99, _⟩ => ⟨S1024x512, .bf16⟩
  | .hbm, ⟨100, _⟩ => ⟨S512x1024, .bf16⟩
  | .hbm, ⟨101, _⟩ => ⟨S8x16384x512, .bf16⟩
  | .hbm, ⟨102, _⟩ => ⟨S16384x512, .f32⟩
  | .hbm, ⟨103, _⟩ => ⟨S16384x512, .bf16⟩
  | .hbm, ⟨104, _⟩ => ⟨S16384x1024, .f32⟩
  | .hbm, ⟨105, _⟩ => ⟨S16384x1024, .bf16⟩
  | .hbm, ⟨106, _⟩ => ⟨S16384x256, .f32⟩
  | .hbm, ⟨107, _⟩ => ⟨S16384x256, .f32⟩
  | .hbm, ⟨108, _⟩ => ⟨S16384x512, .bf16⟩
  | .hbm, ⟨109, _⟩ => ⟨S16384x256, .f32⟩
  | .hbm, ⟨110, _⟩ => ⟨S16384x512, .bf16⟩
  | .hbm, ⟨111, _⟩ => ⟨S16384x128, .f32⟩
  | .hbm, ⟨112, _⟩ => ⟨S16384x1024, .f32⟩
  | .hbm, ⟨113, _⟩ => ⟨S2x256x8192, .f32⟩
  | .hbm, ⟨114, _⟩ => ⟨S2x256x8192, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x6272, .bf16⟩
  | .local _ .vmem, ⟨4, _⟩ => ⟨S512x1024, .bf16⟩
  | .local _ .vmem, ⟨5, _⟩ => ⟨S1x768, .f32⟩
  | .local _ .vmem, ⟨6, _⟩ => ⟨S1x256, .f32⟩
  | .local _ .vmem, ⟨7, _⟩ => ⟨S768x1280, .bf16⟩
  | .local _ .vmem, ⟨8, _⟩ => ⟨S8x128x256, .bf16⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S8x256x512, .bf16⟩
  | .local _ .vmem, ⟨14, _⟩ => ⟨S8x256x512, .bf16⟩
  | .local _ .vmem, ⟨15, _⟩ => ⟨S256x512, .f32⟩
  | .local _ .vmem, ⟨16, _⟩ => ⟨S256x512, .f32⟩
  | .local _ .vmem, ⟨17, _⟩ => ⟨S256x512, .bf16⟩
  | .local _ .vmem, ⟨18, _⟩ => ⟨S256x512, .bf16⟩
  | .local _ .vmem, ⟨19, _⟩ => ⟨S256x1024, .f32⟩
  | .local _ .vmem, ⟨20, _⟩ => ⟨S256x1024, .f32⟩
  | .local _ .vmem, ⟨21, _⟩ => ⟨S256x1024, .bf16⟩
  | .local _ .vmem, ⟨22, _⟩ => ⟨S256x1024, .bf16⟩
  | .local _ .vmem, ⟨23, _⟩ => ⟨S256x256, .f32⟩
  | .local _ .vmem, ⟨24, _⟩ => ⟨S256x256, .f32⟩
  | .local _ .vmem, ⟨25, _⟩ => ⟨S256x256, .f32⟩
  | .local _ .vmem, ⟨26, _⟩ => ⟨S256x256, .f32⟩
  | .local _ .vmem, ⟨27, _⟩ => ⟨S256x512, .bf16⟩
  | .local _ .vmem, ⟨28, _⟩ => ⟨S256x512, .bf16⟩
  | .local _ .vmem, ⟨29, _⟩ => ⟨S256x256, .f32⟩
  | .local _ .vmem, ⟨30, _⟩ => ⟨S256x256, .f32⟩
  | .local _ .vmem, ⟨31, _⟩ => ⟨S256x512, .bf16⟩
  | .local _ .vmem, ⟨32, _⟩ => ⟨S256x512, .bf16⟩
  | .local _ .vmem, ⟨33, _⟩ => ⟨S256x128, .f32⟩
  | .local _ .vmem, ⟨34, _⟩ => ⟨S256x128, .f32⟩
  | .local _ .vmem, ⟨35, _⟩ => ⟨S256x1024, .f32⟩
  | .local _ .vmem, ⟨36, _⟩ => ⟨S256x1024, .f32⟩
  | .local _ .vmem, ⟨37, _⟩ => ⟨S1x256x256, .f32⟩
  | .local _ .vmem, ⟨38, _⟩ => ⟨S1x256x256, .f32⟩
  | .local _ .vmem, ⟨39, _⟩ => ⟨S1x256x256, .f32⟩
  | .local _ .vmem, ⟨40, _⟩ => ⟨S1x256x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c : Ref sig .tc := ⟨.hbm, 26, rfl⟩
abbrev main_call0_v0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_0 : Ref sig .tc := ⟨.hbm, 31, rfl⟩
abbrev main_call1_v0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_1 : Ref sig .tc := ⟨.hbm, 37, rfl⟩
abbrev main_call2_v0 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_2 : Ref sig .tc := ⟨.hbm, 43, rfl⟩
abbrev main_call3_v0 : Ref sig .tc := ⟨.hbm, 44, rfl⟩
abbrev main_v30 : Ref sig .tc := ⟨.hbm, 45, rfl⟩
abbrev main_v31 : Ref sig .tc := ⟨.hbm, 46, rfl⟩
abbrev main_c_3 : Ref sig .tc := ⟨.hbm, 47, rfl⟩
abbrev main_call4_v0 : Ref sig .tc := ⟨.hbm, 48, rfl⟩
abbrev main_v32 : Ref sig .tc := ⟨.hbm, 49, rfl⟩
abbrev main_v33 : Ref sig .tc := ⟨.hbm, 50, rfl⟩
abbrev main_c_4 : Ref sig .tc := ⟨.hbm, 51, rfl⟩
abbrev main_call5_v0 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_5 : Ref sig .tc := ⟨.hbm, 58, rfl⟩
abbrev main_call6_v0 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_6 : Ref sig .tc := ⟨.hbm, 69, rfl⟩
abbrev main_call7_v0 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst : Ref sig .tc := ⟨.hbm, 76, rfl⟩
abbrev main_v53 : Ref sig .tc := ⟨.hbm, 77, rfl⟩
abbrev main_v54 : Ref sig .tc := ⟨.hbm, 78, rfl⟩
abbrev main_cst_7 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76_0 : Ref sig .tc := ⟨.hbm, 101, rfl⟩
abbrev main_v76_1 : Ref sig .tc := ⟨.hbm, 102, rfl⟩
abbrev main_v76_2 : Ref sig .tc := ⟨.hbm, 103, rfl⟩
abbrev main_v76_3 : Ref sig .tc := ⟨.hbm, 104, rfl⟩
abbrev main_v76_4 : Ref sig .tc := ⟨.hbm, 105, rfl⟩
abbrev main_v76_5 : Ref sig .tc := ⟨.hbm, 106, rfl⟩
abbrev main_v76_6 : Ref sig .tc := ⟨.hbm, 107, rfl⟩
abbrev main_v76_7 : Ref sig .tc := ⟨.hbm, 108, rfl⟩
abbrev main_v76_8 : Ref sig .tc := ⟨.hbm, 109, rfl⟩
abbrev main_v76_9 : Ref sig .tc := ⟨.hbm, 110, rfl⟩
abbrev main_v76_10 : Ref sig .tc := ⟨.hbm, 111, rfl⟩
abbrev main_v76_11 : Ref sig .tc := ⟨.hbm, 112, rfl⟩
abbrev main_v76_12 : Ref sig .tc := ⟨.hbm, 113, rfl⟩
abbrev main_v76_13 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_stg22_0 : Ref sig .tc := ⟨.vmem, 37, rfl⟩
abbrev cc0_stg22_1 : Ref sig .tc := ⟨.vmem, 38, rfl⟩
abbrev cc0_stg23_0 : Ref sig .tc := ⟨.vmem, 39, rfl⟩
abbrev cc0_stg23_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36
abbrev cc0_sem22_0 : DmaSem sig := 37
abbrev cc0_sem22_1 : DmaSem sig := 38
abbrev cc0_sem23_0 : DmaSem sig := 39
abbrev cc0_sem23_1 : DmaSem sig := 40

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_23 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6272 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x1280 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x256x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x256x256 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== EvenProjRefIdeal.lean ====
abbrev S16384x1024 : Shape := ⟨2, ![16384, 1024]⟩
abbrev S1024 : Shape := ⟨1, ![1024]⟩
abbrev S1024x3384 : Shape := ⟨2, ![1024, 3384]⟩
abbrev S768 : Shape := ⟨1, ![768]⟩
abbrev S256 : Shape := ⟨1, ![256]⟩
abbrev S768x8x96 : Shape := ⟨3, ![768, 8, 96]⟩
abbrev S256x8x64 : Shape := ⟨3, ![256, 8, 64]⟩
abbrev S2x8192x1024 : Shape := ⟨3, ![2, 8192, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x3384 : Shape := ⟨3, ![2, 8192, 3384]⟩
abbrev S2x8192x768 : Shape := ⟨3, ![2, 8192, 768]⟩
abbrev S2x8192x256 : Shape := ⟨3, ![2, 8192, 256]⟩
abbrev S2x8192x32 : Shape := ⟨3, ![2, 8192, 32]⟩
abbrev S2x8192x512 : Shape := ⟨3, ![2, 8192, 512]⟩
abbrev S2x8192x24 : Shape := ⟨3, ![2, 8192, 24]⟩
abbrev S8192 : Shape := ⟨1, ![8192]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S2x8192x16 : Shape := ⟨3, ![2, 8192, 16]⟩
abbrev S1x8192x16 : Shape := ⟨3, ![1, 8192, 16]⟩
abbrev S1x1x256 : Shape := ⟨3, ![1, 1, 256]⟩
abbrev S1x2x1x8192x1x16 : Shape := ⟨6, ![1, 2, 1, 8192, 1, 16]⟩
abbrev S1x2x1x8192x8x16 : Shape := ⟨6, ![1, 2, 1, 8192, 8, 16]⟩
abbrev S2x8192x128 : Shape := ⟨3, ![2, 8192, 128]⟩
abbrev S16384x512 : Shape := ⟨2, ![16384, 512]⟩
abbrev S16384x8x64 : Shape := ⟨3, ![16384, 8, 64]⟩
abbrev S16384x8x128 : Shape := ⟨3, ![16384, 8, 128]⟩
abbrev S16384x256 : Shape := ⟨2, ![16384, 256]⟩
abbrev S16384x24 : Shape := ⟨2, ![16384, 24]⟩
abbrev S16384x128 : Shape := ⟨2, ![16384, 128]⟩
abbrev S2x256x8192 : Shape := ⟨3, ![2, 256, 8192]⟩

abbrev nBuf : Space → Nat
  | .hbm => 123
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3384, .f32⟩
  | .hbm, ⟨3, _⟩ => ⟨S768, .f32⟩
  | .hbm, ⟨4, _⟩ => ⟨S256, .f32⟩
  | .hbm, ⟨5, _⟩ => ⟨S768x8x96, .f32⟩
  | .hbm, ⟨6, _⟩ => ⟨S256x8x64, .f32⟩
  | .hbm, ⟨7, _⟩ => ⟨S2x8192x1024, .f32⟩
  | .hbm, ⟨8, _⟩ => ⟨S2x8192x1024, .f32⟩
  | .hbm, ⟨9, _⟩ => ⟨S_, .f32⟩
  | .hbm, ⟨10, _⟩ => ⟨S2x8192, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x1, .f32⟩
  | .hbm, ⟨19, _⟩ => ⟨S2x8192x1024, .f32⟩
  | .hbm, ⟨20, _⟩ => ⟨S2x8192x1024, .f32⟩
  | .hbm, ⟨21, _⟩ => ⟨S1x1x1024, .f32⟩
  | .hbm, ⟨22, _⟩ => ⟨S2x8192x1024, .f32⟩
  | .hbm, ⟨23, _⟩ => ⟨S2x8192x1024, .f32⟩
  | .hbm, ⟨24, _⟩ => ⟨S2x8192x3384, .f32⟩
  | .hbm, ⟨25, _⟩ => ⟨S2x8192x768, .f32⟩
  | .hbm, ⟨26, _⟩ => ⟨S2x8192x256, .f32⟩
  | .hbm, ⟨27, _⟩ => ⟨S2x8192x32, .f32⟩
  | .hbm, ⟨28, _⟩ => ⟨S2x8192x512, .f32⟩
  | .hbm, ⟨29, _⟩ => ⟨S2x8192x512, .f32⟩
  | .hbm, ⟨30, _⟩ => ⟨S2x8192x256, .f32⟩
  | .hbm, ⟨31, _⟩ => ⟨S2x8192x256, .f32⟩
  | .hbm, ⟨32, _⟩ => ⟨S2x8192x256, .f32⟩
  | .hbm, ⟨33, _⟩ => ⟨S2x8192x24, .f32⟩
  | .hbm, ⟨34, _⟩ => ⟨S2x8192x512, .f32⟩
  | .hbm, ⟨35, _⟩ => ⟨S8192, .i32⟩
  | .hbm, ⟨36, _⟩ => ⟨S16, .f32⟩
  | .hbm, ⟨37, _⟩ => ⟨S16, .f32⟩
  | .hbm, ⟨38, _⟩ => ⟨S_, .f32⟩
  | .hbm, ⟨39, _⟩ => ⟨S16, .f32⟩
  | .hbm, ⟨40, _⟩ => ⟨S16, .f32⟩
  | .hbm, ⟨41, _⟩ => ⟨S_, .f32⟩
  | .hbm, ⟨42, _⟩ => ⟨S16, .f32⟩
  | .hbm, ⟨43, _⟩ => ⟨S16, .f32⟩
  | .hbm, ⟨44, _⟩ => ⟨S8192, .f32⟩
  | .hbm, ⟨45, _⟩ => ⟨S8192x1, .f32⟩
  | .hbm, ⟨46, _⟩ => ⟨S1x16, .f32⟩
  | .hbm, ⟨47, _⟩ => ⟨S8192x16, .f32⟩
  | .hbm, ⟨48, _⟩ => ⟨S8192x16, .f32⟩
  | .hbm, ⟨49, _⟩ => ⟨S8192x16, .f32⟩
  | .hbm, ⟨50, _⟩ => ⟨S8192x16, .f32⟩
  | .hbm, ⟨51, _⟩ => ⟨S8192x16, .f32⟩
  | .hbm, ⟨52, _⟩ => ⟨S2x8192x16, .f32⟩
  | .hbm, ⟨53, _⟩ => ⟨S2x8192x16, .f32⟩
  | .hbm, ⟨54, _⟩ => ⟨S1x8192x16, .f32⟩
  | .hbm, ⟨55, _⟩ => ⟨S2x8192x16, .f32⟩
  | .hbm, ⟨56, _⟩ => ⟨S2x8192x16, .f32⟩
  | .hbm, ⟨57, _⟩ => ⟨S1x8192x16, .f32⟩
  | .hbm, ⟨58, _⟩ => ⟨S2x8192x16, .f32⟩
  | .hbm, ⟨59, _⟩ => ⟨S2x8192x16, .f32⟩
  | .hbm, ⟨60, _⟩ => ⟨S2x8192x16, .f32⟩
  | .hbm, ⟨61, _⟩ => ⟨S1x8192x16, .f32⟩
  | .hbm, ⟨62, _⟩ => ⟨S2x8192x16, .f32⟩
  | .hbm, ⟨63, _⟩ => ⟨S2x8192x16, .f32⟩
  | .hbm, ⟨64, _⟩ => ⟨S1x8192x16, .f32⟩
  | .hbm, ⟨65, _⟩ => ⟨S2x8192x16, .f32⟩
  | .hbm, ⟨66, _⟩ => ⟨S2x8192x16, .f32⟩
  | .hbm, ⟨67, _⟩ => ⟨S2x8192x16, .f32⟩
  | .hbm, ⟨68, _⟩ => ⟨S2x8192x32, .f32⟩
  | .hbm, ⟨69, _⟩ => ⟨S2x8192x256, .f32⟩
  | .hbm, ⟨70, _⟩ => ⟨S_, .f32⟩
  | .hbm, ⟨71, _⟩ => ⟨S2x8192, .f32⟩
  | .hbm, ⟨72, _⟩ => ⟨S2x8192x1, .f32⟩
  | .hbm, ⟨73, _⟩ => ⟨S_, .f32⟩
  | .hbm, ⟨74, _⟩ => ⟨S2x8192x1, .f32⟩
  | .hbm, ⟨75, _⟩ => ⟨S2x8192x1, .f32⟩
  | .hbm, ⟨76, _⟩ => ⟨S_, .f32⟩
  | .hbm, ⟨77, _⟩ => ⟨S2x8192x1, .f32⟩
  | .hbm, ⟨78, _⟩ => ⟨S2x8192x1, .f32⟩
  | .hbm, ⟨79, _⟩ => ⟨S2x8192x1, .f32⟩
  | .hbm, ⟨80, _⟩ => ⟨S2x8192x256, .f32⟩
  | .hbm, ⟨81, _⟩ => ⟨S2x8192x256, .f32⟩
  | .hbm, ⟨82, _⟩ => ⟨S1x1x256, .f32⟩
  | .hbm, ⟨83, _⟩ => ⟨S2x8192x256, .f32⟩
  | .hbm, ⟨84, _⟩ => ⟨S2x8192x256, .f32⟩
  | .hbm, ⟨85, _⟩ => ⟨S2x8192x16, .f32⟩
  | .hbm, ⟨86, _⟩ => ⟨S1x2x1x8192x1x16, .f32⟩
  | .hbm, ⟨87, _⟩ => ⟨S1x2x1x8192x8x16, .f32⟩
  | .hbm, ⟨88, _⟩ => ⟨S2x8192x128, .f32⟩
  | .hbm, ⟨89, _⟩ => ⟨S2x8192x16, .f32⟩
  | .hbm, ⟨90, _⟩ => ⟨S1x2x1x8192x1x16, .f32⟩
  | .hbm, ⟨91, _⟩ => ⟨S1x2x1x8192x8x16, .f32⟩
  | .hbm, ⟨92, _⟩ => ⟨S2x8192x128, .f32⟩
  | .hbm, ⟨93, _⟩ => ⟨S2x8192x512, .f32⟩
  | .hbm, ⟨94, _⟩ => ⟨S16384x512, .f32⟩
  | .hbm, ⟨95, _⟩ => ⟨S16384x512, .f32⟩
  | .hbm, ⟨96, _⟩ => ⟨S16384x512, .bf16⟩
  | .hbm, ⟨97, _⟩ => ⟨S16384x8x64, .f32⟩
  | .hbm, ⟨98, _⟩ => ⟨S_, .i32⟩
  | .hbm, ⟨99, _⟩ => ⟨S_, .f32⟩
  | .hbm, ⟨100, _⟩ => ⟨S16384x8x128, .f32⟩
  | .hbm, ⟨101, _⟩ => ⟨S16384x1024, .f32⟩
  | .hbm, ⟨102, _⟩ => ⟨S_, .f32⟩
  | .hbm, ⟨103, _⟩ => ⟨S2x8192x512, .f32⟩
  | .hbm, ⟨104, _⟩ => ⟨S2x8192x512, .f32⟩
  | .hbm, ⟨105, _⟩ => ⟨S16384x8x64, .f32⟩
  | .hbm, ⟨106, _⟩ => ⟨S_, .i32⟩
  | .hbm, ⟨107, _⟩ => ⟨S_, .f32⟩
  | .hbm, ⟨108, _⟩ => ⟨S16384x8x128, .f32⟩
  | .hbm, ⟨109, _⟩ => ⟨S16384x1024, .f32⟩
  | .hbm, ⟨110, _⟩ => ⟨S16384x1024, .bf16⟩
  | .hbm, ⟨111, _⟩ => ⟨S16384x256, .f32⟩
  | .hbm, ⟨112, _⟩ => ⟨S16384x24, .f32⟩
  | .hbm, ⟨113, _⟩ => ⟨S_, .i32⟩
  | .hbm, ⟨114, _⟩ => ⟨S_, .f32⟩
  | .hbm, ⟨115, _⟩ => ⟨S16384x128, .f32⟩
  | .hbm, ⟨116, _⟩ => ⟨S16384x8x64, .f32⟩
  | .hbm, ⟨117, _⟩ => ⟨S_, .i32⟩
  | .hbm, ⟨118, _⟩ => ⟨S_, .f32⟩
  | .hbm, ⟨119, _⟩ => ⟨S16384x8x128, .f32⟩
  | .hbm, ⟨120, _⟩ => ⟨S16384x1024, .f32⟩
  | .hbm, ⟨121, _⟩ => ⟨S2x256x8192, .f32⟩
  | .hbm, ⟨122, _⟩ => ⟨S2x256x8192, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_4 : Ref sig .tc := ⟨.hbm, 70, rfl⟩
abbrev main_v58 : Ref sig .tc := ⟨.hbm, 71, rfl⟩
abbrev main_v59 : Ref sig .tc := ⟨.hbm, 72, rfl⟩
abbrev main_cst_5 : Ref sig .tc := ⟨.hbm, 73, rfl⟩
abbrev main_v60 : Ref sig .tc := ⟨.hbm, 74, rfl⟩
abbrev main_v61 : Ref sig .tc := ⟨.hbm, 75, rfl⟩
abbrev main_cst_6 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_c : Ref sig .tc := ⟨.hbm, 98, rfl⟩
abbrev main_call0_v0 : Ref sig .tc := ⟨.hbm, 99, rfl⟩
abbrev main_v83 : Ref sig .tc := ⟨.hbm, 100, rfl⟩
abbrev main_v84 : Ref sig .tc := ⟨.hbm, 101, rfl⟩
abbrev main_cst_7 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_c_8 : Ref sig .tc := ⟨.hbm, 106, rfl⟩
abbrev main_call1_v0 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_c_9 : Ref sig .tc := ⟨.hbm, 113, rfl⟩
abbrev main_call2_v0 : Ref sig .tc := ⟨.hbm, 114, rfl⟩
abbrev main_v93 : Ref sig .tc := ⟨.hbm, 115, rfl⟩
abbrev main_v94 : Ref sig .tc := ⟨.hbm, 116, rfl⟩
abbrev main_c_10 : Ref sig .tc := ⟨.hbm, 117, rfl⟩
abbrev main_call3_v0 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩

abbrev nD : Nat := 1
abbrev τ : Topo := Topo.v7x

variable {F : FTy → Type} [FloatOps F]
-- ==== EvenOut.lean ====
abbrev S16384x1024 : Shape := ⟨2, ![16384, 1024]⟩
abbrev S8x16384x256 : Shape := ⟨3, ![8, 16384, 256]⟩
abbrev S256x8x64 : Shape := ⟨3, ![256, 8, 64]⟩
abbrev S1024x1024 : Shape := ⟨2, ![1024, 1024]⟩
abbrev S8x256x64 : Shape := ⟨3, ![8, 256, 64]⟩
abbrev S_ : Shape := ⟨0, ![]⟩
abbrev S8x256x128 : Shape := ⟨3, ![8, 256, 128]⟩
abbrev S16x64x1024 : Shape := ⟨3, ![16, 64, 1024]⟩
abbrev S16x128x1024 : Shape := ⟨3, ![16, 128, 1024]⟩
abbrev S2048x1024 : Shape := ⟨2, ![2048, 1024]⟩
abbrev S256x1024 : Shape := ⟨2, ![256, 1024]⟩
abbrev S8x256x256 : Shape := ⟨3, ![8, 256, 256]⟩
abbrev S1x256x256 : Shape := ⟨3, ![1, 256, 256]⟩
abbrev S256x256 : Shape := ⟨2, ![256, 256]⟩
abbrev S1x256x128 : Shape := ⟨3, ![1, 256, 128]⟩
abbrev S256x128 : Shape := ⟨2, ![256, 128]⟩

abbrev nBuf : Space → Nat
  | .hbm => 19
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S8x16384x256, .bf16⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S256x8x64, .f32⟩
  | .hbm, ⟨6, _⟩ => ⟨S1024x1024, .f32⟩
  | .hbm, ⟨7, _⟩ => ⟨S8x256x64, .f32⟩
  | .hbm, ⟨8, _⟩ => ⟨S_, .i32⟩
  | .hbm, ⟨9, _⟩ => ⟨S_, .f32⟩
  | .hbm, ⟨10, _⟩ => ⟨S8x256x128, .f32⟩
  | .hbm, ⟨11, _⟩ => ⟨S8x256x128, .bf16⟩
  | .hbm, ⟨12, _⟩ => ⟨S16x64x1024, .f32⟩
  | .hbm, ⟨13, _⟩ => ⟨S_, .i32⟩
  | .hbm, ⟨14, _⟩ => ⟨S_, .f32⟩
  | .hbm, ⟨15, _⟩ => ⟨S16x128x1024, .f32⟩
  | .hbm, ⟨16, _⟩ => ⟨S2048x1024, .f32⟩
  | .hbm, ⟨17, _⟩ => ⟨S2048x1024, .bf16⟩
  | .hbm, ⟨18, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S8x256x256, .bf16⟩
  | .local _ .vmem, ⟨3, _⟩ => ⟨S8x256x256, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S8x256x128, .bf16⟩
  | .local _ .vmem, ⟨11, _⟩ => ⟨S2048x1024, .bf16⟩
  | .local _ .vmem, ⟨12, _⟩ => ⟨S256x1024, .f32⟩
  | .local _ .vmem, ⟨13, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_call1_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== EvenOutRefIdeal.lean ====
abbrev S16384x1024 : Shape := ⟨2, ![16384, 1024]⟩
abbrev S8x16384x256 : Shape := ⟨3, ![8, 16384, 256]⟩
abbrev S256x8x64 : Shape := ⟨3, ![256, 8, 64]⟩
abbrev S1024x1024 : Shape := ⟨2, ![1024, 1024]⟩
abbrev S16384x8x256 : Shape := ⟨3, ![16384, 8, 256]⟩
abbrev S8x64x16384 : Shape := ⟨3, ![8, 64, 16384]⟩
abbrev S16384x8x64 : Shape := ⟨3, ![16384, 8, 64]⟩
abbrev S16384x512 : Shape := ⟨2, ![16384, 512]⟩
abbrev S16384x8x128 : Shape := ⟨3, ![16384, 8, 128]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x16384x256, .bf16⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S256x8x64, .f32⟩
  | .hbm, ⟨6, _⟩ => ⟨S1024x1024, .f32⟩
  | .hbm, ⟨7, _⟩ => ⟨S16384x8x256, .bf16⟩
  | .hbm, ⟨8, _⟩ => ⟨S16384x8x256, .f32⟩
  | .hbm, ⟨9, _⟩ => ⟨S8x64x16384, .f32⟩
  | .hbm, ⟨10, _⟩ => ⟨S16384x8x64, .f32⟩
  | .hbm, ⟨11, _⟩ => ⟨S16384x512, .f32⟩
  | .hbm, ⟨12, _⟩ => ⟨S16384x8x128, .f32⟩
  | .hbm, ⟨13, _⟩ => ⟨S16384x8x64, .f32⟩
  | .hbm, ⟨14, _⟩ => ⟨S16384x512, .f32⟩
  | .hbm, ⟨15, _⟩ => ⟨S16384x512, .f32⟩
  | .hbm, ⟨16, _⟩ => ⟨S16384x512, .f32⟩
  | .hbm, ⟨17, _⟩ => ⟨S_, .f32⟩
  | .hbm, ⟨18, _⟩ => ⟨S16384x512, .f32⟩
  | .hbm, ⟨19, _⟩ => ⟨S16384x512, .f32⟩
  | .hbm, ⟨20, _⟩ => ⟨S_, .f32⟩
  | .hbm, ⟨21, _⟩ => ⟨S16384x512, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S16384x8x128, .f32⟩
  | .hbm, ⟨26, _⟩ => ⟨S16384x8x64, .f32⟩
  | .hbm, ⟨27, _⟩ => ⟨S16384x512, .f32⟩
  | .hbm, ⟨28, _⟩ => ⟨S16384x8x128, .f32⟩
  | .hbm, ⟨29, _⟩ => ⟨S16384x8x64, .f32⟩
  | .hbm, ⟨30, _⟩ => ⟨S16384x512, .f32⟩
  | .hbm, ⟨31, _⟩ => ⟨S16384x512, .f32⟩
  | .hbm, ⟨32, _⟩ => ⟨S16384x512, .f32⟩
  | .hbm, ⟨33, _⟩ => ⟨S_, .f32⟩
  | .hbm, ⟨34, _⟩ => ⟨S16384x512, .f32⟩
  | .hbm, ⟨35, _⟩ => ⟨S16384x512, .f32⟩
  | .hbm, ⟨36, _⟩ => ⟨S_, .f32⟩
  | .hbm, ⟨37, _⟩ => ⟨S16384x512, .f32⟩
  | .hbm, ⟨38, _⟩ => ⟨S16384x512, .f32⟩
  | .hbm, ⟨39, _⟩ => ⟨S16384x512, .f32⟩
  | .hbm, ⟨40, _⟩ => ⟨S16384x512, .f32⟩
  | .hbm, ⟨41, _⟩ => ⟨S16384x1024, .f32⟩
  | .hbm, ⟨42, _⟩ => ⟨S16384x1024, .f32⟩
  | .hbm, ⟨43, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_call1_v0 : Ref sig .tc := ⟨.hbm, 31, rfl⟩
abbrev main_call1_v1 : Ref sig .tc := ⟨.hbm, 32, rfl⟩
abbrev main_call1_cst : Ref sig .tc := ⟨.hbm, 33, rfl⟩
abbrev main_call1_v2 : Ref sig .tc := ⟨.hbm, 34, rfl⟩
abbrev main_call1_v3 : Ref sig .tc := ⟨.hbm, 35, rfl⟩
abbrev main_call1_cst_0 : Ref sig .tc := ⟨.hbm, 36, rfl⟩
abbrev main_call1_v4 : Ref sig .tc := ⟨.hbm, 37, rfl⟩
abbrev main_call1_v5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩

abbrev nD : Nat := 1
abbrev τ : Topo := Topo.v7x

variable {F : FTy → Type} [FloatOps F]
-- ==== Proof.KernelIdeal.Cases.lean ====
/- The conditions of the attention body's branches over the grid, the scratch contents as a state, and the step one grid
   point makes on it. -/
module

public import proofs.«01_k».proof.Proof.Gen.KernelIdeal.Skeleton
public import proofs.«01_k».proof.Proof.Gen.KernelIdeal.Frame

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The grid point is at the first key block of a query block. -/
abbrev Starts (i : grid0.Coords) : Prop := (Scalar.cmpi .ne (Scalar.extui (Scalar.cmpi .eq (BitVec.ofNat 32 (i 2).val) 0#32)) 0#32) = 1#1
theorem starts_iff (i : grid0.Coords) : Starts i ↔ (i 2).val = 0 :=
  (by decide +kernel : ∀ a b : Fin 16, (Scalar.cmpi .ne (Scalar.extui (Scalar.cmpi .eq (BitVec.ofNat 32 b.val) 0#32)) 0#32) = 1#1 ↔ b.val = 0) (i 1) (i 2)

/-- The grid point is at an even key block that meets the diagonal. -/
abbrev EvenCross (i : grid0.Coords) : Prop := (Scalar.cmpi .ne (Scalar.extui (Scalar.andi (Scalar.cmpi .slt (BitVec.ofNat 32 (i 2).val) (Scalar.select (Scalar.andi (Scalar.cmpi .ne (Scalar.subi (Scalar.extui (Scalar.cmpi .sgt (Scalar.subi (Scalar.addi (Scalar.muli (Scalar.addi (BitVec.ofNat 32 (i 1).val) 1#32) 512#32) 512#32) 1#32) 0#32)) (Scalar.extui (Scalar.cmpi .slt (Scalar.subi (Scalar.addi (Scalar.muli (Scalar.addi (BitVec.ofNat 32 (i 1).val) 1#32) 512#32) 512#32) 1#32) 0#32))) (Scalar.subi (Scalar.extui (Scalar.cmpi .sgt 512#32 0#32)) (Scalar.extui (Scalar.cmpi .slt 512#32 0#32)))) (Scalar.cmpi .ne (Scalar.remsi (Scalar.subi (Scalar.addi (Scalar.muli (Scalar.addi (BitVec.ofNat 32 (i 1).val) 1#32) 512#32) 512#32) 1#32) 512#32) 0#32)) (Scalar.subi (Scalar.divsi (Scalar.subi (Scalar.addi (Scalar.muli (Scalar.addi (BitVec.ofNat 32 (i 1).val) 1#32) 512#32) 512#32) 1#32) 512#32) 1#32) (Scalar.divsi (Scalar.subi (Scalar.addi (Scalar.muli (Scalar.addi (BitVec.ofNat 32 (i 1).val) 1#32) 512#32) 512#32) 1#32) 512#32))) (Scalar.andi (Scalar.xori (Scalar.xori (Scalar.cmpi .eq (Scalar.remsi (BitVec.ofNat 32 (i 2).val) 2#32) 0#32) 1#1) 1#1) (Scalar.xori (Scalar.xori (Scalar.cmpi .sgt (Scalar.subi (Scalar.muli (Scalar.addi (BitVec.ofNat 32 (i 2).val) 1#32) 512#32) 1#32) (Scalar.muli (BitVec.ofNat 32 (i 1).val) 512#32)) 1#1) 1#1)))) 0#32) = 1#1
theorem evenCross_iff (i : grid0.Coords) : EvenCross i ↔ ((i 2).val = (i 1).val ∧ (i 2).val % 2 = 0) :=
  (by decide +kernel : ∀ a b : Fin 16, (Scalar.cmpi .ne (Scalar.extui (Scalar.andi (Scalar.cmpi .slt (BitVec.ofNat 32 b.val) (Scalar.select (Scalar.andi (Scalar.cmpi .ne (Scalar.subi (Scalar.extui (Scalar.cmpi .sgt (Scalar.subi (Scalar.addi (Scalar.muli (Scalar.addi (BitVec.ofNat 32 a.val) 1#32) 512#32) 512#32) 1#32) 0#32)) (Scalar.extui (Scalar.cmpi .slt (Scalar.subi (Scalar.addi (Scalar.muli (Scalar.addi (BitVec.ofNat 32 a.val) 1#32) 512#32) 512#32) 1#32) 0#32))) (Scalar.subi (Scalar.extui (Scalar.cmpi .sgt 512#32 0#32)) (Scalar.extui (Scalar.cmpi .slt 512#32 0#32)))) (Scalar.cmpi .ne (Scalar.remsi (Scalar.subi (Scalar.addi (Scalar.muli (Scalar.addi (BitVec.ofNat 32 a.val) 1#32) 512#32) 512#32) 1#32) 512#32) 0#32)) (Scalar.subi (Scalar.divsi (Scalar.subi (Scalar.addi (Scalar.muli (Scalar.addi (BitVec.ofNat 32 a.val) 1#32) 512#32) 512#32) 1#32) 512#32) 1#32) (Scalar.divsi (Scalar.subi (Scalar.addi (Scalar.muli (Scalar.addi (BitVec.ofNat 32 a.val) 1#32) 512#32) 512#32) 1#32) 512#32))) (Scalar.andi (Scalar.xori (Scalar.xori (Scalar.cmpi .eq (Scalar.remsi (BitVec.ofNat 32 b.val) 2#32) 0#32) 1#1) 1#1) (Scalar.xori (Scalar.xori (Scalar.cmpi .sgt (Scalar.subi (Scalar.muli (Scalar.addi (BitVec.ofNat 32 b.val) 1#32) 512#32) 1#32) (Scalar.muli (BitVec.ofNat 32 a.val) 512#32)) 1#1) 1#1)))) 0#32) = 1#1 ↔ (b.val = a.val ∧ b.val % 2 = 0)) (i 1) (i 2)

/-- The grid point is at an even key block under the diagonal. -/
abbrev EvenBelow (i : grid0.Coords) : Prop := (Scalar.cmpi .ne (Scalar.extui (Scalar.andi (Scalar.cmpi .slt (BitVec.ofNat 32 (i 2).val) (Scalar.select (Scalar.andi (Scalar.cmpi .ne (Scalar.subi (Scalar.extui (Scalar.cmpi .sgt (Scalar.subi (Scalar.addi (Scalar.muli (Scalar.addi (BitVec.ofNat 32 (i 1).val) 1#32) 512#32) 512#32) 1#32) 0#32)) (Scalar.extui (Scalar.cmpi .slt (Scalar.subi (Scalar.addi (Scalar.muli (Scalar.addi (BitVec.ofNat 32 (i 1).val) 1#32) 512#32) 512#32) 1#32) 0#32))) (Scalar.subi (Scalar.extui (Scalar.cmpi .sgt 512#32 0#32)) (Scalar.extui (Scalar.cmpi .slt 512#32 0#32)))) (Scalar.cmpi .ne (Scalar.remsi (Scalar.subi (Scalar.addi (Scalar.muli (Scalar.addi (BitVec.ofNat 32 (i 1).val) 1#32) 512#32) 512#32) 1#32) 512#32) 0#32)) (Scalar.subi (Scalar.divsi (Scalar.subi (Scalar.addi (Scalar.muli (Scalar.addi (BitVec.ofNat 32 (i 1).val) 1#32) 512#32) 512#32) 1#32) 512#32) 1#32) (Scalar.divsi (Scalar.subi (Scalar.addi (Scalar.muli (Scalar.addi (BitVec.ofNat 32 (i 1).val) 1#32) 512#32) 512#32) 1#32) 512#32))) (Scalar.andi (Scalar.xori (Scalar.xori (Scalar.cmpi .eq (Scalar.remsi (BitVec.ofNat 32 (i 2).val) 2#32) 0#32) 1#1) 1#1) (Scalar.xori (Scalar.xori (Scalar.cmpi .sgt (Scalar.subi (Scalar.muli (Scalar.addi (BitVec.ofNat 32 (i 2).val) 1#32) 512#32) 1#32) (Scalar.muli (BitVec.ofNat 32 (i 1).val) 512#32)) 0#1) 1#1)))) 0#32) = 1#1
theorem evenBelow_iff (i : grid0.Coords) : EvenBelow i ↔ ((i 2).val < (i 1).val ∧ (i 2).val % 2 = 0) :=
  (by decide +kernel : ∀ a b : Fin 16, (Scalar.cmpi .ne (Scalar.extui (Scalar.andi (Scalar.cmpi .slt (BitVec.ofNat 32 b.val) (Scalar.select (Scalar.andi (Scalar.cmpi .ne (Scalar.subi (Scalar.extui (Scalar.cmpi .sgt (Scalar.subi (Scalar.addi (Scalar.muli (Scalar.addi (BitVec.ofNat 32 a.val) 1#32) 512#32) 512#32) 1#32) 0#32)) (Scalar.extui (Scalar.cmpi .slt (Scalar.subi (Scalar.addi (Scalar.muli (Scalar.addi (BitVec.ofNat 32 a.val) 1#32) 512#32) 512#32) 1#32) 0#32))) (Scalar.subi (Scalar.extui (Scalar.cmpi .sgt 512#32 0#32)) (Scalar.extui (Scalar.cmpi .slt 512#32 0#32)))) (Scalar.cmpi .ne (Scalar.remsi (Scalar.subi (Scalar.addi (Scalar.muli (Scalar.addi (BitVec.ofNat 32 a.val) 1#32) 512#32) 512#32) 1#32) 512#32) 0#32)) (Scalar.subi (Scalar.divsi (Scalar.subi (Scalar.addi (Scalar.muli (Scalar.addi (BitVec.ofNat 32 a.val) 1#32) 512#32) 512#32) 1#32) 512#32) 1#32) (Scalar.divsi (Scalar.subi (Scalar.addi (Scalar.muli (Scalar.addi (BitVec.ofNat 32 a.val) 1#32) 512#32) 512#32) 1#32) 512#32))) (Scalar.andi (Scalar.xori (Scalar.xori (Scalar.cmpi .eq (Scalar.remsi (BitVec.ofNat 32 b.val) 2#32) 0#32) 1#1) 1#1) (Scalar.xori (Scalar.xori (Scalar.cmpi .sgt (Scalar.subi (Scalar.muli (Scalar.addi (BitVec.ofNat 32 b.val) 1#32) 512#32) 1#32) (Scalar.muli (BitVec.ofNat 32 a.val) 512#32)) 0#1) 1#1)))) 0#32) = 1#1 ↔ (b.val < a.val ∧ b.val % 2 = 0)) (i 1) (i 2)

/-- The grid point is at an odd key block that meets the diagonal. -/
abbrev OddCross (i : grid0.Coords) : Prop := (Scalar.cmpi .ne (Scalar.extui (Scalar.andi (Scalar.cmpi .slt (BitVec.ofNat 32 (i 2).val) (Scalar.select (Scalar.andi (Scalar.cmpi .ne (Scalar.subi (Scalar.extui (Scalar.cmpi .sgt (Scalar.subi (Scalar.addi (Scalar.muli (Scalar.addi (BitVec.ofNat 32 (i 1).val) 1#32) 512#32) 512#32) 1#32) 0#32)) (Scalar.extui (Scalar.cmpi .slt (Scalar.subi (Scalar.addi (Scalar.muli (Scalar.addi (BitVec.ofNat 32 (i 1).val) 1#32) 512#32) 512#32) 1#32) 0#32))) (Scalar.subi (Scalar.extui (Scalar.cmpi .sgt 512#32 0#32)) (Scalar.extui (Scalar.cmpi .slt 512#32 0#32)))) (Scalar.cmpi .ne (Scalar.remsi (Scalar.subi (Scalar.addi (Scalar.muli (Scalar.addi (BitVec.ofNat 32 (i 1).val) 1#32) 512#32) 512#32) 1#32) 512#32) 0#32)) (Scalar.subi (Scalar.divsi (Scalar.subi (Scalar.addi (Scalar.muli (Scalar.addi (BitVec.ofNat 32 (i 1).val) 1#32) 512#32) 512#32) 1#32) 512#32) 1#32) (Scalar.divsi (Scalar.subi (Scalar.addi (Scalar.muli (Scalar.addi (BitVec.ofNat 32 (i 1).val) 1#32) 512#32) 512#32) 1#32) 512#32))) (Scalar.andi (Scalar.xori (Scalar.xori (Scalar.cmpi .eq (Scalar.remsi (BitVec.ofNat 32 (i 2).val) 2#32) 0#32) 0#1) 1#1) (Scalar.xori (Scalar.xori (Scalar.cmpi .sgt (Scalar.subi (Scalar.muli (Scalar.addi (BitVec.ofNat 32 (i 2).val) 1#32) 512#32) 1#32) (Scalar.muli (BitVec.ofNat 32 (i 1).val) 512#32)) 1#1) 1#1)))) 0#32) = 1#1
theorem oddCross_iff (i : grid0.Coords) : OddCross i ↔ ((i 2).val = (i 1).val ∧ (i 2).val % 2 = 1) :=
  (by decide +kernel : ∀ a b : Fin 16, (Scalar.cmpi .ne (Scalar.extui (Scalar.andi (Scalar.cmpi .slt (BitVec.ofNat 32 b.val) (Scalar.select (Scalar.andi (Scalar.cmpi .ne (Scalar.subi (Scalar.extui (Scalar.cmpi .sgt (Scalar.subi (Scalar.addi (Scalar.muli (Scalar.addi (BitVec.ofNat 32 a.val) 1#32) 512#32) 512#32) 1#32) 0#32)) (Scalar.extui (Scalar.cmpi .slt (Scalar.subi (Scalar.addi (Scalar.muli (Scalar.addi (BitVec.ofNat 32 a.val) 1#32) 512#32) 512#32) 1#32) 0#32))) (Scalar.subi (Scalar.extui (Scalar.cmpi .sgt 512#32 0#32)) (Scalar.extui (Scalar.cmpi .slt 512#32 0#32)))) (Scalar.cmpi .ne (Scalar.remsi (Scalar.subi (Scalar.addi (Scalar.muli (Scalar.addi (BitVec.ofNat 32 a.val) 1#32) 512#32) 512#32) 1#32) 512#32) 0#32)) (Scalar.subi (Scalar.divsi (Scalar.subi (Scalar.addi (Scalar.muli (Scalar.addi (BitVec.ofNat 32 a.val) 1#32) 512#32) 512#32) 1#32) 512#32) 1#32) (Scalar.divsi (Scalar.subi (Scalar.addi (Scalar.muli (Scalar.addi (BitVec.ofNat 32 a.val) 1#32) 512#32) 512#32) 1#32) 512#32))) (Scalar.andi (Scalar.xori (Scalar.xori (Scalar.cmpi .eq (Scalar.remsi (BitVec.ofNat 32 b.val) 2#32) 0#32) 0#1) 1#1) (Scalar.xori (Scalar.xori (Scalar.cmpi .sgt (Scalar.subi (Scalar.muli (Scalar.addi (BitVec.ofNat 32 b.val) 1#32) 512#32) 1#32) (Scalar.muli (BitVec.ofNat 32 a.val) 512#32)) 1#1) 1#1)))) 0#32) = 1#1 ↔ (b.val = a.val ∧ b.val % 2 = 1)) (i 1) (i 2)

/-- The grid point is at an odd key block under the diagonal. -/
abbrev OddBelow (i : grid0.Coords) : Prop := (Scalar.cmpi .ne (Scalar.extui (Scalar.andi (Scalar.cmpi .slt (BitVec.ofNat 32 (i 2).val) (Scalar.select (Scalar.andi (Scalar.cmpi .ne (Scalar.subi (Scalar.extui (Scalar.cmpi .sgt (Scalar.subi (Scalar.addi (Scalar.muli (Scalar.addi (BitVec.ofNat 32 (i 1).val) 1#32) 512#32) 512#32) 1#32) 0#32)) (Scalar.extui (Scalar.cmpi .slt (Scalar.subi (Scalar.addi (Scalar.muli (Scalar.addi (BitVec.ofNat 32 (i 1).val) 1#32) 512#32) 512#32) 1#32) 0#32))) (Scalar.subi (Scalar.extui (Scalar.cmpi .sgt 512#32 0#32)) (Scalar.extui (Scalar.cmpi .slt 512#32 0#32)))) (Scalar.cmpi .ne (Scalar.remsi (Scalar.subi (Scalar.addi (Scalar.muli (Scalar.addi (BitVec.ofNat 32 (i 1).val) 1#32) 512#32) 512#32) 1#32) 512#32) 0#32)) (Scalar.subi (Scalar.divsi (Scalar.subi (Scalar.addi (Scalar.muli (Scalar.addi (BitVec.ofNat 32 (i 1).val) 1#32) 512#32) 512#32) 1#32) 512#32) 1#32) (Scalar.divsi (Scalar.subi (Scalar.addi (Scalar.muli (Scalar.addi (BitVec.ofNat 32 (i 1).val) 1#32) 512#32) 512#32) 1#32) 512#32))) (Scalar.andi (Scalar.xori (Scalar.xori (Scalar.cmpi .eq (Scalar.remsi (BitVec.ofNat 32 (i 2).val) 2#32) 0#32) 0#1) 1#1) (Scalar.xori (Scalar.xori (Scalar.cmpi .sgt (Scalar.subi (Scalar.muli (Scalar.addi (BitVec.ofNat 32 (i 2).val) 1#32) 512#32) 1#32) (Scalar.muli (BitVec.ofNat 32 (i 1).val) 512#32)) 0#1) 1#1)))) 0#32) = 1#1
theorem oddBelow_iff (i : grid0.Coords) : OddBelow i ↔ ((i 2).val < (i 1).val ∧ (i 2).val % 2 = 1) :=
  (by decide +kernel : ∀ a b : Fin 16, (Scalar.cmpi .ne (Scalar.extui (Scalar.andi (Scalar.cmpi .slt (BitVec.ofNat 32 b.val) (Scalar.select (Scalar.andi (Scalar.cmpi .ne (Scalar.subi (Scalar.extui (Scalar.cmpi .sgt (Scalar.subi (Scalar.addi (Scalar.muli (Scalar.addi (BitVec.ofNat 32 a.val) 1#32) 512#32) 512#32) 1#32) 0#32)) (Scalar.extui (Scalar.cmpi .slt (Scalar.subi (Scalar.addi (Scalar.muli (Scalar.addi (BitVec.ofNat 32 a.val) 1#32) 512#32) 512#32) 1#32) 0#32))) (Scalar.subi (Scalar.extui (Scalar.cmpi .sgt 512#32 0#32)) (Scalar.extui (Scalar.cmpi .slt 512#32 0#32)))) (Scalar.cmpi .ne (Scalar.remsi (Scalar.subi (Scalar.addi (Scalar.muli (Scalar.addi (BitVec.ofNat 32 a.val) 1#32) 512#32) 512#32) 1#32) 512#32) 0#32)) (Scalar.subi (Scalar.divsi (Scalar.subi (Scalar.addi (Scalar.muli (Scalar.addi (BitVec.ofNat 32 a.val) 1#32) 512#32) 512#32) 1#32) 512#32) 1#32) (Scalar.divsi (Scalar.subi (Scalar.addi (Scalar.muli (Scalar.addi (BitVec.ofNat 32 a.val) 1#32) 512#32) 512#32) 1#32) 512#32))) (Scalar.andi (Scalar.xori (Scalar.xori (Scalar.cmpi .eq (Scalar.remsi (BitVec.ofNat 32 b.val) 2#32) 0#32) 0#1) 1#1) (Scalar.xori (Scalar.xori (Scalar.cmpi .sgt (Scalar.subi (Scalar.muli (Scalar.addi (BitVec.ofNat 32 b.val) 1#32) 512#32) 1#32) (Scalar.muli (BitVec.ofNat 32 a.val) 512#32)) 0#1) 1#1)))) 0#32) = 1#1 ↔ (b.val < a.val ∧ b.val % 2 = 1)) (i 1) (i 2)

/-- The grid point is at the last key block a query block needs. -/
abbrev Ends (i : grid0.Coords) : Prop := k0_cond6 i = 1#1
theorem ends_iff (i : grid0.Coords) : Ends i ↔ (i 2).val = (i 1).val :=
  (by decide +kernel : ∀ a b : Fin 16, Scalar.cmpi .ne (Scalar.extui (Scalar.cmpi .eq (BitVec.ofNat 32 b.val) (Scalar.subi (Scalar.select (Scalar.andi (Scalar.cmpi .ne (Scalar.subi (Scalar.extui (Scalar.cmpi .sgt (Scalar.subi (Scalar.addi (Scalar.muli (Scalar.addi (BitVec.ofNat 32 a.val) 1#32) 512#32) 512#32) 1#32) 0#32)) (Scalar.extui (Scalar.cmpi .slt (Scalar.subi (Scalar.addi (Scalar.muli (Scalar.addi (BitVec.ofNat 32 a.val) 1#32) 512#32) 512#32) 1#32) 0#32))) (Scalar.subi (Scalar.extui (Scalar.cmpi .sgt 512#32 0#32)) (Scalar.extui (Scalar.cmpi .slt 512#32 0#32)))) (Scalar.cmpi .ne (Scalar.remsi (Scalar.subi (Scalar.addi (Scalar.muli (Scalar.addi (BitVec.ofNat 32 a.val) 1#32) 512#32) 512#32) 1#32) 512#32) 0#32)) (Scalar.subi (Scalar.divsi (Scalar.subi (Scalar.addi (Scalar.muli (Scalar.addi (BitVec.ofNat 32 a.val) 1#32) 512#32) 512#32) 1#32) 512#32) 1#32) (Scalar.divsi (Scalar.subi (Scalar.addi (Scalar.muli (Scalar.addi (BitVec.ofNat 32 a.val) 1#32) 512#32) 512#32) 1#32) 512#32)) 1#32))) 0#32 = 1#1 ↔ b.val = a.val) (i 1) (i 2)
/-- What the five scratch buffers hold: running maximum, running sum, running product, and the two score buffers. -/
structure St (F : FTy → Type) [FloatOps F] [Named F] where
  m : Vec F S4096x128 .f32
  l : Vec F S4096x128 .f32
  acc : Vec F S4096x256 .f32
  sa : Vec F S4096x512 .f32
  sb : Vec F S4096x512 .f32

/-- Scores masked against the diagonal. -/
abbrev masked (i : grid0.Coords) (s : Vec F S4096x512 .f32) : Vec F S4096x512 .f32 :=
  k0_pay3 (BitVec.ofNat 32 (i 1).val) (BitVec.ofNat 32 (i 2).val) s

/-- The value columns of a key block. -/
abbrev valueCols (x : Vec F S512x512 .bf16) : Vec F S512x256 .bf16 :=
  View.ld x (Rect.unit (s := S512x512) ![0, 0] S512x256.size inb_S512x512_S512x256_0_0)

/-- The state a query block starts from. -/
def start (q : Vec F S8x512x512 .bf16) (k : Vec F S512x512 .bf16) (s : St F) : St F :=
  { s with m := k0_pay22, l := k0_pay23, acc := k0_pay24, sa := k0_pay25 q k }

/-- The running maximum, sum and product after a block of scores `s` under the diagonal. -/
def below (k : Vec F S512x512 .bf16) (s : Vec F S4096x512 .f32) (st : St F) : St F :=
  { st with
    m := k0_pay32 (k0_pay8 s st.m)
    l := k0_pay30 (k0_pay11 s st.m st.l)
    acc := k0_pay31 (k0_pay9 s st.m) (k0_pay10 s st.m) st.acc (valueCols k) }

/-- The same for a block that meets the diagonal. -/
def cross (i : grid0.Coords) (k : Vec F S512x512 .bf16) (s : Vec F S4096x512 .f32) (st : St F) : St F :=
  let a := BitVec.ofNat 32 (i 1).val
  let b := BitVec.ofNat 32 (i 2).val
  { st with
    m := k0_pay29 (k0_pay4 a b s st.m)
    l := k0_pay27 (k0_pay3 a b s) (k0_pay5 a b s st.m) (k0_pay6 a b s st.m) st.l
    acc := k0_pay28 (k0_pay3 a b s) (k0_pay5 a b s st.m) (k0_pay6 a b s st.m) st.acc (valueCols k) }

/-- One key block: the scores of the block after it go to the buffer not in use. -/
def fold (i : grid0.Coords) (q : Vec F S8x512x512 .bf16) (k kn : Vec F S512x512 .bf16) (st : St F) : St F :=
  if (i 2).val % 2 = 0 then
    { (if (i 2).val = (i 1).val then cross i k st.sa st else below k st.sa st) with sb := k0_pay2 q kn }
  else
    { (if (i 2).val = (i 1).val then cross i k st.sb st else below k st.sb st) with sa := k0_pay2 q kn }

/-- One grid point. -/
def step (i : grid0.Coords) (q : Vec F S8x512x512 .bf16) (k kn : Vec F S512x512 .bf16) (st : St F) : St F :=
  let s0 := if (i 2).val = 0 then start q k st else st
  if (i 2).val ≤ (i 1).val then fold i q k kn s0 else s0

/-- The block of results, from the running product and sum. -/
def result (st : St F) : FVec F S8x512x256 .bf16 := k0_pay1 st.acc st.l

theorem pay_scores : (k0_pay7 (F := F)) = k0_pay2 := rfl
theorem pay_scores' : (k0_pay12 (F := F)) = k0_pay2 := rfl
theorem pay_scores'' : (k0_pay17 (F := F)) = k0_pay2 := rfl

end Cert.KernelIdeal.Attn

end
-- ==== Proof.KernelIdeal.Body.lean ====
/- What the attention body does at a grid point of each kind, as a triple over the scratch state. -/
module

public import proofs.«01_k».proof.Proof.KernelIdeal.Cases
public import Idealize.ShloMosaic.Lib.Pipeline.ReadBack
public import Idealize.ShloMosaic.Lib.Pipeline.ValueKit

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 800000 in
/-- The body at past the diagonal: nothing is done. -/
theorem run_idle (c : Dev nD) (i : grid0.Coords) (arg3 : Memref sig .tc .vmem S8x512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S8x512x256 .bf16) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x256 .f32) (harg9 : arg9.IsWhole) (arg10 : Memref sig .tc .vmem S4096x512 .f32) (harg10 : arg10.IsWhole) (arg11 : Memref sig .tc .vmem S4096x512 .f32) (harg11 : arg11.IsWhole) (h0 : ¬Starts i) (h1 : ¬EvenCross i) (h2 : ¬EvenBelow i) (h3 : ¬OddCross i) (h4 : ¬OddBelow i) (h5 : ¬Ends i)
    (q : Vec F S8x512x512 .bf16) (k kn : Vec F S512x512 .bf16) (o : Vec F S8x512x256 .bf16) (st : St F) (E : Set ℕ) (K : PUnit → sProp 𝕄) :
    iprop(owns (c : Thread nD τ) arg3 fullShare q ∗ owns (c : Thread nD τ) arg4 fullShare k ∗ owns (c : Thread nD τ) arg5 fullShare kn ∗ owns (c : Thread nD τ) arg6 fullShare o ∗ owns (c : Thread nD τ) arg7 fullShare (st).m ∗ owns (c : Thread nD τ) arg8 fullShare (st).l ∗ owns (c : Thread nD τ) arg9 fullShare (st).acc ∗ owns (c : Thread nD τ) arg10 fullShare (st).sa ∗ owns (c : Thread nD τ) arg11 fullShare (st).sb
        ∗ (iprop(owns (c : Thread nD τ) arg3 fullShare q ∗ owns (c : Thread nD τ) arg4 fullShare k ∗ owns (c : Thread nD τ) arg5 fullShare kn ∗ owns (c : Thread nD τ) arg6 fullShare o ∗ owns (c : Thread nD τ) arg7 fullShare (step i q k kn st).m ∗ owns (c : Thread nD τ) arg8 fullShare (step i q k kn st).l ∗ owns (c : Thread nD τ) arg9 fullShare (step i q k kn st).acc ∗ owns (c : Thread nD τ) arg10 fullShare (step i q k kn st).sa ∗ owns (c : Thread nD τ) arg11 fullShare (step i q k kn st).sb) -∗ K ⟨⟩))
      ⊢ wp frame (wpE (defs₀ (F := F)) Variants.none c none) E (cc0_mla_prompt_attn i arg3 harg3 arg4 harg4 arg5 harg5 arg6 harg6 arg7 harg7 arg8 harg8 arg9 harg9 arg10 harg10 arg11 harg11) K := by
  simp only [cc0_mla_prompt_attn_eq_skeleton]; unfold cc0_mla_prompt_attn_skel
  simp only [k0_part5_eq_skeleton, k0_part6_eq_skeleton]
  have hs : step i q k kn st = st := by
    have e0 := mt (starts_iff i).mpr h0; have e1 := mt (evenCross_iff i).mpr h1; have e2 := mt (evenBelow_iff i).mpr h2; have e3 := mt (oddCross_iff i).mpr h3; have e4 := mt (oddBelow_iff i).mpr h4; have e5 := mt (ends_iff i).mpr h5
    unfold step fold
    rw [if_neg (by omega), if_neg (by omega)]
  rw [hs]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, ⟨%fs4, %hfs4, HS4⟩, Hk⟩
  obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2; obtain rfl := harg10.eq_unread hfs3; obtain rfl := harg11.eq_unread hfs4
  sl_exec (disch := first | sl_exact h0 | sl_exact h1 | sl_exact h2 | sl_exact h3 | sl_exact h4 | sl_exact h5)
  sl_step
  iapply Hk
  isplitl [H0]
  · iexists _; isplitr; swap; · iexact H0
    ipureintro; exact harg3.read_unread _
  isplitl [H1]
  · iexists _; isplitr; swap; · iexact H1
    ipureintro; exact harg4.read_unread _
  isplitl [H2]
  · iexists _; isplitr; swap; · iexact H2
    ipureintro; exact harg5.read_unread _
  isplitl [H3]
  · iexists _; isplitr; swap; · iexact H3
    ipureintro; exact harg6.read_unread _
  isplitl [HS0]
  · iexists _; isplitr; swap; · iexact HS0
    ipureintro; exact harg7.read_unread _
  isplitl [HS1]
  · iexists _; isplitr; swap; · iexact HS1
    ipureintro; exact harg8.read_unread _
  isplitl [HS2]
  · iexists _; isplitr; swap; · iexact HS2
    ipureintro; exact harg9.read_unread _
  isplitl [HS3]
  · iexists _; isplitr; swap; · iexact HS3
    ipureintro; exact harg10.read_unread _
  iexists _; isplitr; swap; · iexact HS4
  ipureintro; exact harg11.read_unread _

set_option maxHeartbeats 800000 in
/-- The body at the first query block's only key block. -/
theorem run_firstCross (c : Dev nD) (i : grid0.Coords) (arg3 : Memref sig .tc .vmem S8x512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S8x512x256 .bf16) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x256 .f32) (harg9 : arg9.IsWhole) (arg10 : Memref sig .tc .vmem S4096x512 .f32) (harg10 : arg10.IsWhole) (arg11 : Memref sig .tc .vmem S4096x512 .f32) (harg11 : arg11.IsWhole) (h0 : Starts i) (h1 : EvenCross i) (h2 : ¬EvenBelow i) (h3 : ¬OddCross i) (h4 : ¬OddBelow i) (h5 : Ends i)
    (q : Vec F S8x512x512 .bf16) (k kn : Vec F S512x512 .bf16) (o : Vec F S8x512x256 .bf16) (st : St F) (E : Set ℕ) (K : PUnit → sProp 𝕄) :
    iprop(owns (c : Thread nD τ) arg3 fullShare q ∗ owns (c : Thread nD τ) arg4 fullShare k ∗ owns (c : Thread nD τ) arg5 fullShare kn ∗ owns (c : Thread nD τ) arg6 fullShare o ∗ owns (c : Thread nD τ) arg7 fullShare (st).m ∗ owns (c : Thread nD τ) arg8 fullShare (st).l ∗ owns (c : Thread nD τ) arg9 fullShare (st).acc ∗ owns (c : Thread nD τ) arg10 fullShare (st).sa ∗ owns (c : Thread nD τ) arg11 fullShare (st).sb
        ∗ (iprop(owns (c : Thread nD τ) arg3 fullShare q ∗ owns (c : Thread nD τ) arg4 fullShare k ∗ owns (c : Thread nD τ) arg5 fullShare kn ∗ owns (c : Thread nD τ) arg6 fullShare (result (step i q k kn st)) ∗ owns (c : Thread nD τ) arg7 fullShare (step i q k kn st).m ∗ owns (c : Thread nD τ) arg8 fullShare (step i q k kn st).l ∗ owns (c : Thread nD τ) arg9 fullShare (step i q k kn st).acc ∗ owns (c : Thread nD τ) arg10 fullShare (step i q k kn st).sa ∗ owns (c : Thread nD τ) arg11 fullShare (step i q k kn st).sb) -∗ K ⟨⟩))
      ⊢ wp frame (wpE (defs₀ (F := F)) Variants.none c none) E (cc0_mla_prompt_attn i arg3 harg3 arg4 harg4 arg5 harg5 arg6 harg6 arg7 harg7 arg8 harg8 arg9 harg9 arg10 harg10 arg11 harg11) K := by
  simp only [cc0_mla_prompt_attn_eq_skeleton]; unfold cc0_mla_prompt_attn_skel
  simp only [k0_part5_eq_skeleton, k0_part6_eq_skeleton, k0_part1_eq_skeleton]
  have hs : step i q k kn st = { cross i k (start q k st).sa (start q k st) with sb := k0_pay2 q kn } := by
    have e0 := (starts_iff i).mp h0; have e1 := (evenCross_iff i).mp h1; have e2 := mt (evenBelow_iff i).mpr h2; have e3 := mt (oddCross_iff i).mpr h3; have e4 := mt (oddBelow_iff i).mpr h4; have e5 := (ends_iff i).mp h5
    unfold step fold
    dsimp only; rw [if_pos e0, if_pos (by omega), if_pos (by omega), if_pos (by omega)]
  rw [hs]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, ⟨%fs4, %hfs4, HS4⟩, Hk⟩
  obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2; obtain rfl := harg10.eq_unread hfs3; obtain rfl := harg11.eq_unread hfs4
  sl_exec (disch := first | sl_exact h0 | sl_exact h1 | sl_exact h2 | sl_exact h3 | sl_exact h4 | sl_exact h5)
  sl_step
  iapply Hk
  isplitl [H0]
  · iexists _; isplitr; swap; · iexact H0
    ipureintro; exact harg3.read_unread _
  isplitl [H1]
  · iexists _; isplitr; swap; · iexact H1
    ipureintro; exact harg4.read_unread _
  isplitl [H2]
  · iexists _; isplitr; swap; · iexact H2
    ipureintro; exact harg5.read_unread _
  isplitl [H3]
  · iexists _; isplitr; swap; · iexact H3
    ipureintro; refine (View.read_writes_eq_canon _ _ _ (fun y => View.cover_of_tiledL _ S8x512x256.size (by sl_kernel_rfl) y)).trans ?_; frame_out; try rfl
  isplitl [HS0]
  · iexists _; isplitr; swap; · iexact HS0
    ipureintro; refine (View.read_writes_eq_canon _ _ _ (fun y => View.cover_of_tiledL _ S4096x128.size (by sl_kernel_rfl) y)).trans ?_; frame_out; try rfl
  isplitl [HS1]
  · iexists _; isplitr; swap; · iexact HS1
    ipureintro; refine (View.read_writes_eq_canon _ _ _ (fun y => View.cover_of_tiledL _ S4096x128.size (by sl_kernel_rfl) y)).trans ?_; frame_out; try rfl
  isplitl [HS2]
  · iexists _; isplitr; swap; · iexact HS2
    ipureintro; refine (View.read_writes_eq_canon _ _ _ (fun y => View.cover_of_tiledL _ S4096x256.size (by sl_kernel_rfl) y)).trans ?_; frame_out; try rfl
  isplitl [HS3]
  · iexists _; isplitr; swap; · iexact HS3
    ipureintro; refine (View.read_writes_eq_canon _ _ _ (fun y => View.cover_of_tiledL _ S4096x512.size (by sl_kernel_rfl) y)).trans ?_; frame_out; try rfl
  iexists _; isplitr; swap; · iexact HS4
  ipureintro; refine (View.read_writes_eq_canon _ _ _ (fun y => View.cover_of_tiledL _ S4096x512.size (by sl_kernel_rfl) y)).trans ?_; frame_out; try rfl

set_option maxHeartbeats 800000 in
/-- The body at the first key block of a later query block. -/
theorem run_firstBelow (c : Dev nD) (i : grid0.Coords) (arg3 : Memref sig .tc .vmem S8x512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S8x512x256 .bf16) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x256 .f32) (harg9 : arg9.IsWhole) (arg10 : Memref sig .tc .vmem S4096x512 .f32) (harg10 : arg10.IsWhole) (arg11 : Memref sig .tc .vmem S4096x512 .f32) (harg11 : arg11.IsWhole) (h0 : Starts i) (h1 : ¬EvenCross i) (h2 : EvenBelow i) (h3 : ¬OddCross i) (h4 : ¬OddBelow i) (h5 : ¬Ends i)
    (q : Vec F S8x512x512 .bf16) (k kn : Vec F S512x512 .bf16) (o : Vec F S8x512x256 .bf16) (st : St F) (E : Set ℕ) (K : PUnit → sProp 𝕄) :
    iprop(owns (c : Thread nD τ) arg3 fullShare q ∗ owns (c : Thread nD τ) arg4 fullShare k ∗ owns (c : Thread nD τ) arg5 fullShare kn ∗ owns (c : Thread nD τ) arg6 fullShare o ∗ owns (c : Thread nD τ) arg7 fullShare (st).m ∗ owns (c : Thread nD τ) arg8 fullShare (st).l ∗ owns (c : Thread nD τ) arg9 fullShare (st).acc ∗ owns (c : Thread nD τ) arg10 fullShare (st).sa ∗ owns (c : Thread nD τ) arg11 fullShare (st).sb
        ∗ (iprop(owns (c : Thread nD τ) arg3 fullShare q ∗ owns (c : Thread nD τ) arg4 fullShare k ∗ owns (c : Thread nD τ) arg5 fullShare kn ∗ owns (c : Thread nD τ) arg6 fullShare o ∗ owns (c : Thread nD τ) arg7 fullShare (step i q k kn st).m ∗ owns (c : Thread nD τ) arg8 fullShare (step i q k kn st).l ∗ owns (c : Thread nD τ) arg9 fullShare (step i q k kn st).acc ∗ owns (c : Thread nD τ) arg10 fullShare (step i q k kn st).sa ∗ owns (c : Thread nD τ) arg11 fullShare (step i q k kn st).sb) -∗ K ⟨⟩))
      ⊢ wp frame (wpE (defs₀ (F := F)) Variants.none c none) E (cc0_mla_prompt_attn i arg3 harg3 arg4 harg4 arg5 harg5 arg6 harg6 arg7 harg7 arg8 harg8 arg9 harg9 arg10 harg10 arg11 harg11) K := by
  simp only [cc0_mla_prompt_attn_eq_skeleton]; unfold cc0_mla_prompt_attn_skel
  simp only [k0_part5_eq_skeleton, k0_part6_eq_skeleton, k0_part2_eq_skeleton]
  have hs : step i q k kn st = { below k (start q k st).sa (start q k st) with sb := k0_pay2 q kn } := by
    have e0 := (starts_iff i).mp h0; have e1 := mt (evenCross_iff i).mpr h1; have e2 := (evenBelow_iff i).mp h2; have e3 := mt (oddCross_iff i).mpr h3; have e4 := mt (oddBelow_iff i).mpr h4; have e5 := mt (ends_iff i).mpr h5
    unfold step fold
    dsimp only; rw [if_pos e0, if_pos (by omega), if_pos (by omega), if_neg (by omega)]
  rw [hs]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, ⟨%fs4, %hfs4, HS4⟩, Hk⟩
  obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2; obtain rfl := harg10.eq_unread hfs3; obtain rfl := harg11.eq_unread hfs4
  sl_exec (disch := first | sl_exact h0 | sl_exact h1 | sl_exact h2 | sl_exact h3 | sl_exact h4 | sl_exact h5)
  sl_step
  iapply Hk
  isplitl [H0]
  · iexists _; isplitr; swap; · iexact H0
    ipureintro; exact harg3.read_unread _
  isplitl [H1]
  · iexists _; isplitr; swap; · iexact H1
    ipureintro; exact harg4.read_unread _
  isplitl [H2]
  · iexists _; isplitr; swap; · iexact H2
    ipureintro; exact harg5.read_unread _
  isplitl [H3]
  · iexists _; isplitr; swap; · iexact H3
    ipureintro; exact harg6.read_unread _
  isplitl [HS0]
  · iexists _; isplitr; swap; · iexact HS0
    ipureintro; refine (View.read_writes_eq_canon _ _ _ (fun y => View.cover_of_tiledL _ S4096x128.size (by sl_kernel_rfl) y)).trans ?_; frame_out; try rfl
  isplitl [HS1]
  · iexists _; isplitr; swap; · iexact HS1
    ipureintro; refine (View.read_writes_eq_canon _ _ _ (fun y => View.cover_of_tiledL _ S4096x128.size (by sl_kernel_rfl) y)).trans ?_; frame_out; try rfl
  isplitl [HS2]
  · iexists _; isplitr; swap; · iexact HS2
    ipureintro; refine (View.read_writes_eq_canon _ _ _ (fun y => View.cover_of_tiledL _ S4096x256.size (by sl_kernel_rfl) y)).trans ?_; frame_out; try rfl
  isplitl [HS3]
  · iexists _; isplitr; swap; · iexact HS3
    ipureintro; refine (View.read_writes_eq_canon _ _ _ (fun y => View.cover_of_tiledL _ S4096x512.size (by sl_kernel_rfl) y)).trans ?_; frame_out; try rfl
  iexists _; isplitr; swap; · iexact HS4
  ipureintro; refine (View.read_writes_eq_canon _ _ _ (fun y => View.cover_of_tiledL _ S4096x512.size (by sl_kernel_rfl) y)).trans ?_; frame_out; try rfl

set_option maxHeartbeats 800000 in
/-- The body at an even key block under the diagonal. -/
theorem run_evenBelow (c : Dev nD) (i : grid0.Coords) (arg3 : Memref sig .tc .vmem S8x512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S8x512x256 .bf16) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x256 .f32) (harg9 : arg9.IsWhole) (arg10 : Memref sig .tc .vmem S4096x512 .f32) (harg10 : arg10.IsWhole) (arg11 : Memref sig .tc .vmem S4096x512 .f32) (harg11 : arg11.IsWhole) (h0 : ¬Starts i) (h1 : ¬EvenCross i) (h2 : EvenBelow i) (h3 : ¬OddCross i) (h4 : ¬OddBelow i) (h5 : ¬Ends i)
    (q : Vec F S8x512x512 .bf16) (k kn : Vec F S512x512 .bf16) (o : Vec F S8x512x256 .bf16) (st : St F) (E : Set ℕ) (K : PUnit → sProp 𝕄) :
    iprop(owns (c : Thread nD τ) arg3 fullShare q ∗ owns (c : Thread nD τ) arg4 fullShare k ∗ owns (c : Thread nD τ) arg5 fullShare kn ∗ owns (c : Thread nD τ) arg6 fullShare o ∗ owns (c : Thread nD τ) arg7 fullShare (st).m ∗ owns (c : Thread nD τ) arg8 fullShare (st).l ∗ owns (c : Thread nD τ) arg9 fullShare (st).acc ∗ owns (c : Thread nD τ) arg10 fullShare (st).sa ∗ owns (c : Thread nD τ) arg11 fullShare (st).sb
        ∗ (iprop(owns (c : Thread nD τ) arg3 fullShare q ∗ owns (c : Thread nD τ) arg4 fullShare k ∗ owns (c : Thread nD τ) arg5 fullShare kn ∗ owns (c : Thread nD τ) arg6 fullShare o ∗ owns (c : Thread nD τ) arg7 fullShare (step i q k kn st).m ∗ owns (c : Thread nD τ) arg8 fullShare (step i q k kn st).l ∗ owns (c : Thread nD τ) arg9 fullShare (step i q k kn st).acc ∗ owns (c : Thread nD τ) arg10 fullShare (step i q k kn st).sa ∗ owns (c : Thread nD τ) arg11 fullShare (step i q k kn st).sb) -∗ K ⟨⟩))
      ⊢ wp frame (wpE (defs₀ (F := F)) Variants.none c none) E (cc0_mla_prompt_attn i arg3 harg3 arg4 harg4 arg5 harg5 arg6 harg6 arg7 harg7 arg8 harg8 arg9 harg9 arg10 harg10 arg11 harg11) K := by
  simp only [cc0_mla_prompt_attn_eq_skeleton]; unfold cc0_mla_prompt_attn_skel
  simp only [k0_part5_eq_skeleton, k0_part6_eq_skeleton, k0_part2_eq_skeleton]
  have hs : step i q k kn st = { below k st.sa st with sb := k0_pay2 q kn } := by
    have e0 := mt (starts_iff i).mpr h0; have e1 := mt (evenCross_iff i).mpr h1; have e2 := (evenBelow_iff i).mp h2; have e3 := mt (oddCross_iff i).mpr h3; have e4 := mt (oddBelow_iff i).mpr h4; have e5 := mt (ends_iff i).mpr h5
    unfold step fold
    dsimp only; rw [if_neg e0, if_pos (by omega), if_pos (by omega), if_neg (by omega)]
  rw [hs]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, ⟨%fs4, %hfs4, HS4⟩, Hk⟩
  obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2; obtain rfl := harg10.eq_unread hfs3; obtain rfl := harg11.eq_unread hfs4
  sl_exec (disch := first | sl_exact h0 | sl_exact h1 | sl_exact h2 | sl_exact h3 | sl_exact h4 | sl_exact h5)
  sl_step
  iapply Hk
  isplitl [H0]
  · iexists _; isplitr; swap; · iexact H0
    ipureintro; exact harg3.read_unread _
  isplitl [H1]
  · iexists _; isplitr; swap; · iexact H1
    ipureintro; exact harg4.read_unread _
  isplitl [H2]
  · iexists _; isplitr; swap; · iexact H2
    ipureintro; exact harg5.read_unread _
  isplitl [H3]
  · iexists _; isplitr; swap; · iexact H3
    ipureintro; exact harg6.read_unread _
  isplitl [HS0]
  · iexists _; isplitr; swap; · iexact HS0
    ipureintro; refine (View.read_writes_eq_canon _ _ _ (fun y => View.cover_of_tiledL _ S4096x128.size (by sl_kernel_rfl) y)).trans ?_; frame_out; try rfl
  isplitl [HS1]
  · iexists _; isplitr; swap; · iexact HS1
    ipureintro; refine (View.read_writes_eq_canon _ _ _ (fun y => View.cover_of_tiledL _ S4096x128.size (by sl_kernel_rfl) y)).trans ?_; frame_out; try rfl
  isplitl [HS2]
  · iexists _; isplitr; swap; · iexact HS2
    ipureintro; refine (View.read_writes_eq_canon _ _ _ (fun y => View.cover_of_tiledL _ S4096x256.size (by sl_kernel_rfl) y)).trans ?_; frame_out; try rfl
  isplitl [HS3]
  · iexists _; isplitr; swap; · iexact HS3
    ipureintro; exact harg10.read_unread _
  iexists _; isplitr; swap; · iexact HS4
  ipureintro; refine (View.read_writes_eq_canon _ _ _ (fun y => View.cover_of_tiledL _ S4096x512.size (by sl_kernel_rfl) y)).trans ?_; frame_out; try rfl

set_option maxHeartbeats 800000 in
/-- The body at an odd key block under the diagonal. -/
theorem run_oddBelow (c : Dev nD) (i : grid0.Coords) (arg3 : Memref sig .tc .vmem S8x512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S8x512x256 .bf16) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x256 .f32) (harg9 : arg9.IsWhole) (arg10 : Memref sig .tc .vmem S4096x512 .f32) (harg10 : arg10.IsWhole) (arg11 : Memref sig .tc .vmem S4096x512 .f32) (harg11 : arg11.IsWhole) (h0 : ¬Starts i) (h1 : ¬EvenCross i) (h2 : ¬EvenBelow i) (h3 : ¬OddCross i) (h4 : OddBelow i) (h5 : ¬Ends i)
    (q : Vec F S8x512x512 .bf16) (k kn : Vec F S512x512 .bf16) (o : Vec F S8x512x256 .bf16) (st : St F) (E : Set ℕ) (K : PUnit → sProp 𝕄) :
    iprop(owns (c : Thread nD τ) arg3 fullShare q ∗ owns (c : Thread nD τ) arg4 fullShare k ∗ owns (c : Thread nD τ) arg5 fullShare kn ∗ owns (c : Thread nD τ) arg6 fullShare o ∗ owns (c : Thread nD τ) arg7 fullShare (st).m ∗ owns (c : Thread nD τ) arg8 fullShare (st).l ∗ owns (c : Thread nD τ) arg9 fullShare (st).acc ∗ owns (c : Thread nD τ) arg10 fullShare (st).sa ∗ owns (c : Thread nD τ) arg11 fullShare (st).sb
        ∗ (iprop(owns (c : Thread nD τ) arg3 fullShare q ∗ owns (c : Thread nD τ) arg4 fullShare k ∗ owns (c : Thread nD τ) arg5 fullShare kn ∗ owns (c : Thread nD τ) arg6 fullShare o ∗ owns (c : Thread nD τ) arg7 fullShare (step i q k kn st).m ∗ owns (c : Thread nD τ) arg8 fullShare (step i q k kn st).l ∗ owns (c : Thread nD τ) arg9 fullShare (step i q k kn st).acc ∗ owns (c : Thread nD τ) arg10 fullShare (step i q k kn st).sa ∗ owns (c : Thread nD τ) arg11 fullShare (step i q k kn st).sb) -∗ K ⟨⟩))
      ⊢ wp frame (wpE (defs₀ (F := F)) Variants.none c none) E (cc0_mla_prompt_attn i arg3 harg3 arg4 harg4 arg5 harg5 arg6 harg6 arg7 harg7 arg8 harg8 arg9 harg9 arg10 harg10 arg11 harg11) K := by
  simp only [cc0_mla_prompt_attn_eq_skeleton]; unfold cc0_mla_prompt_attn_skel
  simp only [k0_part5_eq_skeleton, k0_part6_eq_skeleton, k0_part4_eq_skeleton]
  have hs : step i q k kn st = { below k st.sb st with sa := k0_pay2 q kn } := by
    have e0 := mt (starts_iff i).mpr h0; have e1 := mt (evenCross_iff i).mpr h1; have e2 := mt (evenBelow_iff i).mpr h2; have e3 := mt (oddCross_iff i).mpr h3; have e4 := (oddBelow_iff i).mp h4; have e5 := mt (ends_iff i).mpr h5
    unfold step fold
    dsimp only; rw [if_neg e0, if_pos (by omega), if_neg (by omega), if_neg (by omega)]
  rw [hs]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, ⟨%fs4, %hfs4, HS4⟩, Hk⟩
  obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2; obtain rfl := harg10.eq_unread hfs3; obtain rfl := harg11.eq_unread hfs4
  sl_exec (disch := first | sl_exact h0 | sl_exact h1 | sl_exact h2 | sl_exact h3 | sl_exact h4 | sl_exact h5)
  sl_step
  iapply Hk
  isplitl [H0]
  · iexists _; isplitr; swap; · iexact H0
    ipureintro; exact harg3.read_unread _
  isplitl [H1]
  · iexists _; isplitr; swap; · iexact H1
    ipureintro; exact harg4.read_unread _
  isplitl [H2]
  · iexists _; isplitr; swap; · iexact H2
    ipureintro; exact harg5.read_unread _
  isplitl [H3]
  · iexists _; isplitr; swap; · iexact H3
    ipureintro; exact harg6.read_unread _
  isplitl [HS0]
  · iexists _; isplitr; swap; · iexact HS0
    ipureintro; refine (View.read_writes_eq_canon _ _ _ (fun y => View.cover_of_tiledL _ S4096x128.size (by sl_kernel_rfl) y)).trans ?_; frame_out; try rfl
  isplitl [HS1]
  · iexists _; isplitr; swap; · iexact HS1
    ipureintro; refine (View.read_writes_eq_canon _ _ _ (fun y => View.cover_of_tiledL _ S4096x128.size (by sl_kernel_rfl) y)).trans ?_; frame_out; try rfl
  isplitl [HS2]
  · iexists _; isplitr; swap; · iexact HS2
    ipureintro; refine (View.read_writes_eq_canon _ _ _ (fun y => View.cover_of_tiledL _ S4096x256.size (by sl_kernel_rfl) y)).trans ?_; frame_out; try rfl
  isplitl [HS3]
  · iexists _; isplitr; swap; · iexact HS3
    ipureintro; refine (View.read_writes_eq_canon _ _ _ (fun y => View.cover_of_tiledL _ S4096x512.size (by sl_kernel_rfl) y)).trans ?_; frame_out; try rfl
  iexists _; isplitr; swap; · iexact HS4
  ipureintro; exact harg11.read_unread _

set_option maxHeartbeats 800000 in
/-- The body at an even key block on the diagonal. -/
theorem run_evenCross (c : Dev nD) (i : grid0.Coords) (arg3 : Memref sig .tc .vmem S8x512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S8x512x256 .bf16) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x256 .f32) (harg9 : arg9.IsWhole) (arg10 : Memref sig .tc .vmem S4096x512 .f32) (harg10 : arg10.IsWhole) (arg11 : Memref sig .tc .vmem S4096x512 .f32) (harg11 : arg11.IsWhole) (h0 : ¬Starts i) (h1 : EvenCross i) (h2 : ¬EvenBelow i) (h3 : ¬OddCross i) (h4 : ¬OddBelow i) (h5 : Ends i)
    (q : Vec F S8x512x512 .bf16) (k kn : Vec F S512x512 .bf16) (o : Vec F S8x512x256 .bf16) (st : St F) (E : Set ℕ) (K : PUnit → sProp 𝕄) :
    iprop(owns (c : Thread nD τ) arg3 fullShare q ∗ owns (c : Thread nD τ) arg4 fullShare k ∗ owns (c : Thread nD τ) arg5 fullShare kn ∗ owns (c : Thread nD τ) arg6 fullShare o ∗ owns (c : Thread nD τ) arg7 fullShare (st).m ∗ owns (c : Thread nD τ) arg8 fullShare (st).l ∗ owns (c : Thread nD τ) arg9 fullShare (st).acc ∗ owns (c : Thread nD τ) arg10 fullShare (st).sa ∗ owns (c : Thread nD τ) arg11 fullShare (st).sb
        ∗ (iprop(owns (c : Thread nD τ) arg3 fullShare q ∗ owns (c : Thread nD τ) arg4 fullShare k ∗ owns (c : Thread nD τ) arg5 fullShare kn ∗ owns (c : Thread nD τ) arg6 fullShare (result (step i q k kn st)) ∗ owns (c : Thread nD τ) arg7 fullShare (step i q k kn st).m ∗ owns (c : Thread nD τ) arg8 fullShare (step i q k kn st).l ∗ owns (c : Thread nD τ) arg9 fullShare (step i q k kn st).acc ∗ owns (c : Thread nD τ) arg10 fullShare (step i q k kn st).sa ∗ owns (c : Thread nD τ) arg11 fullShare (step i q k kn st).sb) -∗ K ⟨⟩))
      ⊢ wp frame (wpE (defs₀ (F := F)) Variants.none c none) E (cc0_mla_prompt_attn i arg3 harg3 arg4 harg4 arg5 harg5 arg6 harg6 arg7 harg7 arg8 harg8 arg9 harg9 arg10 harg10 arg11 harg11) K := by
  simp only [cc0_mla_prompt_attn_eq_skeleton]; unfold cc0_mla_prompt_attn_skel
  simp only [k0_part5_eq_skeleton, k0_part6_eq_skeleton, k0_part1_eq_skeleton]
  have hs : step i q k kn st = { cross i k st.sa st with sb := k0_pay2 q kn } := by
    have e0 := mt (starts_iff i).mpr h0; have e1 := (evenCross_iff i).mp h1; have e2 := mt (evenBelow_iff i).mpr h2; have e3 := mt (oddCross_iff i).mpr h3; have e4 := mt (oddBelow_iff i).mpr h4; have e5 := (ends_iff i).mp h5
    unfold step fold
    dsimp only; rw [if_neg e0, if_pos (by omega), if_pos (by omega), if_pos (by omega)]
  rw [hs]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, ⟨%fs4, %hfs4, HS4⟩, Hk⟩
  obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2; obtain rfl := harg10.eq_unread hfs3; obtain rfl := harg11.eq_unread hfs4
  sl_exec (disch := first | sl_exact h0 | sl_exact h1 | sl_exact h2 | sl_exact h3 | sl_exact h4 | sl_exact h5)
  sl_step
  iapply Hk
  isplitl [H0]
  · iexists _; isplitr; swap; · iexact H0
    ipureintro; exact harg3.read_unread _
  isplitl [H1]
  · iexists _; isplitr; swap; · iexact H1
    ipureintro; exact harg4.read_unread _
  isplitl [H2]
  · iexists _; isplitr; swap; · iexact H2
    ipureintro; exact harg5.read_unread _
  isplitl [H3]
  · iexists _; isplitr; swap; · iexact H3
    ipureintro; refine (View.read_writes_eq_canon _ _ _ (fun y => View.cover_of_tiledL _ S8x512x256.size (by sl_kernel_rfl) y)).trans ?_; frame_out; try rfl
  isplitl [HS0]
  · iexists _; isplitr; swap; · iexact HS0
    ipureintro; refine (View.read_writes_eq_canon _ _ _ (fun y => View.cover_of_tiledL _ S4096x128.size (by sl_kernel_rfl) y)).trans ?_; frame_out; try rfl
  isplitl [HS1]
  · iexists _; isplitr; swap; · iexact HS1
    ipureintro; refine (View.read_writes_eq_canon _ _ _ (fun y => View.cover_of_tiledL _ S4096x128.size (by sl_kernel_rfl) y)).trans ?_; frame_out; try rfl
  isplitl [HS2]
  · iexists _; isplitr; swap; · iexact HS2
    ipureintro; refine (View.read_writes_eq_canon _ _ _ (fun y => View.cover_of_tiledL _ S4096x256.size (by sl_kernel_rfl) y)).trans ?_; frame_out; try rfl
  isplitl [HS3]
  · iexists _; isplitr; swap; · iexact HS3
    ipureintro; exact harg10.read_unread _
  iexists _; isplitr; swap; · iexact HS4
  ipureintro; refine (View.read_writes_eq_canon _ _ _ (fun y => View.cover_of_tiledL _ S4096x512.size (by sl_kernel_rfl) y)).trans ?_; frame_out; try rfl

set_option maxHeartbeats 800000 in
/-- The body at an odd key block on the diagonal. -/
theorem run_oddCross (c : Dev nD) (i : grid0.Coords) (arg3 : Memref sig .tc .vmem S8x512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S8x512x256 .bf16) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x256 .f32) (harg9 : arg9.IsWhole) (arg10 : Memref sig .tc .vmem S4096x512 .f32) (harg10 : arg10.IsWhole) (arg11 : Memref sig .tc .vmem S4096x512 .f32) (harg11 : arg11.IsWhole) (h0 : ¬Starts i) (h1 : ¬EvenCross i) (h2 : ¬EvenBelow i) (h3 : OddCross i) (h4 : ¬OddBelow i) (h5 : Ends i)
    (q : Vec F S8x512x512 .bf16) (k kn : Vec F S512x512 .bf16) (o : Vec F S8x512x256 .bf16) (st : St F) (E : Set ℕ) (K : PUnit → sProp 𝕄) :
    iprop(owns (c : Thread nD τ) arg3 fullShare q ∗ owns (c : Thread nD τ) arg4 fullShare k ∗ owns (c : Thread nD τ) arg5 fullShare kn ∗ owns (c : Thread nD τ) arg6 fullShare o ∗ owns (c : Thread nD τ) arg7 fullShare (st).m ∗ owns (c : Thread nD τ) arg8 fullShare (st).l ∗ owns (c : Thread nD τ) arg9 fullShare (st).acc ∗ owns (c : Thread nD τ) arg10 fullShare (st).sa ∗ owns (c : Thread nD τ) arg11 fullShare (st).sb
        ∗ (iprop(owns (c : Thread nD τ) arg3 fullShare q ∗ owns (c : Thread nD τ) arg4 fullShare k ∗ owns (c : Thread nD τ) arg5 fullShare kn ∗ owns (c : Thread nD τ) arg6 fullShare (result (step i q k kn st)) ∗ owns (c : Thread nD τ) arg7 fullShare (step i q k kn st).m ∗ owns (c : Thread nD τ) arg8 fullShare (step i q k kn st).l ∗ owns (c : Thread nD τ) arg9 fullShare (step i q k kn st).acc ∗ owns (c : Thread nD τ) arg10 fullShare (step i q k kn st).sa ∗ owns (c : Thread nD τ) arg11 fullShare (step i q k kn st).sb) -∗ K ⟨⟩))
      ⊢ wp frame (wpE (defs₀ (F := F)) Variants.none c none) E (cc0_mla_prompt_attn i arg3 harg3 arg4 harg4 arg5 harg5 arg6 harg6 arg7 harg7 arg8 harg8 arg9 harg9 arg10 harg10 arg11 harg11) K := by
  simp only [cc0_mla_prompt_attn_eq_skeleton]; unfold cc0_mla_prompt_attn_skel
  simp only [k0_part5_eq_skeleton, k0_part6_eq_skeleton, k0_part3_eq_skeleton]
  have hs : step i q k kn st = { cross i k st.sb st with sa := k0_pay2 q kn } := by
    have e0 := mt (starts_iff i).mpr h0; have e1 := mt (evenCross_iff i).mpr h1; have e2 := mt (evenBelow_iff i).mpr h2; have e3 := (oddCross_iff i).mp h3; have e4 := mt (oddBelow_iff i).mpr h4; have e5 := (ends_iff i).mp h5
    unfold step fold
    dsimp only; rw [if_neg e0, if_pos (by omega), if_neg (by omega), if_pos (by omega)]
  rw [hs]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, ⟨%fs4, %hfs4, HS4⟩, Hk⟩
  obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2; obtain rfl := harg10.eq_unread hfs3; obtain rfl := harg11.eq_unread hfs4
  sl_exec (disch := first | sl_exact h0 | sl_exact h1 | sl_exact h2 | sl_exact h3 | sl_exact h4 | sl_exact h5)
  sl_step
  iapply Hk
  isplitl [H0]
  · iexists _; isplitr; swap; · iexact H0
    ipureintro; exact harg3.read_unread _
  isplitl [H1]
  · iexists _; isplitr; swap; · iexact H1
    ipureintro; exact harg4.read_unread _
  isplitl [H2]
  · iexists _; isplitr; swap; · iexact H2
    ipureintro; exact harg5.read_unread _
  isplitl [H3]
  · iexists _; isplitr; swap; · iexact H3
    ipureintro; refine (View.read_writes_eq_canon _ _ _ (fun y => View.cover_of_tiledL _ S8x512x256.size (by sl_kernel_rfl) y)).trans ?_; frame_out; try rfl
  isplitl [HS0]
  · iexists _; isplitr; swap; · iexact HS0
    ipureintro; refine (View.read_writes_eq_canon _ _ _ (fun y => View.cover_of_tiledL _ S4096x128.size (by sl_kernel_rfl) y)).trans ?_; frame_out; try rfl
  isplitl [HS1]
  · iexists _; isplitr; swap; · iexact HS1
    ipureintro; refine (View.read_writes_eq_canon _ _ _ (fun y => View.cover_of_tiledL _ S4096x128.size (by sl_kernel_rfl) y)).trans ?_; frame_out; try rfl
  isplitl [HS2]
  · iexists _; isplitr; swap; · iexact HS2
    ipureintro; refine (View.read_writes_eq_canon _ _ _ (fun y => View.cover_of_tiledL _ S4096x256.size (by sl_kernel_rfl) y)).trans ?_; frame_out; try rfl
  isplitl [HS3]
  · iexists _; isplitr; swap; · iexact HS3
    ipureintro; refine (View.read_writes_eq_canon _ _ _ (fun y => View.cover_of_tiledL _ S4096x512.size (by sl_kernel_rfl) y)).trans ?_; frame_out; try rfl
  iexists _; isplitr; swap; · iexact HS4
  ipureintro; exact harg11.read_unread _

end Cert.KernelIdeal.Attn

end
-- ==== Proof.KernelIdeal.Run.lean ====
/- The run of the attention call: the scratch state over the grid points, the proof data, and the frame. -/
module

public import proofs.«01_k».proof.Proof.KernelIdeal.Body

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## One grid point, whichever kind it is -/

/-- The scratch buffers holding a state. -/
abbrev holds (c : Dev nD) (a7 : Memref sig .tc .vmem S4096x128 .f32) (a8 : Memref sig .tc .vmem S4096x128 .f32) (a9 : Memref sig .tc .vmem S4096x256 .f32)
    (a10 : Memref sig .tc .vmem S4096x512 .f32) (a11 : Memref sig .tc .vmem S4096x512 .f32) (st : St F) : sProp 𝕄 :=
  iprop(owns (c : Thread nD τ) a7 fullShare st.m ∗ owns (c : Thread nD τ) a8 fullShare st.l ∗ owns (c : Thread nD τ) a9 fullShare st.acc
    ∗ owns (c : Thread nD τ) a10 fullShare st.sa ∗ owns (c : Thread nD τ) a11 fullShare st.sb)

/-- What the output's buffer holds after a point: the results where a query block ends, else what it held. -/
def wrote (i : grid0.Coords) (st : St F) (o : Vec F S8x512x256 .bf16) : Vec F S8x512x256 .bf16 :=
  if (i 2).val = (i 1).val then result st else o

/-- The body at any grid point: one step of the state. -/
theorem run_point (c : Dev nD) (i : grid0.Coords) (arg3 : Memref sig .tc .vmem S8x512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S8x512x256 .bf16) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x256 .f32) (harg9 : arg9.IsWhole) (arg10 : Memref sig .tc .vmem S4096x512 .f32) (harg10 : arg10.IsWhole) (arg11 : Memref sig .tc .vmem S4096x512 .f32) (harg11 : arg11.IsWhole)
    (q : Vec F S8x512x512 .bf16) (k kn : Vec F S512x512 .bf16) (o : Vec F S8x512x256 .bf16) (st : St F) (E : Set ℕ) (K : PUnit → sProp 𝕄) :
    iprop(owns (c : Thread nD τ) arg3 fullShare q ∗ owns (c : Thread nD τ) arg4 fullShare k ∗ owns (c : Thread nD τ) arg5 fullShare kn ∗ owns (c : Thread nD τ) arg6 fullShare o
        ∗ owns (c : Thread nD τ) arg7 fullShare st.m ∗ owns (c : Thread nD τ) arg8 fullShare st.l ∗ owns (c : Thread nD τ) arg9 fullShare st.acc
        ∗ owns (c : Thread nD τ) arg10 fullShare st.sa ∗ owns (c : Thread nD τ) arg11 fullShare st.sb
        ∗ (iprop(owns (c : Thread nD τ) arg3 fullShare q ∗ owns (c : Thread nD τ) arg4 fullShare k ∗ owns (c : Thread nD τ) arg5 fullShare kn
            ∗ owns (c : Thread nD τ) arg6 fullShare (wrote i (step i q k kn st) o) ∗ holds c arg7 arg8 arg9 arg10 arg11 (step i q k kn st)) -∗ K ⟨⟩))
      ⊢ wp frame (wpE (defs₀ (F := F)) Variants.none c none) E (cc0_mla_prompt_attn i arg3 harg3 arg4 harg4 arg5 harg5 arg6 harg6 arg7 harg7 arg8 harg8 arg9 harg9 arg10 harg10 arg11 harg11) K := by
  rcases lt_trichotomy (i 2).val (i 1).val with h | h | h
  · have ho : wrote i (step i q k kn st) o = o := if_neg (by omega)
    rw [ho]
    by_cases h0 : (i 2).val = 0
    · exact run_firstBelow c i arg3 harg3 arg4 harg4 arg5 harg5 arg6 harg6 arg7 harg7 arg8 harg8 arg9 harg9 arg10 harg10 arg11 harg11 ((starts_iff i).mpr h0) (mt (evenCross_iff i).mp (by omega)) ((evenBelow_iff i).mpr (by omega)) (mt (oddCross_iff i).mp (by omega)) (mt (oddBelow_iff i).mp (by omega)) (mt (ends_iff i).mp (by omega)) q k kn o st E K
    · by_cases hp : (i 2).val % 2 = 0
      · exact run_evenBelow c i arg3 harg3 arg4 harg4 arg5 harg5 arg6 harg6 arg7 harg7 arg8 harg8 arg9 harg9 arg10 harg10 arg11 harg11 (mt (starts_iff i).mp h0) (mt (evenCross_iff i).mp (by omega)) ((evenBelow_iff i).mpr (by omega)) (mt (oddCross_iff i).mp (by omega)) (mt (oddBelow_iff i).mp (by omega)) (mt (ends_iff i).mp (by omega)) q k kn o st E K
      · exact run_oddBelow c i arg3 harg3 arg4 harg4 arg5 harg5 arg6 harg6 arg7 harg7 arg8 harg8 arg9 harg9 arg10 harg10 arg11 harg11 (mt (starts_iff i).mp h0) (mt (evenCross_iff i).mp (by omega)) (mt (evenBelow_iff i).mp (by omega)) (mt (oddCross_iff i).mp (by omega)) ((oddBelow_iff i).mpr (by omega)) (mt (ends_iff i).mp (by omega)) q k kn o st E K
  · have ho : wrote i (step i q k kn st) o = result (step i q k kn st) := if_pos h
    rw [ho]
    by_cases h0 : (i 2).val = 0
    · exact run_firstCross c i arg3 harg3 arg4 harg4 arg5 harg5 arg6 harg6 arg7 harg7 arg8 harg8 arg9 harg9 arg10 harg10 arg11 harg11 ((starts_iff i).mpr h0) ((evenCross_iff i).mpr (by omega)) (mt (evenBelow_iff i).mp (by omega)) (mt (oddCross_iff i).mp (by omega)) (mt (oddBelow_iff i).mp (by omega)) ((ends_iff i).mpr (by omega)) q k kn o st E K
    · by_cases hp : (i 2).val % 2 = 0
      · exact run_evenCross c i arg3 harg3 arg4 harg4 arg5 harg5 arg6 harg6 arg7 harg7 arg8 harg8 arg9 harg9 arg10 harg10 arg11 harg11 (mt (starts_iff i).mp h0) ((evenCross_iff i).mpr (by omega)) (mt (evenBelow_iff i).mp (by omega)) (mt (oddCross_iff i).mp (by omega)) (mt (oddBelow_iff i).mp (by omega)) ((ends_iff i).mpr (by omega)) q k kn o st E K
      · exact run_oddCross c i arg3 harg3 arg4 harg4 arg5 harg5 arg6 harg6 arg7 harg7 arg8 harg8 arg9 harg9 arg10 harg10 arg11 harg11 (mt (starts_iff i).mp h0) (mt (evenCross_iff i).mp (by omega)) (mt (evenBelow_iff i).mp (by omega)) ((oddCross_iff i).mpr (by omega)) (mt (oddBelow_iff i).mp (by omega)) ((ends_iff i).mpr (by omega)) q k kn o st E K
  · have ho : wrote i (step i q k kn st) o = o := if_neg (by omega)
    rw [ho]
    exact run_idle c i arg3 harg3 arg4 harg4 arg5 harg5 arg6 harg6 arg7 harg7 arg8 harg8 arg9 harg9 arg10 harg10 arg11 harg11 (mt (starts_iff i).mp (by omega)) (mt (evenCross_iff i).mp (by omega)) (mt (evenBelow_iff i).mp (by omega)) (mt (oddCross_iff i).mp (by omega)) (mt (oddBelow_iff i).mp (by omega)) (mt (ends_iff i).mp (by omega)) q k kn o st E K

/-! ## The grid -/

theorem coords_batch : ∀ t : Fin cfg0.N, (grid0.coords t 0).val = t.val / 256 :=
  (by decide +kernel : ∀ t : Fin grid0.N, (grid0.coords t 0).val = t.val / 256)
theorem coords_query : ∀ t : Fin cfg0.N, (grid0.coords t 1).val = t.val / 16 % 16 :=
  (by decide +kernel : ∀ t : Fin grid0.N, (grid0.coords t 1).val = t.val / 16 % 16)
theorem coords_key : ∀ t : Fin cfg0.N, (grid0.coords t 2).val = t.val % 16 :=
  (by decide +kernel : ∀ t : Fin grid0.N, (grid0.coords t 2).val = t.val % 16)

/-- The output is left alone at the points that end no query block. -/
theorem idle_out (t : Fin cfg0.N) : cfg0.idle 3 (grid0.coords t) = !decide (t.val % 16 = t.val / 16 % 16) := by
  have h := ends_iff (grid0.coords t)
  rw [coords_key, coords_query] at h
  show (!(k0_cond6 (grid0.coords t) == 1#1)) = _
  congr 1
  rw [Bool.eq_iff_iff, beq_iff_eq, decide_eq_true_iff]
  exact h

/-! ## The state over the points -/

/-- The state after point `n`: the steps of the points up to it. -/
def stAt (c : Dev nD) : (n : ℕ) → n < cfg0.N → St F
  | 0, h => step (grid0.coords ⟨0, h⟩) (iblk m c 0 ⟨0, h⟩) (iblk m c 1 ⟨0, h⟩) (iblk m c 2 ⟨0, h⟩)
      ⟨k0_pay22, k0_pay23, k0_pay24, k0_pay2 (iblk m c 0 ⟨0, h⟩) (iblk m c 1 ⟨0, h⟩), k0_pay2 (iblk m c 0 ⟨0, h⟩) (iblk m c 2 ⟨0, h⟩)⟩
  | n + 1, h => step (grid0.coords ⟨n + 1, h⟩) (iblk m c 0 ⟨n + 1, h⟩) (iblk m c 1 ⟨n + 1, h⟩) (iblk m c 2 ⟨n + 1, h⟩) (stAt c n (Nat.lt_of_succ_lt h))

theorem stAt_succ (c : Dev nD) (t : Fin cfg0.N) (ht : t.val ≠ 0) :
    stAt m c t.val t.isLt = step (grid0.coords t) (iblk m c 0 t) (iblk m c 1 t) (iblk m c 2 t) (stAt m c (t.val - 1) (Nat.lt_of_le_of_lt (Nat.sub_le _ _) t.isLt)) := by
  obtain ⟨n, hn⟩ := t
  cases n with
  | zero => exact absurd rfl ht
  | succ n => rfl

/-- The very first step forgets what the scratch held. -/
theorem step_first (i : grid0.Coords) (hq : (i 1).val = 0) (hk : (i 2).val = 0) (q : Vec F S8x512x512 .bf16) (k kn : Vec F S512x512 .bf16) (s s' : St F) :
    step i q k kn s = step i q k kn s' := by
  unfold step fold
  dsimp only
  rw [if_pos hk, if_pos (by omega), if_pos (by omega), if_pos (by omega), if_pos hk, if_pos (by omega), if_pos (by omega), if_pos (by omega)]
  rfl

theorem stAt_first (c : Dev nD) (t : Fin cfg0.N) (ht : t.val = 0) (s : St F) :
    step (grid0.coords t) (iblk m c 0 t) (iblk m c 1 t) (iblk m c 2 t) s = stAt m c t.val t.isLt := by
  obtain ⟨n, hn⟩ := t
  cases n with
  | zero => exact step_first _ (by rw [coords_query, ht]) (by rw [coords_key, ht]) _ _ _ _ _
  | succ n => exact absurd ht (Nat.succ_ne_zero n)

/-- Past the diagonal the state stands. -/
theorem stAt_past (c : Dev nD) (t : Fin cfg0.N) (h : t.val / 16 % 16 < t.val % 16) :
    stAt m c t.val t.isLt = stAt m c (t.val - 1) (Nat.lt_of_le_of_lt (Nat.sub_le _ _) t.isLt) := by
  rw [stAt_succ m c t (by omega)]
  unfold step
  rw [coords_query, coords_key, if_neg (by omega), if_neg (by omega)]

/-! ## The staging and scratch buffers -/

abbrev ms0 (t : Fin cfg0.N) : Memref sig .tc .vmem S8x512x512 .bf16 := win0_0.stage (cfg0.slots t 0)
abbrev ms1 (t : Fin cfg0.N) : Memref sig .tc .vmem S512x512 .bf16 := win0_1.stage (cfg0.slots t 1)
abbrev ms2 (t : Fin cfg0.N) : Memref sig .tc .vmem S512x512 .bf16 := win0_2.stage (cfg0.slots t 2)
abbrev ms3 (t : Fin cfg0.N) : Memref sig .tc .vmem S8x512x256 .bf16 := win0_3.stage (cfg0.slots t 3)
abbrev sm : Memref sig .tc .vmem S4096x128 .f32 := Memref.whole cc0_scratch0
abbrev sl : Memref sig .tc .vmem S4096x128 .f32 := Memref.whole cc0_scratch1
abbrev sacc : Memref sig .tc .vmem S4096x256 .f32 := Memref.whole cc0_scratch2
abbrev ssa : Memref sig .tc .vmem S4096x512 .f32 := Memref.whole cc0_scratch3
abbrev ssb : Memref sig .tc .vmem S4096x512 .f32 := Memref.whole cc0_scratch4

/-- What the launch hands over: the scratch at anything, and the generator register. -/
theorem PhiA_eq (c : Dev nD) :
    (Pipeline.ΦA spec0 c : sProp 𝕄)
      = iprop(iprop((∃ d, owns (c : Thread nD τ) sm fullShare d) ∗ (∃ d, owns (c : Thread nD τ) sl fullShare d) ∗ (∃ d, owns (c : Thread nD τ) sacc fullShare d) ∗ (∃ d, owns (c : Thread nD τ) ssa fullShare d) ∗ (∃ d, owns (c : Thread nD τ) ssb fullShare d)) ∗ (∃ r, prngReg c r)) := by
  unfold Pipeline.ΦA; rw [scopedRest0_eq]; simp only [sm, sl, sacc, ssa, ssb, owns_whole]; try rfl

/-- The invariant before point `n`: afterwards the scratch at the state the point before left. -/
def Phi (c : Dev nD) : (n : ℕ) → n ≤ cfg0.N → sProp 𝕄
  | 0, _ => Pipeline.ΦA spec0 c
  | n + 1, hn => iprop(holds c sm sl sacc ssa ssb (stAt m c n hn) ∗ (∃ r, prngReg c r))

theorem Phi_zero (c : Dev nD) (n : ℕ) (h : n ≤ cfg0.N) (hz : n = 0) : Phi m c n h = Pipeline.ΦA spec0 c := by
  subst hz; rfl

theorem Phi_succ (c : Dev nD) (n : ℕ) (hn : n < cfg0.N) :
    Phi m c (n + 1) hn = iprop(holds c sm sl sacc ssa ssb (stAt m c n hn) ∗ (∃ r, prngReg c r)) := rfl

theorem Phi_pos (c : Dev nD) (n : ℕ) (h : n ≤ cfg0.N) (hz : n ≠ 0) :
    Phi m c n h = iprop(holds c sm sl sacc ssa ssb (stAt m c (n - 1) (by omega)) ∗ (∃ r, prngReg c r)) := by
  cases n with
  | zero => exact absurd rfl hz
  | succ n => rfl

/-! ## The proof data -/

/-- The inputs' buffers at their blocks, the output's at the results of the state so far. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => result (stAt m c t.val t.isLt)
  Φ t := Phi m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; exact Pipeline.Dat.Φ_castSucc (Phi m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = result (stAt m c t.val t.isLt) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- Past the diagonal the output's buffer still holds the results of the query block. -/
theorem before_3 (c : Dev nD) : ∀ (n : ℕ) (t : Fin cfg0.N), t.val = n → t.val / 16 % 16 < t.val % 16 → ∀ d,
    (dats m 0 c).before 3 t d = result (stAt m c t.val t.isLt) := by
  intro n
  induction n with
  | zero => intro t ht h; omega
  | succ n ih =>
    intro t ht h d
    have hfl : (cfg0.win 3).flush ⟨t.val - 1, Nat.lt_of_le_of_lt (Nat.sub_le _ _) t.isLt⟩ = false := by
      rw [Bool.eq_false_iff]; intro hc
      have := (flush0_3 ⟨t.val - 1, Nat.lt_of_le_of_lt (Nat.sub_le _ _) t.isLt⟩).mp hc
      dsimp only at this; omega
    rw [Dat.before_of_pos (dats m 0 c) 3 t (by omega) (by rfl) d, hfl, if_neg Bool.false_ne_true, stAt_past m c t h]
    unfold Dat.left
    rw [idle_out]
    by_cases he : (t.val - 1) % 16 = (t.val - 1) / 16 % 16
    · rw [show decide ((⟨t.val - 1, Nat.lt_of_le_of_lt (Nat.sub_le _ _) t.isLt⟩ : Fin cfg0.N).val % 16 = (⟨t.val - 1, Nat.lt_of_le_of_lt (Nat.sub_le _ _) t.isLt⟩ : Fin cfg0.N).val / 16 % 16) = true from decide_eq_true he]
      exact after_3 m c ⟨t.val - 1, Nat.lt_of_le_of_lt (Nat.sub_le _ _) t.isLt⟩
    · rw [show decide ((⟨t.val - 1, Nat.lt_of_le_of_lt (Nat.sub_le _ _) t.isLt⟩ : Fin cfg0.N).val % 16 = (⟨t.val - 1, Nat.lt_of_le_of_lt (Nat.sub_le _ _) t.isLt⟩ : Fin cfg0.N).val / 16 % 16) = false from decide_eq_false he]
      exact ih ⟨t.val - 1, Nat.lt_of_le_of_lt (Nat.sub_le _ _) t.isLt⟩ (by dsimp only; omega) (by dsimp only; omega) d

/-! ## The body obligation -/

/-- The output's buffer after the body is what the obligation asks there. -/
theorem leaves_out (c : Dev nD) (t : Fin cfg0.N) (d) :
    owns (c : Thread nD τ) (ms3 t) fullShare (wrote (grid0.coords t) (stAt m c t.val t.isLt) ((dats m 0 c).before 3 t d)) ⊢ (dats m 0 c).leavesExact 3 t := by
  have hw : wrote (grid0.coords t) (stAt m c t.val t.isLt) ((dats m 0 c).before 3 t d) = if t.val % 16 = t.val / 16 % 16 then result (stAt m c t.val t.isLt) else (dats m 0 c).before 3 t d := by
    unfold wrote; rw [coords_key, coords_query]
  rw [hw]
  by_cases he : t.val % 16 = t.val / 16 % 16
  · rw [if_pos he, show (dats m 0 c).leavesExact 3 t = owns (c : Thread nD τ) (ms3 t) fullShare ((dats m 0 c).after 3 t) from by
      unfold Dat.leavesExact; rw [idle_out, decide_eq_true he]; rfl, after_3]
  · have hi : cfg0.idle 3 (grid0.coords t) = true := by rw [idle_out, decide_eq_false he]; rfl
    rw [if_neg he]
    cases hf : (cfg0.win 3).flush t with
    | false =>
      rw [Dat.leavesExact_idle _ _ _ hi hf]
      iintro H; iexists d; iexact H
    | true =>
      have h15 := (flush0_3 t).mp hf
      rw [before_3 m c t.val t rfl (by omega) d, show (dats m 0 c).leavesExact 3 t = owns (c : Thread nD τ) (ms3 t) fullShare ((dats m 0 c).after 3 t) from by
        unfold Dat.leavesExact; rw [hi, hf], after_3]

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

/-- The body at a point, from the state `s` it finds the scratch in. -/
theorem body_from (c : Dev nD) (t : Fin cfg0.N) (s : St F)
    (hs : step (grid0.coords t) (iblk m c 0 t) (iblk m c 1 t) (iblk m c 2 t) s = stAt m c t.val t.isLt) :
    iprop(iprop(holds c sm sl sacc ssa ssb s ∗ (∃ r, prngReg c r)) ∗ (dats m 0 c).owesAt () t.castSucc
      ∗ (∃ d : (cfg0.win 0).block.Idx → Elt F (cfg0.win 0).elt, owns (c : Thread nD τ) (ms0 t) fullShare (iblk m c 0 t))
      ∗ (∃ d : (cfg0.win 1).block.Idx → Elt F (cfg0.win 1).elt, owns (c : Thread nD τ) (ms1 t) fullShare (iblk m c 1 t))
      ∗ (∃ d : (cfg0.win 2).block.Idx → Elt F (cfg0.win 2).elt, owns (c : Thread nD τ) (ms2 t) fullShare (iblk m c 2 t))
      ∗ (∃ d, owns (c : Thread nD τ) (ms3 t) fullShare ((dats m 0 c).before 3 t d)))
      ⊢ wp frame (wpE (defs₀ (F := F)) Variants.none c none) Set.univ (bodyAt0 t) (fun _ => bodyPost m c t) := by
  unfold bodyPost bodyAt0
  rw [show (dats m 0 c).owesAt () t.succ = (dats m 0 c).owesAt () t.castSucc from rfl]
  rw [show (dats m 0 c).Φ t.succ = Phi m c (t.val + 1) t.isLt from rfl, Phi_succ]
  rw [show (dats m 0 c).leavesExact 0 t = owns (c : Thread nD τ) (ms0 t) fullShare ((dats m 0 c).after 0 t) from rfl, after_0]
  rw [show (dats m 0 c).leavesExact 1 t = owns (c : Thread nD τ) (ms1 t) fullShare ((dats m 0 c).after 1 t) from rfl, after_1]
  rw [show (dats m 0 c).leavesExact 2 t = owns (c : Thread nD τ) (ms2 t) fullShare ((dats m 0 c).after 2 t) from rfl, after_2]
  rw [← hs]
  iintro ⟨⟨⟨HS0, HS1, HS2, HS3, HS4⟩, Hg⟩, Ho, ⟨%d0, H0⟩, ⟨%d1, H1⟩, ⟨%d2, H2⟩, ⟨%d3, H3⟩⟩
  iapply (run_point c (grid0.coords t) _ _ _ _ _ _ _ _ _ _ _ _ _ _ _ _ _ _ (iblk m c 0 t) (iblk m c 1 t) (iblk m c 2 t) ((dats m 0 c).before 3 t d3) s Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  isplitl [HS4]; · iexact HS4
  iintro ⟨H0, H1, H2, H3, HS⟩
  isplitl [HS Hg]
  · isplitl [HS]
    · iexact HS
    iexact Hg
  isplitl [Ho]; · iexact Ho
  isplitl [H0]; · iexact H0
  isplitl [H1]; · iexact H1
  isplitl [H2]; · iexact H2
  rw [hs]
  iapply (leaves_out m c t d3)
  iexact H3

theorem sound_body (c : Dev nD) (t : Fin cfg0.N) :
    bodyPre m c t ⊢ wp frame (wpE (defs₀ (F := F)) Variants.none c none) Set.univ (bodyAt0 t) (fun _ => bodyPost m c t) := by
  unfold bodyPre
  simp only [before_0, before_1, before_2]
  by_cases hz : t.val = 0
  · rw [Phi_castSucc m c t, Phi_zero m c _ _ hz, PhiA_eq]
    iintro ⟨⟨⟨⟨%e0, HS0⟩, ⟨%e1, HS1⟩, ⟨%e2, HS2⟩, ⟨%e3, HS3⟩, ⟨%e4, HS4⟩⟩, Hg⟩, Hr⟩
    iapply (body_from m c t ⟨e0, e1, e2, e3, e4⟩ (stAt_first m c t hz _))
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexact HS4
      iexact Hg
    iexact Hr
  · rw [Phi_castSucc m c t, Phi_pos m c _ _ hz]
    exact body_from m c t _ (stAt_succ m c t hz).symm

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem hin (c : Dev nD) : Pipeline.ΦA spec0 c ⊢ (dats m 0 c).Φ 0 := by
  rw [show (dats m 0 c).Φ 0 = Phi m c 0 (Nat.zero_le _) from rfl, Phi_zero m c 0 _ rfl]

theorem hout (c : Dev nD) : (dats m 0 c).Φ (Fin.last cfg0.N) ⊢ Pipeline.ΦA spec0 c := by
  have hN : (Fin.last cfg0.N).val ≠ 0 := by rw [Fin.val_last]; have : cfg0.N = 512 := N_0; omega
  rw [show (dats m 0 c).Φ (Fin.last cfg0.N) = Phi m c (Fin.last cfg0.N).val (Nat.le_of_lt_succ (Fin.last cfg0.N).isLt) from rfl, Phi_pos m c _ _ hN, PhiA_eq]
  iintro ⟨⟨HS0, HS1, HS2, HS3, HS4⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

/-! ## The run and the frame -/

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- Every run ends with the windowed arrays at what the points wrote back. -/
theorem run_main : θ_run defs (onTc (τ := τ) (main (F := F))) (s₀ m ρ) (Pipeline.FramePost cfgs (dats m) 0 (V m)) :=
  (θ_run defs _ _).mono (fun _ h => h.1) (run_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_quiescent m ρ))

end Cert.KernelIdeal.Attn

end
-- ==== Proof.Softmax.lean ====
/- The softmax taken block by block, over the extended reals: weights against a running maximum, how a later maximum
   rescales them, and that the quotient at the end is the softmax taken at once. -/
module

public import Idealize.ShloMosaic.PureOps.Ideal

@[expose] public section

noncomputable section

namespace Cert.Softmax

open Idealize.ShloMosaic Finset

/-- The weight of a score `s` against a maximum `m`: two to the power of `c` times their difference. -/
def weight (c : ℝ) (s m : EReal) : EReal := Ideal.exp2 ((s - m) * (c : EReal))

variable {c : ℝ}

theorem weight_bot (hc : 0 < c) (m : EReal) : weight c ⊥ m = 0 := by
  rw [weight, EReal.bot_sub, EReal.bot_mul_coe_of_pos hc]; rfl

theorem weight_top (hc : 0 < c) (s : EReal) : weight c s ⊤ = 0 := by
  rw [weight, EReal.sub_top, EReal.bot_mul_coe_of_pos hc]; rfl

theorem weight_coe (s m : ℝ) : weight c (s : EReal) (m : EReal) = (((2 : ℝ) ^ ((s - m) * c) : ℝ) : EReal) := by
  rw [weight, ← EReal.coe_sub, ← EReal.coe_mul]; rfl

/-- Under a maximum that bounds the score the weight is a real number, not negative. -/
theorem weight_real (hc : 0 < c) {s m : EReal} (h : s ≤ m) : ∃ r : ℝ, 0 ≤ r ∧ weight c s m = (r : EReal) := by
  induction m with
  | bot => rw [le_bot_iff.mp h, weight_bot hc]; exact ⟨0, le_rfl, rfl⟩
  | top => rw [weight_top hc]; exact ⟨0, le_rfl, rfl⟩
  | coe m =>
    induction s with
    | bot => rw [weight_bot hc]; exact ⟨0, le_rfl, rfl⟩
    | top => exact absurd (top_le_iff.mp h) (EReal.coe_ne_top m)
    | coe s => exact ⟨_, Real.rpow_nonneg (by norm_num) _, weight_coe s m⟩

theorem weight_nonneg (hc : 0 < c) {s m : EReal} (h : s ≤ m) : 0 ≤ weight c s m := by
  obtain ⟨r, hr, e⟩ := weight_real hc h; rw [e]; exact EReal.coe_nonneg.mpr hr

theorem weight_ne_top (hc : 0 < c) {s m : EReal} (h : s ≤ m) : weight c s m ≠ ⊤ := by
  obtain ⟨r, hr, e⟩ := weight_real hc h; rw [e]; exact EReal.coe_ne_top r

/-- A later maximum rescales the weight. -/
theorem weight_rescale (hc : 0 < c) {s m m' : EReal} (h : s ≤ m) (h' : m ≤ m') :
    weight c m m' * weight c s m = weight c s m' := by
  induction m' with
  | bot =>
    have hm := le_bot_iff.mp h'; subst hm
    have hs := le_bot_iff.mp h; subst hs
    rw [weight_bot hc, zero_mul]
  | top => rw [weight_top hc, weight_top hc, zero_mul]
  | coe m' =>
    induction m with
    | bot => rw [le_bot_iff.mp h, weight_bot hc, weight_bot hc, zero_mul]
    | top => exact absurd (top_le_iff.mp h') (EReal.coe_ne_top m')
    | coe m =>
      induction s with
      | bot => rw [weight_bot hc, weight_bot hc, mul_zero]
      | top => exact absurd (top_le_iff.mp h) (EReal.coe_ne_top m)
      | coe s =>
        rw [weight_coe, weight_coe, weight_coe, ← EReal.coe_mul]
        congr 1
        rw [← Real.rpow_add (by norm_num)]; congr 1; ring

/-- A finite factor that is not negative goes into a sum. -/
theorem mul_sum_of_nonneg {ι : Type} (J : Finset ι) {a : EReal} (h : 0 ≤ a) (h' : a ≠ ⊤) (f : ι → EReal) :
    a * ∑ j ∈ J, f j = ∑ j ∈ J, a * f j := by
  classical
  induction J using Finset.induction_on with
  | empty => rw [sum_empty, sum_empty, mul_zero]
  | insert i J hi ih => rw [sum_insert hi, sum_insert hi, EReal.left_distrib_of_nonneg_of_ne_top h h', ih]

/-- A sum of reals is a real. -/
theorem sum_real {ι : Type} (J : Finset ι) (f : ι → EReal) (h : ∀ j ∈ J, ∃ r : ℝ, f j = (r : EReal)) :
    ∃ r : ℝ, ∑ j ∈ J, f j = (r : EReal) := by
  classical
  induction J using Finset.induction_on with
  | empty => exact ⟨0, rfl⟩
  | insert i J hi ih =>
    obtain ⟨a, ha⟩ := h i (mem_insert_self i J)
    obtain ⟨b, hb⟩ := ih fun j hj => h j (mem_insert_of_mem hj)
    exact ⟨a + b, by rw [sum_insert hi, ha, hb, EReal.coe_add]⟩

/-- The largest of the first `n` scores. -/
def peak (σ : ℕ → EReal) (n : ℕ) : EReal := (range n).sup σ

/-- The weights of the first `n` scores against the largest of them, each times its value, summed. -/
def mass (c : ℝ) (σ v : ℕ → EReal) (n : ℕ) : EReal := ∑ j ∈ range n, weight c (σ j) (peak σ n) * v j

theorem peak_zero (σ : ℕ → EReal) : peak σ 0 = ⊥ := rfl

theorem mass_zero (σ v : ℕ → EReal) : mass c σ v 0 = 0 := rfl

theorem le_peak (σ : ℕ → EReal) {n j : ℕ} (h : j < n) : σ j ≤ peak σ n := le_sup (f := σ) (mem_range.mpr h)

theorem peak_add (σ : ℕ → EReal) (n m : ℕ) : peak σ (n + m) = max (peak σ n) ((range m).sup fun j => σ (n + j)) := by
  refine le_antisymm (Finset.sup_le fun j hj => ?_) (max_le (Finset.sup_le fun j hj => ?_) (Finset.sup_le fun j hj => ?_))
  · rw [mem_range] at hj
    rcases lt_or_ge j n with h | h
    · exact (le_peak σ h).trans (le_max_left _ _)
    · obtain ⟨i, rfl⟩ := Nat.exists_eq_add_of_le h
      exact (le_sup (f := fun j => σ (n + j)) (mem_range.mpr (by omega : i < m))).trans (le_max_right _ _)
  · rw [mem_range] at hj; exact le_peak σ (by omega)
  · rw [mem_range] at hj; exact le_peak σ (by omega)

/-- One block more: the sum so far rescaled, and the block's own terms. -/
theorem mass_add (hc : 0 < c) (σ v : ℕ → EReal) (n m : ℕ) :
    mass c σ v (n + m) = weight c (peak σ n) (peak σ (n + m)) * mass c σ v n
      + ∑ j ∈ range m, weight c (σ (n + j)) (peak σ (n + m)) * v (n + j) := by
  have hp : peak σ n ≤ peak σ (n + m) := by rw [peak_add]; exact le_max_left _ _
  rw [mass, sum_range_add, mass, mul_sum_of_nonneg _ (weight_nonneg hc hp) (weight_ne_top hc hp)]
  congr 1
  refine sum_congr rfl fun j hj => ?_
  rw [← mul_assoc, weight_rescale hc (le_peak σ (mem_range.mp hj)) hp]

/-- Terms whose score is the bottom add nothing. -/
theorem mass_extend (hc : 0 < c) (σ v : ℕ → EReal) {n N : ℕ} (h : n ≤ N) (hσ : ∀ j, n ≤ j → j < N → σ j = ⊥) :
    peak σ N = peak σ n ∧ mass c σ v N = mass c σ v n := by
  obtain ⟨m, rfl⟩ := Nat.exists_eq_add_of_le h
  have hp : peak σ (n + m) = peak σ n := by
    rw [peak_add]
    refine max_eq_left (Finset.sup_le fun j hj => ?_)
    rw [hσ _ (by omega) (by have := mem_range.mp hj; omega)]; exact bot_le
  refine ⟨hp, ?_⟩
  rw [mass, sum_range_add, mass, hp]
  refine (congrArg _ (sum_eq_zero fun j hj => ?_)).trans (add_zero _)
  rw [hσ _ (by omega) (by have := mem_range.mp hj; omega), weight_bot hc, zero_mul]

/-- The block-by-block softmax's result. -/
def online (c : ℝ) (ε : EReal) (σ v : ℕ → EReal) (n : ℕ) : EReal :=
  Ideal.div (mass c σ v n) (max (mass c σ (fun _ => 1) n) ε)

/-- A maximum that is not finite is replaced by zero. -/
def guarded (m : EReal) : EReal := if m = ⊥ ∨ m = ⊤ then 0 else m

/-- The softmax taken at once, of scores already scaled: exponentials against the largest, over their sum. -/
def plain (ε : EReal) (τ v : ℕ → EReal) (n : ℕ) : EReal :=
  ∑ j ∈ range n, Ideal.div (Ideal.exp (τ j - guarded (peak τ n)))
    (max (∑ i ∈ range n, Ideal.exp (τ i - guarded (peak τ n))) ε) * v j

theorem exp_nonneg (x : EReal) : 0 ≤ Ideal.exp x := by
  induction x with
  | bot => exact le_rfl
  | top => exact le_top
  | coe r => exact EReal.coe_nonneg.mpr (Real.exp_pos r).le

theorem div_pos_coe (x : EReal) {d : ℝ} (hd : 0 < d) : Ideal.div x (d : EReal) = x * ((d⁻¹ : ℝ) : EReal) := by
  rw [Ideal.div, if_neg (by exact_mod_cast hd.ne'), EReal.coe_inv]

theorem div_top (x : EReal) : Ideal.div x ⊤ = 0 := by
  rw [Ideal.div, if_neg (by simp), EReal.inv_top, mul_zero]

theorem zero_div {y : EReal} (hy : y ≠ 0) : Ideal.div 0 y = 0 := by rw [Ideal.div, if_neg hy, zero_mul]

theorem mul_pos_le_iff {a : ℝ} (ha : 0 < a) {x y : EReal} : x ≤ y → x * (a : EReal) ≤ y * (a : EReal) :=
  fun h => mul_le_mul_of_nonneg_right h (EReal.coe_nonneg.mpr ha.le)

theorem peak_scaled {a : ℝ} (ha : 0 < a) (σ : ℕ → EReal) (n : ℕ) :
    peak (fun j => σ j * (a : EReal)) n = peak σ n * (a : EReal) := by
  induction n with
  | zero => rw [peak_zero, peak_zero, EReal.bot_mul_coe_of_pos ha]
  | succ n ih =>
    have e : ∀ τ : ℕ → EReal, peak τ (n + 1) = max (peak τ n) (τ n) := fun τ => by
      rw [peak_add]; simp [range_one]
    rw [e, e, ih]
    exact (Monotone.map_max (f := fun x : EReal => x * (a : EReal)) (fun _ _ => mul_pos_le_iff ha)).symm

/-- Both forms agree, whatever the scores and values. -/
theorem online_eq_plain {a : ℝ} (ha : 0 < a) {e : ℝ} (he : 0 < e) (σ v : ℕ → EReal) (n : ℕ) :
    online (a * (Real.log 2)⁻¹) (e : EReal) σ v n = plain (e : EReal) (fun j => σ j * (a : EReal)) v n := by
  have hl : 0 < Real.log 2 := Real.log_pos (by norm_num)
  have hc : 0 < a * (Real.log 2)⁻¹ := mul_pos ha (inv_pos.mpr hl)
  have hε : ∀ x : EReal, max x (e : EReal) ≠ 0 := fun x h => by
    have := le_max_right x (e : EReal); rw [h] at this
    exact absurd (EReal.coe_nonpos.mp this) (not_le.mpr he)
  rw [online, plain, peak_scaled ha]
  rcases eq_or_ne (peak σ n) ⊥ with hb | hb
  · have hσ : ∀ j ∈ range n, σ j = ⊥ := fun j hj => le_bot_iff.mp (hb ▸ le_peak σ (mem_range.mp hj))
    rw [show mass (a * (Real.log 2)⁻¹) σ v n = 0 from sum_eq_zero fun j hj => by rw [hσ j hj, weight_bot hc, zero_mul],
      zero_div (hε _)]
    refine (sum_eq_zero fun j hj => ?_).symm
    rw [hσ j hj, EReal.bot_mul_coe_of_pos ha, EReal.bot_sub, show Ideal.exp ⊥ = 0 from rfl, zero_div (hε _), zero_mul]
  rcases eq_or_ne (peak σ n) ⊤ with ht | ht
  · rw [show mass (a * (Real.log 2)⁻¹) σ v n = 0 from sum_eq_zero fun j hj => by rw [ht, weight_top hc, zero_mul],
      zero_div (hε _)]
    have hg : guarded (peak σ n * (a : EReal)) = 0 := by
      rw [ht, EReal.top_mul_coe_of_pos ha, guarded, if_pos (Or.inr rfl)]
    have hn : n ≠ 0 := fun h => by rw [h, peak_zero] at ht; exact absurd ht (by simp)
    obtain ⟨i, hi, hs⟩ := exists_mem_eq_sup (range n) (nonempty_range_iff.mpr hn) σ
    have hi' : σ i = ⊤ := hs.symm.trans ht
    have hD : (∑ i ∈ range n, Ideal.exp (σ i * (a : EReal) - guarded (peak σ n * (a : EReal)))) = ⊤ := by
      refine top_le_iff.mp ((le_of_eq ?_).trans (single_le_sum (f := fun i => Ideal.exp (σ i * (a : EReal) - guarded (peak σ n * (a : EReal)))) (fun j _ => exp_nonneg _) hi))
      show ⊤ = Ideal.exp _
      rw [hg, hi', EReal.top_mul_coe_of_pos ha, sub_zero]; rfl
    refine (sum_eq_zero fun j hj => ?_).symm
    rw [hD, max_eq_left le_top, div_top, zero_mul]
  · obtain ⟨M, hM⟩ : ∃ M : ℝ, peak σ n = (M : EReal) := ⟨_, (EReal.coe_toReal ht hb).symm⟩
    have hg : guarded (peak σ n * (a : EReal)) = ((M * a : ℝ) : EReal) := by
      rw [hM, ← EReal.coe_mul, guarded, if_neg (not_or.mpr ⟨EReal.coe_ne_bot _, EReal.coe_ne_top _⟩)]
    have hw : ∀ j ∈ range n, Ideal.exp (σ j * (a : EReal) - guarded (peak σ n * (a : EReal)))
        = weight (a * (Real.log 2)⁻¹) (σ j) (peak σ n) := fun j hj => by
      have hj' := le_peak σ (mem_range.mp hj)
      rw [hg]
      rw [hM] at hj' ⊢
      generalize σ j = s at hj' ⊢
      induction s with
      | bot => rw [weight_bot hc, EReal.bot_mul_coe_of_pos ha, EReal.bot_sub]; rfl
      | top => exact absurd (top_le_iff.mp hj') (EReal.coe_ne_top M)
      | coe s =>
        rw [weight_coe, ← EReal.coe_mul, ← EReal.coe_sub]
        show ((Real.exp _ : ℝ) : EReal) = _
        congr 1
        rw [Real.rpow_def_of_pos (by norm_num)]
        congr 1
        field_simp
    have hL : ∃ L : ℝ, mass (a * (Real.log 2)⁻¹) σ (fun _ => 1) n = (L : EReal) :=
      sum_real _ _ fun j hj => by
        obtain ⟨r, -, hr⟩ := weight_real hc (le_peak σ (mem_range.mp hj))
        exact ⟨r, by rw [mul_one, hr]⟩
    obtain ⟨L, hL⟩ := hL
    have hD : max (mass (a * (Real.log 2)⁻¹) σ (fun _ => 1) n) (e : EReal) = ((max L e : ℝ) : EReal) := by
      rw [hL]; exact (Monotone.map_max EReal.coe_strictMono.monotone).symm
    have hD' : max (∑ i ∈ range n, Ideal.exp (σ i * (a : EReal) - guarded (peak σ n * (a : EReal)))) (e : EReal)
        = ((max L e : ℝ) : EReal) := by
      rw [← hD, mass, sum_congr rfl hw]
      simp only [mul_one]
    have hpos : 0 < max L e := lt_max_of_lt_right he
    rw [hD, div_pos_coe _ hpos, mul_comm, mass,
      mul_sum_of_nonneg _ (EReal.coe_nonneg.mpr (inv_pos.mpr hpos).le) (EReal.coe_ne_top _)]
    refine sum_congr rfl fun j hj => ?_
    rw [hD', hw j hj, div_pos_coe _ hpos, ← mul_assoc, mul_comm (((max L e)⁻¹ : ℝ) : EReal)]

end Cert.Softmax

end
-- ==== Proof.Spec.lean ====
/- The attention both programs compute, over the extended reals, as one function of the queries and the latent rows. -/
module

public import proofs.«01_k».proof.Proof.Softmax
public import Idealize.ShloMosaic.Lib.Pointwise

@[expose] public section

noncomputable section

namespace Cert.Attention

open Idealize.ShloMosaic Cert.Softmax Finset

/-- Queries: head, row of the batch, feature. -/
abbrev Queries := (⟨3, ![8, 16384, 512]⟩ : Shape).Idx → EReal
/-- Latent rows: row of the batch, feature. -/
abbrev Rows := (⟨2, ![16384, 512]⟩ : Shape).Idx → EReal

/-- The row of position `j` in the sequence that row `n` belongs to. -/
def row (n : Fin 16384) (j : ℕ) : Fin 16384 := ⟨(n.val / 8192 * 8192 + j) % 16384, Nat.mod_lt _ (by norm_num)⟩

theorem row_eq (n : Fin 16384) (j : ℕ) (h : n.val / 8192 * 8192 + j < 16384) : row n j = ⟨n.val / 8192 * 8192 + j, h⟩ :=
  Fin.ext (Nat.mod_eq_of_lt h)

/-- A query against the row of position `j`. -/
def dot (q : Queries) (k : Rows) (h : Fin 8) (n : Fin 16384) (j : ℕ) : EReal :=
  ∑ x : Fin 512, q (ix3 h n x) * k (ix2 (row n j) x)

/-- The same with the positions after the query's own masked. -/
def score (q : Queries) (k : Rows) (h : Fin 8) (n : Fin 16384) (j : ℕ) : EReal :=
  if j ≤ n.val % 8192 then dot q k h n j else ⊥

/-- The value column `e` of position `j`. -/
def val (k : Rows) (n : Fin 16384) (e : Fin 256) (j : ℕ) : EReal := k (ix2 (row n j) ⟨e.val, by omega⟩)

/-- The scale of the scores. -/
abbrev scale : ℝ := 3424635 / 33554432

theorem scale_pos : 0 < scale := by norm_num

/-- The scale taken to base two. -/
abbrev scale2 : ℝ := scale * (Real.log 2)⁻¹

theorem scale2_pos : 0 < scale2 := mul_pos scale_pos (inv_pos.mpr (Real.log_pos (by norm_num)))

theorem neg_inf : Ideal.ofBits .f32 0xFF800000#32 = ⊥ := by simp [Ideal.ofBits, Ideal.ieee]

theorem pos_inf : Ideal.ofBits .f32 0x7F800000#32 = ⊤ := by simp [Ideal.ofBits, Ideal.ieee]

theorem scale_bits : Ideal.ofBits .f32 0x3DD105EC#32 = ((scale : ℝ) : EReal) := by
  simp [Ideal.ofBits, Ideal.ieee, -EReal.coe_mul]; norm_num

/-- The smallest sum divided by. -/
abbrev least : EReal := Ideal.ofBits .f32 0x0DA24260#32

theorem least_real : ∃ e : ℝ, 0 < e ∧ least = (e : EReal) :=
  ⟨10633824 * (2 : ℝ) ^ (-123 : ℤ), by positivity, by simp [least, Ideal.ofBits, Ideal.ieee, -EReal.coe_mul]⟩

/-- The attention, softmax at once. -/
def attention (q : Queries) (k : Rows) (h : Fin 8) (n : Fin 16384) (e : Fin 256) : EReal :=
  plain least (fun j => score q k h n j * ((scale : ℝ) : EReal)) (val k n e) 8192

/-- The attention, from the first `N` positions by blocks, where the positions from `N` on are masked. -/
theorem attention_eq (q : Queries) (k : Rows) (h : Fin 8) (n : Fin 16384) (e : Fin 256) {N : ℕ} (hN : N ≤ 8192)
    (hn : n.val % 8192 < N) :
    attention q k h n e = online scale2 least (score q k h n) (val k n e) N := by
  obtain ⟨ε, hε, he⟩ := least_real
  have hσ : ∀ j, N ≤ j → j < 8192 → score q k h n j = ⊥ := fun j hj _ => if_neg (by omega)
  rw [attention, he, ← online_eq_plain scale_pos hε, online, online,
    (mass_extend scale2_pos (score q k h n) (val k n e) hN hσ).2,
    (mass_extend scale2_pos (score q k h n) (fun _ => 1) hN hσ).2]

/-- The fold of the maximum is the largest. -/
theorem fold_max {n : ℕ} (f : ℕ → EReal) :
    (Finset.univ : Finset (Fin n)).fold max ⊥ (fun x => f x.val) = peak f n :=
  (le_antisymm (Finset.sup_le fun x _ => le_peak f x.isLt)
    (Finset.sup_le fun j hj => Finset.le_sup (f := fun x : Fin n => f x.val) (mem_univ ⟨j, mem_range.mp hj⟩)) :
    (Finset.univ : Finset (Fin n)).sup (fun x => f x.val) = peak f n)

/-- Four lanes' terms summed lane by lane. -/
theorem sum_lanes (f : ℕ → EReal) :
    ∑ x ∈ range 128, ((f x + f (128 + x)) + (f (256 + x) + f (384 + x))) = ∑ j ∈ range 512, f j := by
  rw [sum_add_distrib, sum_add_distrib, sum_add_distrib, show (512 : ℕ) = 128 + 128 + 128 + 128 from rfl,
    sum_range_add, sum_range_add, sum_range_add]
  simp only [Nat.reduceAdd]
  rw [← add_assoc]

/-- Four lanes' largest taken lane by lane. -/
theorem peak_lanes (f : ℕ → EReal) :
    peak (fun x => max (max (f x) (f (128 + x))) (max (f (256 + x)) (f (384 + x)))) 128 = peak f 512 := by
  refine le_antisymm (Finset.sup_le fun j hj => ?_) (Finset.sup_le fun j hj => ?_)
  · rw [mem_range] at hj
    exact max_le (max_le (le_peak f (by omega)) (le_peak f (by omega))) (max_le (le_peak f (by omega)) (le_peak f (by omega)))
  · rw [mem_range] at hj
    have hl := le_peak (fun x => max (max (f x) (f (128 + x))) (max (f (256 + x)) (f (384 + x)))) (Nat.mod_lt j (by norm_num : 128 > 0))
    refine le_trans ?_ hl
    have h4 : j / 128 = 0 ∨ j / 128 = 1 ∨ j / 128 = 2 ∨ j / 128 = 3 := by omega
    rcases h4 with h | h | h | h
    · exact (le_of_eq (congrArg f (by omega))).trans ((le_max_left _ _).trans (le_max_left _ _))
    · exact (le_of_eq (congrArg f (by omega))).trans ((le_max_right _ _).trans (le_max_left _ _))
    · exact (le_of_eq (congrArg f (by omega))).trans ((le_max_left _ _).trans (le_max_right _ _))
    · exact (le_of_eq (congrArg f (by omega))).trans ((le_max_right _ _).trans (le_max_right _ _))

end Cert.Attention

end
-- ==== Proof.KernelIdeal.Reads.lean ====
/- The attention body's values, read at one element, over the extended reals, and one block's step on a row. -/
module

public import proofs.«01_k».proof.Proof.KernelIdeal.Cases
public import proofs.«01_k».proof.Proof.Spec

@[expose] public section

set_option maxRecDepth 16384

noncomputable section

namespace Cert.KernelIdeal.Attn

open Cert.KernelIdeal.Gen Cert.Softmax Cert.Attention
open Idealize.ShloMosaic Idealize.ShloMosaic.TcCoe Idealize.ShloMosaic.Tactic

theorem named_mask : Named.named (F := Ideal) (φ := .f32) κ "mask" 0xF149F2CA#32 = (⊥ : EReal) :=
  IdealRules.named_const.ideal_named_scalar _ _ _ _ rfl

theorem named_scale : Named.named (F := Ideal) (φ := .f32) κ "scale_log2e" 0x3E16C740#32 = ((scale2 : ℝ) : EReal) :=
  IdealRules.named_const.ideal_named_scalar _ _ _ _ rfl

/-- The new maximum of a row. -/
theorem max_at (s : Vec Ideal S4096x512 .f32) (m : Vec Ideal S4096x128 .f32) (r : Fin 4096) (x : Fin 128)
    (f : ℕ → EReal) (hs : ∀ j : Fin 512, s (ix2 r j) = f j.val) :
    k0_pay8 s m (ix2 r x) = max (m (ix2 r x)) (peak f 512) := by
  pointwise [k0_pay8]
  simp only [hs]
  rw [neg_inf, ← peak_lanes, ← fold_max]

/-- A block's score, a query against a row. -/
theorem scores_at (q : Vec Ideal S8x512x512 .bf16) (k : Vec Ideal S512x512 .bf16) (r : Fin 4096) (j : Fin 512) :
    k0_pay2 (F := Ideal) q k (ix2 r j) = ∑ x : Fin 512, q (ix3 ⟨r.val / 512, by omega⟩ ⟨r.val % 512, by omega⟩ x) * k (ix2 j x) := by
  pointwise [k0_pay2]

theorem scores_eq : (k0_pay25 (F := Ideal)) = k0_pay2 := rfl

theorem and_511 (r : Fin 4096) : (BitVec.ofNat 32 r.val) &&& 511#32 = BitVec.ofNat 32 (r.val % 512) := by
  apply BitVec.eq_of_toNat_eq
  have h : r.val &&& 511 = r.val % 512 := Nat.and_two_pow_sub_one_eq_mod r.val 9
  rw [BitVec.toNat_and, BitVec.toNat_ofNat, BitVec.toNat_ofNat, BitVec.toNat_ofNat,
    Nat.mod_eq_of_lt (by omega : r.val < 2 ^ 32), Nat.mod_eq_of_lt (by omega : 511 < 2 ^ 32),
    Nat.mod_eq_of_lt (by omega : r.val % 512 < 2 ^ 32), h]

/-- The comparison of two positions. -/
theorem sle_iff (a b : Fin 16) (j r : ℕ) (hj : j < 512) (hr : r < 512) :
    BitVec.sle (BitVec.ofNat 32 b.val * 512#32 + BitVec.ofNat 32 j) (BitVec.ofNat 32 a.val * 512#32 + BitVec.ofNat 32 r) = true
      ↔ b.val * 512 + j ≤ a.val * 512 + r := by
  have e : ∀ (u : Fin 16) (y : ℕ), BitVec.ofNat 32 u.val * 512#32 + BitVec.ofNat 32 y = BitVec.ofNat 32 (u.val * 512 + y) := fun u y => by
    rw [BitVec.ofNat_add, BitVec.ofNat_mul]
  have i : ∀ (u : Fin 16) (y : ℕ), y < 512 → (BitVec.ofNat 32 (u.val * 512 + y)).toInt = ((u.val * 512 + y : ℕ) : ℤ) := fun u y hy => by
    rw [BitVec.toInt_eq_toNat_of_lt (by rw [BitVec.toNat_ofNat, Nat.mod_eq_of_lt (by omega)]; omega), BitVec.toNat_ofNat,
      Nat.mod_eq_of_lt (by omega)]
  rw [e, e, BitVec.sle_iff_toInt_le, i b j hj, i a r hr, Int.ofNat_le]

/-- A masked score. -/
theorem mask_at (a b : Fin 16) (s : Vec Ideal S4096x512 .f32) (r : Fin 4096) (j : Fin 512) :
    k0_pay3 (F := Ideal) (BitVec.ofNat 32 a.val) (BitVec.ofNat 32 b.val) s (ix2 r j)
      = if b.val * 512 + j.val ≤ a.val * 512 + r.val % 512 then s (ix2 r j) else ⊥ := by
  pointwise [k0_pay3]
  rw [named_mask]
  show (if BitVec.ofBool (BitVec.sle (BitVec.ofNat 32 b.val * 512#32 + BitVec.ofNat 32 j.val)
    (BitVec.ofNat 32 a.val * 512#32 + ((BitVec.ofNat 32 r.val) &&& 511#32))) = 1#1 then s (ix2 r j) else ⊥) = _
  rw [and_511]
  have := sle_iff a b j.val (r.val % 512) j.isLt (Nat.mod_lt _ (by norm_num))
  by_cases h : b.val * 512 + j.val ≤ a.val * 512 + r.val % 512
  · rw [if_pos h, this.mpr h]; exact if_pos rfl
  · rw [if_neg h, Bool.eq_false_iff.mpr fun h' => h (this.mp h')]; exact if_neg (by decide)

/-- The factor of what was summed before. -/
theorem alpha_at (s : Vec Ideal S4096x512 .f32) (m : Vec Ideal S4096x128 .f32) (r : Fin 4096) (x : Fin 128) :
    k0_pay9 (F := Ideal) s m (ix2 r x) = weight scale2 (m (ix2 r x)) (k0_pay8 s m (ix2 r x)) := by
  pointwise [k0_pay9]
  rw [named_scale]; rfl

/-- A block's weights, where the new maximum is the same in every lane. -/
theorem weight_at (s : Vec Ideal S4096x512 .f32) (m : Vec Ideal S4096x128 .f32) (r : Fin 4096) (j : Fin 512) (M : EReal)
    (hM : ∀ x, k0_pay8 s m (ix2 r x) = M) :
    k0_pay10 (F := Ideal) s m (ix2 r j) = weight scale2 (s (ix2 r j)) M := by
  pointwise [k0_pay10]
  simp only [hM, dite_eq_ite, ite_self]
  rw [named_scale]; rfl

/-- The running sum, lane by lane. -/
theorem sum_at (s : Vec Ideal S4096x512 .f32) (m l : Vec Ideal S4096x128 .f32) (r : Fin 4096) (x : Fin 128) :
    k0_pay11 (F := Ideal) s m l (ix2 r x) = k0_pay9 s m (ix2 r x) * l (ix2 r x)
      + ((k0_pay10 s m (ix2 r ⟨x.val, by omega⟩) + k0_pay10 s m (ix2 r ⟨128 + x.val, by omega⟩))
        + (k0_pay10 s m (ix2 r ⟨256 + x.val, by omega⟩) + k0_pay10 s m (ix2 r ⟨384 + x.val, by omega⟩))) := by
  pointwise [k0_pay11]

theorem cols_at (k : Vec Ideal S512x512 .bf16) (j : Fin 512) (e : Fin 256) :
    valueCols (F := Ideal) k (ix2 j e) = k (ix2 j ⟨e.val, by omega⟩) := by
  pointwise [valueCols]

/-- The running product. -/
theorem product_at (s : Vec Ideal S4096x512 .f32) (m : Vec Ideal S4096x128 .f32) (acc : Vec Ideal S4096x256 .f32)
    (k : Vec Ideal S512x512 .bf16) (r : Fin 4096) (e : Fin 256) (w : EReal) (hw : ∀ x, k0_pay9 s m (ix2 r x) = w) :
    k0_pay31 (F := Ideal) (k0_pay9 s m) (k0_pay10 s m) acc (valueCols k) (ix2 r e)
      = w * acc (ix2 r e) + ∑ j : Fin 512, k0_pay10 s m (ix2 r j) * k (ix2 j ⟨e.val, by omega⟩) := by
  pointwise [k0_pay31]
  simp only [hw, dite_eq_ite, ite_self]
  exact congrArg _ (Finset.sum_congr rfl fun j _ => congrArg _ (cols_at k j e))

/-- The block of results. -/
theorem result_at (st : St Ideal) (h : Fin 8) (r : Fin 512) (e : Fin 256) :
    result st (ix3 h r e) = Ideal.div (st.acc (ix2 ⟨h.val * 512 + r.val, by omega⟩ e))
      (max (∑ x : Fin 128, st.l (ix2 ⟨h.val * 512 + r.val, by omega⟩ x)) least) := by
  unfold result
  pointwise [k0_pay1]

theorem start_max (r : Fin 4096) (x : Fin 128) : k0_pay22 (F := Ideal) (ix2 r x) = (⊥ : EReal) := by
  pointwise [k0_pay22]; exact named_mask

theorem start_sum (r : Fin 4096) (x : Fin 128) : k0_pay23 (F := Ideal) (ix2 r x) = (0 : EReal) := by
  pointwise [k0_pay23]

theorem start_product (r : Fin 4096) (e : Fin 256) : k0_pay24 (F := Ideal) (ix2 r e) = (0 : EReal) := by
  pointwise [k0_pay24]

theorem keep_max (v : FVec Ideal S4096x128 .f32) : k0_pay32 v = v := by
  funext i; idx_vars i; pointwise [k0_pay32]

theorem keep_sum (v : FVec Ideal S4096x128 .f32) : k0_pay30 v = v := by
  funext i; idx_vars i; pointwise [k0_pay30]

/-- What the running maximum, sum and product of a row hold, once the first `n` positions are taken. -/
structure RowAt (st : St Ideal) (r : Fin 4096) (σ : ℕ → EReal) (v : Fin 256 → ℕ → EReal) (n : ℕ) : Prop where
  m : ∀ x, st.m (ix2 r x) = peak σ n
  l : ∑ x : Fin 128, st.l (ix2 r x) = mass scale2 σ (fun _ => 1) n
  acc : ∀ e, st.acc (ix2 r e) = mass scale2 σ (v e) n

theorem start_row (q : Vec Ideal S8x512x512 .bf16) (k : Vec Ideal S512x512 .bf16) (st : St Ideal) (r : Fin 4096)
    (σ : ℕ → EReal) (v : Fin 256 → ℕ → EReal) : RowAt (start q k st) r σ v 0 where
  m x := start_max r x
  l := Finset.sum_eq_zero fun x _ => start_sum r x
  acc e := start_product r e

/-- One block more. -/
theorem below_row (k : Vec Ideal S512x512 .bf16) (s : Vec Ideal S4096x512 .f32) (st : St Ideal) (r : Fin 4096)
    (σ : ℕ → EReal) (v : Fin 256 → ℕ → EReal) (n : ℕ) (h : RowAt st r σ v n)
    (hs : ∀ j : Fin 512, s (ix2 r j) = σ (n + j.val))
    (hk : ∀ (j : Fin 512) (e : Fin 256), k (ix2 j ⟨e.val, by omega⟩) = v e (n + j.val)) :
    RowAt (below k s st) r σ v (n + 512) := by
  have hm : ∀ x, k0_pay8 s st.m (ix2 r x) = peak σ (n + 512) := fun x => by
    rw [max_at s st.m r x (fun j => σ (n + j)) hs, h.m, peak_add]; rfl
  have ha : ∀ x, k0_pay9 s st.m (ix2 r x) = weight scale2 (peak σ n) (peak σ (n + 512)) := fun x => by
    rw [alpha_at, hm, h.m]
  have hp : ∀ j : Fin 512, k0_pay10 s st.m (ix2 r j) = weight scale2 (σ (n + j.val)) (peak σ (n + 512)) := fun j => by
    rw [weight_at s st.m r j _ hm, hs]
  have hle : peak σ n ≤ peak σ (n + 512) := by rw [peak_add]; exact le_max_left _ _
  refine ⟨fun x => ?_, ?_, fun e => ?_⟩
  · show k0_pay32 (k0_pay8 s st.m) (ix2 r x) = _
    rw [keep_max, hm]
  · show ∑ x : Fin 128, k0_pay30 (k0_pay11 s st.m st.l) (ix2 r x) = _
    rw [keep_sum, mass_add scale2_pos, ← h.l, mul_sum_of_nonneg _ (weight_nonneg scale2_pos hle) (weight_ne_top scale2_pos hle)]
    simp only [sum_at, ha, hp, mul_one]
    rw [Finset.sum_add_distrib]
    congr 1
    rw [← sum_lanes, Finset.sum_range]
  · show k0_pay31 (k0_pay9 s st.m) (k0_pay10 s st.m) st.acc (valueCols k) (ix2 r e) = _
    rw [product_at s st.m st.acc k r e _ ha, mass_add scale2_pos, h.acc, Finset.sum_range]
    simp only [hp, hk]

theorem cross_eq (i : grid0.Coords) (k : Vec Ideal S512x512 .bf16) (s : Vec Ideal S4096x512 .f32) (st : St Ideal) :
    cross i k s st = below k (masked i s) st := rfl

end Cert.KernelIdeal.Attn

end
-- ==== Proof.KernelIdeal.Value.lean ====
/- The attention call's result over the extended reals: what each grid point leaves in the scratch, and the array written back. -/
module

public import proofs.«01_k».proof.Proof.KernelIdeal.Run
public import proofs.«01_k».proof.Proof.KernelIdeal.Reads
public import Idealize.ShloMosaic.Lib.Pipeline.ValueKit

@[expose] public section

set_option maxRecDepth 16384

noncomputable section

namespace Cert.KernelIdeal.Attn

open Cert.KernelIdeal.Gen Cert.Softmax Cert.Attention
open Idealize.ShloMosaic Idealize.ShloMosaic.TcCoe Idealize.ShloMosaic.Tactic Idealize.SL.Sem

variable (m : (ℓ : Loc nD τ sig) → Buf (Elt Ideal) ℓ) (c : Dev nD)

/-- The queries. -/
abbrev qs : Queries := m ((c.tc : Thread nD τ).loc main_arg0)
/-- The latent rows. -/
abbrev ks : Rows := m ((c.tc : Thread nD τ).loc main_arg1)

/-! ## The blocks -/

theorem index_0 : ∀ t : Fin cfg0.N, win0_0.index t = ![0, t.val / 16, 0] :=
  (by decide +kernel : ∀ t : Fin grid0.N, win0_0.index t = ![0, t.val / 16, 0])
theorem index_1 : ∀ t : Fin cfg0.N, win0_1.index t = ![t.val / 256 * 16 + min (t.val % 16) (t.val / 16 % 16), 0] :=
  (by decide +kernel : ∀ t : Fin grid0.N, win0_1.index t = ![t.val / 256 * 16 + min (t.val % 16) (t.val / 16 % 16), 0])
theorem index_2 : ∀ t : Fin cfg0.N, win0_2.index t = ![t.val / 256 * 16 + min (t.val % 16 + 1) (t.val / 16 % 16), 0] :=
  (by decide +kernel : ∀ t : Fin grid0.N, win0_2.index t = ![t.val / 256 * 16 + min (t.val % 16 + 1) (t.val / 16 % 16), 0])
theorem index_3 : ∀ t : Fin cfg0.N, win0_3.index t = ![0, t.val / 16, 0] :=
  (by decide +kernel : ∀ t : Fin grid0.N, win0_3.index t = ![0, t.val / 16, 0])

theorem lt_points (t : Fin cfg0.N) : t.val < 512 := t.isLt

theorem block_0 (t : Fin cfg0.N) (h : Fin 8) (r x : Fin 512) :
    (iblk m c 0 t : Vec Ideal S8x512x512 .bf16) (ix3 h r x) = qs m c (ix3 h ⟨t.val / 16 * 512 + r.val, by have := lt_points t; omega⟩ x) := by
  have := lt_points t
  blk_ext [iblk, V, index_0 t]

theorem block_1 (t : Fin cfg0.N) (j x : Fin 512) :
    (iblk m c 1 t : Vec Ideal S512x512 .bf16) (ix2 j x)
      = ks m c (ix2 ⟨(t.val / 256 * 16 + min (t.val % 16) (t.val / 16 % 16)) * 512 + j.val, by have := lt_points t; omega⟩ x) := by
  have := lt_points t
  blk_ext [iblk, V, index_1 t]

theorem block_2 (t : Fin cfg0.N) (j x : Fin 512) :
    (iblk m c 2 t : Vec Ideal S512x512 .bf16) (ix2 j x)
      = ks m c (ix2 ⟨(t.val / 256 * 16 + min (t.val % 16 + 1) (t.val / 16 % 16)) * 512 + j.val, by have := lt_points t; omega⟩ x) := by
  have := lt_points t
  blk_ext [iblk, V, index_2 t]

/-! ## One row of a query block -/

/-- The head of a scratch row. -/
abbrev hd (r : Fin 4096) : Fin 8 := ⟨r.val / 512, by omega⟩
/-- The row of the batch a scratch row stands for, in query block `g`. -/
def nrow (g : ℕ) (r : Fin 4096) : Fin 16384 := ⟨g % 32 * 512 + r.val % 512, by omega⟩

theorem nrow_val (g : ℕ) (hg : g < 32) (r : Fin 4096) : (nrow g r).val = g * 512 + r.val % 512 := by
  show g % 32 * 512 + r.val % 512 = _
  rw [Nat.mod_eq_of_lt hg]

/-- The block's scores against a block of keys. -/
theorem block_scores (t : Fin cfg0.N) (k : Vec Ideal S512x512 .bf16) (p : ℕ) (hp : p < 16)
    (hk : ∀ j x : Fin 512, k (ix2 j x) = ks m c (ix2 ⟨(t.val / 256 * 16 + p) * 512 + j.val, by have := lt_points t; omega⟩ x))
    (r : Fin 4096) (j : Fin 512) :
    k0_pay2 (F := Ideal) (iblk m c 0 t) k (ix2 r j) = dot (qs m c) (ks m c) (hd r) (nrow (t.val / 16) r) (p * 512 + j.val) := by
  have ht := lt_points t
  have hn := nrow_val (t.val / 16) (by omega) r
  rw [scores_at, dot]
  refine Finset.sum_congr rfl fun x _ => ?_
  rw [row_eq _ _ (by omega), block_0, hk]
  have e1 : (⟨t.val / 16 * 512 + r.val % 512, by omega⟩ : Fin 16384) = nrow (t.val / 16) r := Fin.ext hn.symm
  have e2 : (⟨(t.val / 256 * 16 + p) * 512 + j.val, by omega⟩ : Fin 16384)
      = ⟨(nrow (t.val / 16) r).val / 8192 * 8192 + (p * 512 + j.val), by omega⟩ := Fin.ext (by
        show (t.val / 256 * 16 + p) * 512 + j.val = (nrow (t.val / 16) r).val / 8192 * 8192 + (p * 512 + j.val); omega)
  rw [← e2]
  exact congrArg (fun n => qs m c (ix3 (hd r) n x) * _) e1

/-- The block's values. -/
theorem block_values (t : Fin cfg0.N) (r : Fin 4096) (j : Fin 512) (e : Fin 256) :
    (iblk m c 1 t : Vec Ideal S512x512 .bf16) (ix2 j ⟨e.val, by omega⟩)
      = val (ks m c) (nrow (t.val / 16) r) e (min (t.val % 16) (t.val / 16 % 16) * 512 + j.val) := by
  have ht := lt_points t
  have hn := nrow_val (t.val / 16) (by omega) r
  rw [val, row_eq _ _ (by omega), block_1]
  congr 2
  exact Fin.ext (by
    show (t.val / 256 * 16 + min (t.val % 16) (t.val / 16 % 16)) * 512 + j.val
      = (nrow (t.val / 16) r).val / 8192 * 8192 + (min (t.val % 16) (t.val / 16 % 16) * 512 + j.val)
    omega)

/-- What a query block's scratch holds after its key block `p`. -/
structure Good (st : St Ideal) (g p : ℕ) : Prop where
  row : ∀ r, RowAt st r (score (qs m c) (ks m c) (hd r) (nrow g r)) (val (ks m c) (nrow g r)) ((min p (g % 16) + 1) * 512)
  next : p < g % 16 → ∀ (r : Fin 4096) (j : Fin 512),
    (if p % 2 = 0 then st.sb else st.sa) (ix2 r j) = dot (qs m c) (ks m c) (hd r) (nrow g r) ((p + 1) * 512 + j.val)

/-- One key block taken, off scores at hand. -/
theorem taken (t : Fin cfg0.N) (hp : t.val % 16 ≤ t.val / 16 % 16) (st : St Ideal) (s : Vec Ideal S4096x512 .f32) (r : Fin 4096)
    (hr : RowAt st r (score (qs m c) (ks m c) (hd r) (nrow (t.val / 16) r)) (val (ks m c) (nrow (t.val / 16) r)) (t.val % 16 * 512))
    (hs : ∀ j : Fin 512, s (ix2 r j) = dot (qs m c) (ks m c) (hd r) (nrow (t.val / 16) r) (t.val % 16 * 512 + j.val)) :
    RowAt (if (grid0.coords t 2).val = (grid0.coords t 1).val then cross (grid0.coords t) (iblk m c 1 t) s st else below (iblk m c 1 t) s st)
      r (score (qs m c) (ks m c) (hd r) (nrow (t.val / 16) r)) (val (ks m c) (nrow (t.val / 16) r)) ((t.val % 16 + 1) * 512) := by
  have ht := lt_points t
  have hn := nrow_val (t.val / 16) (by omega) r
  have hv : ∀ (j : Fin 512) (e : Fin 256), (iblk m c 1 t : Vec Ideal S512x512 .bf16) (ix2 j ⟨e.val, by omega⟩)
      = val (ks m c) (nrow (t.val / 16) r) e (t.val % 16 * 512 + j.val) := fun j e => by
    rw [block_values m c t r j e, Nat.min_eq_left hp]
  rw [coords_key, coords_query, Nat.add_mul, Nat.one_mul]
  split
  · rename_i h
    rw [cross_eq]
    refine below_row _ _ _ _ _ _ _ hr (fun j => ?_) hv
    refine (mask_at (grid0.coords t 1) (grid0.coords t 2) s r j).trans ?_
    rw [coords_key, coords_query, hs j, score]
    exact if_congr (by omega) rfl rfl
  · refine below_row _ _ _ _ _ _ _ hr (fun j => ?_) hv
    rw [hs j, score, if_pos (by omega)]

/-- A point that takes its key block. -/
theorem good_take (t : Fin cfg0.N) (hp : t.val % 16 ≤ t.val / 16 % 16) (st : St Ideal)
    (hr : ∀ r, RowAt st r (score (qs m c) (ks m c) (hd r) (nrow (t.val / 16) r)) (val (ks m c) (nrow (t.val / 16) r)) (t.val % 16 * 512))
    (hs : ∀ (r : Fin 4096) (j : Fin 512), (if t.val % 16 % 2 = 0 then st.sa else st.sb) (ix2 r j)
      = dot (qs m c) (ks m c) (hd r) (nrow (t.val / 16) r) (t.val % 16 * 512 + j.val)) :
    Good m c (fold (grid0.coords t) (iblk m c 0 t) (iblk m c 1 t) (iblk m c 2 t) st) (t.val / 16) (t.val % 16) := by
  have ht := lt_points t
  have hnext : t.val % 16 < t.val / 16 % 16 → ∀ (r : Fin 4096) (j : Fin 512), k0_pay2 (F := Ideal) (iblk m c 0 t) (iblk m c 2 t) (ix2 r j)
      = dot (qs m c) (ks m c) (hd r) (nrow (t.val / 16) r) ((t.val % 16 + 1) * 512 + j.val) := fun h r j => by
    have e := block_scores m c t (iblk m c 2 t) (min (t.val % 16 + 1) (t.val / 16 % 16)) (by omega) (block_2 m c t) r j
    rwa [Nat.min_eq_left (by omega : t.val % 16 + 1 ≤ t.val / 16 % 16)] at e
  unfold fold
  by_cases h : t.val % 16 % 2 = 0
  · rw [if_pos (by rw [coords_key]; exact h)]
    refine ⟨fun r => ?_, fun hlt r j => ?_⟩
    · rw [Nat.min_eq_left hp]
      have hx := taken m c t hp st st.sa r (hr r) (fun j => by have := hs r j; rwa [if_pos h] at this)
      exact ⟨hx.m, hx.l, hx.acc⟩
    · rw [if_pos h]
      exact hnext hlt r j
  · rw [if_neg (by rw [coords_key]; exact h)]
    refine ⟨fun r => ?_, fun hlt r j => ?_⟩
    · rw [Nat.min_eq_left hp]
      have hx := taken m c t hp st st.sb r (hr r) (fun j => by have := hs r j; rwa [if_neg h] at this)
      exact ⟨hx.m, hx.l, hx.acc⟩
    · rw [if_neg h]
      exact hnext hlt r j

/-- A point that starts a query block. -/
theorem good_start (t : Fin cfg0.N) (h0 : t.val % 16 = 0) (st : St Ideal) :
    Good m c (step (grid0.coords t) (iblk m c 0 t) (iblk m c 1 t) (iblk m c 2 t) st) (t.val / 16) (t.val % 16) := by
  have ht := lt_points t
  unfold step
  rw [if_pos (by rw [coords_key, coords_query]; omega), if_pos (by rw [coords_key]; exact h0)]
  refine good_take m c t (by omega) _ (fun r => ?_) (fun r j => ?_)
  · rw [h0, Nat.zero_mul]
    exact start_row _ _ _ _ _ _
  · rw [if_pos (by omega)]
    have e := block_scores m c t (iblk m c 1 t) (min (t.val % 16) (t.val / 16 % 16)) (by omega) (block_1 m c t) r j
    rw [Nat.min_eq_left (by omega : t.val % 16 ≤ t.val / 16 % 16)] at e
    exact e

theorem good_all : ∀ (n : ℕ) (h : n < cfg0.N), Good m c (stAt m c n h) (n / 16) (n % 16) := by
  intro n
  induction n with
  | zero =>
    intro h
    rw [← stAt_first m c ⟨0, h⟩ rfl ⟨k0_pay22 (F := Ideal), k0_pay23 (F := Ideal), k0_pay24 (F := Ideal), fun _ => (0 : EReal), fun _ => (0 : EReal)⟩]
    exact good_start m c ⟨0, h⟩ rfl _
  | succ n ih =>
    intro h
    have hN := lt_points ⟨n + 1, h⟩
    have hprev := ih (Nat.lt_of_succ_lt h)
    by_cases h0 : (n + 1) % 16 = 0
    · rw [stAt_succ m c ⟨n + 1, h⟩ (Nat.succ_ne_zero n)]
      exact good_start m c ⟨n + 1, h⟩ h0 _
    · have e1 : n / 16 = (n + 1) / 16 := by omega
      have e2 : n % 16 = (n + 1) % 16 - 1 := by omega
      rw [e1, e2] at hprev
      by_cases hp : (n + 1) % 16 ≤ (n + 1) / 16 % 16
      · rw [stAt_succ m c ⟨n + 1, h⟩ (Nat.succ_ne_zero n)]
        unfold step
        rw [if_pos (by rw [coords_key, coords_query]; exact hp), if_neg (by rw [coords_key]; exact h0)]
        refine good_take m c ⟨n + 1, h⟩ hp _ (fun r => ?_) (fun r j => ?_)
        · have hx := hprev.row r
          rwa [show min ((n + 1) % 16 - 1) ((n + 1) / 16 % 16) + 1 = (n + 1) % 16 by omega] at hx
        · have hx := hprev.next (by omega) r j
          rw [show (n + 1) % 16 - 1 + 1 = (n + 1) % 16 by omega] at hx
          refine Eq.trans ?_ hx
          by_cases hpar : (n + 1) % 16 % 2 = 0
          · rw [if_pos hpar, if_neg (by omega)]; rfl
          · rw [if_neg hpar, if_pos (by omega)]; rfl
      · rw [stAt_past m c ⟨n + 1, h⟩ (by show (n + 1) / 16 % 16 < (n + 1) % 16; omega)]
        refine ⟨fun r => ?_, fun hlt => absurd hlt (by omega)⟩
        have hx := hprev.row r
        rwa [show min ((n + 1) % 16 - 1) ((n + 1) / 16 % 16) = min ((n + 1) % 16) ((n + 1) / 16 % 16) by omega] at hx

/-! ## The array written back -/

/-- What a query block's last point writes back. -/
theorem result_row (t : Fin cfg0.N) (hf : t.val % 16 = 15) (h : Fin 8) (r : Fin 512) (e : Fin 256) :
    result (stAt m c t.val t.isLt) (ix3 h r e)
      = attention (qs m c) (ks m c) h ⟨t.val / 16 * 512 + r.val, by have := lt_points t; omega⟩ e := by
  have ht := lt_points t
  have hg := (good_all m c t.val t.isLt).row ⟨h.val * 512 + r.val, by omega⟩
  rw [hf, Nat.min_eq_right (by omega)] at hg
  have hh : hd ⟨h.val * 512 + r.val, by omega⟩ = h := Fin.ext (by show (h.val * 512 + r.val) / 512 = _; omega)
  have hn : nrow (t.val / 16) ⟨h.val * 512 + r.val, by omega⟩ = ⟨t.val / 16 * 512 + r.val, by omega⟩ :=
    Fin.ext (by rw [nrow_val _ (by omega)]; show t.val / 16 * 512 + (h.val * 512 + r.val) % 512 = t.val / 16 * 512 + r.val; omega)
  rw [hh, hn] at hg
  rw [result_at, hg.acc, hg.l, attention_eq (N := (t.val / 16 % 16 + 1) * 512) _ _ _ _ _ (by omega) (by show (t.val / 16 * 512 + r.val) % 8192 < (t.val / 16 % 16 + 1) * 512; omega), online]

theorem flush_out : ∀ t : Fin cfg0.N, (cfg0.win 3).flush t = true → t.val % 16 = 15 :=
  (by decide +kernel : ∀ t : Fin grid0.N, win0_3.flush t = true → t.val % 16 = 15)

theorem out_eq : (dats m 0 c).arrAt 3 cfg0.N = fun i => attention (qs m c) (ks m c) (i 0) (i 1) (i 2) := by
  refine (dats m 0 c).arrAt_eq_of_covers 3 _ (by decide +kernel) fun t hf y => ?_
  blk_simp
  rw [after_3]
  frame_out
  have h15 := flush_out t hf
  have e0 : ((((View.whole main_v0).slice (win0_3.rect t)).emb y 0 : Fin _) : ℕ) = (y 0 : ℕ) := by blk_simp [index_3 t]
  have e1 : ((((View.whole main_v0).slice (win0_3.rect t)).emb y 1 : Fin _) : ℕ) = t.val / 16 * 512 + (y 1 : ℕ) := by blk_simp [index_3 t]
  have e2 : ((((View.whole main_v0).slice (win0_3.rect t)).emb y 2 : Fin _) : ℕ) = (y 2 : ℕ) := by blk_simp [index_3 t]
  refine (congrArg (result (stAt m c t.val t.isLt)) (eq_ix3 y)).trans ((result_row m c t h15 (y 0) (y 1) (y 2)).trans ?_)
  rw [show (((View.whole main_v0).slice (win0_3.rect t)).emb y 0) = y 0 from Fin.ext e0,
    show (((View.whole main_v0).slice (win0_3.rect t)).emb y 2) = y 2 from Fin.ext e2]
  exact congrArg (fun n => attention (qs m c) (ks m c) (y 0) n (y 2)) (Fin.ext e1.symm)

/-- Every run leaves the attention of its arrays, and the arrays themselves. -/
theorem run_value (ρ : Dev nD → PrngReg) :
    θ_run defs (onTc (τ := τ) (main (F := Ideal))) ⟨m, fun _ => 0, ρ⟩ (fun r => ∀ c : Dev nD,
      r.2.mem ((c.tc : Thread nD τ).loc main_v0) = (fun i => attention (qs m c) (ks m c) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).1 3).trans (out_eq m c), h.2.1 c⟩)
    (θ_run_and (run_main m ρ) (frame m ρ))

end Cert.KernelIdeal.Attn

end
-- ==== Proof.RefReads.lean ====
/- The reference's result, read at one element: the attention of the queries and the latent rows. -/
module

public import proofs.«01_k».proof.Proof.Gen.ReferenceIdeal.Run
public import proofs.«01_k».proof.Proof.Spec
public import Idealize.ShloMosaic.Lib.Tactic.CleanTypes

@[expose] public section

set_option maxRecDepth 16384

noncomputable section

namespace Cert.ReferenceIdeal.Value

open Cert.ReferenceIdeal Cert.ReferenceIdeal.Gen Cert.Softmax Cert.Attention
open Idealize.ShloMosaic Idealize.ShloMosaic.TcCoe Idealize.ShloMosaic.Tactic

theorem sle_iff (x y : ℕ) (hx : x < 8192) (hy : y < 8192) :
    IntOp.cmpi CmpIPredicate.sle (BitVec.ofNat 32 x) (BitVec.ofNat 32 y) = 1#1 ↔ x ≤ y := by
  have i : ∀ z : ℕ, z < 8192 → (BitVec.ofNat 32 z).toInt = (z : ℤ) := fun z hz => by
    rw [BitVec.toInt_eq_toNat_of_lt (by rw [BitVec.toNat_ofNat, Nat.mod_eq_of_lt (by omega)]; omega), BitVec.toNat_ofNat,
      Nat.mod_eq_of_lt (by omega)]
  show BitVec.ofBool (BitVec.sle (BitVec.ofNat 32 x) (BitVec.ofNat 32 y)) = 1#1 ↔ _
  have h : BitVec.sle (BitVec.ofNat 32 x) (BitVec.ofNat 32 y) = true ↔ x ≤ y := by
    rw [BitVec.sle_iff_toInt_le, i x hx, i y hy, Int.ofNat_le]
  rw [← h]
  cases BitVec.sle (BitVec.ofNat 32 x) (BitVec.ofNat 32 y) <;> decide

/-- A masked and scaled score of the reference. -/
theorem score_at (q : Queries) (k : Rows) (h : Fin 8) (n : Fin 16384) (x : Fin 8192) :
    Scalar.select (IntOp.cmpi CmpIPredicate.sle (BitVec.ofNat 32 x.val) (BitVec.ofNat 32 (n.val % 8192)))
      ((∑ y : Fin 512, k (ix2 (⟨n.val / 8192 * 8192 + x.val, by omega⟩ : Fin 16384) y) * q (ix3 h n y)) * Ideal.ofBits .f32 0x3DD105EC#32)
      (⊥ : EReal) = score q k h n x.val * ((scale : ℝ) : EReal) := by
  have h1 := sle_iff x.val (n.val % 8192) x.isLt (Nat.mod_lt _ (by norm_num))
  show (if _ = 1#1 then _ else _) = _
  rw [score, scale_bits]
  by_cases hx : x.val ≤ n.val % 8192
  · rw [if_pos (h1.mpr hx), if_pos hx, dot, row_eq n x.val (by omega)]
    exact congrArg (· * _) (Finset.sum_congr rfl fun y _ => mul_comm _ _)
  · rw [if_neg fun h => hx (h1.mp h), if_neg hx, EReal.bot_mul_coe_of_pos scale_pos]

/-- The guard against a maximum that is not finite. -/
theorem guard_at (M : EReal) :
    Scalar.select (IntOp.andi (BitVec.ofBool (decide ((⊥ : EReal) < M))) (BitVec.ofBool (decide (M < (⊤ : EReal))))) M (0 : EReal)
      = guarded M := by
  rw [guarded]
  by_cases hb : M = ⊥
  · rw [if_pos (Or.inl hb), hb, decide_eq_false (lt_irrefl _)]
    exact if_neg (by cases decide ((⊥ : EReal) < ⊤) <;> decide)
  · by_cases ht : M = ⊤
    · rw [if_pos (Or.inr ht), ht, decide_eq_false (lt_irrefl (⊤ : EReal))]
      exact if_neg (by cases decide ((⊥ : EReal) < ⊤) <;> decide)
    · rw [if_neg (not_or.mpr ⟨hb, ht⟩), decide_eq_true (bot_lt_iff_ne_bot.mpr hb), decide_eq_true (lt_top_iff_ne_top.mpr ht)]
      exact if_pos (by decide)

/-! The reference's result, stage by stage. -/

/-- The scores, scaled. -/
def scaled (q : Vec Ideal S8x16384x512 .bf16) (k : Vec Ideal S16384x512 .bf16) : FVec Ideal S2x8192x8x8192 .f32 :=
  mulf (transpose S2x8192x8x8192 [0, 3, 2, 1] (Host.dotGeneral dot_S2x8192x512_S8x2x8192x512_S2x8192x8x8192_2_3_1_02_0_1 none (shapeCast _ (extf (F := Ideal) .f32 k bitsLt_bf16_f32) shapeCasts_S16384x512_S2x8192x512) (shapeCast _ (extf (F := Ideal) .f32 q bitsLt_bf16_f32) shapeCasts_S8x16384x512_S8x2x8192x512)) transposes_S2x8192x8x8192_S2x8192x8x8192_0_3_2_1) (broadcastInDim S2x8192x8x8192 ![] bcast_S_S2x8192x8x8192 (constant (F := Ideal) S_ .f32 0x3DD105EC#32))

/-- Scores masked after the query's position. -/
def causal (s : FVec Ideal S2x8192x8x8192 .f32) : FVec Ideal S2x8192x8x8192 .f32 :=
  select (broadcastInDim S2x8192x8x8192 ![0, 1, 2, 3] bcast_S1x8192x1x8192_S2x8192x8x8192_0_1_2_3 (broadcastInDim S1x8192x1x8192 ![1, 3] bcast_S8192x8192_S1x8192x1x8192_1_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))))) s (broadcastInDim S2x8192x8x8192 ![] bcast_S_S2x8192x8x8192 (id (constant (F := Ideal) S_ .f32 0xFF800000#32) : FVec Ideal S_ .f32))

/-- Each row's largest. -/
def tops (x : FVec Ideal S2x8192x8x8192 .f32) : FVec Ideal S2x8192x8 .f32 :=
  Host.reduce FloatOps.maximumf x (constant (F := Ideal) S_ .f32 0xFF800000#32) reducesTo_S2x8192x8x8192_S2x8192x8_d3 h_S_

/-- The largest, or zero where it is not finite. -/
def guards (t : FVec Ideal S2x8192x8 .f32) : FVec Ideal S2x8192x8x1 .f32 :=
  select (andi (cmpf .ogt (broadcastInDim S2x8192x8x1 ![0, 1, 2] bcast_S2x8192x8_S2x8192x8x1_0_1_2 t) (broadcastInDim S2x8192x8x1 ![] bcast_S_S2x8192x8x1 (constant (F := Ideal) S_ .f32 0xFF800000#32))) (cmpf .olt (broadcastInDim S2x8192x8x1 ![0, 1, 2] bcast_S2x8192x8_S2x8192x8x1_0_1_2 t) (broadcastInDim S2x8192x8x1 ![] bcast_S_S2x8192x8x1 (constant (F := Ideal) S_ .f32 0x7F800000#32)))) (broadcastInDim S2x8192x8x1 ![0, 1, 2] bcast_S2x8192x8_S2x8192x8x1_0_1_2 t) (broadcastInDim S2x8192x8x1 ![] bcast_S_S2x8192x8x1 (id (constant (F := Ideal) S_ .f32 0x00000000#32) : FVec Ideal S_ .f32))

/-- The exponentials. -/
def exps (x : FVec Ideal S2x8192x8x8192 .f32) (g : FVec Ideal S2x8192x8x1 .f32) : FVec Ideal S2x8192x8x8192 .f32 :=
  Host.exp (subf x (broadcastInDim S2x8192x8x8192 ![0, 1, 2, 3] bcast_S2x8192x8x1_S2x8192x8x8192_0_1_2_3 g))

/-- Each row's sum. -/
def sums (p : FVec Ideal S2x8192x8x8192 .f32) : FVec Ideal S2x8192x8 .f32 :=
  Host.reduceAdd p (constant (F := Ideal) S_ .f32 0x00000000#32) reducesTo_S2x8192x8x8192_S2x8192x8_d3 h_S_

/-- The quotients. -/
def quots (p : FVec Ideal S2x8192x8x8192 .f32) (l : FVec Ideal S2x8192x8 .f32) : FVec Ideal S2x8192x8x8192 .f32 :=
  Host.divf p (broadcastInDim S2x8192x8x8192 ![0, 1, 2, 3] bcast_S2x8192x8x1_S2x8192x8x8192_0_1_2_3 (maximumf (broadcastInDim S2x8192x8x1 ![0, 1, 2] bcast_S2x8192x8_S2x8192x8x1_0_1_2 l) (broadcastInDim S2x8192x8x1 ![] bcast_S_S2x8192x8x1 (constant (F := Ideal) S_ .f32 0x0DA24260#32))))

/-- The quotients times the values, laid out as the result. -/
def mixed (w : FVec Ideal S2x8192x8x8192 .f32) (k : Vec Ideal S16384x512 .bf16) : FVec Ideal S8x16384x256 .bf16 :=
  truncf .bf16 (shapeCast _ (transpose S8x2x8192x256 [2, 0, 1, 3] (extractStridedSlice S2x8192x8x256 ![0, 0, 0, 0] (Host.dotGeneral dot_S2x8192x8x8192_S2x8192x512_S2x8192x8x512_3_1_12_2_0_0 none w (shapeCast _ (extf (F := Ideal) .f32 k bitsLt_bf16_f32) shapeCasts_S16384x512_S2x8192x512)) slices_S2x8192x8x512_S2x8192x8x256_0_0_0_0) transposes_S2x8192x8x256_S8x2x8192x256_2_0_1_3) shapeCasts_S8x2x8192x256_S8x16384x256) bitsLt_bf16_f32

/-- The reference's weights before the division. -/
def weights (q : Vec Ideal S8x16384x512 .bf16) (k : Vec Ideal S16384x512 .bf16) : FVec Ideal S2x8192x8x8192 .f32 :=
  exps (causal (scaled q k)) (guards (tops (causal (scaled q k))))

theorem res_eq (m : (ℓ : Loc nD τ sig) → Buf (Elt Ideal) ℓ) (c : Dev nD) :
    res_out0 (F := Ideal) m c = mixed (quots (weights (m ((c.tc : Thread nD τ).loc main_arg0)) (m ((c.tc : Thread nD τ).loc main_arg1)))
      (sums (weights (m ((c.tc : Thread nD τ).loc main_arg0)) (m ((c.tc : Thread nD τ).loc main_arg1))))) (m ((c.tc : Thread nD τ).loc main_arg1)) := rfl

/-- The row of the batch at a sequence and a position. -/
abbrev at2 (b : Fin 2) (p : Fin 8192) : Fin 16384 := ⟨b.val * 8192 + p.val, by omega⟩

theorem causal_at (q : Vec Ideal S8x16384x512 .bf16) (k : Vec Ideal S16384x512 .bf16) (b : Fin 2) (p : Fin 8192) (h : Fin 8) (x : Fin 8192) :
    causal (scaled q k) (ix4 b p h x) = score q k h (at2 b p) x.val * ((scale : ℝ) : EReal) := by
  have e : causal (scaled q k) (ix4 b p h x) = Scalar.select (IntOp.cmpi CmpIPredicate.sle (BitVec.ofNat 32 x.val) (BitVec.ofNat 32 p.val))
      ((∑ y : Fin 512, k (ix2 (at2 b x) y) * q (ix3 h (at2 b p) y)) * Ideal.ofBits .f32 0x3DD105EC#32) (Ideal.ofBits .f32 0xFF800000#32) := by
    pointwise [causal, scaled]
    rfl
  rw [e, neg_inf, ← score_at]
  have e1 : (at2 b p).val / 8192 = b.val := by simp only [at2]; omega
  have e2 : (at2 b p).val % 8192 = p.val := by simp only [at2]; omega
  simp only [e1, e2]

theorem tops_at (x : FVec Ideal S2x8192x8x8192 .f32) (b : Fin 2) (p : Fin 8192) (h : Fin 8) :
    tops x (ix3 b p h) = (Finset.univ : Finset (Fin 8192)).fold max (Ideal.ofBits .f32 0xFF800000#32) fun j => x (ix4 b p h j) := by
  pointwise [tops]

theorem guards_at (t : FVec Ideal S2x8192x8 .f32) (b : Fin 2) (p : Fin 8192) (h : Fin 8) :
    guards t (ix4 b p h 0) = guarded (t (ix3 b p h)) := by
  have hz : (id (constant (F := Ideal) S_ .f32 0x00000000#32) : FVec Ideal S_ .f32) ix0 = (0 : EReal) := Ideal.ofBits_zero_f32
  rw [← guard_at, ← neg_inf, ← pos_inf]
  pointwise [guards]
  rw [hz]

theorem exps_at (x : FVec Ideal S2x8192x8x8192 .f32) (g : FVec Ideal S2x8192x8x1 .f32) (b : Fin 2) (p : Fin 8192) (h : Fin 8) (j : Fin 8192) :
    exps x g (ix4 b p h j) = Ideal.exp (x (ix4 b p h j) - g (ix4 b p h 0)) := by
  pointwise [exps]

theorem sums_at (x : FVec Ideal S2x8192x8x8192 .f32) (b : Fin 2) (p : Fin 8192) (h : Fin 8) :
    sums x (ix3 b p h) = ∑ j : Fin 8192, x (ix4 b p h j) := by
  pointwise [sums]

theorem quots_at (x : FVec Ideal S2x8192x8x8192 .f32) (l : FVec Ideal S2x8192x8 .f32) (b : Fin 2) (p : Fin 8192) (h : Fin 8) (j : Fin 8192) :
    quots x l (ix4 b p h j) = Ideal.div (x (ix4 b p h j)) (max (l (ix3 b p h)) least) := by
  pointwise [quots]

theorem mixed_at (w : FVec Ideal S2x8192x8x8192 .f32) (k : Vec Ideal S16384x512 .bf16) (h : Fin 8) (n : Fin 16384) (e : Fin 256) :
    mixed w k (ix3 h n e) = ∑ j : Fin 8192, w (ix4 (⟨n.val / 8192, by omega⟩ : Fin 2) (⟨n.val % 8192, by omega⟩ : Fin 8192) h j)
      * k (ix2 (⟨n.val / 8192 * 8192 + j.val, by omega⟩ : Fin 16384) ⟨e.val, by omega⟩) := by
  pointwise [mixed]

theorem weights_at (q : Vec Ideal S8x16384x512 .bf16) (k : Vec Ideal S16384x512 .bf16) (b : Fin 2) (p : Fin 8192) (h : Fin 8) (x : Fin 8192) :
    weights q k (ix4 b p h x) = Ideal.exp (score q k h (at2 b p) x.val * ((scale : ℝ) : EReal)
      - guarded (peak (fun j => score q k h (at2 b p) j * ((scale : ℝ) : EReal)) 8192)) := by
  unfold weights
  rw [exps_at, guards_at, tops_at, causal_at, ← fold_max, neg_inf]
  simp only [causal_at]

/-- The reference's result as one function of its two arrays. -/
theorem whole_at (q : Vec Ideal S8x16384x512 .bf16) (k : Vec Ideal S16384x512 .bf16) (h : Fin 8) (n : Fin 16384) (e : Fin 256) :
    mixed (quots (weights q k) (sums (weights q k))) k (ix3 h n e) = attention q k h n e := by
  rw [mixed_at, attention, plain, Finset.sum_range]
  refine Finset.sum_congr rfl fun j _ => ?_
  have hn : at2 (⟨n.val / 8192, by omega⟩ : Fin 2) (⟨n.val % 8192, by omega⟩ : Fin 8192) = n := Fin.ext (by simp only [at2]; omega)
  rw [quots_at, sums_at, weights_at, hn, Cert.Attention.val, row_eq n j.val (by omega), Finset.sum_range]
  simp only [weights_at, hn]

theorem res_at (m : (ℓ : Loc nD τ sig) → Buf (Elt Ideal) ℓ) (c : Dev nD) (h : Fin 8) (n : Fin 16384) (e : Fin 256) :
    res_out0 (F := Ideal) m c (ix3 h n e)
      = attention (m ((c.tc : Thread nD τ).loc main_arg0)) (m ((c.tc : Thread nD τ).loc main_arg1)) h n e :=
  (congrFun (res_eq m c) _).trans (whole_at _ _ h n e)

theorem out_eq (m : (ℓ : Loc nD τ sig) → Buf (Elt Ideal) ℓ) (c : Dev nD) :
    res_out0 (F := Ideal) m c = fun i =>
      attention (m ((c.tc : Thread nD τ).loc main_arg0)) (m ((c.tc : Thread nD τ).loc main_arg1)) (i 0) (i 1) (i 2) :=
  funext fun i => (congrArg (res_out0 (F := Ideal) m c) (eq_ix3 i)).trans (res_at m c (i 0) (i 1) (i 2))

end Cert.ReferenceIdeal.Value

end
-- ==== Proof.Odd.Rope.lean ====
/- The odd layer's input projection over the extended reals: the normalised input times the matrix, and the rotation of
   the queries and keys by position. -/
module

public import Idealize.ShloMosaic.PureOps
public import Idealize.ShloMosaic.Lib.Pointwise

@[expose] public section

noncomputable section

namespace Cert.OddProj

open Idealize.ShloMosaic Idealize.ShloMosaic.Tactic

/-- The layer's input: row of the batch, feature. -/
abbrev Rows := (⟨2, ![16384, 1024]⟩ : Shape).Idx → EReal
/-- The norm's weights. -/
abbrev Weights := (⟨1, ![1024]⟩ : Shape).Idx → EReal
/-- The projection: feature, column. -/
abbrev Columns := (⟨2, ![1024, 6144]⟩ : Shape).Idx → EReal

/-- The root mean square norm of a row. -/
def normed (x : Rows) (g : Weights) (n : Fin 16384) (e : Fin 1024) : EReal :=
  x (ix2 n e)
    * Ideal.rsqrt (Ideal.div (∑ d : Fin 1024, x (ix2 n d) * x (ix2 n d)) (Ideal.ofBits .f32 0x44800000#32)
      + Ideal.ofBits .f32 0x358637BD#32)
    * g (ix1 e)

/-- A column of the projection. -/
def column (x : Rows) (g : Weights) (w : Columns) (n : Fin 16384) (j : Fin 6144) : EReal :=
  ∑ e : Fin 1024, normed x g n e * w (ix2 e j)

/-- The angle of position `p` at frequency `i`. -/
def angle (p i : ℕ) : EReal :=
  FloatOps.sitofp (F := Ideal) .f32 (BitVec.ofNat 32 p)
    * Ideal.pow (Ideal.ofBits .f32 0x461C4000#32)
      (Ideal.div (-FloatOps.sitofp (F := Ideal) .f32 (BitVec.ofNat 32 i)) (Ideal.ofBits .f32 0x42800000#32))

/-- Rotation within a head: `u` is the lane's own value, `v` that of the lane half a head away. -/
def turn (u v : EReal) (p l : ℕ) : EReal :=
  if l < 64 then u * Ideal.cos (angle p l) - v * Ideal.sin (angle p l)
  else v * Ideal.sin (angle p (l - 64)) + u * Ideal.cos (angle p (l - 64))

/-- A query feature. -/
def query (x : Rows) (g : Weights) (w : Columns) (n : Fin 16384) (j : Fin 1024) : EReal :=
  turn (column x g w n ⟨j.val, by omega⟩) (column x g w n ⟨j.val / 128 * 128 + (j.val + 64) % 128, by omega⟩) (n.val % 8192) (j.val % 128)

/-- A key feature, scaled. -/
def key (x : Rows) (g : Weights) (w : Columns) (n : Fin 16384) (j : Fin 1024) : EReal :=
  turn (column x g w n ⟨1024 + j.val, by omega⟩) (column x g w n ⟨1024 + (j.val / 128 * 128 + (j.val + 64) % 128), by omega⟩) (n.val % 8192) (j.val % 128)
    * Ideal.ofBits .f32 0x3DB504F3#32

/-- A value feature. -/
def value (x : Rows) (g : Weights) (w : Columns) (n : Fin 16384) (j : Fin 2048) : EReal := column x g w n ⟨2048 + j.val, by omega⟩

/-- A gate feature. -/
def gate (x : Rows) (g : Weights) (w : Columns) (n : Fin 16384) (j : Fin 2048) : EReal := column x g w n ⟨4096 + j.val, by omega⟩

end Cert.OddProj

end
-- ==== Proof.Odd.Proj.lean ====
/- The odd layer's input projection: what the kernel leaves in its four arrays, as functions of the arguments. -/
module

public import proofs.«01_k».proof.Proof.Gen.OddProjIdeal.Value
public import proofs.«01_k».proof.Proof.Odd.Rope
public import Idealize.ShloMosaic.Lib.Pointwise
public import Idealize.ShloMosaic.Lib.Pipeline.ValueKit

@[expose] public section

set_option maxRecDepth 16384

noncomputable section

namespace Cert.OddProjIdeal.Value

open Cert.OddProjIdeal Cert.OddProjIdeal.Gen Cert.OddProj
open Idealize.ShloMosaic Idealize.ShloMosaic.TcCoe Idealize.ShloMosaic.Tactic Idealize.SL.Sem

variable (m : (ℓ : Loc nD τ sig) → Buf (Elt Ideal) ℓ) (c : Dev nD)

theorem index_0 : ∀ t : Fin cfg0.N, win0_0.index t = ![t.val, 0] := (by decide +kernel : ∀ t : Fin grid0.N, win0_0.index t = ![t.val, 0])
theorem index_1 : ∀ t : Fin cfg0.N, win0_1.index t = ![0, 0] := (by decide +kernel : ∀ t : Fin grid0.N, win0_1.index t = ![0, 0])
theorem index_2 : ∀ t : Fin cfg0.N, win0_2.index t = ![0, 0] := (by decide +kernel : ∀ t : Fin grid0.N, win0_2.index t = ![0, 0])
theorem index_3 : ∀ t : Fin cfg0.N, win0_3.index t = ![t.val % 32, 0] := (by decide +kernel : ∀ t : Fin grid0.N, win0_3.index t = ![t.val % 32, 0])
theorem index_4 : ∀ t : Fin cfg0.N, win0_4.index t = ![t.val % 32, 0] := (by decide +kernel : ∀ t : Fin grid0.N, win0_4.index t = ![t.val % 32, 0])
theorem index_5 : ∀ t : Fin cfg0.N, win0_5.index t = ![t.val, 0] := (by decide +kernel : ∀ t : Fin grid0.N, win0_5.index t = ![t.val, 0])
theorem index_6 : ∀ t : Fin cfg0.N, win0_6.index t = ![t.val, 0] := (by decide +kernel : ∀ t : Fin grid0.N, win0_6.index t = ![t.val, 0])
theorem index_7 : ∀ t : Fin cfg0.N, win0_7.index t = ![t.val, 0] := (by decide +kernel : ∀ t : Fin grid0.N, win0_7.index t = ![t.val, 0])
theorem index_8 : ∀ t : Fin cfg0.N, win0_8.index t = ![t.val, 0] := (by decide +kernel : ∀ t : Fin grid0.N, win0_8.index t = ![t.val, 0])

theorem lt_points (t : Fin cfg0.N) : t.val < 64 := t.isLt

/-- A row of the normalised block against a column of the matrix. -/
def prod (h : FVec Ideal S256x1024 .bf16) (w : Vec Ideal S1024x6144 .bf16) (r : Fin 256) (j : Fin 6144) : EReal :=
  ∑ e : Fin 1024, h (ix2 r e) * w (ix2 e j)

/-- One head's payload at an element. -/
theorem k0_pay10_at (h : FVec Ideal S256x1024 .bf16) (cs sn : FVec Ideal S256x128 .f32) (w : Vec Ideal S1024x128 .bf16) (r : Fin 256) (l : Fin 128) :
    k0_pay10 h cs sn w (ix2 r l) = (∑ e : Fin 1024, h (ix2 r e) * w (ix2 e l)) * cs (ix2 r l)
      + (∑ e : Fin 1024, h (ix2 r e) * w (ix2 e (⟨(l.val + 128 - 64) % 128, by omega⟩ : Fin 128))) * sn (ix2 r l) := by
  pointwise [k0_pay10]

theorem k0_pay11_at (h : FVec Ideal S256x1024 .bf16) (cs sn : FVec Ideal S256x128 .f32) (w : Vec Ideal S1024x128 .bf16) (r : Fin 256) (l : Fin 128) :
    k0_pay11 h cs sn w (ix2 r l) = ((∑ e : Fin 1024, h (ix2 r e) * w (ix2 e l)) * cs (ix2 r l)
      + (∑ e : Fin 1024, h (ix2 r e) * w (ix2 e (⟨(l.val + 128 - 64) % 128, by omega⟩ : Fin 128))) * sn (ix2 r l)) * Ideal.ofBits .f32 0x3DB504F3#32 := by
  pointwise [k0_pay11]

/-- The query tile of head `q`. -/
theorem tile_q (h : FVec Ideal S256x1024 .bf16) (x2 : Vec Ideal S1024x6144 .bf16) (x3 x4 : Vec Ideal S256x128 .f32)
    (tile : Vec Ideal S1024x128 .bf16) (q : ℕ) (hq : q < 8)
    (ht : ∀ (e : Fin 1024) (l : Fin 128), tile (ix2 e l) = x2 (ix2 e (⟨(q * 128 + l.val), by omega⟩ : Fin 6144)))
    (r : Fin 256) (j : Fin 1024) (x : S256x128.Idx) (h0 : r.val = (x 0).val) (h1 : j.val = q * 128 + (x 1).val) :
    k0_pay10 h (k0_pay5 x3) (k0_pay6 x4) tile x = prod h x2 r ⟨j.val, by omega⟩ * x3 (ix2 r (⟨j.val % 128, by omega⟩ : Fin 128))
      + prod h x2 r ⟨j.val / 128 * 128 + (j.val + 64) % 128, by omega⟩ * x4 (ix2 r (⟨j.val % 128, by omega⟩ : Fin 128)) := by
  obtain ⟨a, b, rfl⟩ : ∃ (a : Fin 256) (b : Fin 128), x = ix2 a b := ⟨x 0, x 1, eq_ix2 x⟩
  replace h0 : r.val = a.val := h0
  replace h1 : j.val = q * 128 + b.val := h1
  obtain rfl : r = a := Fin.ext h0
  have e1 : (⟨j.val % 128, by omega⟩ : Fin 128) = b := Fin.ext (by show j.val % 128 = b.val; omega)
  have e3 : k0_pay5 x3 = x3 := by funext i; idx_vars i; pointwise [k0_pay5]
  have e4 : k0_pay6 x4 = x4 := by funext i; idx_vars i; pointwise [k0_pay6]
  rw [k0_pay10_at, e1, e3, e4, prod, prod]
  simp only [ht]
  have i1 : (⟨j.val, by omega⟩ : Fin 6144) = ⟨(q * 128 + b.val), by omega⟩ := Fin.ext (by show j.val = (q * 128 + b.val); omega)
  have i2 : (⟨j.val / 128 * 128 + (j.val + 64) % 128, by omega⟩ : Fin 6144) = ⟨(q * 128 + (b.val + 128 - 64) % 128), by omega⟩ :=
    Fin.ext (by show (j.val / 128 * 128 + (j.val + 64) % 128) = (q * 128 + (b.val + 128 - 64) % 128); omega)
  rw [i1, i2]

/-- The key tile of head `q`. -/
theorem tile_k (h : FVec Ideal S256x1024 .bf16) (x2 : Vec Ideal S1024x6144 .bf16) (x3 x4 : Vec Ideal S256x128 .f32)
    (tile : Vec Ideal S1024x128 .bf16) (q : ℕ) (hq : q < 8)
    (ht : ∀ (e : Fin 1024) (l : Fin 128), tile (ix2 e l) = x2 (ix2 e (⟨1024 + (q * 128 + l.val), by omega⟩ : Fin 6144)))
    (r : Fin 256) (j : Fin 1024) (x : S256x128.Idx) (h0 : r.val = (x 0).val) (h1 : j.val = q * 128 + (x 1).val) :
    k0_pay11 h (k0_pay5 x3) (k0_pay6 x4) tile x = (prod h x2 r ⟨1024 + (j.val), by omega⟩ * x3 (ix2 r (⟨j.val % 128, by omega⟩ : Fin 128))
      + prod h x2 r ⟨1024 + (j.val / 128 * 128 + (j.val + 64) % 128), by omega⟩ * x4 (ix2 r (⟨j.val % 128, by omega⟩ : Fin 128))) * Ideal.ofBits .f32 0x3DB504F3#32 := by
  obtain ⟨a, b, rfl⟩ : ∃ (a : Fin 256) (b : Fin 128), x = ix2 a b := ⟨x 0, x 1, eq_ix2 x⟩
  replace h0 : r.val = a.val := h0
  replace h1 : j.val = q * 128 + b.val := h1
  obtain rfl : r = a := Fin.ext h0
  have e1 : (⟨j.val % 128, by omega⟩ : Fin 128) = b := Fin.ext (by show j.val % 128 = b.val; omega)
  have e3 : k0_pay5 x3 = x3 := by funext i; idx_vars i; pointwise [k0_pay5]
  have e4 : k0_pay6 x4 = x4 := by funext i; idx_vars i; pointwise [k0_pay6]
  rw [k0_pay11_at, e1, e3, e4, prod, prod]
  simp only [ht]
  have i1 : (⟨1024 + (j.val), by omega⟩ : Fin 6144) = ⟨1024 + (q * 128 + b.val), by omega⟩ := Fin.ext (by show 1024 + j.val = 1024 + (q * 128 + b.val); omega)
  have i2 : (⟨1024 + (j.val / 128 * 128 + (j.val + 64) % 128), by omega⟩ : Fin 6144) = ⟨1024 + (q * 128 + (b.val + 128 - 64) % 128), by omega⟩ :=
    Fin.ext (by show 1024 + (j.val / 128 * 128 + (j.val + 64) % 128) = 1024 + (q * 128 + (b.val + 128 - 64) % 128); omega)
  rw [i1, i2]

/-- A block of queries at an element. -/
theorem out5_at (x0 : Vec Ideal S256x1024 .f32) (x1 : Vec Ideal S1x1024 .f32) (x2 : Vec Ideal S1024x6144 .bf16) (x3 x4 : Vec Ideal S256x128 .f32)
    (r : Fin 256) (j : Fin 1024) :
    out0_5 x0 x1 x2 x3 x4 (ix2 r j) = prod (k0_pay4 x0 x1) x2 r ⟨j.val, by omega⟩ * x3 (ix2 r (⟨j.val % 128, by omega⟩ : Fin 128))
      + prod (k0_pay4 x0 x1) x2 r ⟨j.val / 128 * 128 + (j.val + 64) % 128, by omega⟩ * x4 (ix2 r (⟨j.val % 128, by omega⟩ : Fin 128)) := by
  have l0 : View.ld x0 r0_0 = x0 := View.ld_unit_lit _ _ (by decide)
  have l1 : View.ld x1 r0_1 = x1 := View.ld_unit_lit _ _ (by decide)
  have l3 : View.ld x3 r0_2 = x3 := View.ld_unit_lit _ _ (by decide)
  have l4 : View.ld x4 r0_2 = x4 := View.ld_unit_lit _ _ (by decide)
  unfold out0_5 k0_pay27 k0_pay28 k0_pay29
  rw [l0, l1, l3, l4]
  canon_tiles x h
  · exact tile_q (k0_pay4 x0 x1) x2 x3 x4 _ 7 (by omega) (fun e l => by pointwise [] <;> exact congrArg (fun z => x2 (ix2 e z)) (Fin.ext (by simp <;> omega))) r j x h0 (h1.trans (by omega))
  · exact tile_q (k0_pay4 x0 x1) x2 x3 x4 _ 6 (by omega) (fun e l => by pointwise [] <;> exact congrArg (fun z => x2 (ix2 e z)) (Fin.ext (by simp <;> omega))) r j x h0 (h1.trans (by omega))
  · exact tile_q (k0_pay4 x0 x1) x2 x3 x4 _ 5 (by omega) (fun e l => by pointwise [] <;> exact congrArg (fun z => x2 (ix2 e z)) (Fin.ext (by simp <;> omega))) r j x h0 (h1.trans (by omega))
  · exact tile_q (k0_pay4 x0 x1) x2 x3 x4 _ 4 (by omega) (fun e l => by pointwise [] <;> exact congrArg (fun z => x2 (ix2 e z)) (Fin.ext (by simp <;> omega))) r j x h0 (h1.trans (by omega))
  · exact tile_q (k0_pay4 x0 x1) x2 x3 x4 _ 3 (by omega) (fun e l => by pointwise [] <;> exact congrArg (fun z => x2 (ix2 e z)) (Fin.ext (by simp <;> omega))) r j x h0 (h1.trans (by omega))
  · exact tile_q (k0_pay4 x0 x1) x2 x3 x4 _ 2 (by omega) (fun e l => by pointwise [] <;> exact congrArg (fun z => x2 (ix2 e z)) (Fin.ext (by simp <;> omega))) r j x h0 (h1.trans (by omega))
  · exact tile_q (k0_pay4 x0 x1) x2 x3 x4 _ 1 (by omega) (fun e l => by pointwise [] <;> exact congrArg (fun z => x2 (ix2 e z)) (Fin.ext (by simp <;> omega))) r j x h0 (h1.trans (by omega))
  · exact tile_q (k0_pay4 x0 x1) x2 x3 x4 _ 0 (by omega) (fun e l => by pointwise [] <;> exact congrArg (fun z => x2 (ix2 e z)) (Fin.ext (by simp <;> omega))) r j x h0 (h1.trans (by omega))

/-- A block of keys at an element. -/
theorem out6_at (x0 : Vec Ideal S256x1024 .f32) (x1 : Vec Ideal S1x1024 .f32) (x2 : Vec Ideal S1024x6144 .bf16) (x3 x4 : Vec Ideal S256x128 .f32)
    (r : Fin 256) (j : Fin 1024) :
    out0_6 x0 x1 x2 x3 x4 (ix2 r j) = (prod (k0_pay4 x0 x1) x2 r ⟨1024 + (j.val), by omega⟩ * x3 (ix2 r (⟨j.val % 128, by omega⟩ : Fin 128))
      + prod (k0_pay4 x0 x1) x2 r ⟨1024 + (j.val / 128 * 128 + (j.val + 64) % 128), by omega⟩ * x4 (ix2 r (⟨j.val % 128, by omega⟩ : Fin 128))) * Ideal.ofBits .f32 0x3DB504F3#32 := by
  have l0 : View.ld x0 r0_0 = x0 := View.ld_unit_lit _ _ (by decide)
  have l1 : View.ld x1 r0_1 = x1 := View.ld_unit_lit _ _ (by decide)
  have l3 : View.ld x3 r0_2 = x3 := View.ld_unit_lit _ _ (by decide)
  have l4 : View.ld x4 r0_2 = x4 := View.ld_unit_lit _ _ (by decide)
  unfold out0_6 k0_pay27 k0_pay28 k0_pay29
  rw [l0, l1, l3, l4]
  canon_tiles x h
  · exact tile_k (k0_pay4 x0 x1) x2 x3 x4 _ 7 (by omega) (fun e l => by pointwise [] <;> exact congrArg (fun z => x2 (ix2 e z)) (Fin.ext (by simp <;> omega))) r j x h0 (h1.trans (by omega))
  · exact tile_k (k0_pay4 x0 x1) x2 x3 x4 _ 6 (by omega) (fun e l => by pointwise [] <;> exact congrArg (fun z => x2 (ix2 e z)) (Fin.ext (by simp <;> omega))) r j x h0 (h1.trans (by omega))
  · exact tile_k (k0_pay4 x0 x1) x2 x3 x4 _ 5 (by omega) (fun e l => by pointwise [] <;> exact congrArg (fun z => x2 (ix2 e z)) (Fin.ext (by simp <;> omega))) r j x h0 (h1.trans (by omega))
  · exact tile_k (k0_pay4 x0 x1) x2 x3 x4 _ 4 (by omega) (fun e l => by pointwise [] <;> exact congrArg (fun z => x2 (ix2 e z)) (Fin.ext (by simp <;> omega))) r j x h0 (h1.trans (by omega))
  · exact tile_k (k0_pay4 x0 x1) x2 x3 x4 _ 3 (by omega) (fun e l => by pointwise [] <;> exact congrArg (fun z => x2 (ix2 e z)) (Fin.ext (by simp <;> omega))) r j x h0 (h1.trans (by omega))
  · exact tile_k (k0_pay4 x0 x1) x2 x3 x4 _ 2 (by omega) (fun e l => by pointwise [] <;> exact congrArg (fun z => x2 (ix2 e z)) (Fin.ext (by simp <;> omega))) r j x h0 (h1.trans (by omega))
  · exact tile_k (k0_pay4 x0 x1) x2 x3 x4 _ 1 (by omega) (fun e l => by pointwise [] <;> exact congrArg (fun z => x2 (ix2 e z)) (Fin.ext (by simp <;> omega))) r j x h0 (h1.trans (by omega))
  · exact tile_k (k0_pay4 x0 x1) x2 x3 x4 _ 0 (by omega) (fun e l => by pointwise [] <;> exact congrArg (fun z => x2 (ix2 e z)) (Fin.ext (by simp <;> omega))) r j x h0 (h1.trans (by omega))

theorem out7_at (x0 : Vec Ideal S256x1024 .f32) (x1 : Vec Ideal S1x1024 .f32) (x2 : Vec Ideal S1024x6144 .bf16) (x3 x4 : Vec Ideal S256x128 .f32)
    (r : Fin 256) (j : Fin 2048) :
    out0_7 x0 x1 x2 x3 x4 (ix2 r j) = prod (k0_pay4 x0 x1) x2 r ⟨2048 + j.val, by omega⟩ := by
  have l0 : View.ld x0 r0_0 = x0 := View.ld_unit_lit _ _ (by decide)
  have l1 : View.ld x1 r0_1 = x1 := View.ld_unit_lit _ _ (by decide)
  unfold out0_7 k0_pay27
  rw [l0, l1, View.canon_cons_unit_lit _ _ _ (by decide), prod]
  generalize k0_pay4 (F := Ideal) x0 x1 = h
  pointwise [k0_pay2]

theorem out8_at (x0 : Vec Ideal S256x1024 .f32) (x1 : Vec Ideal S1x1024 .f32) (x2 : Vec Ideal S1024x6144 .bf16) (x3 x4 : Vec Ideal S256x128 .f32)
    (r : Fin 256) (j : Fin 2048) :
    out0_8 x0 x1 x2 x3 x4 (ix2 r j) = prod (k0_pay4 x0 x1) x2 r ⟨4096 + j.val, by omega⟩ := by
  have l0 : View.ld x0 r0_0 = x0 := View.ld_unit_lit _ _ (by decide)
  have l1 : View.ld x1 r0_1 = x1 := View.ld_unit_lit _ _ (by decide)
  unfold out0_8 k0_pay27
  rw [l0, l1, View.canon_cons_unit_lit _ _ _ (by decide), prod]
  generalize k0_pay4 (F := Ideal) x0 x1 = h
  pointwise [k0_pay3]

/-- The table of cosines. -/
theorem cos_at (p : Fin 8192) (l : Fin 128) :
    @Eq EReal ((V m c main_v15 : FVec Ideal S8192x128 .f32) (ix2 p l)) (if l.val < 64 then Ideal.cos (angle p.val l.val) else Ideal.cos (angle p.val (l.val - 64))) := by
  entry_read
  pointwise []
  rfl

/-- The table of sines, negated on the first half of the lanes. -/
theorem sin_at (p : Fin 8192) (l : Fin 128) :
    @Eq EReal ((V m c main_v17 : FVec Ideal S8192x128 .f32) (ix2 p l)) (if l.val < 64 then -Ideal.sin (angle p.val l.val) else Ideal.sin (angle p.val (l.val - 64))) := by
  entry_read
  pointwise []
  rfl

theorem cos_block (t : Fin cfg0.N) (r : Fin 256) (l : Fin 128) :
    @Eq EReal (iblk m c 3 t (ix2 r l)) (if l.val < 64 then Ideal.cos (angle (t.val % 32 * 256 + r.val) l.val) else Ideal.cos (angle (t.val % 32 * 256 + r.val) (l.val - 64))) := by
  refine Eq.trans ?_ (cos_at m c ⟨t.val % 32 * 256 + r.val, by omega⟩ l)
  blk_ext [iblk, index_3 t]

theorem sin_block (t : Fin cfg0.N) (r : Fin 256) (l : Fin 128) :
    @Eq EReal (iblk m c 4 t (ix2 r l)) (if l.val < 64 then -Ideal.sin (angle (t.val % 32 * 256 + r.val) l.val) else Ideal.sin (angle (t.val % 32 * 256 + r.val) (l.val - 64))) := by
  refine Eq.trans ?_ (sin_at m c ⟨t.val % 32 * 256 + r.val, by omega⟩ l)
  blk_ext [iblk, index_4 t]

/-- A row of the block against a column is the projection's column. -/
theorem prod_block (t : Fin cfg0.N) (r : Fin 256) (j : Fin 6144) :
    prod (k0_pay4 (F := Ideal) (iblk m c 0 t) (iblk m c 1 t)) (iblk m c 2 t) r j
      = column (m ((c.tc : Thread nD τ).loc main_arg0)) (m ((c.tc : Thread nD τ).loc main_arg1)) (m ((c.tc : Thread nD τ).loc main_arg2))
        ⟨t.val * 256 + r.val, by have := lt_points t; omega⟩ j := by
  have := lt_points t
  unfold prod column normed
  pointwise [k0_pay4]
  blk_point [iblk, V, index_0 t, index_1 t, index_2 t]

/-- The kernel's rotation is `turn`. -/
theorem turned (u v : EReal) (p l : ℕ) :
    u * (if l < 64 then Ideal.cos (angle p l) else Ideal.cos (angle p (l - 64)))
      + v * (if l < 64 then -Ideal.sin (angle p l) else Ideal.sin (angle p (l - 64))) = turn u v p l := by
  unfold turn
  split
  · rw [mul_neg, sub_eq_add_neg]
  · exact add_comm _ _

theorem block5_at (t : Fin cfg0.N) (r : Fin 256) (j : Fin 1024) :
    out0_5 (F := Ideal) (iblk m c 0 t) (iblk m c 1 t) (iblk m c 2 t) (iblk m c 3 t) (iblk m c 4 t) (ix2 r j)
      = query (m ((c.tc : Thread nD τ).loc main_arg0)) (m ((c.tc : Thread nD τ).loc main_arg1)) (m ((c.tc : Thread nD τ).loc main_arg2)) ⟨t.val * 256 + r.val, by have := lt_points t; omega⟩ j := by
  have ht := lt_points t
  rw [out5_at, cos_block, sin_block, prod_block, prod_block, query, turned]
  have ep : (t.val * 256 + r.val) % 8192 = t.val % 32 * 256 + r.val := by omega
  simp only [ep]

theorem array5 : (dats m 0 c).arrAt 5 cfg0.N = fun i =>
    query (m ((c.tc : Thread nD τ).loc main_arg0)) (m ((c.tc : Thread nD τ).loc main_arg1)) (m ((c.tc : Thread nD τ).loc main_arg2)) (i 0) (i 1) := by
  refine (dats m 0 c).arrAt_eq_of_covers 5 _ (by decide +kernel) fun t hf y => ?_
  blk_simp
  rw [after0_5]
  have e0 : ((((View.whole main_v20_0).slice (win0_5.rect t)).emb y 0 : Fin _) : ℕ) = t.val * 256 + (y 0 : ℕ) := by blk_simp [index_5 t]
  have e1 : ((((View.whole main_v20_0).slice (win0_5.rect t)).emb y 1 : Fin _) : ℕ) = (y 1 : ℕ) := by blk_simp [index_5 t]
  refine (congrArg (out0_5 (F := Ideal) (iblk m c 0 t) (iblk m c 1 t) (iblk m c 2 t) (iblk m c 3 t) (iblk m c 4 t)) (eq_ix2 y)).trans
    ((block5_at m c t (y 0) (y 1)).trans ?_)
  rw [show (((View.whole main_v20_0).slice (win0_5.rect t)).emb y 1) = y 1 from Fin.ext e1]
  exact congrArg (fun n => query _ _ _ n (y 1)) (Fin.ext e0.symm)

theorem block6_at (t : Fin cfg0.N) (r : Fin 256) (j : Fin 1024) :
    out0_6 (F := Ideal) (iblk m c 0 t) (iblk m c 1 t) (iblk m c 2 t) (iblk m c 3 t) (iblk m c 4 t) (ix2 r j)
      = key (m ((c.tc : Thread nD τ).loc main_arg0)) (m ((c.tc : Thread nD τ).loc main_arg1)) (m ((c.tc : Thread nD τ).loc main_arg2)) ⟨t.val * 256 + r.val, by have := lt_points t; omega⟩ j := by
  have ht := lt_points t
  rw [out6_at, cos_block, sin_block, prod_block, prod_block, key, turned]
  have ep : (t.val * 256 + r.val) % 8192 = t.val % 32 * 256 + r.val := by omega
  simp only [ep]

theorem array6 : (dats m 0 c).arrAt 6 cfg0.N = fun i =>
    key (m ((c.tc : Thread nD τ).loc main_arg0)) (m ((c.tc : Thread nD τ).loc main_arg1)) (m ((c.tc : Thread nD τ).loc main_arg2)) (i 0) (i 1) := by
  refine (dats m 0 c).arrAt_eq_of_covers 6 _ (by decide +kernel) fun t hf y => ?_
  blk_simp
  rw [after0_6]
  have e0 : ((((View.whole main_v20_1).slice (win0_6.rect t)).emb y 0 : Fin _) : ℕ) = t.val * 256 + (y 0 : ℕ) := by blk_simp [index_6 t]
  have e1 : ((((View.whole main_v20_1).slice (win0_6.rect t)).emb y 1 : Fin _) : ℕ) = (y 1 : ℕ) := by blk_simp [index_6 t]
  refine (congrArg (out0_6 (F := Ideal) (iblk m c 0 t) (iblk m c 1 t) (iblk m c 2 t) (iblk m c 3 t) (iblk m c 4 t)) (eq_ix2 y)).trans
    ((block6_at m c t (y 0) (y 1)).trans ?_)
  rw [show (((View.whole main_v20_1).slice (win0_6.rect t)).emb y 1) = y 1 from Fin.ext e1]
  exact congrArg (fun n => key _ _ _ n (y 1)) (Fin.ext e0.symm)

theorem block7_at (t : Fin cfg0.N) (r : Fin 256) (j : Fin 2048) :
    out0_7 (F := Ideal) (iblk m c 0 t) (iblk m c 1 t) (iblk m c 2 t) (iblk m c 3 t) (iblk m c 4 t) (ix2 r j)
      = value (m ((c.tc : Thread nD τ).loc main_arg0)) (m ((c.tc : Thread nD τ).loc main_arg1)) (m ((c.tc : Thread nD τ).loc main_arg2)) ⟨t.val * 256 + r.val, by have := lt_points t; omega⟩ j := by
  have ht := lt_points t
  rw [out7_at, prod_block]
  rfl

theorem array7 : (dats m 0 c).arrAt 7 cfg0.N = fun i =>
    value (m ((c.tc : Thread nD τ).loc main_arg0)) (m ((c.tc : Thread nD τ).loc main_arg1)) (m ((c.tc : Thread nD τ).loc main_arg2)) (i 0) (i 1) := by
  refine (dats m 0 c).arrAt_eq_of_covers 7 _ (by decide +kernel) fun t hf y => ?_
  blk_simp
  rw [after0_7]
  have e0 : ((((View.whole main_v20_2).slice (win0_7.rect t)).emb y 0 : Fin _) : ℕ) = t.val * 256 + (y 0 : ℕ) := by blk_simp [index_7 t]
  have e1 : ((((View.whole main_v20_2).slice (win0_7.rect t)).emb y 1 : Fin _) : ℕ) = (y 1 : ℕ) := by blk_simp [index_7 t]
  refine (congrArg (out0_7 (F := Ideal) (iblk m c 0 t) (iblk m c 1 t) (iblk m c 2 t) (iblk m c 3 t) (iblk m c 4 t)) (eq_ix2 y)).trans
    ((block7_at m c t (y 0) (y 1)).trans ?_)
  rw [show (((View.whole main_v20_2).slice (win0_7.rect t)).emb y 1) = y 1 from Fin.ext e1]
  exact congrArg (fun n => value _ _ _ n (y 1)) (Fin.ext e0.symm)

theorem block8_at (t : Fin cfg0.N) (r : Fin 256) (j : Fin 2048) :
    out0_8 (F := Ideal) (iblk m c 0 t) (iblk m c 1 t) (iblk m c 2 t) (iblk m c 3 t) (iblk m c 4 t) (ix2 r j)
      = gate (m ((c.tc : Thread nD τ).loc main_arg0)) (m ((c.tc : Thread nD τ).loc main_arg1)) (m ((c.tc : Thread nD τ).loc main_arg2)) ⟨t.val * 256 + r.val, by have := lt_points t; omega⟩ j := by
  have ht := lt_points t
  rw [out8_at, prod_block]
  rfl

theorem array8 : (dats m 0 c).arrAt 8 cfg0.N = fun i =>
    gate (m ((c.tc : Thread nD τ).loc main_arg0)) (m ((c.tc : Thread nD τ).loc main_arg1)) (m ((c.tc : Thread nD τ).loc main_arg2)) (i 0) (i 1) := by
  refine (dats m 0 c).arrAt_eq_of_covers 8 _ (by decide +kernel) fun t hf y => ?_
  blk_simp
  rw [after0_8]
  have e0 : ((((View.whole main_v20_3).slice (win0_8.rect t)).emb y 0 : Fin _) : ℕ) = t.val * 256 + (y 0 : ℕ) := by blk_simp [index_8 t]
  have e1 : ((((View.whole main_v20_3).slice (win0_8.rect t)).emb y 1 : Fin _) : ℕ) = (y 1 : ℕ) := by blk_simp [index_8 t]
  refine (congrArg (out0_8 (F := Ideal) (iblk m c 0 t) (iblk m c 1 t) (iblk m c 2 t) (iblk m c 3 t) (iblk m c 4 t)) (eq_ix2 y)).trans
    ((block8_at m c t (y 0) (y 1)).trans ?_)
  rw [show (((View.whole main_v20_3).slice (win0_8.rect t)).emb y 1) = y 1 from Fin.ext e1]
  exact congrArg (fun n => gate _ _ _ n (y 1)) (Fin.ext e0.symm)

/-- What the kernel returns. -/
theorem run_value (ρ : Dev nD → PrngReg) :
    θ_run defs (onTc (τ := τ) (main (F := Ideal))) ⟨m, fun _ => 0, ρ⟩ fun r => ∀ c : Dev nD,
      r.2.mem ((c.tc : Thread nD τ).loc main_v20_0) = (fun i => query (m ((c.tc : Thread nD τ).loc main_arg0)) (m ((c.tc : Thread nD τ).loc main_arg1)) (m ((c.tc : Thread nD τ).loc main_arg2)) (i 0) (i 1))
      ∧ r.2.mem ((c.tc : Thread nD τ).loc main_v20_1) = (fun i => key (m ((c.tc : Thread nD τ).loc main_arg0)) (m ((c.tc : Thread nD τ).loc main_arg1)) (m ((c.tc : Thread nD τ).loc main_arg2)) (i 0) (i 1))
      ∧ r.2.mem ((c.tc : Thread nD τ).loc main_v20_2) = (fun i => value (m ((c.tc : Thread nD τ).loc main_arg0)) (m ((c.tc : Thread nD τ).loc main_arg1)) (m ((c.tc : Thread nD τ).loc main_arg2)) (i 0) (i 1))
      ∧ r.2.mem ((c.tc : Thread nD τ).loc main_v20_3) = (fun i => gate (m ((c.tc : Thread nD τ).loc main_arg0)) (m ((c.tc : Thread nD τ).loc main_arg1)) (m ((c.tc : Thread nD τ).loc main_arg2)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (array5 m c), (h c).2.1.trans (array6 m c), (h c).2.2.1.trans (array7 m c),
    (h c).2.2.2.1.trans (array8 m c), (h c).2.2.2.2⟩) (run_blocks m ρ)

end Cert.OddProjIdeal.Value

end
-- ==== Proof.Odd.ProjRef.lean ====
/- The odd layer's input projection: the reference's four results, as the same functions of the arguments. -/
module

public import proofs.«01_k».proof.Proof.Gen.OddProjRefIdeal.Run
public import proofs.«01_k».proof.Proof.Odd.Rope
public import Idealize.ShloMosaic.Lib.Pointwise
public import Idealize.ShloMosaic.Lib.Tactic.CleanTypes

@[expose] public section

set_option maxRecDepth 16384

noncomputable section

namespace Cert.OddProjRefIdeal.Value

open Cert.OddProjRefIdeal Cert.OddProjRefIdeal.Gen Cert.OddProj
open Idealize.ShloMosaic Idealize.ShloMosaic.TcCoe Idealize.ShloMosaic.Tactic Idealize.SL.Sem

/-! The reference's results, stage by stage. -/

/-- The normalised input times the matrix. -/
def projected (x : FVec Ideal S16384x1024 .f32) (g : FVec Ideal S1024 .f32) (w : FVec Ideal S1024x6144 .f32) : FVec Ideal S2x8192x6144 .f32 :=
  Host.dotGeneral dot_S2x8192x1024_S1024x6144_S2x8192x6144_2_0_01_1_n_n none (mulf (mulf (shapeCast _ x shapeCasts_S16384x1024_S2x8192x1024) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (shapeCast _ x shapeCasts_S16384x1024_S2x8192x1024) (shapeCast _ x shapeCasts_S16384x1024_S2x8192x1024)) (constant (F := Ideal) S_ .f32 0x00000000#32) reducesTo_S2x8192x1024_S2x8192_d2 h_S_)) (broadcastInDim S2x8192x1 ![] bcast_S_S2x8192x1 (constant (F := Ideal) S_ .f32 0x44800000#32))) (broadcastInDim S2x8192x1 ![] bcast_S_S2x8192x1 (constant (F := Ideal) S_ .f32 0x358637BD#32)))))) (broadcastInDim S2x8192x1024 ![0, 1, 2] bcast_S1x1x1024_S2x8192x1024_0_1_2 (broadcastInDim S1x1x1024 ![2] bcast_S1024_S1x1x1024_2 g))) w

/-- The angles by position and frequency. -/
def angles : FVec Ideal S8192x1x64 .f32 :=
  shapeCast _ (mulf (broadcastInDim S8192x64 ![0, 1] bcast_S8192x1_S8192x64_0_1 (broadcastInDim S8192x1 ![0] bcast_S8192_S8192x1_0 (sitofp (F := Ideal) .f32 (iotaInDim S8192 32 0)))) (broadcastInDim S8192x64 ![0, 1] bcast_S1x64_S8192x64_0_1 (broadcastInDim S1x64 ![1] bcast_S64_S1x64_1 (Host.powf (broadcastInDim S64 ![] bcast_S_S64 (constant (F := Ideal) S_ .f32 0x461C4000#32)) (Host.divf (Host.negf (sitofp (F := Ideal) .f32 (iotaInDim S64 32 0))) (broadcastInDim S64 ![] bcast_S_S64 (constant (F := Ideal) S_ .f32 0x42800000#32))))))) shapeCasts_S8192x64_S8192x1x64

/-- The rotation of every head. -/
def rotated (y : FVec Ideal S2x8192x8x128 .f32) (a : FVec Ideal S8192x1x64 .f32) : FVec Ideal S2x8192x8x128 .f32 :=
  concatenate S2x8192x8x128 3 [⟨S2x8192x8x64, (subf (mulf (extractStridedSlice S2x8192x8x64 ![0, 0, 0, 0] y slices_S2x8192x8x128_S2x8192x8x64_0_0_0_0) (broadcastInDim S2x8192x8x64 ![0, 1, 2, 3] bcast_S1x8192x1x64_S2x8192x8x64_0_1_2_3 (broadcastInDim S1x8192x1x64 ![1, 2, 3] bcast_S8192x1x64_S1x8192x1x64_1_2_3 (Host.cos a)))) (mulf (extractStridedSlice S2x8192x8x64 ![0, 0, 0, 64] y slices_S2x8192x8x128_S2x8192x8x64_0_0_0_64) (broadcastInDim S2x8192x8x64 ![0, 1, 2, 3] bcast_S1x8192x1x64_S2x8192x8x64_0_1_2_3 (broadcastInDim S1x8192x1x64 ![1, 2, 3] bcast_S8192x1x64_S1x8192x1x64_1_2_3 (Host.sin a)))))⟩, ⟨S2x8192x8x64, (addf (mulf (extractStridedSlice S2x8192x8x64 ![0, 0, 0, 0] y slices_S2x8192x8x128_S2x8192x8x64_0_0_0_0) (broadcastInDim S2x8192x8x64 ![0, 1, 2, 3] bcast_S1x8192x1x64_S2x8192x8x64_0_1_2_3 (broadcastInDim S1x8192x1x64 ![1, 2, 3] bcast_S8192x1x64_S1x8192x1x64_1_2_3 (Host.sin a)))) (mulf (extractStridedSlice S2x8192x8x64 ![0, 0, 0, 64] y slices_S2x8192x8x128_S2x8192x8x64_0_0_0_64) (broadcastInDim S2x8192x8x64 ![0, 1, 2, 3] bcast_S1x8192x1x64_S2x8192x8x64_0_1_2_3 (broadcastInDim S1x8192x1x64 ![1, 2, 3] bcast_S8192x1x64_S1x8192x1x64_1_2_3 (Host.cos a)))))⟩] concatenates_S2x8192x8x64_S2x8192x8x64_S2x8192x8x128_d3

/-- The query columns by head. -/
def headsQ (z : FVec Ideal S2x8192x6144 .f32) : FVec Ideal S2x8192x8x128 .f32 :=
  shapeCast _ (extractStridedSlice S2x8192x1024 ![0, 0, 0] z slices_S2x8192x6144_S2x8192x1024_0_0_0) shapeCasts_S2x8192x1024_S2x8192x8x128

/-- The key columns by head. -/
def headsK (z : FVec Ideal S2x8192x6144 .f32) : FVec Ideal S2x8192x8x128 .f32 :=
  shapeCast _ (extractStridedSlice S2x8192x1024 ![0, 0, 1024] z slices_S2x8192x6144_S2x8192x1024_0_0_1024) shapeCasts_S2x8192x1024_S2x8192x8x128

/-- The queries, laid out as the result. -/
def rowsQ (y : FVec Ideal S2x8192x8x128 .f32) : FVec Ideal S16384x1024 .bf16 :=
  truncf .bf16 (shapeCast _ y shapeCasts_S2x8192x8x128_S16384x1024) bitsLt_bf16_f32

/-- The keys scaled, laid out as the result. -/
def rowsK (y : FVec Ideal S2x8192x8x128 .f32) : FVec Ideal S16384x1024 .bf16 :=
  truncf .bf16 (shapeCast _ (mulf y (broadcastInDim S2x8192x8x128 ![] bcast_S_S2x8192x8x128 (constant (F := Ideal) S_ .f32 0x3DB504F3#32))) shapeCasts_S2x8192x8x128_S16384x1024) bitsLt_bf16_f32

/-- The values, laid out as the result. -/
def rowsV (z : FVec Ideal S2x8192x6144 .f32) : FVec Ideal S16384x2048 .f32 :=
  shapeCast _ (extractStridedSlice S2x8192x2048 ![0, 0, 2048] z slices_S2x8192x6144_S2x8192x2048_0_0_2048) shapeCasts_S2x8192x2048_S16384x2048

/-- The gates, laid out as the result. -/
def rowsG (z : FVec Ideal S2x8192x6144 .f32) : FVec Ideal S16384x2048 .f32 :=
  shapeCast _ (extractStridedSlice S2x8192x2048 ![0, 0, 4096] z slices_S2x8192x6144_S2x8192x2048_0_0_4096) shapeCasts_S2x8192x2048_S16384x2048

/-- The row of the batch at a sequence and a position. -/
abbrev at2 (b : Fin 2) (p : Fin 8192) : Fin 16384 := ⟨b.val * 8192 + p.val, by omega⟩

theorem projected_at (x : FVec Ideal S16384x1024 .f32) (g : FVec Ideal S1024 .f32) (w : FVec Ideal S1024x6144 .f32) (b : Fin 2) (p : Fin 8192) (j : Fin 6144) :
    projected x g w (ix3 b p j) = column x g w (at2 b p) j := by
  unfold column normed
  pointwise [projected]

theorem angles_at (p : Fin 8192) (i : Fin 64) : angles (ix3 p 0 i) = angle p.val i.val := by
  unfold angle
  pointwise [angles]

theorem headsQ_at (z : FVec Ideal S2x8192x6144 .f32) (b : Fin 2) (p : Fin 8192) (h : Fin 8) (l : Fin 128) :
    headsQ z (ix4 b p h l) = z (ix3 b p (⟨h.val * 128 + l.val, by omega⟩ : Fin 6144)) := by
  pointwise [headsQ]

theorem headsK_at (z : FVec Ideal S2x8192x6144 .f32) (b : Fin 2) (p : Fin 8192) (h : Fin 8) (l : Fin 128) :
    headsK z (ix4 b p h l) = z (ix3 b p (⟨1024 + (h.val * 128 + l.val), by omega⟩ : Fin 6144)) := by
  pointwise [headsK]

theorem rotated_at (y : FVec Ideal S2x8192x8x128 .f32) (b : Fin 2) (p : Fin 8192) (h : Fin 8) (l : Fin 128) :
    rotated y angles (ix4 b p h l) = turn (y (ix4 b p h l)) (y (ix4 b p h (⟨(l.val + 64) % 128, by omega⟩ : Fin 128))) p.val l.val := by
  have e : ∀ a : FVec Ideal S8192x1x64 .f32, rotated y a (ix4 b p h l) = if hl : l.val < 64 then
        y (ix4 b p h l) * Ideal.cos (a (ix3 p 0 (⟨l.val, hl⟩ : Fin 64)))
          - y (ix4 b p h (⟨64 + l.val, by omega⟩ : Fin 128)) * Ideal.sin (a (ix3 p 0 (⟨l.val, hl⟩ : Fin 64)))
      else y (ix4 b p h (⟨l.val - 64, by omega⟩ : Fin 128)) * Ideal.sin (a (ix3 p 0 (⟨l.val - 64, by omega⟩ : Fin 64)))
          + y (ix4 b p h (⟨64 + (l.val - 64), by omega⟩ : Fin 128)) * Ideal.cos (a (ix3 p 0 (⟨l.val - 64, by omega⟩ : Fin 64))) := fun a => by
    pointwise [rotated]
  rw [e, turn]
  by_cases hl : l.val < 64
  · have e1 : (⟨64 + l.val, by omega⟩ : Fin 128) = ⟨(l.val + 64) % 128, by omega⟩ := Fin.ext (by show 64 + l.val = (l.val + 64) % 128; omega)
    rw [dif_pos hl, if_pos hl, angles_at, e1]
  · have e1 : (⟨l.val - 64, by omega⟩ : Fin 128) = ⟨(l.val + 64) % 128, by omega⟩ := Fin.ext (by show l.val - 64 = (l.val + 64) % 128; omega)
    have e2 : (⟨64 + (l.val - 64), by omega⟩ : Fin 128) = l := Fin.ext (by show 64 + (l.val - 64) = l.val; omega)
    rw [dif_neg hl, if_neg hl, angles_at, e1, e2]

theorem rowsQ_at (y : FVec Ideal S2x8192x8x128 .f32) (n : Fin 16384) (j : Fin 1024) :
    rowsQ y (ix2 n j) = y (ix4 (⟨n.val / 8192, by omega⟩ : Fin 2) (⟨n.val % 8192, by omega⟩ : Fin 8192) (⟨j.val / 128, by omega⟩ : Fin 8) (⟨j.val % 128, by omega⟩ : Fin 128)) := by
  pointwise [rowsQ]

theorem rowsK_at (y : FVec Ideal S2x8192x8x128 .f32) (n : Fin 16384) (j : Fin 1024) :
    rowsK y (ix2 n j) = y (ix4 (⟨n.val / 8192, by omega⟩ : Fin 2) (⟨n.val % 8192, by omega⟩ : Fin 8192) (⟨j.val / 128, by omega⟩ : Fin 8) (⟨j.val % 128, by omega⟩ : Fin 128))
      * Ideal.ofBits .f32 0x3DB504F3#32 := by
  pointwise [rowsK]

theorem rowsV_at (z : FVec Ideal S2x8192x6144 .f32) (n : Fin 16384) (j : Fin 2048) :
    rowsV z (ix2 n j) = z (ix3 (⟨n.val / 8192, by omega⟩ : Fin 2) (⟨n.val % 8192, by omega⟩ : Fin 8192) (⟨2048 + j.val, by omega⟩ : Fin 6144)) := by
  pointwise [rowsV]

theorem rowsG_at (z : FVec Ideal S2x8192x6144 .f32) (n : Fin 16384) (j : Fin 2048) :
    rowsG z (ix2 n j) = z (ix3 (⟨n.val / 8192, by omega⟩ : Fin 2) (⟨n.val % 8192, by omega⟩ : Fin 8192) (⟨4096 + j.val, by omega⟩ : Fin 6144)) := by
  pointwise [rowsG]

theorem outQ_at (x : FVec Ideal S16384x1024 .f32) (g : FVec Ideal S1024 .f32) (w : FVec Ideal S1024x6144 .f32) (n : Fin 16384) (j : Fin 1024) :
    rowsQ (rotated (headsQ (projected x g w)) angles) (ix2 n j) = query x g w n j := by
  have e1 : at2 (⟨n.val / 8192, by omega⟩ : Fin 2) (⟨n.val % 8192, by omega⟩ : Fin 8192) = n := Fin.ext (by show n.val / 8192 * 8192 + n.val % 8192 = n.val; omega)
  have e2 : (⟨j.val / 128 * 128 + j.val % 128, by omega⟩ : Fin 6144) = ⟨j.val, by omega⟩ := Fin.ext (by show j.val / 128 * 128 + j.val % 128 = j.val; omega)
  have e3 : (⟨j.val / 128 * 128 + (j.val % 128 + 64) % 128, by omega⟩ : Fin 6144) = ⟨j.val / 128 * 128 + (j.val + 64) % 128, by omega⟩ :=
    Fin.ext (by show j.val / 128 * 128 + (j.val % 128 + 64) % 128 = j.val / 128 * 128 + (j.val + 64) % 128; omega)
  rw [rowsQ_at, rotated_at, headsQ_at, headsQ_at, projected_at, projected_at, e1, e2, e3]
  rfl

theorem outK_at (x : FVec Ideal S16384x1024 .f32) (g : FVec Ideal S1024 .f32) (w : FVec Ideal S1024x6144 .f32) (n : Fin 16384) (j : Fin 1024) :
    rowsK (rotated (headsK (projected x g w)) angles) (ix2 n j) = key x g w n j := by
  have e1 : at2 (⟨n.val / 8192, by omega⟩ : Fin 2) (⟨n.val % 8192, by omega⟩ : Fin 8192) = n := Fin.ext (by show n.val / 8192 * 8192 + n.val % 8192 = n.val; omega)
  have e2 : (⟨1024 + (j.val / 128 * 128 + j.val % 128), by omega⟩ : Fin 6144) = ⟨1024 + j.val, by omega⟩ := Fin.ext (by show 1024 + (j.val / 128 * 128 + j.val % 128) = 1024 + j.val; omega)
  have e3 : (⟨1024 + (j.val / 128 * 128 + (j.val % 128 + 64) % 128), by omega⟩ : Fin 6144) = ⟨1024 + (j.val / 128 * 128 + (j.val + 64) % 128), by omega⟩ :=
    Fin.ext (by show 1024 + (j.val / 128 * 128 + (j.val % 128 + 64) % 128) = 1024 + (j.val / 128 * 128 + (j.val + 64) % 128); omega)
  rw [rowsK_at, rotated_at, headsK_at, headsK_at, projected_at, projected_at, e1, e2, e3]
  rfl

theorem outV_at (x : FVec Ideal S16384x1024 .f32) (g : FVec Ideal S1024 .f32) (w : FVec Ideal S1024x6144 .f32) (n : Fin 16384) (j : Fin 2048) :
    rowsV (projected x g w) (ix2 n j) = value x g w n j := by
  have e1 : at2 (⟨n.val / 8192, by omega⟩ : Fin 2) (⟨n.val % 8192, by omega⟩ : Fin 8192) = n := Fin.ext (by show n.val / 8192 * 8192 + n.val % 8192 = n.val; omega)
  rw [rowsV_at, projected_at, e1]
  rfl

theorem outG_at (x : FVec Ideal S16384x1024 .f32) (g : FVec Ideal S1024 .f32) (w : FVec Ideal S1024x6144 .f32) (n : Fin 16384) (j : Fin 2048) :
    rowsG (projected x g w) (ix2 n j) = gate x g w n j := by
  have e1 : at2 (⟨n.val / 8192, by omega⟩ : Fin 2) (⟨n.val % 8192, by omega⟩ : Fin 8192) = n := Fin.ext (by show n.val / 8192 * 8192 + n.val % 8192 = n.val; omega)
  rw [rowsG_at, projected_at, e1]
  rfl

theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v89) = rowsQ (rotated (headsQ (projected (m ((c.tc : Thread nD τ).loc main_arg0)) (m ((c.tc : Thread nD τ).loc main_arg1)) (m ((c.tc : Thread nD τ).loc main_arg2)))) angles)
      ∧ r.2.mem ((c.tc : Thread nD τ).loc main_v91) = rowsK (rotated (headsK (projected (m ((c.tc : Thread nD τ).loc main_arg0)) (m ((c.tc : Thread nD τ).loc main_arg1)) (m ((c.tc : Thread nD τ).loc main_arg2)))) angles)
      ∧ r.2.mem ((c.tc : Thread nD τ).loc main_v92) = rowsV (projected (m ((c.tc : Thread nD τ).loc main_arg0)) (m ((c.tc : Thread nD τ).loc main_arg1)) (m ((c.tc : Thread nD τ).loc main_arg2)))
      ∧ r.2.mem ((c.tc : Thread nD τ).loc main_v93) = rowsG (projected (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (by rfl), (h c).2.1.trans (by rfl), (h c).2.2.1.trans (by rfl), (h c).2.2.2.1.trans (by rfl), (h c).2.2.2.2⟩) (run (F := Ideal) m ρ)

/-- What the reference returns. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v89) = (fun i => query (m ((c.tc : Thread nD τ).loc main_arg0)) (m ((c.tc : Thread nD τ).loc main_arg1)) (m ((c.tc : Thread nD τ).loc main_arg2)) (i 0) (i 1))
      ∧ r.2.mem ((c.tc : Thread nD τ).loc main_v91) = (fun i => key (m ((c.tc : Thread nD τ).loc main_arg0)) (m ((c.tc : Thread nD τ).loc main_arg1)) (m ((c.tc : Thread nD τ).loc main_arg2)) (i 0) (i 1))
      ∧ r.2.mem ((c.tc : Thread nD τ).loc main_v92) = (fun i => value (m ((c.tc : Thread nD τ).loc main_arg0)) (m ((c.tc : Thread nD τ).loc main_arg1)) (m ((c.tc : Thread nD τ).loc main_arg2)) (i 0) (i 1))
      ∧ r.2.mem ((c.tc : Thread nD τ).loc main_v93) = (fun i => gate (m ((c.tc : Thread nD τ).loc main_arg0)) (m ((c.tc : Thread nD τ).loc main_arg1)) (m ((c.tc : Thread nD τ).loc main_arg2)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2.1.trans ?_, (h c).2.2.1.trans ?_, (h c).2.2.2.1.trans ?_, (h c).2.2.2.2⟩)
    (run_stages m ρ)
  · funext i
    exact (congrArg _ (eq_ix2 i)).trans (outQ_at _ _ _ (i 0) (i 1))
  · funext i
    exact (congrArg _ (eq_ix2 i)).trans (outK_at _ _ _ (i 0) (i 1))
  · funext i
    exact (congrArg _ (eq_ix2 i)).trans (outV_at _ _ _ (i 0) (i 1))
  · funext i
    exact (congrArg _ (eq_ix2 i)).trans (outG_at _ _ _ (i 0) (i 1))

end Cert.OddProjRefIdeal.Value

end
-- ==== Proof.Odd.Out.lean ====
/- The odd layer's output projection and the final norm, over the extended reals. -/
module

public import proofs.«01_k».proof.Proof.Gen.OddOutIdeal.Value
public import proofs.«01_k».proof.Proof.Gen.OddOutRefIdeal.Run
public import Idealize.ShloMosaic.Lib.Pipeline.ValueKit
public import Idealize.ShloMosaic.Lib.Pointwise
public import Idealize.ShloMosaic.Lib.Tactic.CleanTypes

@[expose] public section

set_option maxRecDepth 16384

noncomputable section

namespace Cert.OddOut

open Idealize.ShloMosaic Idealize.ShloMosaic.Tactic

/-- The layer's input plus the projected retention output. -/
def summed (x : (⟨2, ![16384, 1024]⟩ : Shape).Idx → EReal) (y : (⟨2, ![16384, 2048]⟩ : Shape).Idx → EReal)
    (w : (⟨2, ![2048, 1024]⟩ : Shape).Idx → EReal) (n : Fin 16384) (d : Fin 1024) : EReal :=
  x (ix2 n d) + ∑ j : Fin 2048, y (ix2 n j) * w (ix2 j d)

/-- Its root mean square norm. -/
def normed (x : (⟨2, ![16384, 1024]⟩ : Shape).Idx → EReal) (y : (⟨2, ![16384, 2048]⟩ : Shape).Idx → EReal)
    (w : (⟨2, ![2048, 1024]⟩ : Shape).Idx → EReal) (g : (⟨1, ![1024]⟩ : Shape).Idx → EReal) (n : Fin 16384) (d : Fin 1024) : EReal :=
  summed x y w n d
    * Ideal.rsqrt (Ideal.div (∑ e : Fin 1024, summed x y w n e * summed x y w n e) (Ideal.ofBits .f32 0x44800000#32)
      + Ideal.ofBits .f32 0x358637BD#32)
    * g (ix1 d)

end Cert.OddOut

namespace Cert.OddOutIdeal.Value

open Cert.OddOutIdeal Cert.OddOutIdeal.Gen Cert.OddOut
open Idealize.ShloMosaic Idealize.ShloMosaic.TcCoe Idealize.ShloMosaic.Tactic Idealize.SL.Sem

variable (m : (ℓ : Loc nD τ sig) → Buf (Elt Ideal) ℓ) (c : Dev nD)

theorem index_0 : ∀ t : Fin cfg0.N, win0_0.index t = ![t.val, 0] := (by decide +kernel : ∀ t : Fin grid0.N, win0_0.index t = ![t.val, 0])
theorem index_1 : ∀ t : Fin cfg0.N, win0_1.index t = ![t.val, 0] := (by decide +kernel : ∀ t : Fin grid0.N, win0_1.index t = ![t.val, 0])
theorem index_2 : ∀ t : Fin cfg0.N, win0_2.index t = ![0, 0] := (by decide +kernel : ∀ t : Fin grid0.N, win0_2.index t = ![0, 0])
theorem index_3 : ∀ t : Fin cfg0.N, win0_3.index t = ![0, 0] := (by decide +kernel : ∀ t : Fin grid0.N, win0_3.index t = ![0, 0])
theorem index_4 : ∀ t : Fin cfg0.N, win0_4.index t = ![t.val, 0] := (by decide +kernel : ∀ t : Fin grid0.N, win0_4.index t = ![t.val, 0])

theorem lt_points (t : Fin cfg0.N) : t.val < 64 := t.isLt

/-- One block's result at one element. -/
theorem block_at (t : Fin cfg0.N) (r : Fin 256) (d : Fin 1024) :
    k0_pay1 (F := Ideal) (iblk m c 0 t) (iblk m c 1 t) (iblk m c 2 t) (iblk m c 3 t) (ix2 r d)
      = normed (m ((c.tc : Thread nD τ).loc main_arg0)) (m ((c.tc : Thread nD τ).loc main_arg1)) (m ((c.tc : Thread nD τ).loc main_arg2))
        (m ((c.tc : Thread nD τ).loc main_arg3)) ⟨t.val * 256 + r.val, by have := lt_points t; omega⟩ d := by
  have := lt_points t
  pointwise [k0_pay1]
  unfold normed summed
  blk_point [iblk, V, index_0 t, index_1 t, index_2 t, index_3 t]

theorem out_eq : (dats m 0 c).arrAt 4 cfg0.N = fun i =>
    normed (m ((c.tc : Thread nD τ).loc main_arg0)) (m ((c.tc : Thread nD τ).loc main_arg1)) (m ((c.tc : Thread nD τ).loc main_arg2))
      (m ((c.tc : Thread nD τ).loc main_arg3)) (i 0) (i 1) := by
  refine (dats m 0 c).arrAt_eq_of_covers 4 _ (by decide +kernel) fun t hf y => ?_
  blk_simp
  rw [after0_4]
  frame_out
  have e0 : ((((View.whole main_v2).slice (win0_4.rect t)).emb y 0 : Fin _) : ℕ) = t.val * 256 + (y 0 : ℕ) := by blk_simp [index_4 t]
  have e1 : ((((View.whole main_v2).slice (win0_4.rect t)).emb y 1 : Fin _) : ℕ) = (y 1 : ℕ) := by blk_simp [index_4 t]
  refine (congrArg (k0_pay1 (F := Ideal) (iblk m c 0 t) (iblk m c 1 t) (iblk m c 2 t) (iblk m c 3 t)) (eq_ix2 y)).trans
    ((block_at m c t (y 0) (y 1)).trans ?_)
  rw [show (((View.whole main_v2).slice (win0_4.rect t)).emb y 1) = y 1 from Fin.ext e1]
  exact congrArg (fun n => normed _ _ _ _ n (y 1)) (Fin.ext e0.symm)

theorem run_value (ρ : Dev nD → PrngReg) :
    θ_run defs (onTc (τ := τ) (main (F := Ideal))) ⟨m, fun _ => 0, ρ⟩ fun r => ∀ c : Dev nD,
      r.2.mem ((c.tc : Thread nD τ).loc main_v2) = (fun i => normed (m ((c.tc : Thread nD τ).loc main_arg0)) (m ((c.tc : Thread nD τ).loc main_arg1))
        (m ((c.tc : Thread nD τ).loc main_arg2)) (m ((c.tc : Thread nD τ).loc main_arg3)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (out_eq m c), (h c).2⟩) (run_blocks m ρ)

end Cert.OddOutIdeal.Value

namespace Cert.OddOutRefIdeal.Value

open Cert.OddOutRefIdeal Cert.OddOutRefIdeal.Gen Cert.OddOut
open Idealize.ShloMosaic Idealize.ShloMosaic.TcCoe Idealize.ShloMosaic.Tactic Idealize.SL.Sem

theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15) = (fun i => normed (m ((c.tc : Thread nD τ).loc main_arg0)) (m ((c.tc : Thread nD τ).loc main_arg1))
        (m ((c.tc : Thread nD τ).loc main_arg2)) (m ((c.tc : Thread nD τ).loc main_arg3)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2⟩) (run (F := Ideal) m ρ)
  funext i
  clean_types
  idx_vars i
  pointwise []
  rfl

end Cert.OddOutRefIdeal.Value

end
-- ==== Proof.EvenIdeal.Body.lean ====
/- What the even layer's projection leaves in its output blocks, and its body run from its input blocks. -/
module

public import proofs.«01_k».proof.Proof.Gen.EvenProjIdeal.Frame.Runs

@[expose] public section

set_option maxRecDepth 16384

noncomputable section

namespace Cert.EvenProjIdeal.Even

open Cert.EvenProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses -/

abbrev r_0 : Rect S256x1024 := Rect.unit (s := S256x1024) ![0, 0] S256x1024.size inb_S256x1024_S256x1024_0_0
abbrev r_1 : Rect S1x1024 := Rect.unit (s := S1x1024) ![0, 0] S1x1024.size inb_S1x1024_S1x1024_0_0
abbrev r_2 : Rect S512x1024 := Rect.unit (s := S512x1024) ![0, 0] S256x1024.size inb_S512x1024_S256x1024_0_0
abbrev r_3 : Rect S1x256x256 := Rect.unit (s := S1x256x256) ![0, 0, 0] S1x256x256.size inb_S1x256x256_S1x256x256_0_0_0
abbrev r_4 : Rect S512x1024 := Rect.unit (s := S512x1024) ![256, 0] S256x1024.size inb_S512x1024_S256x1024_256_0
abbrev r_5 : Rect S256x128 := Rect.unit (s := S256x128) ![0, 0] S256x128.size inb_S256x128_S256x128_0_0
abbrev r_6 : Rect S1024x6272 := Rect.unit (s := S1024x6272) ![0, 0] S1024x768.size inb_S1024x6272_S1024x768_0_0
abbrev r_7 : Rect S1x768 := Rect.unit (s := S1x768) ![0, 0] S1x768.size inb_S1x768_S1x768_0_0
abbrev r_8 : Rect S768x1280 := Rect.unit (s := S768x1280) ![0, 1024] S768x128.size inb_S768x1280_S768x128_0_1024
abbrev r_9 : Rect S768x1280 := Rect.unit (s := S768x1280) ![0, 1152] S768x128.size inb_S768x1280_S768x128_0_1152
abbrev r_10 : Rect S768x1280 := Rect.unit (s := S768x1280) ![0, 0] S768x128.size inb_S768x1280_S768x128_0_0
abbrev r_11 : Rect S8x128x256 := Rect.unit (s := S8x128x256) ![0, 0, 0] S1x128x256.size inb_S8x128x256_S1x128x256_0_0_0
abbrev r_12 : Rect S8x256x512 := Rect.unit (s := S8x256x512) ![0, 0, 0] S1x256x256.size inb_S8x256x512_S1x256x256_0_0_0
abbrev r_13 : Rect S8x256x512 := Rect.unit (s := S8x256x512) ![0, 0, 256] S1x256x128.size inb_S8x256x512_S1x256x128_0_0_256
abbrev r_14 : Rect S8x256x512 := Rect.unit (s := S8x256x512) ![0, 0, 384] S1x256x128.size inb_S8x256x512_S1x256x128_0_0_384
abbrev r_15 : Rect S768x1280 := Rect.unit (s := S768x1280) ![0, 128] S768x128.size inb_S768x1280_S768x128_0_128
abbrev r_16 : Rect S8x128x256 := Rect.unit (s := S8x128x256) ![1, 0, 0] S1x128x256.size inb_S8x128x256_S1x128x256_1_0_0
abbrev r_17 : Rect S8x256x512 := Rect.unit (s := S8x256x512) ![1, 0, 0] S1x256x256.size inb_S8x256x512_S1x256x256_1_0_0
abbrev r_18 : Rect S8x256x512 := Rect.unit (s := S8x256x512) ![1, 0, 256] S1x256x128.size inb_S8x256x512_S1x256x128_1_0_256
abbrev r_19 : Rect S8x256x512 := Rect.unit (s := S8x256x512) ![1, 0, 384] S1x256x128.size inb_S8x256x512_S1x256x128_1_0_384
abbrev r_20 : Rect S768x1280 := Rect.unit (s := S768x1280) ![0, 256] S768x128.size inb_S768x1280_S768x128_0_256
abbrev r_21 : Rect S8x128x256 := Rect.unit (s := S8x128x256) ![2, 0, 0] S1x128x256.size inb_S8x128x256_S1x128x256_2_0_0
abbrev r_22 : Rect S8x256x512 := Rect.unit (s := S8x256x512) ![2, 0, 0] S1x256x256.size inb_S8x256x512_S1x256x256_2_0_0
abbrev r_23 : Rect S8x256x512 := Rect.unit (s := S8x256x512) ![2, 0, 256] S1x256x128.size inb_S8x256x512_S1x256x128_2_0_256
abbrev r_24 : Rect S8x256x512 := Rect.unit (s := S8x256x512) ![2, 0, 384] S1x256x128.size inb_S8x256x512_S1x256x128_2_0_384
abbrev r_25 : Rect S768x1280 := Rect.unit (s := S768x1280) ![0, 384] S768x128.size inb_S768x1280_S768x128_0_384
abbrev r_26 : Rect S8x128x256 := Rect.unit (s := S8x128x256) ![3, 0, 0] S1x128x256.size inb_S8x128x256_S1x128x256_3_0_0
abbrev r_27 : Rect S8x256x512 := Rect.unit (s := S8x256x512) ![3, 0, 0] S1x256x256.size inb_S8x256x512_S1x256x256_3_0_0
abbrev r_28 : Rect S8x256x512 := Rect.unit (s := S8x256x512) ![3, 0, 256] S1x256x128.size inb_S8x256x512_S1x256x128_3_0_256
abbrev r_29 : Rect S8x256x512 := Rect.unit (s := S8x256x512) ![3, 0, 384] S1x256x128.size inb_S8x256x512_S1x256x128_3_0_384
abbrev r_30 : Rect S768x1280 := Rect.unit (s := S768x1280) ![0, 512] S768x128.size inb_S768x1280_S768x128_0_512
abbrev r_31 : Rect S8x128x256 := Rect.unit (s := S8x128x256) ![4, 0, 0] S1x128x256.size inb_S8x128x256_S1x128x256_4_0_0
abbrev r_32 : Rect S8x256x512 := Rect.unit (s := S8x256x512) ![4, 0, 0] S1x256x256.size inb_S8x256x512_S1x256x256_4_0_0
abbrev r_33 : Rect S8x256x512 := Rect.unit (s := S8x256x512) ![4, 0, 256] S1x256x128.size inb_S8x256x512_S1x256x128_4_0_256
abbrev r_34 : Rect S8x256x512 := Rect.unit (s := S8x256x512) ![4, 0, 384] S1x256x128.size inb_S8x256x512_S1x256x128_4_0_384
abbrev r_35 : Rect S768x1280 := Rect.unit (s := S768x1280) ![0, 640] S768x128.size inb_S768x1280_S768x128_0_640
abbrev r_36 : Rect S8x128x256 := Rect.unit (s := S8x128x256) ![5, 0, 0] S1x128x256.size inb_S8x128x256_S1x128x256_5_0_0
abbrev r_37 : Rect S8x256x512 := Rect.unit (s := S8x256x512) ![5, 0, 0] S1x256x256.size inb_S8x256x512_S1x256x256_5_0_0
abbrev r_38 : Rect S8x256x512 := Rect.unit (s := S8x256x512) ![5, 0, 256] S1x256x128.size inb_S8x256x512_S1x256x128_5_0_256
abbrev r_39 : Rect S8x256x512 := Rect.unit (s := S8x256x512) ![5, 0, 384] S1x256x128.size inb_S8x256x512_S1x256x128_5_0_384
abbrev r_40 : Rect S768x1280 := Rect.unit (s := S768x1280) ![0, 768] S768x128.size inb_S768x1280_S768x128_0_768
abbrev r_41 : Rect S8x128x256 := Rect.unit (s := S8x128x256) ![6, 0, 0] S1x128x256.size inb_S8x128x256_S1x128x256_6_0_0
abbrev r_42 : Rect S8x256x512 := Rect.unit (s := S8x256x512) ![6, 0, 0] S1x256x256.size inb_S8x256x512_S1x256x256_6_0_0
abbrev r_43 : Rect S8x256x512 := Rect.unit (s := S8x256x512) ![6, 0, 256] S1x256x128.size inb_S8x256x512_S1x256x128_6_0_256
abbrev r_44 : Rect S8x256x512 := Rect.unit (s := S8x256x512) ![6, 0, 384] S1x256x128.size inb_S8x256x512_S1x256x128_6_0_384
abbrev r_45 : Rect S768x1280 := Rect.unit (s := S768x1280) ![0, 896] S768x128.size inb_S768x1280_S768x128_0_896
abbrev r_46 : Rect S8x128x256 := Rect.unit (s := S8x128x256) ![7, 0, 0] S1x128x256.size inb_S8x128x256_S1x128x256_7_0_0
abbrev r_47 : Rect S8x256x512 := Rect.unit (s := S8x256x512) ![7, 0, 0] S1x256x256.size inb_S8x256x512_S1x256x256_7_0_0
abbrev r_48 : Rect S8x256x512 := Rect.unit (s := S8x256x512) ![7, 0, 256] S1x256x128.size inb_S8x256x512_S1x256x128_7_0_256
abbrev r_49 : Rect S8x256x512 := Rect.unit (s := S8x256x512) ![7, 0, 384] S1x256x128.size inb_S8x256x512_S1x256x128_7_0_384
abbrev r_50 : Rect S1024x6272 := Rect.unit (s := S1024x6272) ![0, 768] S1024x256.size inb_S1024x6272_S1024x256_0_768
abbrev r_51 : Rect S1x256 := Rect.unit (s := S1x256) ![0, 0] S1x256.size inb_S1x256_S1x256_0_0
abbrev r_52 : Rect S1024x6272 := Rect.unit (s := S1024x6272) ![0, 1024] S1024x128.size inb_S1024x6272_S1024x128_0_1024
abbrev r_53 : Rect S1024x6272 := Rect.unit (s := S1024x6272) ![0, 1152] S1024x128.size inb_S1024x6272_S1024x128_0_1152
abbrev r_54 : Rect S256x512 := Rect.unit (s := S256x512) ![0, 0] S256x256.size inb_S256x512_S256x256_0_0
abbrev r_55 : Rect S256x512 := Rect.unit (s := S256x512) ![0, 256] S256x128.size inb_S256x512_S256x128_0_256
abbrev r_56 : Rect S256x512 := Rect.unit (s := S256x512) ![0, 384] S256x128.size inb_S256x512_S256x128_0_384
abbrev r_57 : Rect S1024x6272 := Rect.unit (s := S1024x6272) ![0, 1280] S1024x1024.size inb_S1024x6272_S1024x1024_0_1280
abbrev r_58 : Rect S1024x6272 := Rect.unit (s := S1024x6272) ![0, 2304] S1024x1024.size inb_S1024x6272_S1024x1024_0_2304
abbrev r_59 : Rect S1024x6272 := Rect.unit (s := S1024x6272) ![0, 3328] S1024x256.size inb_S1024x6272_S1024x256_0_3328
abbrev r_60 : Rect S256x256 := Rect.unit (s := S256x256) ![0, 0] S256x256.size inb_S256x256_S256x256_0_0
abbrev r_61 : Rect S1024x6272 := Rect.unit (s := S1024x6272) ![0, 3584] S1024x256.size inb_S1024x6272_S1024x256_0_3584
abbrev r_62 : Rect S1024x6272 := Rect.unit (s := S1024x6272) ![0, 3840] S1024x512.size inb_S1024x6272_S1024x512_0_3840
abbrev r_63 : Rect S256x512 := Rect.unit (s := S256x512) ![0, 0] S256x512.size inb_S256x512_S256x512_0_0
abbrev r_64 : Rect S1024x6272 := Rect.unit (s := S1024x6272) ![0, 4352] S1024x256.size inb_S1024x6272_S1024x256_0_4352
abbrev r_65 : Rect S1024x6272 := Rect.unit (s := S1024x6272) ![0, 4608] S1024x512.size inb_S1024x6272_S1024x512_0_4608
abbrev r_66 : Rect S1024x6272 := Rect.unit (s := S1024x6272) ![0, 5120] S1024x128.size inb_S1024x6272_S1024x128_0_5120
abbrev r_67 : Rect S1024x6272 := Rect.unit (s := S1024x6272) ![0, 5248] S1024x1024.size inb_S1024x6272_S1024x1024_0_5248

/-! ## What the body leaves in each output window's buffer -/

/-- The block's rows, normalised. -/
def xin (x0 : Vec F S256x1024 .f32) (x1 : Vec F S1x1024 .f32) (x2 : Vec F S1024x6272 .bf16) (x3 : Vec F S512x1024 .bf16) (x4 : Vec F S1x768 .f32) (x5 : Vec F S1x256 .f32) (x6 : Vec F S768x1280 .bf16) (x7 : Vec F S8x128x256 .bf16) (x8 : Vec F S256x128 .f32) (x9 : Vec F S256x128 .f32) : FVec F S256x1024 .bf16 :=
  k0_pay6 (View.ld x0 r_0) (View.ld x1 r_1)
/-- The block's cosines. -/
def cosB (x0 : Vec F S256x1024 .f32) (x1 : Vec F S1x1024 .f32) (x2 : Vec F S1024x6272 .bf16) (x3 : Vec F S512x1024 .bf16) (x4 : Vec F S1x768 .f32) (x5 : Vec F S1x256 .f32) (x6 : Vec F S768x1280 .bf16) (x7 : Vec F S8x128x256 .bf16) (x8 : Vec F S256x128 .f32) (x9 : Vec F S256x128 .f32) : FVec F S256x128 .f32 :=
  k0_pay9 (View.ld x8 r_5)
/-- The block's sines. -/
def sinB (x0 : Vec F S256x1024 .f32) (x1 : Vec F S1x1024 .f32) (x2 : Vec F S1024x6272 .bf16) (x3 : Vec F S512x1024 .bf16) (x4 : Vec F S1x768 .f32) (x5 : Vec F S1x256 .f32) (x6 : Vec F S768x1280 .bf16) (x7 : Vec F S8x128x256 .bf16) (x8 : Vec F S256x128 .f32) (x9 : Vec F S256x128 .f32) : FVec F S256x128 .f32 :=
  k0_pay10 (View.ld x9 r_5)
/-- The lane's number. -/
def lane (x0 : Vec F S256x1024 .f32) (x1 : Vec F S1x1024 .f32) (x2 : Vec F S1024x6272 .bf16) (x3 : Vec F S512x1024 .bf16) (x4 : Vec F S1x768 .f32) (x5 : Vec F S1x256 .f32) (x6 : Vec F S768x1280 .bf16) (x7 : Vec F S8x128x256 .bf16) (x8 : Vec F S256x128 .f32) (x9 : Vec F S256x128 .f32) : IVec S1x128 32 :=
  iota .tc S1x128 32 [1] iota_S1x128_d1_w32
/-- The query's latent rows, normalised. -/
def qn (x0 : Vec F S256x1024 .f32) (x1 : Vec F S1x1024 .f32) (x2 : Vec F S1024x6272 .bf16) (x3 : Vec F S512x1024 .bf16) (x4 : Vec F S1x768 .f32) (x5 : Vec F S1x256 .f32) (x6 : Vec F S768x1280 .bf16) (x7 : Vec F S8x128x256 .bf16) (x8 : Vec F S256x128 .f32) (x9 : Vec F S256x128 .f32) : FVec F S256x768 .bf16 :=
  k0_pay11 (xin x0 x1 x2 x3 x4 x5 x6 x7 x8 x9) (View.ld x2 r_6) (View.ld x4 r_7)
/-- The query's first rotated half. -/
def rotA (x0 : Vec F S256x1024 .f32) (x1 : Vec F S1x1024 .f32) (x2 : Vec F S1024x6272 .bf16) (x3 : Vec F S512x1024 .bf16) (x4 : Vec F S1x768 .f32) (x5 : Vec F S1x256 .f32) (x6 : Vec F S768x1280 .bf16) (x7 : Vec F S8x128x256 .bf16) (x8 : Vec F S256x128 .f32) (x9 : Vec F S256x128 .f32) : FVec F S256x128 .f32 :=
  k0_pay14 (xin x0 x1 x2 x3 x4 x5 x6 x7 x8 x9) (cosB x0 x1 x2 x3 x4 x5 x6 x7 x8 x9) (sinB x0 x1 x2 x3 x4 x5 x6 x7 x8 x9) (View.ld x2 r_6) (View.ld x4 r_7) (View.ld x6 r_8) (View.ld x6 r_9)
/-- The query's second rotated half. -/
def rotB (x0 : Vec F S256x1024 .f32) (x1 : Vec F S1x1024 .f32) (x2 : Vec F S1024x6272 .bf16) (x3 : Vec F S512x1024 .bf16) (x4 : Vec F S1x768 .f32) (x5 : Vec F S1x256 .f32) (x6 : Vec F S768x1280 .bf16) (x7 : Vec F S8x128x256 .bf16) (x8 : Vec F S256x128 .f32) (x9 : Vec F S256x128 .f32) : FVec F S256x128 .f32 :=
  k0_pay15 (xin x0 x1 x2 x3 x4 x5 x6 x7 x8 x9) (cosB x0 x1 x2 x3 x4 x5 x6 x7 x8 x9) (sinB x0 x1 x2 x3 x4 x5 x6 x7 x8 x9) (View.ld x2 r_6) (View.ld x4 r_7) (View.ld x6 r_8) (View.ld x6 r_9)
/-- A lane's number over sixteen, as the body computes it: first step. -/
def lane16 (x0 : Vec F S256x1024 .f32) (x1 : Vec F S1x1024 .f32) (x2 : Vec F S1024x6272 .bf16) (x3 : Vec F S512x1024 .bf16) (x4 : Vec F S1x768 .f32) (x5 : Vec F S1x256 .f32) (x6 : Vec F S768x1280 .bf16) (x7 : Vec F S8x128x256 .bf16) (x8 : Vec F S256x128 .f32) (x9 : Vec F S256x128 .f32) : IVec S1x128 32 :=
  k0_pay16
/-- Its second step. -/
def laneQ (x0 : Vec F S256x1024 .f32) (x1 : Vec F S1x1024 .f32) (x2 : Vec F S1024x6272 .bf16) (x3 : Vec F S512x1024 .bf16) (x4 : Vec F S1x768 .f32) (x5 : Vec F S1x256 .f32) (x6 : Vec F S768x1280 .bf16) (x7 : Vec F S8x128x256 .bf16) (x8 : Vec F S256x128 .f32) (x9 : Vec F S256x128 .f32) : IVec S1x128 32 :=
  k0_pay17
/-- The head that a lane belongs to. -/
def headOf (x0 : Vec F S256x1024 .f32) (x1 : Vec F S1x1024 .f32) (x2 : Vec F S1024x6272 .bf16) (x3 : Vec F S512x1024 .bf16) (x4 : Vec F S1x768 .f32) (x5 : Vec F S1x256 .f32) (x6 : Vec F S768x1280 .bf16) (x7 : Vec F S8x128x256 .bf16) (x8 : Vec F S256x128 .f32) (x9 : Vec F S256x128 .f32) : IVec S1x128 32 :=
  k0_pay18 (lane x0 x1 x2 x3 x4 x5 x6 x7 x8 x9) 16#32 (lane16 x0 x1 x2 x3 x4 x5 x6 x7 x8 x9) (laneQ x0 x1 x2 x3 x4 x5 x6 x7 x8 x9) (Scalar.extui (Scalar.cmpi .sgt 16#32 0#32)) (Scalar.cmpi .slt 16#32 0#32)

/-- What the body leaves of output 10. -/
def out_10 (x0 : Vec F S256x1024 .f32) (x1 : Vec F S1x1024 .f32) (x2 : Vec F S1024x6272 .bf16) (x3 : Vec F S512x1024 .bf16) (x4 : Vec F S1x768 .f32) (x5 : Vec F S1x256 .f32) (x6 : Vec F S768x1280 .bf16) (x7 : Vec F S8x128x256 .bf16) (x8 : Vec F S256x128 .f32) (x9 : Vec F S256x128 .f32) : Vec F S8x256x512 .bf16 :=
  View.canon [⟨r_49, k0_pay57 (k0_pay56 (rotB x0 x1 x2 x3 x4 x5 x6 x7 x8 x9) (headOf x0 x1 x2 x3 x4 x5 x6 x7 x8 x9))⟩,
    ⟨r_48, k0_pay55 (rotA x0 x1 x2 x3 x4 x5 x6 x7 x8 x9) (headOf x0 x1 x2 x3 x4 x5 x6 x7 x8 x9)⟩,
    ⟨r_47, k0_pay53 (qn x0 x1 x2 x3 x4 x5 x6 x7 x8 x9) (View.ld x6 r_45) (View.ld x7 r_46)⟩,
    ⟨r_44, k0_pay52 (rotB x0 x1 x2 x3 x4 x5 x6 x7 x8 x9) (Scalar.ofBits .f32 0x00000000#32) (k0_pay51 (headOf x0 x1 x2 x3 x4 x5 x6 x7 x8 x9))⟩,
    ⟨r_43, k0_pay50 (rotA x0 x1 x2 x3 x4 x5 x6 x7 x8 x9) (headOf x0 x1 x2 x3 x4 x5 x6 x7 x8 x9)⟩,
    ⟨r_42, k0_pay48 (qn x0 x1 x2 x3 x4 x5 x6 x7 x8 x9) (View.ld x6 r_40) (View.ld x7 r_41)⟩,
    ⟨r_39, k0_pay47 (rotB x0 x1 x2 x3 x4 x5 x6 x7 x8 x9) (k0_pay44 (headOf x0 x1 x2 x3 x4 x5 x6 x7 x8 x9))⟩,
    ⟨r_38, k0_pay46 (k0_pay45 (rotA x0 x1 x2 x3 x4 x5 x6 x7 x8 x9) (headOf x0 x1 x2 x3 x4 x5 x6 x7 x8 x9))⟩,
    ⟨r_37, k0_pay43 (qn x0 x1 x2 x3 x4 x5 x6 x7 x8 x9) (View.ld x6 r_35) (View.ld x7 r_36)⟩,
    ⟨r_34, k0_pay42 (rotB x0 x1 x2 x3 x4 x5 x6 x7 x8 x9) (headOf x0 x1 x2 x3 x4 x5 x6 x7 x8 x9)⟩,
    ⟨r_33, k0_pay41 (rotA x0 x1 x2 x3 x4 x5 x6 x7 x8 x9) (headOf x0 x1 x2 x3 x4 x5 x6 x7 x8 x9)⟩,
    ⟨r_32, k0_pay39 (qn x0 x1 x2 x3 x4 x5 x6 x7 x8 x9) (View.ld x6 r_30) (View.ld x7 r_31)⟩,
    ⟨r_29, k0_pay38 (rotB x0 x1 x2 x3 x4 x5 x6 x7 x8 x9) (headOf x0 x1 x2 x3 x4 x5 x6 x7 x8 x9)⟩,
    ⟨r_28, k0_pay37 (rotA x0 x1 x2 x3 x4 x5 x6 x7 x8 x9) (headOf x0 x1 x2 x3 x4 x5 x6 x7 x8 x9)⟩,
    ⟨r_27, k0_pay35 (k0_pay33 (qn x0 x1 x2 x3 x4 x5 x6 x7 x8 x9) (View.ld x6 r_25)) (k0_pay34 (View.ld x7 r_26)) (constant S256x256 .f32 0x00000000#32)⟩,
    ⟨r_24, k0_pay32 (rotB x0 x1 x2 x3 x4 x5 x6 x7 x8 x9) (headOf x0 x1 x2 x3 x4 x5 x6 x7 x8 x9)⟩,
    ⟨r_23, k0_pay31 (rotA x0 x1 x2 x3 x4 x5 x6 x7 x8 x9) (headOf x0 x1 x2 x3 x4 x5 x6 x7 x8 x9)⟩,
    ⟨r_22, k0_pay29 (qn x0 x1 x2 x3 x4 x5 x6 x7 x8 x9) (k0_pay28 (View.ld x6 r_20)) (View.ld x7 r_21)⟩,
    ⟨r_19, k0_pay27 (rotB x0 x1 x2 x3 x4 x5 x6 x7 x8 x9) (headOf x0 x1 x2 x3 x4 x5 x6 x7 x8 x9)⟩,
    ⟨r_18, k0_pay26 (rotA x0 x1 x2 x3 x4 x5 x6 x7 x8 x9) (headOf x0 x1 x2 x3 x4 x5 x6 x7 x8 x9)⟩,
    ⟨r_17, k0_pay24 (qn x0 x1 x2 x3 x4 x5 x6 x7 x8 x9) (View.ld x6 r_15) (View.ld x7 r_16)⟩,
    ⟨r_14, k0_pay23 (k0_pay22 (rotB x0 x1 x2 x3 x4 x5 x6 x7 x8 x9) (lane x0 x1 x2 x3 x4 x5 x6 x7 x8 x9) 16#32 (lane16 x0 x1 x2 x3 x4 x5 x6 x7 x8 x9) (laneQ x0 x1 x2 x3 x4 x5 x6 x7 x8 x9) (Scalar.extui (Scalar.cmpi .sgt 16#32 0#32)) (Scalar.cmpi .slt 16#32 0#32))⟩,
    ⟨r_13, k0_pay21 (rotA x0 x1 x2 x3 x4 x5 x6 x7 x8 x9) (lane x0 x1 x2 x3 x4 x5 x6 x7 x8 x9) 16#32 (lane16 x0 x1 x2 x3 x4 x5 x6 x7 x8 x9) (laneQ x0 x1 x2 x3 x4 x5 x6 x7 x8 x9) (Scalar.extui (Scalar.cmpi .sgt 16#32 0#32)) (Scalar.cmpi .slt 16#32 0#32)⟩,
    ⟨r_12, k0_pay19 (qn x0 x1 x2 x3 x4 x5 x6 x7 x8 x9) (View.ld x6 r_10) (View.ld x7 r_11)⟩]

/-- Its stores cover the block. -/
theorem cover_10 (p0 : Vec F S1x256x128 .bf16) (p1 : Vec F S1x256x128 .bf16) (p2 : Vec F S1x256x256 .bf16) (p3 : Vec F S1x256x128 .bf16) (p4 : Vec F S1x256x128 .bf16) (p5 : Vec F S1x256x256 .bf16) (p6 : Vec F S1x256x128 .bf16) (p7 : Vec F S1x256x128 .bf16) (p8 : Vec F S1x256x256 .bf16) (p9 : Vec F S1x256x128 .bf16) (p10 : Vec F S1x256x128 .bf16) (p11 : Vec F S1x256x256 .bf16) (p12 : Vec F S1x256x128 .bf16) (p13 : Vec F S1x256x128 .bf16) (p14 : Vec F S1x256x256 .bf16) (p15 : Vec F S1x256x128 .bf16) (p16 : Vec F S1x256x128 .bf16) (p17 : Vec F S1x256x256 .bf16) (p18 : Vec F S1x256x128 .bf16) (p19 : Vec F S1x256x128 .bf16) (p20 : Vec F S1x256x256 .bf16) (p21 : Vec F S1x256x128 .bf16) (p22 : Vec F S1x256x128 .bf16) (p23 : Vec F S1x256x256 .bf16) (y : S8x256x512.Idx) :
    ∃ pc ∈ ([⟨r_49, p0⟩, ⟨r_48, p1⟩, ⟨r_47, p2⟩, ⟨r_44, p3⟩, ⟨r_43, p4⟩, ⟨r_42, p5⟩, ⟨r_39, p6⟩, ⟨r_38, p7⟩, ⟨r_37, p8⟩, ⟨r_34, p9⟩, ⟨r_33, p10⟩, ⟨r_32, p11⟩, ⟨r_29, p12⟩, ⟨r_28, p13⟩, ⟨r_27, p14⟩, ⟨r_24, p15⟩, ⟨r_23, p16⟩, ⟨r_22, p17⟩, ⟨r_19, p18⟩, ⟨r_18, p19⟩, ⟨r_17, p20⟩, ⟨r_14, p21⟩, ⟨r_13, p22⟩, ⟨r_12, p23⟩] : List (View.Piece (Elt F) S8x256x512 .bf16)), y ∈ pc.1.set :=
  View.cover_of_tiledBy [⟨r_49, p0⟩, ⟨r_48, p1⟩, ⟨r_47, p2⟩, ⟨r_44, p3⟩, ⟨r_43, p4⟩, ⟨r_42, p5⟩, ⟨r_39, p6⟩, ⟨r_38, p7⟩, ⟨r_37, p8⟩, ⟨r_34, p9⟩, ⟨r_33, p10⟩, ⟨r_32, p11⟩, ⟨r_29, p12⟩, ⟨r_28, p13⟩, ⟨r_27, p14⟩, ⟨r_24, p15⟩, ⟨r_23, p16⟩, ⟨r_22, p17⟩, ⟨r_19, p18⟩, ⟨r_18, p19⟩, ⟨r_17, p20⟩, ⟨r_14, p21⟩, ⟨r_13, p22⟩, ⟨r_12, p23⟩] ![1, 256, 128] (by sl_kernel_rfl) y

/-- What the body leaves of output 11. -/
def out_11 (x0 : Vec F S256x1024 .f32) (x1 : Vec F S1x1024 .f32) (x2 : Vec F S1024x6272 .bf16) (x3 : Vec F S512x1024 .bf16) (x4 : Vec F S1x768 .f32) (x5 : Vec F S1x256 .f32) (x6 : Vec F S768x1280 .bf16) (x7 : Vec F S8x128x256 .bf16) (x8 : Vec F S256x128 .f32) (x9 : Vec F S256x128 .f32) : Vec F S256x512 .f32 :=
  View.canon [⟨r_56, k0_pay62 (xin x0 x1 x2 x3 x4 x5 x6 x7 x8 x9) (cosB x0 x1 x2 x3 x4 x5 x6 x7 x8 x9) (sinB x0 x1 x2 x3 x4 x5 x6 x7 x8 x9) (View.ld x2 r_52) (View.ld x2 r_53)⟩,
    ⟨r_55, k0_pay61 (xin x0 x1 x2 x3 x4 x5 x6 x7 x8 x9) (cosB x0 x1 x2 x3 x4 x5 x6 x7 x8 x9) (sinB x0 x1 x2 x3 x4 x5 x6 x7 x8 x9) (View.ld x2 r_52) (View.ld x2 r_53)⟩,
    ⟨r_54, k0_pay58 (xin x0 x1 x2 x3 x4 x5 x6 x7 x8 x9) (View.ld x2 r_50) (View.ld x5 r_51)⟩]

/-- Its stores cover the block. -/
theorem cover_11 (p0 : Vec F S256x128 .f32) (p1 : Vec F S256x128 .f32) (p2 : Vec F S256x256 .f32) (y : S256x512.Idx) :
    ∃ pc ∈ ([⟨r_56, p0⟩, ⟨r_55, p1⟩, ⟨r_54, p2⟩] : List (View.Piece (Elt F) S256x512 .f32)), y ∈ pc.1.set :=
  View.cover_of_tiledBy [⟨r_56, p0⟩, ⟨r_55, p1⟩, ⟨r_54, p2⟩] ![256, 128] (by sl_kernel_rfl) y

/-- What the body leaves of output 12. -/
def out_12 (x0 : Vec F S256x1024 .f32) (x1 : Vec F S1x1024 .f32) (x2 : Vec F S1024x6272 .bf16) (x3 : Vec F S512x1024 .bf16) (x4 : Vec F S1x768 .f32) (x5 : Vec F S1x256 .f32) (x6 : Vec F S768x1280 .bf16) (x7 : Vec F S8x128x256 .bf16) (x8 : Vec F S256x128 .f32) (x9 : Vec F S256x128 .f32) : Vec F S256x512 .bf16 :=
  View.canon [⟨r_56, k0_pay65 (k0_pay62 (xin x0 x1 x2 x3 x4 x5 x6 x7 x8 x9) (cosB x0 x1 x2 x3 x4 x5 x6 x7 x8 x9) (sinB x0 x1 x2 x3 x4 x5 x6 x7 x8 x9) (View.ld x2 r_52) (View.ld x2 r_53))⟩,
    ⟨r_55, k0_pay64 (k0_pay61 (xin x0 x1 x2 x3 x4 x5 x6 x7 x8 x9) (cosB x0 x1 x2 x3 x4 x5 x6 x7 x8 x9) (sinB x0 x1 x2 x3 x4 x5 x6 x7 x8 x9) (View.ld x2 r_52) (View.ld x2 r_53))⟩,
    ⟨r_54, k0_pay63 (xin x0 x1 x2 x3 x4 x5 x6 x7 x8 x9) (View.ld x2 r_50) (View.ld x5 r_51)⟩]

/-- Its stores cover the block. -/
theorem cover_12 (p0 : Vec F S256x128 .bf16) (p1 : Vec F S256x128 .bf16) (p2 : Vec F S256x256 .bf16) (y : S256x512.Idx) :
    ∃ pc ∈ ([⟨r_56, p0⟩, ⟨r_55, p1⟩, ⟨r_54, p2⟩] : List (View.Piece (Elt F) S256x512 .bf16)), y ∈ pc.1.set :=
  View.cover_of_tiledBy [⟨r_56, p0⟩, ⟨r_55, p1⟩, ⟨r_54, p2⟩] ![256, 128] (by sl_kernel_rfl) y

/-- What the body leaves of output 13. -/
def out_13 (x0 : Vec F S256x1024 .f32) (x1 : Vec F S1x1024 .f32) (x2 : Vec F S1024x6272 .bf16) (x3 : Vec F S512x1024 .bf16) (x4 : Vec F S1x768 .f32) (x5 : Vec F S1x256 .f32) (x6 : Vec F S768x1280 .bf16) (x7 : Vec F S8x128x256 .bf16) (x8 : Vec F S256x128 .f32) (x9 : Vec F S256x128 .f32) : Vec F S256x1024 .f32 :=
  View.canon [⟨r_0, k0_pay66 (xin x0 x1 x2 x3 x4 x5 x6 x7 x8 x9) (View.ld x2 r_57)⟩]

/-- Its stores cover the block. -/
theorem cover_13 (p0 : Vec F S256x1024 .f32) (y : S256x1024.Idx) :
    ∃ pc ∈ ([⟨r_0, p0⟩] : List (View.Piece (Elt F) S256x1024 .f32)), y ∈ pc.1.set :=
  View.cover_of_tiledL [⟨r_0, p0⟩] S256x1024.size (by sl_kernel_rfl) y

/-- What the body leaves of output 14. -/
def out_14 (x0 : Vec F S256x1024 .f32) (x1 : Vec F S1x1024 .f32) (x2 : Vec F S1024x6272 .bf16) (x3 : Vec F S512x1024 .bf16) (x4 : Vec F S1x768 .f32) (x5 : Vec F S1x256 .f32) (x6 : Vec F S768x1280 .bf16) (x7 : Vec F S8x128x256 .bf16) (x8 : Vec F S256x128 .f32) (x9 : Vec F S256x128 .f32) : Vec F S256x1024 .bf16 :=
  View.canon [⟨r_0, k0_pay67 (xin x0 x1 x2 x3 x4 x5 x6 x7 x8 x9) (View.ld x2 r_58)⟩]

/-- Its stores cover the block. -/
theorem cover_14 (p0 : Vec F S256x1024 .bf16) (y : S256x1024.Idx) :
    ∃ pc ∈ ([⟨r_0, p0⟩] : List (View.Piece (Elt F) S256x1024 .bf16)), y ∈ pc.1.set :=
  View.cover_of_tiledL [⟨r_0, p0⟩] S256x1024.size (by sl_kernel_rfl) y

/-- What the body leaves of output 15. -/
def out_15 (x0 : Vec F S256x1024 .f32) (x1 : Vec F S1x1024 .f32) (x2 : Vec F S1024x6272 .bf16) (x3 : Vec F S512x1024 .bf16) (x4 : Vec F S1x768 .f32) (x5 : Vec F S1x256 .f32) (x6 : Vec F S768x1280 .bf16) (x7 : Vec F S8x128x256 .bf16) (x8 : Vec F S256x128 .f32) (x9 : Vec F S256x128 .f32) : Vec F S256x256 .f32 :=
  View.canon [⟨r_60, k0_pay68 (xin x0 x1 x2 x3 x4 x5 x6 x7 x8 x9) (View.ld x2 r_59)⟩]

/-- Its stores cover the block. -/
theorem cover_15 (p0 : Vec F S256x256 .f32) (y : S256x256.Idx) :
    ∃ pc ∈ ([⟨r_60, p0⟩] : List (View.Piece (Elt F) S256x256 .f32)), y ∈ pc.1.set :=
  View.cover_of_tiledL [⟨r_60, p0⟩] S256x256.size (by sl_kernel_rfl) y

/-- What the body leaves of output 16. -/
def out_16 (x0 : Vec F S256x1024 .f32) (x1 : Vec F S1x1024 .f32) (x2 : Vec F S1024x6272 .bf16) (x3 : Vec F S512x1024 .bf16) (x4 : Vec F S1x768 .f32) (x5 : Vec F S1x256 .f32) (x6 : Vec F S768x1280 .bf16) (x7 : Vec F S8x128x256 .bf16) (x8 : Vec F S256x128 .f32) (x9 : Vec F S256x128 .f32) : Vec F S256x256 .f32 :=
  View.canon [⟨r_60, k0_pay69 (xin x0 x1 x2 x3 x4 x5 x6 x7 x8 x9) (View.ld x2 r_61)⟩]

/-- Its stores cover the block. -/
theorem cover_16 (p0 : Vec F S256x256 .f32) (y : S256x256.Idx) :
    ∃ pc ∈ ([⟨r_60, p0⟩] : List (View.Piece (Elt F) S256x256 .f32)), y ∈ pc.1.set :=
  View.cover_of_tiledL [⟨r_60, p0⟩] S256x256.size (by sl_kernel_rfl) y

/-- What the body leaves of output 17. -/
def out_17 (x0 : Vec F S256x1024 .f32) (x1 : Vec F S1x1024 .f32) (x2 : Vec F S1024x6272 .bf16) (x3 : Vec F S512x1024 .bf16) (x4 : Vec F S1x768 .f32) (x5 : Vec F S1x256 .f32) (x6 : Vec F S768x1280 .bf16) (x7 : Vec F S8x128x256 .bf16) (x8 : Vec F S256x128 .f32) (x9 : Vec F S256x128 .f32) : Vec F S256x512 .bf16 :=
  View.canon [⟨r_63, k0_pay1 (xin x0 x1 x2 x3 x4 x5 x6 x7 x8 x9) (k0_pay70 (View.ld x2 r_62))⟩]

/-- Its stores cover the block. -/
theorem cover_17 (p0 : Vec F S256x512 .bf16) (y : S256x512.Idx) :
    ∃ pc ∈ ([⟨r_63, p0⟩] : List (View.Piece (Elt F) S256x512 .bf16)), y ∈ pc.1.set :=
  View.cover_of_tiledL [⟨r_63, p0⟩] S256x512.size (by sl_kernel_rfl) y

/-- What the body leaves of output 18. -/
def out_18 (x0 : Vec F S256x1024 .f32) (x1 : Vec F S1x1024 .f32) (x2 : Vec F S1024x6272 .bf16) (x3 : Vec F S512x1024 .bf16) (x4 : Vec F S1x768 .f32) (x5 : Vec F S1x256 .f32) (x6 : Vec F S768x1280 .bf16) (x7 : Vec F S8x128x256 .bf16) (x8 : Vec F S256x128 .f32) (x9 : Vec F S256x128 .f32) : Vec F S256x256 .f32 :=
  View.canon [⟨r_60, k0_pay2 (xin x0 x1 x2 x3 x4 x5 x6 x7 x8 x9) (View.ld x2 r_64)⟩]

/-- Its stores cover the block. -/
theorem cover_18 (p0 : Vec F S256x256 .f32) (y : S256x256.Idx) :
    ∃ pc ∈ ([⟨r_60, p0⟩] : List (View.Piece (Elt F) S256x256 .f32)), y ∈ pc.1.set :=
  View.cover_of_tiledL [⟨r_60, p0⟩] S256x256.size (by sl_kernel_rfl) y

/-- What the body leaves of output 19. -/
def out_19 (x0 : Vec F S256x1024 .f32) (x1 : Vec F S1x1024 .f32) (x2 : Vec F S1024x6272 .bf16) (x3 : Vec F S512x1024 .bf16) (x4 : Vec F S1x768 .f32) (x5 : Vec F S1x256 .f32) (x6 : Vec F S768x1280 .bf16) (x7 : Vec F S8x128x256 .bf16) (x8 : Vec F S256x128 .f32) (x9 : Vec F S256x128 .f32) : Vec F S256x512 .bf16 :=
  View.canon [⟨r_63, k0_pay3 (xin x0 x1 x2 x3 x4 x5 x6 x7 x8 x9) (View.ld x2 r_65)⟩]

/-- Its stores cover the block. -/
theorem cover_19 (p0 : Vec F S256x512 .bf16) (y : S256x512.Idx) :
    ∃ pc ∈ ([⟨r_63, p0⟩] : List (View.Piece (Elt F) S256x512 .bf16)), y ∈ pc.1.set :=
  View.cover_of_tiledL [⟨r_63, p0⟩] S256x512.size (by sl_kernel_rfl) y

/-- What the body leaves of output 20. -/
def out_20 (x0 : Vec F S256x1024 .f32) (x1 : Vec F S1x1024 .f32) (x2 : Vec F S1024x6272 .bf16) (x3 : Vec F S512x1024 .bf16) (x4 : Vec F S1x768 .f32) (x5 : Vec F S1x256 .f32) (x6 : Vec F S768x1280 .bf16) (x7 : Vec F S8x128x256 .bf16) (x8 : Vec F S256x128 .f32) (x9 : Vec F S256x128 .f32) : Vec F S256x128 .f32 :=
  View.canon [⟨r_5, k0_pay4 (xin x0 x1 x2 x3 x4 x5 x6 x7 x8 x9) (View.ld x2 r_66)⟩]

/-- Its stores cover the block. -/
theorem cover_20 (p0 : Vec F S256x128 .f32) (y : S256x128.Idx) :
    ∃ pc ∈ ([⟨r_5, p0⟩] : List (View.Piece (Elt F) S256x128 .f32)), y ∈ pc.1.set :=
  View.cover_of_tiledL [⟨r_5, p0⟩] S256x128.size (by sl_kernel_rfl) y

/-- What the body leaves of output 21. -/
def out_21 (x0 : Vec F S256x1024 .f32) (x1 : Vec F S1x1024 .f32) (x2 : Vec F S1024x6272 .bf16) (x3 : Vec F S512x1024 .bf16) (x4 : Vec F S1x768 .f32) (x5 : Vec F S1x256 .f32) (x6 : Vec F S768x1280 .bf16) (x7 : Vec F S8x128x256 .bf16) (x8 : Vec F S256x128 .f32) (x9 : Vec F S256x128 .f32) : Vec F S256x1024 .f32 :=
  View.canon [⟨r_0, k0_pay5 (xin x0 x1 x2 x3 x4 x5 x6 x7 x8 x9) (View.ld x2 r_67)⟩]

/-- Its stores cover the block. -/
theorem cover_21 (p0 : Vec F S256x1024 .f32) (y : S256x1024.Idx) :
    ∃ pc ∈ ([⟨r_0, p0⟩] : List (View.Piece (Elt F) S256x1024 .f32)), y ∈ pc.1.set :=
  View.cover_of_tiledL [⟨r_0, p0⟩] S256x1024.size (by sl_kernel_rfl) y

/-- What the body leaves of output 22. -/
def out_22 (x0 : Vec F S256x1024 .f32) (x1 : Vec F S1x1024 .f32) (x2 : Vec F S1024x6272 .bf16) (x3 : Vec F S512x1024 .bf16) (x4 : Vec F S1x768 .f32) (x5 : Vec F S1x256 .f32) (x6 : Vec F S768x1280 .bf16) (x7 : Vec F S8x128x256 .bf16) (x8 : Vec F S256x128 .f32) (x9 : Vec F S256x128 .f32) : Vec F S1x256x256 .f32 :=
  View.canon [⟨r_3, k0_pay7 (View.ld x0 r_0) (View.ld x1 r_1) (View.ld x3 r_2)⟩]

/-- Its stores cover the block. -/
theorem cover_22 (p0 : Vec F S1x256x256 .f32) (y : S1x256x256.Idx) :
    ∃ pc ∈ ([⟨r_3, p0⟩] : List (View.Piece (Elt F) S1x256x256 .f32)), y ∈ pc.1.set :=
  View.cover_of_tiledL [⟨r_3, p0⟩] S1x256x256.size (by sl_kernel_rfl) y

/-- What the body leaves of output 23. -/
def out_23 (x0 : Vec F S256x1024 .f32) (x1 : Vec F S1x1024 .f32) (x2 : Vec F S1024x6272 .bf16) (x3 : Vec F S512x1024 .bf16) (x4 : Vec F S1x768 .f32) (x5 : Vec F S1x256 .f32) (x6 : Vec F S768x1280 .bf16) (x7 : Vec F S8x128x256 .bf16) (x8 : Vec F S256x128 .f32) (x9 : Vec F S256x128 .f32) : Vec F S1x256x256 .f32 :=
  View.canon [⟨r_3, k0_pay8 (View.ld x0 r_0) (View.ld x1 r_1) (View.ld x3 r_4)⟩]

/-- Its stores cover the block. -/
theorem cover_23 (p0 : Vec F S1x256x256 .f32) (y : S1x256x256.Idx) :
    ∃ pc ∈ ([⟨r_3, p0⟩] : List (View.Piece (Elt F) S1x256x256 .f32)), y ∈ pc.1.set :=
  View.cover_of_tiledL [⟨r_3, p0⟩] S1x256x256.size (by sl_kernel_rfl) y

/-! ## The body's triple -/

set_option maxHeartbeats 1000000 in
/-- The body from its blocks: every output's buffer ends as stated above. -/
theorem sound_kernel (c : Dev nD) (E : Set ℕ) (i : grid0.Coords) (arg1 : Memref sig .tc .vmem S256x1024 .f32) (harg1 : arg1.IsWhole) (arg2 : Memref sig .tc .vmem S1x1024 .f32) (harg2 : arg2.IsWhole) (arg3 : Memref sig .tc .vmem S1024x6272 .bf16) (harg3 : arg3.IsWhole) (arg4 : Memref sig .tc .vmem S512x1024 .bf16) (harg4 : arg4.IsWhole) (arg5 : Memref sig .tc .vmem S1x768 .f32) (harg5 : arg5.IsWhole) (arg6 : Memref sig .tc .vmem S1x256 .f32) (harg6 : arg6.IsWhole) (arg7 : Memref sig .tc .vmem S768x1280 .bf16) (harg7 : arg7.IsWhole) (arg8 : Memref sig .tc .vmem S8x128x256 .bf16) (harg8 : arg8.IsWhole) (arg9 : Memref sig .tc .vmem S256x128 .f32) (harg9 : arg9.IsWhole) (arg10 : Memref sig .tc .vmem S256x128 .f32) (harg10 : arg10.IsWhole) (arg11 : Memref sig .tc .vmem S8x256x512 .bf16) (harg11 : arg11.IsWhole) (arg12 : Memref sig .tc .vmem S256x512 .f32) (harg12 : arg12.IsWhole) (arg13 : Memref sig .tc .vmem S256x512 .bf16) (harg13 : arg13.IsWhole) (arg14 : Memref sig .tc .vmem S256x1024 .f32) (harg14 : arg14.IsWhole) (arg15 : Memref sig .tc .vmem S256x1024 .bf16) (harg15 : arg15.IsWhole) (arg16 : Memref sig .tc .vmem S256x256 .f32) (harg16 : arg16.IsWhole) (arg17 : Memref sig .tc .vmem S256x256 .f32) (harg17 : arg17.IsWhole) (arg18 : Memref sig .tc .vmem S256x512 .bf16) (harg18 : arg18.IsWhole) (arg19 : Memref sig .tc .vmem S256x256 .f32) (harg19 : arg19.IsWhole) (arg20 : Memref sig .tc .vmem S256x512 .bf16) (harg20 : arg20.IsWhole) (arg21 : Memref sig .tc .vmem S256x128 .f32) (harg21 : arg21.IsWhole) (arg22 : Memref sig .tc .vmem S256x1024 .f32) (harg22 : arg22.IsWhole) (arg23 : Memref sig .tc .vmem S1x256x256 .f32) (harg23 : arg23.IsWhole) (arg24 : Memref sig .tc .vmem S1x256x256 .f32) (harg24 : arg24.IsWhole)
    (x0 : Vec F S256x1024 .f32) (x1 : Vec F S1x1024 .f32) (x2 : Vec F S1024x6272 .bf16) (x3 : Vec F S512x1024 .bf16) (x4 : Vec F S1x768 .f32) (x5 : Vec F S1x256 .f32) (x6 : Vec F S768x1280 .bf16) (x7 : Vec F S8x128x256 .bf16) (x8 : Vec F S256x128 .f32) (x9 : Vec F S256x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out_10 x0 x1 x2 x3 x4 x5 x6 x7 x8 x9) ∗ owns (c : Thread nD τ) arg12 fullShare (out_11 x0 x1 x2 x3 x4 x5 x6 x7 x8 x9) ∗ owns (c : Thread nD τ) arg13 fullShare (out_12 x0 x1 x2 x3 x4 x5 x6 x7 x8 x9) ∗ owns (c : Thread nD τ) arg14 fullShare (out_13 x0 x1 x2 x3 x4 x5 x6 x7 x8 x9) ∗ owns (c : Thread nD τ) arg15 fullShare (out_14 x0 x1 x2 x3 x4 x5 x6 x7 x8 x9) ∗ owns (c : Thread nD τ) arg16 fullShare (out_15 x0 x1 x2 x3 x4 x5 x6 x7 x8 x9) ∗ owns (c : Thread nD τ) arg17 fullShare (out_16 x0 x1 x2 x3 x4 x5 x6 x7 x8 x9) ∗ owns (c : Thread nD τ) arg18 fullShare (out_17 x0 x1 x2 x3 x4 x5 x6 x7 x8 x9) ∗ owns (c : Thread nD τ) arg19 fullShare (out_18 x0 x1 x2 x3 x4 x5 x6 x7 x8 x9) ∗ owns (c : Thread nD τ) arg20 fullShare (out_19 x0 x1 x2 x3 x4 x5 x6 x7 x8 x9) ∗ owns (c : Thread nD τ) arg21 fullShare (out_20 x0 x1 x2 x3 x4 x5 x6 x7 x8 x9) ∗ owns (c : Thread nD τ) arg22 fullShare (out_21 x0 x1 x2 x3 x4 x5 x6 x7 x8 x9) ∗ owns (c : Thread nD τ) arg23 fullShare (out_22 x0 x1 x2 x3 x4 x5 x6 x7 x8 x9) ∗ owns (c : Thread nD τ) arg24 fullShare (out_23 x0 x1 x2 x3 x4 x5 x6 x7 x8 x9)) -∗ K ⟨⟩))
      ⊢ wp frame (wpE (defs₀ (F := F)) Variants.none c none) E (cc0_even_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0_even_proj_eq_skeleton]; unfold cc0_even_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    refine (View.read_writes_eq_canon _ _ _ (cover_10 _ _ _ _ _ _ _ _ _ _ _ _ _ _ _ _ _ _ _ _ _ _ _ _)).trans ?_
    rfl
  isplitl [H11]
  · iexists _; isplitr
    swap; · iexact H11
    ipureintro
    refine (View.read_writes_eq_canon _ _ _ (cover_11 _ _ _)).trans ?_
    rfl
  isplitl [H12]
  · iexists _; isplitr
    swap; · iexact H12
    ipureintro
    refine (View.read_writes_eq_canon _ _ _ (cover_12 _ _ _)).trans ?_
    rfl
  isplitl [H13]
  · iexists _; isplitr
    swap; · iexact H13
    ipureintro
    refine (View.read_writes_eq_canon _ _ _ (cover_13 _)).trans ?_
    rfl
  isplitl [H14]
  · iexists _; isplitr
    swap; · iexact H14
    ipureintro
    refine (View.read_writes_eq_canon _ _ _ (cover_14 _)).trans ?_
    rfl
  isplitl [H15]
  · iexists _; isplitr
    swap; · iexact H15
    ipureintro
    refine (View.read_writes_eq_canon _ _ _ (cover_15 _)).trans ?_
    rfl
  isplitl [H16]
  · iexists _; isplitr
    swap; · iexact H16
    ipureintro
    refine (View.read_writes_eq_canon _ _ _ (cover_16 _)).trans ?_
    rfl
  isplitl [H17]
  · iexists _; isplitr
    swap; · iexact H17
    ipureintro
    refine (View.read_writes_eq_canon _ _ _ (cover_17 _)).trans ?_
    rfl
  isplitl [H18]
  · iexists _; isplitr
    swap; · iexact H18
    ipureintro
    refine (View.read_writes_eq_canon _ _ _ (cover_18 _)).trans ?_
    rfl
  isplitl [H19]
  · iexists _; isplitr
    swap; · iexact H19
    ipureintro
    refine (View.read_writes_eq_canon _ _ _ (cover_19 _)).trans ?_
    rfl
  isplitl [H20]
  · iexists _; isplitr
    swap; · iexact H20
    ipureintro
    refine (View.read_writes_eq_canon _ _ _ (cover_20 _)).trans ?_
    rfl
  isplitl [H21]
  · iexists _; isplitr
    swap; · iexact H21
    ipureintro
    refine (View.read_writes_eq_canon _ _ _ (cover_21 _)).trans ?_
    rfl
  isplitl [H22]
  · iexists _; isplitr
    swap; · iexact H22
    ipureintro
    refine (View.read_writes_eq_canon _ _ _ (cover_22 _)).trans ?_
    rfl
  iexists _; isplitr
  swap; · iexact H23
  ipureintro
  refine (View.read_writes_eq_canon _ _ _ (cover_23 _)).trans ?_
  rfl

end Cert.EvenProjIdeal.Even

end
-- ==== Proof.EvenIdeal.Run.lean ====
/- The launch of the even layer's projection from its body's run. -/
module

public import proofs.«01_k».proof.Proof.EvenIdeal.Body
public import Idealize.ShloMosaic.Lib.Claim

@[expose] public section

set_option maxRecDepth 16384

noncomputable section

namespace Cert.EvenProjIdeal.Even

open Cert.EvenProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- What each window's buffer holds after the body at a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out_10 (iblk m c 0 t) (iblk m c 1 t) (iblk m c 2 t) (iblk m c 3 t) (iblk m c 4 t) (iblk m c 5 t) (iblk m c 6 t) (iblk m c 7 t) (iblk m c 8 t) (iblk m c 9 t)
    | ⟨11, _⟩ => out_11 (iblk m c 0 t) (iblk m c 1 t) (iblk m c 2 t) (iblk m c 3 t) (iblk m c 4 t) (iblk m c 5 t) (iblk m c 6 t) (iblk m c 7 t) (iblk m c 8 t) (iblk m c 9 t)
    | ⟨12, _⟩ => out_12 (iblk m c 0 t) (iblk m c 1 t) (iblk m c 2 t) (iblk m c 3 t) (iblk m c 4 t) (iblk m c 5 t) (iblk m c 6 t) (iblk m c 7 t) (iblk m c 8 t) (iblk m c 9 t)
    | ⟨13, _⟩ => out_13 (iblk m c 0 t) (iblk m c 1 t) (iblk m c 2 t) (iblk m c 3 t) (iblk m c 4 t) (iblk m c 5 t) (iblk m c 6 t) (iblk m c 7 t) (iblk m c 8 t) (iblk m c 9 t)
    | ⟨14, _⟩ => out_14 (iblk m c 0 t) (iblk m c 1 t) (iblk m c 2 t) (iblk m c 3 t) (iblk m c 4 t) (iblk m c 5 t) (iblk m c 6 t) (iblk m c 7 t) (iblk m c 8 t) (iblk m c 9 t)
    | ⟨15, _⟩ => out_15 (iblk m c 0 t) (iblk m c 1 t) (iblk m c 2 t) (iblk m c 3 t) (iblk m c 4 t) (iblk m c 5 t) (iblk m c 6 t) (iblk m c 7 t) (iblk m c 8 t) (iblk m c 9 t)
    | ⟨16, _⟩ => out_16 (iblk m c 0 t) (iblk m c 1 t) (iblk m c 2 t) (iblk m c 3 t) (iblk m c 4 t) (iblk m c 5 t) (iblk m c 6 t) (iblk m c 7 t) (iblk m c 8 t) (iblk m c 9 t)
    | ⟨17, _⟩ => out_17 (iblk m c 0 t) (iblk m c 1 t) (iblk m c 2 t) (iblk m c 3 t) (iblk m c 4 t) (iblk m c 5 t) (iblk m c 6 t) (iblk m c 7 t) (iblk m c 8 t) (iblk m c 9 t)
    | ⟨18, _⟩ => out_18 (iblk m c 0 t) (iblk m c 1 t) (iblk m c 2 t) (iblk m c 3 t) (iblk m c 4 t) (iblk m c 5 t) (iblk m c 6 t) (iblk m c 7 t) (iblk m c 8 t) (iblk m c 9 t)
    | ⟨19, _⟩ => out_19 (iblk m c 0 t) (iblk m c 1 t) (iblk m c 2 t) (iblk m c 3 t) (iblk m c 4 t) (iblk m c 5 t) (iblk m c 6 t) (iblk m c 7 t) (iblk m c 8 t) (iblk m c 9 t)
    | ⟨20, _⟩ => out_20 (iblk m c 0 t) (iblk m c 1 t) (iblk m c 2 t) (iblk m c 3 t) (iblk m c 4 t) (iblk m c 5 t) (iblk m c 6 t) (iblk m c 7 t) (iblk m c 8 t) (iblk m c 9 t)
    | ⟨21, _⟩ => out_21 (iblk m c 0 t) (iblk m c 1 t) (iblk m c 2 t) (iblk m c 3 t) (iblk m c 4 t) (iblk m c 5 t) (iblk m c 6 t) (iblk m c 7 t) (iblk m c 8 t) (iblk m c 9 t)
    | ⟨22, _⟩ => out_22 (iblk m c 0 t) (iblk m c 1 t) (iblk m c 2 t) (iblk m c 3 t) (iblk m c 4 t) (iblk m c 5 t) (iblk m c 6 t) (iblk m c 7 t) (iblk m c 8 t) (iblk m c 9 t)
    | ⟨23, _⟩ => out_23 (iblk m c 0 t) (iblk m c 1 t) (iblk m c 2 t) (iblk m c 3 t) (iblk m c 4 t) (iblk m c 5 t) (iblk m c 6 t) (iblk m c 7 t) (iblk m c 8 t) (iblk m c 9 t)
    | ⟨_ + 24, h⟩ => absurd h (Nat.not_lt.2 (Nat.le_add_left _ _))
  Φ _ := Pipeline.ΦA spec0 c
  q _ := fullShare
  owed _ := 0

/-- The arrays are as the region finds them. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = out_10 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after_11 (c : Dev nD) (t : Fin cfg0.N) : (dats m 0 c).after 11 t = out_11 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after_12 (c : Dev nD) (t : Fin cfg0.N) : (dats m 0 c).after 12 t = out_12 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after_13 (c : Dev nD) (t : Fin cfg0.N) : (dats m 0 c).after 13 t = out_13 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after_14 (c : Dev nD) (t : Fin cfg0.N) : (dats m 0 c).after 14 t = out_14 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after_15 (c : Dev nD) (t : Fin cfg0.N) : (dats m 0 c).after 15 t = out_15 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after_16 (c : Dev nD) (t : Fin cfg0.N) : (dats m 0 c).after 16 t = out_16 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after_17 (c : Dev nD) (t : Fin cfg0.N) : (dats m 0 c).after 17 t = out_17 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after_18 (c : Dev nD) (t : Fin cfg0.N) : (dats m 0 c).after 18 t = out_18 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after_19 (c : Dev nD) (t : Fin cfg0.N) : (dats m 0 c).after 19 t = out_19 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after_20 (c : Dev nD) (t : Fin cfg0.N) : (dats m 0 c).after 20 t = out_20 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after_21 (c : Dev nD) (t : Fin cfg0.N) : (dats m 0 c).after 21 t = out_21 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after_22 (c : Dev nD) (t : Fin cfg0.N) : (dats m 0 c).after 22 t = out_22 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after_23 (c : Dev nD) (t : Fin cfg0.N) : (dats m 0 c).after 23 t = out_23 (iblk m c 0 t) (iblk m c 1 t) (iblk m c 2 t) (iblk m c 3 t) (iblk m c 4 t) (iblk m c 5 t) (iblk m c 6 t) (iblk m c 7 t) (iblk m c 8 t) (iblk m c 9 t) := by dsimp only [dats]

theorem before0_0 (c : Dev nD) (t : Fin cfg0.N) (d) : (dats m 0 c).before 0 t d = iblk m c 0 t :=
  before0_0_of m (dats m 0 c) (A_eq m c 0) (after_0 m c) t d
theorem before0_1 (c : Dev nD) (t : Fin cfg0.N) (d) : (dats m 0 c).before 1 t d = iblk m c 1 t :=
  before0_1_of m (dats m 0 c) (A_eq m c 1) (after_1 m c) t d
theorem before0_2 (c : Dev nD) (t : Fin cfg0.N) (d) : (dats m 0 c).before 2 t d = iblk m c 2 t :=
  before0_2_of m (dats m 0 c) (A_eq m c 2) (after_2 m c) t d
theorem before0_3 (c : Dev nD) (t : Fin cfg0.N) (d) : (dats m 0 c).before 3 t d = iblk m c 3 t :=
  before0_3_of m (dats m 0 c) (A_eq m c 3) (after_3 m c) t d
theorem before0_4 (c : Dev nD) (t : Fin cfg0.N) (d) : (dats m 0 c).before 4 t d = iblk m c 4 t :=
  before0_4_of m (dats m 0 c) (A_eq m c 4) (after_4 m c) t d
theorem before0_5 (c : Dev nD) (t : Fin cfg0.N) (d) : (dats m 0 c).before 5 t d = iblk m c 5 t :=
  before0_5_of m (dats m 0 c) (A_eq m c 5) (after_5 m c) t d
theorem before0_6 (c : Dev nD) (t : Fin cfg0.N) (d) : (dats m 0 c).before 6 t d = iblk m c 6 t :=
  before0_6_of m (dats m 0 c) (A_eq m c 6) (after_6 m c) t d
theorem before0_7 (c : Dev nD) (t : Fin cfg0.N) (d) : (dats m 0 c).before 7 t d = iblk m c 7 t :=
  before0_7_of m (dats m 0 c) (A_eq m c 7) (after_7 m c) t d
theorem before0_8 (c : Dev nD) (t : Fin cfg0.N) (d) : (dats m 0 c).before 8 t d = iblk m c 8 t :=
  before0_8_of m (dats m 0 c) (A_eq m c 8) (after_8 m c) t d
theorem before0_9 (c : Dev nD) (t : Fin cfg0.N) (d) : (dats m 0 c).before 9 t d = iblk m c 9 t :=
  before0_9_of m (dats m 0 c) (A_eq m c 9) (after_9 m c) t d

/-! ## The body obligation, at a generic point -/

/-- The state before the body at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d)))

/-- The state after it. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t))

set_option maxHeartbeats 4000000 in
/-- The body takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22, after_23]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  iintro ⟨H0, H1, H2, H3, H4, H5, H6, H7, H8, H9, H10, H11, H12, H13, H14, H15, H16, H17, H18, H19, H20, H21, H22, H23⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

/-- The body at a point, as the launch calls it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- So the launch may use it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch: every array ends as the body's blocks make it, and no semaphore is left raised. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- The arguments are left as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.EvenProjIdeal.Even

end
-- ==== Proof.Even.Spec.lean ====
/- The even layer's input projection over the extended reals: the columns of the normalised input times the matrix, the
   normalised latent, and the rotation of the shared key by position. -/
module

public import proofs.«01_k».proof.Proof.Odd.Rope

@[expose] public section

noncomputable section

namespace Cert.EvenProj

open Idealize.ShloMosaic Idealize.ShloMosaic.Tactic
open Cert.OddProj (Rows Weights normed)

/-- The projection: feature, column. -/
abbrev Columns := (⟨2, ![1024, 3384]⟩ : Shape).Idx → EReal
/-- The latent norm's weights. -/
abbrev LatentWeights := (⟨1, ![256]⟩ : Shape).Idx → EReal

/-- A column of the projection. -/
def column (x : Rows) (g : Weights) (w : Columns) (n : Fin 16384) (j : Fin 3384) : EReal :=
  ∑ e : Fin 1024, normed x g n e * w (ix2 e j)

/-- The angle of position `p` at frequency `i`. -/
def angle (p i : ℕ) : EReal :=
  FloatOps.sitofp (F := Ideal) .f32 (BitVec.ofNat 32 p)
    * Ideal.pow (Ideal.ofBits .f32 0x461C4000#32)
      (Ideal.div (-FloatOps.sitofp (F := Ideal) .f32 (BitVec.ofNat 32 i)) (Ideal.ofBits .f32 0x41800000#32))

/-- A feature of the normalised latent. -/
def latent (x : Rows) (g : Weights) (w : Columns) (gl : LatentWeights) (n : Fin 16384) (j : Fin 256) : EReal :=
  column x g w n ⟨768 + j.val, by omega⟩
    * Ideal.rsqrt (Ideal.div (∑ d : Fin 256, column x g w n ⟨768 + d.val, by omega⟩ * column x g w n ⟨768 + d.val, by omega⟩)
        (Ideal.ofBits .f32 0x43800000#32) + Ideal.ofBits .f32 0x358637BD#32)
    * gl (ix1 j)

/-- The shared key's first half, rotated. -/
def keyFirst (x : Rows) (g : Weights) (w : Columns) (n : Fin 16384) (i : Fin 16) : EReal :=
  column x g w n ⟨1024 + i.val, by omega⟩ * Ideal.cos (angle (n.val % 8192) i.val)
    - column x g w n ⟨1040 + i.val, by omega⟩ * Ideal.sin (angle (n.val % 8192) i.val)

/-- The shared key's second half, rotated. -/
def keySecond (x : Rows) (g : Weights) (w : Columns) (n : Fin 16384) (i : Fin 16) : EReal :=
  column x g w n ⟨1024 + i.val, by omega⟩ * Ideal.sin (angle (n.val % 8192) i.val)
    + column x g w n ⟨1040 + i.val, by omega⟩ * Ideal.cos (angle (n.val % 8192) i.val)

/-- A row of the latent cache: the latent, then the rotated key's halves, each repeated for the heads. -/
def cacheRow (x : Rows) (g : Weights) (w : Columns) (gl : LatentWeights) (n : Fin 16384) (j : Fin 512) : EReal :=
  if h : j.val < 256 then latent x g w gl n ⟨j.val, h⟩
  else if j.val < 384 then keyFirst x g w n ⟨j.val % 16, by omega⟩
  else keySecond x g w n ⟨j.val % 16, by omega⟩

/-- The window branch's keys and values. -/
def window (x : Rows) (g : Weights) (w : Columns) (n : Fin 16384) (j : Fin 256) : EReal := column x g w n ⟨2592 + j.val, by omega⟩

/-- The compressed branch's keys and values, feature first. -/
def compressed (x : Rows) (g : Weights) (w : Columns) (b : Fin 2) (j : Fin 256) (p : Fin 8192) : EReal :=
  column x g w ⟨b.val * 8192 + p.val, by omega⟩ ⟨2080 + j.val, by omega⟩

/-- The selected branch's keys and values, feature first. -/
def selected (x : Rows) (g : Weights) (w : Columns) (b : Fin 2) (j : Fin 256) (p : Fin 8192) : EReal :=
  column x g w ⟨b.val * 8192 + p.val, by omega⟩ ⟨2336 + j.val, by omega⟩

/-- The columns from `s` on by heads of 64 features, each padded by zeros to 128 lanes. -/
def heads (x : Rows) (g : Weights) (w : Columns) (s : ℕ) (hs : s + 512 ≤ 3384) (n : Fin 16384) (j : Fin 1024) : EReal :=
  if h : j.val % 128 < 64 then column x g w n ⟨s + (j.val / 128 * 64 + j.val % 128), by omega⟩ else 0

/-- The latent attention's gates. -/
def latentGates (x : Rows) (g : Weights) (w : Columns) (n : Fin 16384) (j : Fin 1024) : EReal := heads x g w 1056 (by omega) n j

/-- The sparse attention's queries, scaled. -/
def queries (x : Rows) (g : Weights) (w : Columns) (n : Fin 16384) (j : Fin 1024) : EReal :=
  heads x g w 1568 (by omega) n j * Ideal.ofBits .f32 0x3E000000#32

/-- The sparse attention's gates. -/
def sparseGates (x : Rows) (g : Weights) (w : Columns) (n : Fin 16384) (j : Fin 1024) : EReal := heads x g w 2872 (by omega) n j

/-- The branches' gate logits, padded by zeros to 128 lanes. -/
def logits (x : Rows) (g : Weights) (w : Columns) (n : Fin 16384) (j : Fin 128) : EReal :=
  if h : j.val < 24 then column x g w n ⟨2848 + j.val, by omega⟩ else 0

end Cert.EvenProj

end
-- ==== Proof.EvenIdeal.Matrix.lean ====
/- The even layer's input projection: the matrix that the kernel reads, and the rotation's tables. -/
module

public import proofs.«01_k».proof.Proof.EvenIdeal.Run
public import proofs.«01_k».proof.Proof.Even.Spec
public import Idealize.ShloMosaic.Lib.Pointwise
public import Idealize.ShloMosaic.Lib.StableHlo.RunRead
public import Idealize.ShloMosaic.Lib.Pipeline.ValueKit
public import Idealize.ShloMosaic.Lib.Pipeline.Value

@[expose] public section

set_option maxRecDepth 16384

noncomputable section

namespace Cert.EvenProjIdeal.Even

open Cert.EvenProjIdeal Cert.EvenProjIdeal.Gen Cert.EvenProj
open Cert.OddProj (normed)
open Idealize.ShloMosaic Idealize.ShloMosaic.TcCoe Idealize.ShloMosaic.Tactic Idealize.SL.Sem

variable (m : (ℓ : Loc nD τ sig) → Buf (Elt Ideal) ℓ) (c : Dev nD)

/-- The matrix laid out from its thirteen groups of columns. -/
def laidOut (cq : FVec Ideal S1024x768 .f32) (ckv : FVec Ideal S1024x256 .f32) (kr1 : FVec Ideal S1024x128 .f32) (kr2 : FVec Ideal S1024x128 .f32) (gmla : FVec Ideal S1024x1024 .f32) (qn : FVec Ideal S1024x1024 .f32) (cmp : FVec Ideal S1024x256 .f32) (slc : FVec Ideal S1024x256 .f32) (slcp : FVec Ideal S1024x512 .f32) (win : FVec Ideal S1024x256 .f32) (winp : FVec Ideal S1024x512 .f32) (gl : FVec Ideal S1024x128 .f32) (gnsa : FVec Ideal S1024x1024 .f32) :
    FVec Ideal S1024x6272 .bf16 :=
  truncf .bf16 (concatenate S1024x6272 1 [⟨S1024x768, cq⟩, ⟨S1024x256, ckv⟩, ⟨S1024x128, kr1⟩, ⟨S1024x128, kr2⟩, ⟨S1024x1024, gmla⟩, ⟨S1024x1024, qn⟩, ⟨S1024x256, cmp⟩, ⟨S1024x256, slc⟩, ⟨S1024x512, slcp⟩, ⟨S1024x256, win⟩, ⟨S1024x512, winp⟩, ⟨S1024x128, gl⟩, ⟨S1024x1024, gnsa⟩]
    concatenates_S1024x768_S1024x256_S1024x128_S1024x128_S1024x1024_S1024x1024_S1024x256_S1024x256_S1024x512_S1024x256_S1024x512_S1024x128_S1024x1024_S1024x6272_d1) bitsLt_bf16_f32

section groups

variable (cq : FVec Ideal S1024x768 .f32) (ckv : FVec Ideal S1024x256 .f32) (kr1 : FVec Ideal S1024x128 .f32) (kr2 : FVec Ideal S1024x128 .f32) (gmla : FVec Ideal S1024x1024 .f32) (qn : FVec Ideal S1024x1024 .f32) (cmp : FVec Ideal S1024x256 .f32) (slc : FVec Ideal S1024x256 .f32) (slcp : FVec Ideal S1024x512 .f32) (win : FVec Ideal S1024x256 .f32) (winp : FVec Ideal S1024x512 .f32) (gl : FVec Ideal S1024x128 .f32) (gnsa : FVec Ideal S1024x1024 .f32)

theorem laidOut_ckv (e : Fin 1024) (j : Fin 256) :
    laidOut cq ckv kr1 kr2 gmla qn cmp slc slcp win winp gl gnsa (ix2 e (⟨768 + j.val, by omega⟩ : Fin 6272)) = ckv (ix2 e j) := by
  pointwise [laidOut]

theorem laidOut_kr1 (e : Fin 1024) (j : Fin 128) :
    laidOut cq ckv kr1 kr2 gmla qn cmp slc slcp win winp gl gnsa (ix2 e (⟨1024 + j.val, by omega⟩ : Fin 6272)) = kr1 (ix2 e j) := by
  pointwise [laidOut]
  repeat first | rw [dif_neg (by omega)] | rw [dif_pos (by omega)]
  exact congrArg (fun z => kr1 (ix2 e z)) (Fin.ext (by dsimp only; omega))

theorem laidOut_kr2 (e : Fin 1024) (j : Fin 128) :
    laidOut cq ckv kr1 kr2 gmla qn cmp slc slcp win winp gl gnsa (ix2 e (⟨1152 + j.val, by omega⟩ : Fin 6272)) = kr2 (ix2 e j) := by
  pointwise [laidOut]
  repeat first | rw [dif_neg (by omega)] | rw [dif_pos (by omega)]
  exact congrArg (fun z => kr2 (ix2 e z)) (Fin.ext (by dsimp only; omega))

theorem laidOut_cmp (e : Fin 1024) (j : Fin 256) :
    laidOut cq ckv kr1 kr2 gmla qn cmp slc slcp win winp gl gnsa (ix2 e (⟨3328 + j.val, by omega⟩ : Fin 6272)) = cmp (ix2 e j) := by
  pointwise [laidOut]
  repeat first | rw [dif_neg (by omega)] | rw [dif_pos (by omega)]
  exact congrArg (fun z => cmp (ix2 e z)) (Fin.ext (by dsimp only; omega))

theorem laidOut_slc (e : Fin 1024) (j : Fin 256) :
    laidOut cq ckv kr1 kr2 gmla qn cmp slc slcp win winp gl gnsa (ix2 e (⟨3584 + j.val, by omega⟩ : Fin 6272)) = slc (ix2 e j) := by
  pointwise [laidOut]
  repeat first | rw [dif_neg (by omega)] | rw [dif_pos (by omega)]
  exact congrArg (fun z => slc (ix2 e z)) (Fin.ext (by dsimp only; omega))

theorem laidOut_win (e : Fin 1024) (j : Fin 256) :
    laidOut cq ckv kr1 kr2 gmla qn cmp slc slcp win winp gl gnsa (ix2 e (⟨4352 + j.val, by omega⟩ : Fin 6272)) = win (ix2 e j) := by
  pointwise [laidOut]
  repeat first | rw [dif_neg (by omega)] | rw [dif_pos (by omega)]
  exact congrArg (fun z => win (ix2 e z)) (Fin.ext (by dsimp only; omega))

end groups

/-- The transposed slice of the matrix. -/
theorem turned_at (w : FVec Ideal S1024x6272 .bf16) (j : Fin 512) (e : Fin 1024) :
    transpose S512x1024 [1, 0] (extractStridedSlice S1024x512 ![0, 3328] w slices_S1024x6272_S1024x512_0_3328) transposes_S1024x512_S512x1024_1_0 (ix2 j e)
      = w (ix2 e (⟨3328 + j.val, by omega⟩ : Fin 6272)) := by
  pointwise []

/-! The laid out matrix: its columns are columns of the argument. -/

theorem matrix_latent (e : Fin 1024) (j : Fin 256) :
    @Eq EReal ((V m c main_v37 : FVec Ideal S1024x6272 .bf16) (ix2 e (⟨768 + j.val, by omega⟩ : Fin 6272)))
      ((m ((c.tc : Thread nD τ).loc main_arg2) : FVec Ideal S1024x3384 .f32) (ix2 e (⟨768 + j.val, by omega⟩ : Fin 3384))) := by
  simp only [V, hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16, List.flatten_cons,
    List.flatten_nil, List.append_nil, List.cons_append, List.nil_append]
  after_reads_simp
  refine (laidOut_ckv _ _ _ _ _ _ _ _ _ _ _ _ _ e j).trans ?_
  change StableHlo.upto _ _ _ (Proc.devRef .tc main_v1) _ = _
  after_reads_simp
  pointwise []

theorem matrix_first (e : Fin 1024) (j : Fin 128) :
    @Eq EReal ((V m c main_v37 : FVec Ideal S1024x6272 .bf16) (ix2 e (⟨1024 + j.val, by omega⟩ : Fin 6272)))
      ((m ((c.tc : Thread nD τ).loc main_arg2) : FVec Ideal S1024x3384 .f32) (ix2 e (⟨1024 + j.val % 16, by omega⟩ : Fin 3384))) := by
  simp only [V, hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16, List.flatten_cons,
    List.flatten_nil, List.append_nil, List.cons_append, List.nil_append]
  after_reads_simp
  refine (laidOut_kr1 _ _ _ _ _ _ _ _ _ _ _ _ _ e j).trans ?_
  change StableHlo.upto _ _ _ (Proc.devRef .tc main_v13) _ = _
  after_reads_simp
  pointwise []

theorem matrix_second (e : Fin 1024) (j : Fin 128) :
    @Eq EReal ((V m c main_v37 : FVec Ideal S1024x6272 .bf16) (ix2 e (⟨1152 + j.val, by omega⟩ : Fin 6272)))
      ((m ((c.tc : Thread nD τ).loc main_arg2) : FVec Ideal S1024x3384 .f32) (ix2 e (⟨1040 + j.val % 16, by omega⟩ : Fin 3384))) := by
  simp only [V, hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16, List.flatten_cons,
    List.flatten_nil, List.append_nil, List.cons_append, List.nil_append]
  after_reads_simp
  refine (laidOut_kr2 _ _ _ _ _ _ _ _ _ _ _ _ _ e j).trans ?_
  change StableHlo.upto _ _ _ (Proc.devRef .tc main_v17) _ = _
  after_reads_simp
  pointwise []
  exact congrArg (fun z => (m ((c.tc : Thread nD τ).loc main_arg2) : FVec Ideal S1024x3384 .f32) (ix2 e z)) (Fin.ext (by show 1024 + (16 + j.val % 16) = 1040 + j.val % 16; omega))

theorem matrix_window (e : Fin 1024) (j : Fin 256) :
    @Eq EReal ((V m c main_v37 : FVec Ideal S1024x6272 .bf16) (ix2 e (⟨4352 + j.val, by omega⟩ : Fin 6272)))
      ((m ((c.tc : Thread nD τ).loc main_arg2) : FVec Ideal S1024x3384 .f32) (ix2 e (⟨2592 + j.val, by omega⟩ : Fin 3384))) := by
  simp only [V, hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16, List.flatten_cons,
    List.flatten_nil, List.append_nil, List.cons_append, List.nil_append]
  after_reads_simp
  refine (laidOut_win _ _ _ _ _ _ _ _ _ _ _ _ _ e j).trans ?_
  change StableHlo.upto _ _ _ (Proc.devRef .tc main_v7) _ = _
  after_reads_simp
  pointwise []

theorem turned_compressed (e : Fin 1024) (j : Fin 256) :
    @Eq EReal ((V m c main_v75 : FVec Ideal S512x1024 .bf16) (ix2 (⟨j.val, by omega⟩ : Fin 512) e))
      ((m ((c.tc : Thread nD τ).loc main_arg2) : FVec Ideal S1024x3384 .f32) (ix2 e (⟨2080 + j.val, by omega⟩ : Fin 3384))) := by
  simp only [V, hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16, List.flatten_cons,
    List.flatten_nil, List.append_nil, List.cons_append, List.nil_append]
  after_reads_simp
  refine (turned_at (laidOut _ _ _ _ _ _ _ _ _ _ _ _ _) ⟨j.val, by omega⟩ e).trans ?_
  refine (laidOut_cmp _ _ _ _ _ _ _ _ _ _ _ _ _ e j).trans ?_
  change StableHlo.upto _ _ _ (Proc.devRef .tc main_v5) _ = _
  after_reads_simp
  pointwise []

theorem turned_selected (e : Fin 1024) (j : Fin 256) :
    @Eq EReal ((V m c main_v75 : FVec Ideal S512x1024 .bf16) (ix2 (⟨256 + j.val, by omega⟩ : Fin 512) e))
      ((m ((c.tc : Thread nD τ).loc main_arg2) : FVec Ideal S1024x3384 .f32) (ix2 e (⟨2336 + j.val, by omega⟩ : Fin 3384))) := by
  simp only [V, hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16, List.flatten_cons,
    List.flatten_nil, List.append_nil, List.cons_append, List.nil_append]
  after_reads_simp
  refine (turned_at (laidOut _ _ _ _ _ _ _ _ _ _ _ _ _) ⟨256 + j.val, by omega⟩ e).trans ?_
  refine (congrArg (laidOut _ _ _ _ _ _ _ _ _ _ _ _ _) (congrArg (ix2 e) (Fin.ext (by show 3328 + (256 + j.val) = 3584 + j.val; omega)))).trans ((laidOut_slc _ _ _ _ _ _ _ _ _ _ _ _ _ e j).trans ?_)
  change StableHlo.upto _ _ _ (Proc.devRef .tc main_v6) _ = _
  after_reads_simp
  pointwise []

/-- The table of cosines. -/
theorem cos_at (p : Fin 8192) (l : Fin 128) :
    @Eq EReal ((V m c main_v66 : FVec Ideal S8192x128 .f32) (ix2 p l)) (Ideal.cos (angle p.val (l.val % 16))) := by
  simp only [V, hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16, List.flatten_cons,
    List.flatten_nil, List.append_nil, List.cons_append, List.nil_append]
  after_reads_simp
  pointwise []
  rfl

/-- The table of sines. -/
theorem sin_at (p : Fin 8192) (l : Fin 128) :
    @Eq EReal ((V m c main_v70 : FVec Ideal S8192x128 .f32) (ix2 p l)) (Ideal.sin (angle p.val (l.val % 16))) := by
  simp only [V, hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16, List.flatten_cons,
    List.flatten_nil, List.append_nil, List.cons_append, List.nil_append]
  after_reads_simp
  pointwise []
  rfl

end Cert.EvenProjIdeal.Even

end
-- ==== Proof.EvenIdeal.Value.lean ====
/- The even layer's input projection: what the kernel leaves in its arrays, as functions of the arguments. -/
module

public import proofs.«01_k».proof.Proof.EvenIdeal.Matrix
public import Idealize.ShloMosaic.Lib.Pointwise
public import Idealize.ShloMosaic.Lib.Pipeline.ValueKit
public import Idealize.ShloMosaic.Lib.Pipeline.Value

@[expose] public section

set_option maxRecDepth 16384

noncomputable section

namespace Cert.EvenProjIdeal.Even

open Cert.EvenProjIdeal Cert.EvenProjIdeal.Gen Cert.EvenProj
open Cert.OddProj (normed)
open Idealize.ShloMosaic Idealize.ShloMosaic.TcCoe Idealize.ShloMosaic.Tactic Idealize.SL.Sem

variable (m : (ℓ : Loc nD τ sig) → Buf (Elt Ideal) ℓ) (c : Dev nD)

theorem index_0 : ∀ t : Fin cfg0.N, win0_0.index t = ![t.val, 0] := (by decide +kernel : ∀ t : Fin grid0.N, win0_0.index t = ![t.val, 0])
theorem index_1 : ∀ t : Fin cfg0.N, win0_1.index t = ![0, 0] := (by decide +kernel : ∀ t : Fin grid0.N, win0_1.index t = ![0, 0])
theorem index_2 : ∀ t : Fin cfg0.N, win0_2.index t = ![0, 0] := (by decide +kernel : ∀ t : Fin grid0.N, win0_2.index t = ![0, 0])
theorem index_3 : ∀ t : Fin cfg0.N, win0_3.index t = ![0, 0] := (by decide +kernel : ∀ t : Fin grid0.N, win0_3.index t = ![0, 0])
theorem index_5 : ∀ t : Fin cfg0.N, win0_5.index t = ![0, 0] := (by decide +kernel : ∀ t : Fin grid0.N, win0_5.index t = ![0, 0])
theorem index_8 : ∀ t : Fin cfg0.N, win0_8.index t = ![t.val % 32, 0] := (by decide +kernel : ∀ t : Fin grid0.N, win0_8.index t = ![t.val % 32, 0])
theorem index_9 : ∀ t : Fin cfg0.N, win0_9.index t = ![t.val % 32, 0] := (by decide +kernel : ∀ t : Fin grid0.N, win0_9.index t = ![t.val % 32, 0])
theorem index_11 : ∀ t : Fin cfg0.N, win0_11.index t = ![t.val, 0] := (by decide +kernel : ∀ t : Fin grid0.N, win0_11.index t = ![t.val, 0])
theorem index_18 : ∀ t : Fin cfg0.N, win0_18.index t = ![t.val, 0] := (by decide +kernel : ∀ t : Fin grid0.N, win0_18.index t = ![t.val, 0])
theorem index_22 : ∀ t : Fin cfg0.N, win0_22.index t = ![t.val / 32, 0, t.val % 32] := (by decide +kernel : ∀ t : Fin grid0.N, win0_22.index t = ![t.val / 32, 0, t.val % 32])
theorem index_23 : ∀ t : Fin cfg0.N, win0_23.index t = ![t.val / 32, 0, t.val % 32] := (by decide +kernel : ∀ t : Fin grid0.N, win0_23.index t = ![t.val / 32, 0, t.val % 32])

theorem lt_points (t : Fin cfg0.N) : t.val < 64 := t.isLt

/-- The rows that the call takes. -/
abbrev X : Cert.OddProj.Rows := m ((c.tc : Thread nD τ).loc main_arg0)
/-- The layer norm's weights. -/
abbrev G : Cert.OddProj.Weights := m ((c.tc : Thread nD τ).loc main_arg1)
/-- The projection. -/
abbrev W : Columns := m ((c.tc : Thread nD τ).loc main_arg2)
/-- The latent norm's weights. -/
abbrev L : LatentWeights := m ((c.tc : Thread nD τ).loc main_arg4)

/-! The blocks that a grid point reads. -/

theorem rows_block (t : Fin cfg0.N) (r : Fin 256) (e : Fin 1024) :
    @Eq EReal (iblk m c 0 t (ix2 r e)) (X m c (ix2 (⟨t.val * 256 + r.val, by have := lt_points t; omega⟩ : Fin 16384) e)) := by
  have := lt_points t
  refine Eq.trans ?_ (congrFun (V_main_arg0 m c) (ix2 (⟨t.val * 256 + r.val, by omega⟩ : Fin 16384) e))
  blk_ext [iblk, index_0 t]

theorem gain_at (e : Fin 1024) : @Eq EReal ((V m c main_v71 : FVec Ideal S1x1024 .f32) (ix2 0 e)) (G m c (ix1 e)) := by
  simp only [V, hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16, List.flatten_cons,
    List.flatten_nil, List.append_nil, List.cons_append, List.nil_append]
  after_reads_simp
  pointwise []

theorem gain_block (t : Fin cfg0.N) (e : Fin 1024) : @Eq EReal (iblk m c 1 t (ix2 0 e)) (G m c (ix1 e)) := by
  refine Eq.trans ?_ (gain_at m c e)
  blk_ext [iblk, index_1 t]

theorem latent_gain_at (j : Fin 256) : @Eq EReal ((V m c main_v73 : FVec Ideal S1x256 .f32) (ix2 0 j)) (L m c (ix1 j)) := by
  simp only [V, hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16, List.flatten_cons,
    List.flatten_nil, List.append_nil, List.cons_append, List.nil_append]
  after_reads_simp
  pointwise []

theorem latent_gain_block (t : Fin cfg0.N) (j : Fin 256) : @Eq EReal (iblk m c 5 t (ix2 0 j)) (L m c (ix1 j)) := by
  refine Eq.trans ?_ (latent_gain_at m c j)
  blk_ext [iblk, index_5 t]

theorem matrix_block (t : Fin cfg0.N) (e : Fin 1024) (j : Fin 6272) :
    @Eq EReal (iblk m c 2 t (ix2 e j)) ((V m c main_v37 : FVec Ideal S1024x6272 .bf16) (ix2 e j)) := by
  blk_ext [iblk, index_2 t]

theorem turned_block (t : Fin cfg0.N) (j : Fin 512) (e : Fin 1024) :
    @Eq EReal (iblk m c 3 t (ix2 j e)) ((V m c main_v75 : FVec Ideal S512x1024 .bf16) (ix2 j e)) := by
  blk_ext [iblk, index_3 t]

theorem cos_block (t : Fin cfg0.N) (r : Fin 256) (l : Fin 128) :
    @Eq EReal (iblk m c 8 t (ix2 r l)) (Ideal.cos (angle (t.val % 32 * 256 + r.val) (l.val % 16))) := by
  refine Eq.trans ?_ (cos_at m c ⟨t.val % 32 * 256 + r.val, by omega⟩ l)
  blk_ext [iblk, index_8 t]

theorem sin_block (t : Fin cfg0.N) (r : Fin 256) (l : Fin 128) :
    @Eq EReal (iblk m c 9 t (ix2 r l)) (Ideal.sin (angle (t.val % 32 * 256 + r.val) (l.val % 16))) := by
  refine Eq.trans ?_ (sin_at m c ⟨t.val % 32 * 256 + r.val, by omega⟩ l)
  blk_ext [iblk, index_9 t]

/-- The normalised block at an element. -/
theorem norm_at (x0 : Vec Ideal S256x1024 .f32) (x1 : Vec Ideal S1x1024 .f32) (r : Fin 256) (e : Fin 1024) :
    k0_pay6 x0 x1 (ix2 r e)
      = x0 (ix2 r e) * Ideal.rsqrt (Ideal.div (∑ d : Fin 1024, x0 (ix2 r d) * x0 (ix2 r d)) (Ideal.ofBits .f32 0x44800000#32)
          + Ideal.ofBits .f32 0x358637BD#32) * x1 (ix2 0 e) := by
  pointwise [k0_pay6]

theorem norm_block (t : Fin cfg0.N) (r : Fin 256) (e : Fin 1024) :
    @Eq EReal (k0_pay6 (F := Ideal) (iblk m c 0 t) (iblk m c 1 t) (ix2 r e)) (normed (X m c) (G m c) ⟨t.val * 256 + r.val, by have := lt_points t; omega⟩ e) := by
  have h1 := norm_at (iblk m c 0 t) (iblk m c 1 t) r e
  refine h1.trans ?_
  unfold normed
  simp only [rows_block, gain_block]

/-- A row of the normalised block against a column of the matrix. -/
def prod (h : FVec Ideal S256x1024 .bf16) (w : Vec Ideal S1024x6272 .bf16) (r : Fin 256) (j : Fin 6272) : EReal :=
  ∑ e : Fin 1024, h (ix2 r e) * w (ix2 e j)

/-- A row of the block against a column of the laid out matrix is a column of the projection. -/
theorem prod_block (t : Fin cfg0.N) (r : Fin 256) (j : Fin 6272) (k : Fin 3384)
    (hw : ∀ e : Fin 1024, @Eq EReal ((V m c main_v37 : FVec Ideal S1024x6272 .bf16) (ix2 e j)) (W m c (ix2 e k))) :
    prod (k0_pay6 (F := Ideal) (iblk m c 0 t) (iblk m c 1 t)) (iblk m c 2 t) r j
      = column (X m c) (G m c) (W m c) ⟨t.val * 256 + r.val, by have := lt_points t; omega⟩ k := by
  unfold prod column
  refine Finset.sum_congr rfl fun e _ => ?_
  rw [norm_block, matrix_block, hw]

/-! What the body stores, at an element. -/

theorem out_18_at (x0 : Vec Ideal S256x1024 .f32) (x1 : Vec Ideal S1x1024 .f32) (x2 : Vec Ideal S1024x6272 .bf16) (x3 : Vec Ideal S512x1024 .bf16) (x4 : Vec Ideal S1x768 .f32) (x5 : Vec Ideal S1x256 .f32) (x6 : Vec Ideal S768x1280 .bf16) (x7 : Vec Ideal S8x128x256 .bf16) (x8 x9 : Vec Ideal S256x128 .f32) (r j : Fin 256) :
    out_18 x0 x1 x2 x3 x4 x5 x6 x7 x8 x9 (ix2 r j) = prod (k0_pay6 x0 x1) x2 r ⟨4352 + j.val, by omega⟩ := by
  have l0 : View.ld x0 r_0 = x0 := View.ld_unit_lit _ _ (by decide)
  have l1 : View.ld x1 r_1 = x1 := View.ld_unit_lit _ _ (by decide)
  unfold out_18 xin
  rw [l0, l1, View.canon_cons_unit_lit _ _ _ (by decide), prod]
  generalize k0_pay6 (F := Ideal) x0 x1 = h
  pointwise [k0_pay2]

theorem out_22_at (x0 : Vec Ideal S256x1024 .f32) (x1 : Vec Ideal S1x1024 .f32) (x2 : Vec Ideal S1024x6272 .bf16) (x3 : Vec Ideal S512x1024 .bf16) (x4 : Vec Ideal S1x768 .f32) (x5 : Vec Ideal S1x256 .f32) (x6 : Vec Ideal S768x1280 .bf16) (x7 : Vec Ideal S8x128x256 .bf16) (x8 x9 : Vec Ideal S256x128 .f32) (j r : Fin 256) :
    out_22 x0 x1 x2 x3 x4 x5 x6 x7 x8 x9 (ix3 0 j r) = ∑ e : Fin 1024, x3 (ix2 (⟨j.val, by omega⟩ : Fin 512) e) * k0_pay6 x0 x1 (ix2 r e) := by
  have l0 : View.ld x0 r_0 = x0 := View.ld_unit_lit _ _ (by decide)
  have l1 : View.ld x1 r_1 = x1 := View.ld_unit_lit _ _ (by decide)
  unfold out_22 k0_pay7
  rw [l0, l1, View.canon_cons_unit_lit _ _ _ (by decide)]
  generalize k0_pay6 (F := Ideal) x0 x1 = h
  pointwise []

theorem out_23_at (x0 : Vec Ideal S256x1024 .f32) (x1 : Vec Ideal S1x1024 .f32) (x2 : Vec Ideal S1024x6272 .bf16) (x3 : Vec Ideal S512x1024 .bf16) (x4 : Vec Ideal S1x768 .f32) (x5 : Vec Ideal S1x256 .f32) (x6 : Vec Ideal S768x1280 .bf16) (x7 : Vec Ideal S8x128x256 .bf16) (x8 x9 : Vec Ideal S256x128 .f32) (j r : Fin 256) :
    out_23 x0 x1 x2 x3 x4 x5 x6 x7 x8 x9 (ix3 0 j r) = ∑ e : Fin 1024, x3 (ix2 (⟨256 + j.val, by omega⟩ : Fin 512) e) * k0_pay6 x0 x1 (ix2 r e) := by
  have l0 : View.ld x0 r_0 = x0 := View.ld_unit_lit _ _ (by decide)
  have l1 : View.ld x1 r_1 = x1 := View.ld_unit_lit _ _ (by decide)
  unfold out_23 k0_pay8
  rw [l0, l1, View.canon_cons_unit_lit _ _ _ (by decide)]
  generalize k0_pay6 (F := Ideal) x0 x1 = h
  pointwise []

theorem latent_tile (h : FVec Ideal S256x1024 .bf16) (w : Vec Ideal S1024x256 .bf16) (g : Vec Ideal S1x256 .f32) (r j : Fin 256) :
    k0_pay58 h w g (ix2 r j) = (∑ e : Fin 1024, h (ix2 r e) * w (ix2 e j))
        * Ideal.rsqrt (Ideal.div (∑ d : Fin 256, (∑ e : Fin 1024, h (ix2 r e) * w (ix2 e d)) * ∑ e : Fin 1024, h (ix2 r e) * w (ix2 e d))
            (Ideal.ofBits .f32 0x43800000#32) + Ideal.ofBits .f32 0x358637BD#32) * g (ix2 0 j) := by
  pointwise [k0_pay58]

theorem first_tile (h : FVec Ideal S256x1024 .bf16) (cs sn : FVec Ideal S256x128 .f32) (u v : Vec Ideal S1024x128 .bf16) (r : Fin 256) (l : Fin 128) :
    k0_pay61 h cs sn u v (ix2 r l) = (∑ e : Fin 1024, h (ix2 r e) * u (ix2 e l)) * cs (ix2 r l)
      - (∑ e : Fin 1024, h (ix2 r e) * v (ix2 e l)) * sn (ix2 r l) := by
  pointwise [k0_pay61, k0_pay59, k0_pay60]

theorem second_tile (h : FVec Ideal S256x1024 .bf16) (cs sn : FVec Ideal S256x128 .f32) (u v : Vec Ideal S1024x128 .bf16) (r : Fin 256) (l : Fin 128) :
    k0_pay62 h cs sn u v (ix2 r l) = (∑ e : Fin 1024, h (ix2 r e) * u (ix2 e l)) * sn (ix2 r l)
      + (∑ e : Fin 1024, h (ix2 r e) * v (ix2 e l)) * cs (ix2 r l) := by
  pointwise [k0_pay62, k0_pay59, k0_pay60]

theorem cos_same (x : Vec Ideal S256x128 .f32) : k0_pay9 x = x := by funext i; idx_vars i; pointwise [k0_pay9]
theorem sin_same (x : Vec Ideal S256x128 .f32) : k0_pay10 x = x := by funext i; idx_vars i; pointwise [k0_pay10]

end Cert.EvenProjIdeal.Even

end
-- ==== Proof.EvenIdeal.Arrays.lean ====
/- The even layer's input projection: what the kernel leaves in the arrays of its latent rows, window, compressed and
   selected branches, as functions of the arguments. -/
module

public import proofs.«01_k».proof.Proof.EvenIdeal.Value

@[expose] public section

set_option maxRecDepth 16384

noncomputable section

namespace Cert.EvenProjIdeal.Even

open Cert.EvenProjIdeal Cert.EvenProjIdeal.Gen Cert.EvenProj
open Cert.OddProj (normed)
open Idealize.ShloMosaic Idealize.ShloMosaic.TcCoe Idealize.ShloMosaic.Tactic Idealize.SL.Sem

variable (m : (ℓ : Loc nD τ sig) → Buf (Elt Ideal) ℓ) (c : Dev nD)

/-- A block of latent rows at an element. -/
def latentCell (h : FVec Ideal S256x1024 .bf16) (x2 : Vec Ideal S1024x6272 .bf16) (x5 : Vec Ideal S1x256 .f32) (x8 x9 : Vec Ideal S256x128 .f32)
    (r : Fin 256) (j : Fin 512) : EReal :=
  if hj : j.val < 256 then prod h x2 r ⟨768 + j.val, by omega⟩
      * Ideal.rsqrt (Ideal.div (∑ d : Fin 256, prod h x2 r ⟨768 + d.val, by omega⟩ * prod h x2 r ⟨768 + d.val, by omega⟩)
          (Ideal.ofBits .f32 0x43800000#32) + Ideal.ofBits .f32 0x358637BD#32) * x5 (ix2 0 ⟨j.val, hj⟩)
  else if hk : j.val < 384 then prod h x2 r ⟨1024 + (j.val - 256), by omega⟩ * x8 (ix2 r (⟨j.val - 256, by omega⟩ : Fin 128))
      - prod h x2 r ⟨1152 + (j.val - 256), by omega⟩ * x9 (ix2 r (⟨j.val - 256, by omega⟩ : Fin 128))
  else prod h x2 r ⟨1024 + (j.val - 384), by omega⟩ * x9 (ix2 r (⟨j.val - 384, by omega⟩ : Fin 128))
      + prod h x2 r ⟨1152 + (j.val - 384), by omega⟩ * x8 (ix2 r (⟨j.val - 384, by omega⟩ : Fin 128))

/-- The loads of the latent's and of the key halves' columns. -/
theorem load_latent (x2 : Vec Ideal S1024x6272 .bf16) (e : Fin 1024) (j : Fin 256) :
    View.ld x2 r_50 (ix2 e j) = x2 (ix2 e (⟨768 + j.val, by omega⟩ : Fin 6272)) := by pointwise []
theorem load_first (x2 : Vec Ideal S1024x6272 .bf16) (e : Fin 1024) (j : Fin 128) :
    View.ld x2 r_52 (ix2 e j) = x2 (ix2 e (⟨1024 + j.val, by omega⟩ : Fin 6272)) := by pointwise []
theorem load_second (x2 : Vec Ideal S1024x6272 .bf16) (e : Fin 1024) (j : Fin 128) :
    View.ld x2 r_53 (ix2 e j) = x2 (ix2 e (⟨1152 + j.val, by omega⟩ : Fin 6272)) := by pointwise []

theorem out_11_at (x0 : Vec Ideal S256x1024 .f32) (x1 : Vec Ideal S1x1024 .f32) (x2 : Vec Ideal S1024x6272 .bf16) (x3 : Vec Ideal S512x1024 .bf16) (x4 : Vec Ideal S1x768 .f32) (x5 : Vec Ideal S1x256 .f32) (x6 : Vec Ideal S768x1280 .bf16) (x7 : Vec Ideal S8x128x256 .bf16) (x8 x9 : Vec Ideal S256x128 .f32) (r : Fin 256) (j : Fin 512) :
    out_11 x0 x1 x2 x3 x4 x5 x6 x7 x8 x9 (ix2 r j) = latentCell (k0_pay6 x0 x1) x2 x5 x8 x9 r j := by
  have l0 : View.ld x0 r_0 = x0 := View.ld_unit_lit _ _ (by decide)
  have l1 : View.ld x1 r_1 = x1 := View.ld_unit_lit _ _ (by decide)
  have l5 : View.ld x5 r_51 = x5 := View.ld_unit_lit _ _ (by decide)
  have l8 : View.ld x8 r_5 = x8 := View.ld_unit_lit _ _ (by decide)
  have l9 : View.ld x9 r_5 = x9 := View.ld_unit_lit _ _ (by decide)
  unfold out_11 xin cosB sinB
  rw [l0, l1, l5, l8, l9, cos_same, sin_same]
  generalize k0_pay6 (F := Ideal) x0 x1 = h
  have s0 : ∀ (a : Fin 256) (d : Fin 256), (∑ e : Fin 1024, h (ix2 a e) * View.ld x2 r_50 (ix2 e d)) = prod h x2 a ⟨768 + d.val, by omega⟩ :=
    fun a d => Finset.sum_congr rfl fun e _ => congrArg (h (ix2 a e) * ·) (load_latent x2 e d)
  have s1 : ∀ (a : Fin 256) (d : Fin 128), (∑ e : Fin 1024, h (ix2 a e) * View.ld x2 r_52 (ix2 e d)) = prod h x2 a ⟨1024 + d.val, by omega⟩ :=
    fun a d => Finset.sum_congr rfl fun e _ => congrArg (h (ix2 a e) * ·) (load_first x2 e d)
  have s2 : ∀ (a : Fin 256) (d : Fin 128), (∑ e : Fin 1024, h (ix2 a e) * View.ld x2 r_53 (ix2 e d)) = prod h x2 a ⟨1152 + d.val, by omega⟩ :=
    fun a d => Finset.sum_congr rfl fun e _ => congrArg (h (ix2 a e) * ·) (load_second x2 e d)
  canon_tiles x h using cover_11 _ _ _ (ix2 r j)
  · obtain ⟨a, b, rfl⟩ : ∃ (a : Fin 256) (b : Fin 128), x = ix2 a b := ⟨x 0, x 1, eq_ix2 x⟩
    replace h0 : r.val = a.val := h0
    replace h1 : j.val = 384 + b.val := h1
    obtain rfl : r = a := Fin.ext h0
    rw [second_tile, latentCell, dif_neg (by omega), dif_neg (by omega)]
    refine (congrArg₂ (· + ·) (congrArg (· * x9 (ix2 r b)) (s1 r b)) (congrArg (· * x8 (ix2 r b)) (s2 r b))).trans ?_
    simp only [h1, Nat.add_sub_cancel_left, Fin.eta]
  · obtain ⟨a, b, rfl⟩ : ∃ (a : Fin 256) (b : Fin 128), x = ix2 a b := ⟨x 0, x 1, eq_ix2 x⟩
    replace h0 : r.val = a.val := h0
    replace h1 : j.val = 256 + b.val := h1
    obtain rfl : r = a := Fin.ext h0
    rw [first_tile, latentCell, dif_neg (by omega), dif_pos (by omega)]
    refine (congrArg₂ (· - ·) (congrArg (· * x8 (ix2 r b)) (s1 r b)) (congrArg (· * x9 (ix2 r b)) (s2 r b))).trans ?_
    simp only [h1, Nat.add_sub_cancel_left, Fin.eta]
  · obtain ⟨a, b, rfl⟩ : ∃ (a : Fin 256) (b : Fin 256), x = ix2 a b := ⟨x 0, x 1, eq_ix2 x⟩
    replace h0 : r.val = a.val := h0
    replace h1 : j.val = b.val := h1
    obtain rfl : r = a := Fin.ext h0
    rw [latent_tile, latentCell, dif_pos (by omega)]
    refine Eq.trans (congrArg (· * x5 (ix2 0 _)) (congrArg₂ (· * ·) (s0 r _) (congrArg Ideal.rsqrt (congrArg (· + Ideal.ofBits .f32 0x358637BD#32)
      (congrArg (Ideal.div · (Ideal.ofBits .f32 0x43800000#32)) (Finset.sum_congr rfl fun d _ => congrArg₂ (· * ·) (s0 r d) (s0 r d))))))) ?_
    simp only [h1, Fin.eta]

/-! What a grid point writes back, in the arguments. -/

theorem latent_block (t : Fin cfg0.N) (r : Fin 256) (j : Fin 512) :
    out_11 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r j)
      = cacheRow (X m c) (G m c) (W m c) (L m c) ⟨t.val * 256 + r.val, by have := lt_points t; omega⟩ j := by
  have ht := lt_points t
  have ep : (t.val * 256 + r.val) % 8192 = t.val % 32 * 256 + r.val := by omega
  have hl : ∀ d : Fin 256, prod (k0_pay6 (F := Ideal) (iblk m c 0 t) (iblk m c 1 t)) (iblk m c 2 t) r ⟨768 + d.val, by omega⟩
      = column (X m c) (G m c) (W m c) ⟨t.val * 256 + r.val, by omega⟩ ⟨768 + d.val, by omega⟩ :=
    fun d => prod_block m c t r _ _ fun e => matrix_latent m c e d
  have hf : ∀ l : Fin 128, prod (k0_pay6 (F := Ideal) (iblk m c 0 t) (iblk m c 1 t)) (iblk m c 2 t) r ⟨1024 + l.val, by omega⟩
      = column (X m c) (G m c) (W m c) ⟨t.val * 256 + r.val, by omega⟩ ⟨1024 + l.val % 16, by omega⟩ :=
    fun l => prod_block m c t r _ _ fun e => matrix_first m c e l
  have hs : ∀ l : Fin 128, prod (k0_pay6 (F := Ideal) (iblk m c 0 t) (iblk m c 1 t)) (iblk m c 2 t) r ⟨1152 + l.val, by omega⟩
      = column (X m c) (G m c) (W m c) ⟨t.val * 256 + r.val, by omega⟩ ⟨1040 + l.val % 16, by omega⟩ :=
    fun l => prod_block m c t r _ _ fun e => matrix_second m c e l
  rw [out_11_at, latentCell, cacheRow]
  split
  · rename_i hj
    rw [latent, latent_gain_block, hl ⟨j.val, hj⟩]
    simp only [hl]
  · split
    · have e16 : (j.val - 256) % 16 = j.val % 16 := by omega
      rw [keyFirst, hf ⟨j.val - 256, by omega⟩, hs ⟨j.val - 256, by omega⟩, cos_block, sin_block]
      simp only [ep, e16]
    · have e16 : (j.val - 384) % 16 = j.val % 16 := by omega
      rw [keySecond, hf ⟨j.val - 384, by omega⟩, hs ⟨j.val - 384, by omega⟩, cos_block, sin_block]
      simp only [ep, e16]

theorem window_block (t : Fin cfg0.N) (r j : Fin 256) :
    out_18 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r j)
      = window (X m c) (G m c) (W m c) ⟨t.val * 256 + r.val, by have := lt_points t; omega⟩ j := by
  rw [out_18_at]
  exact prod_block m c t r _ _ fun e => matrix_window m c e j

theorem compressed_block (t : Fin cfg0.N) (j r : Fin 256) :
    out_22 (F := Ideal) (iblk m c 0 t) (iblk m c 1 t) (iblk m c 2 t) (iblk m c 3 t) (iblk m c 4 t) (iblk m c 5 t) (iblk m c 6 t) (iblk m c 7 t) (iblk m c 8 t) (iblk m c 9 t) (ix3 0 j r)
      = compressed (X m c) (G m c) (W m c) ⟨t.val / 32, by have := lt_points t; omega⟩ j ⟨t.val % 32 * 256 + r.val, by omega⟩ := by
  have ht := lt_points t
  rw [out_22_at, compressed, column]
  refine Finset.sum_congr rfl fun e _ => ?_
  rw [norm_block, turned_block, turned_compressed, mul_comm]
  exact congrArg (fun n => normed (X m c) (G m c) n e * _) (Fin.ext (by dsimp only; omega))

theorem selected_block (t : Fin cfg0.N) (j r : Fin 256) :
    out_23 (F := Ideal) (iblk m c 0 t) (iblk m c 1 t) (iblk m c 2 t) (iblk m c 3 t) (iblk m c 4 t) (iblk m c 5 t) (iblk m c 6 t) (iblk m c 7 t) (iblk m c 8 t) (iblk m c 9 t) (ix3 0 j r)
      = selected (X m c) (G m c) (W m c) ⟨t.val / 32, by have := lt_points t; omega⟩ j ⟨t.val % 32 * 256 + r.val, by omega⟩ := by
  have ht := lt_points t
  rw [out_23_at, selected, column]
  refine Finset.sum_congr rfl fun e _ => ?_
  rw [norm_block, turned_block, turned_selected, mul_comm]
  exact congrArg (fun n => normed (X m c) (G m c) n e * _) (Fin.ext (by dsimp only; omega))

/-! The arrays after the run. -/

theorem array11 : (dats m 0 c).arrAt 11 cfg0.N = fun i => cacheRow (X m c) (G m c) (W m c) (L m c) (i 0) (i 1) := by
  refine (dats m 0 c).arrAt_eq_of_covers 11 _ (by decide +kernel) fun t hf y => ?_
  blk_simp
  rw [after_11]
  have e0 : ((((View.whole main_v76_1).slice (win0_11.rect t)).emb y 0 : Fin _) : ℕ) = t.val * 256 + (y 0 : ℕ) := by blk_simp [index_11 t]
  have e1 : ((((View.whole main_v76_1).slice (win0_11.rect t)).emb y 1 : Fin _) : ℕ) = (y 1 : ℕ) := by blk_simp [index_11 t]
  refine (congrArg (out_11 (F := Ideal) (iblk m c 0 t) (iblk m c 1 t) (iblk m c 2 t) (iblk m c 3 t) (iblk m c 4 t) (iblk m c 5 t) (iblk m c 6 t) (iblk m c 7 t) (iblk m c 8 t) (iblk m c 9 t)) (eq_ix2 y)).trans
    ((latent_block m c t (y 0) (y 1)).trans ?_)
  rw [show (((View.whole main_v76_1).slice (win0_11.rect t)).emb y 1) = y 1 from Fin.ext e1]
  exact congrArg (fun n => cacheRow _ _ _ _ n (y 1)) (Fin.ext e0.symm)

theorem array18 : (dats m 0 c).arrAt 18 cfg0.N = fun i => window (X m c) (G m c) (W m c) (i 0) (i 1) := by
  refine (dats m 0 c).arrAt_eq_of_covers 18 _ (by decide +kernel) fun t hf y => ?_
  blk_simp
  rw [after_18]
  have e0 : ((((View.whole main_v76_8).slice (win0_18.rect t)).emb y 0 : Fin _) : ℕ) = t.val * 256 + (y 0 : ℕ) := by blk_simp [index_18 t]
  have e1 : ((((View.whole main_v76_8).slice (win0_18.rect t)).emb y 1 : Fin _) : ℕ) = (y 1 : ℕ) := by blk_simp [index_18 t]
  refine (congrArg (out_18 (F := Ideal) (iblk m c 0 t) (iblk m c 1 t) (iblk m c 2 t) (iblk m c 3 t) (iblk m c 4 t) (iblk m c 5 t) (iblk m c 6 t) (iblk m c 7 t) (iblk m c 8 t) (iblk m c 9 t)) (eq_ix2 y)).trans
    ((window_block m c t (y 0) (y 1)).trans ?_)
  rw [show (((View.whole main_v76_8).slice (win0_18.rect t)).emb y 1) = y 1 from Fin.ext e1]
  exact congrArg (fun n => window _ _ _ n (y 1)) (Fin.ext e0.symm)

theorem array22 : (dats m 0 c).arrAt 22 cfg0.N = fun i => compressed (X m c) (G m c) (W m c) (i 0) (i 1) (i 2) := by
  refine (dats m 0 c).arrAt_eq_of_covers 22 _ (by decide +kernel) fun t hf y => ?_
  blk_simp
  rw [after_22]
  have hy : (y 0 : ℕ) = 0 := by have : (y 0).val < 1 := (y 0).isLt; omega
  have e0 : ((((View.whole main_v76_12).slice (win0_22.rect t)).emb y 0 : Fin _) : ℕ) = t.val / 32 := by blk_simp [index_22 t] <;> omega
  have e1 : ((((View.whole main_v76_12).slice (win0_22.rect t)).emb y 1 : Fin _) : ℕ) = (y 1 : ℕ) := by blk_simp [index_22 t]
  have e2 : ((((View.whole main_v76_12).slice (win0_22.rect t)).emb y 2 : Fin _) : ℕ) = t.val % 32 * 256 + (y 2 : ℕ) := by blk_simp [index_22 t]
  have ey : y = ix3 (0 : Fin 1) (y 1) (y 2) := by
    exact (eq_ix3 y).trans (congrArg (fun a : Fin 1 => ix3 a (y 1) (y 2)) (Fin.ext hy))
  refine (congrArg (out_22 (F := Ideal) (iblk m c 0 t) (iblk m c 1 t) (iblk m c 2 t) (iblk m c 3 t) (iblk m c 4 t) (iblk m c 5 t) (iblk m c 6 t) (iblk m c 7 t) (iblk m c 8 t) (iblk m c 9 t)) ey).trans ((compressed_block m c t (y 1) (y 2)).trans ?_)
  rw [show (((View.whole main_v76_12).slice (win0_22.rect t)).emb y 1) = y 1 from Fin.ext e1]
  exact congr (congrArg (fun b => compressed (X m c) (G m c) (W m c) b (y 1)) (Fin.ext e0.symm)) (Fin.ext e2.symm)

theorem array23 : (dats m 0 c).arrAt 23 cfg0.N = fun i => selected (X m c) (G m c) (W m c) (i 0) (i 1) (i 2) := by
  refine (dats m 0 c).arrAt_eq_of_covers 23 _ (by decide +kernel) fun t hf y => ?_
  blk_simp
  rw [after_23]
  have hy : (y 0 : ℕ) = 0 := by have : (y 0).val < 1 := (y 0).isLt; omega
  have e0 : ((((View.whole main_v76_13).slice (win0_23.rect t)).emb y 0 : Fin _) : ℕ) = t.val / 32 := by blk_simp [index_23 t] <;> omega
  have e1 : ((((View.whole main_v76_13).slice (win0_23.rect t)).emb y 1 : Fin _) : ℕ) = (y 1 : ℕ) := by blk_simp [index_23 t]
  have e2 : ((((View.whole main_v76_13).slice (win0_23.rect t)).emb y 2 : Fin _) : ℕ) = t.val % 32 * 256 + (y 2 : ℕ) := by blk_simp [index_23 t]
  have ey : y = ix3 (0 : Fin 1) (y 1) (y 2) := by
    exact (eq_ix3 y).trans (congrArg (fun a : Fin 1 => ix3 a (y 1) (y 2)) (Fin.ext hy))
  refine (congrArg (out_23 (F := Ideal) (iblk m c 0 t) (iblk m c 1 t) (iblk m c 2 t) (iblk m c 3 t) (iblk m c 4 t) (iblk m c 5 t) (iblk m c 6 t) (iblk m c 7 t) (iblk m c 8 t) (iblk m c 9 t)) ey).trans ((selected_block m c t (y 1) (y 2)).trans ?_)
  rw [show (((View.whole main_v76_13).slice (win0_23.rect t)).emb y 1) = y 1 from Fin.ext e1]
  exact congr (congrArg (fun b => selected (X m c) (G m c) (W m c) b (y 1)) (Fin.ext e0.symm)) (Fin.ext e2.symm)

theorem post11 (r : PUnit × MemSt nD τ sig (Elt Ideal)) (h : Pipeline.FramePost cfgs (dats m) 0 (V m) r) :
    r.2.mem ((c.tc : Thread nD τ).loc main_v76_1) = (dats m 0 c).arrAt 11 cfg0.N :=
  (h c).1 11

theorem post18 (r : PUnit × MemSt nD τ sig (Elt Ideal)) (h : Pipeline.FramePost cfgs (dats m) 0 (V m) r) :
    r.2.mem ((c.tc : Thread nD τ).loc main_v76_8) = (dats m 0 c).arrAt 18 cfg0.N :=
  (h c).1 18

theorem post22 (r : PUnit × MemSt nD τ sig (Elt Ideal)) (h : Pipeline.FramePost cfgs (dats m) 0 (V m) r) :
    r.2.mem ((c.tc : Thread nD τ).loc main_v76_12) = (dats m 0 c).arrAt 22 cfg0.N :=
  (h c).1 22

theorem post23 (r : PUnit × MemSt nD τ sig (Elt Ideal)) (h : Pipeline.FramePost cfgs (dats m) 0 (V m) r) :
    r.2.mem ((c.tc : Thread nD τ).loc main_v76_13) = (dats m 0 c).arrAt 23 cfg0.N :=
  (h c).1 23

end Cert.EvenProjIdeal.Even

end
-- ==== Proof.EvenIdeal.HeadMatrix.lean ====
/- The even layer's input projection: the padded groups of columns of the matrix that the kernel reads. -/
module

public import proofs.«01_k».proof.Proof.EvenIdeal.Matrix
public import Idealize.ShloMosaic.Lib.KernelVsHost

@[expose] public section

set_option maxRecDepth 16384

noncomputable section

namespace Cert.EvenProjIdeal.Even

open Cert.EvenProjIdeal Cert.EvenProjIdeal.Gen Cert.EvenProj
open Cert.OddProj (normed)
open Idealize.ShloMosaic Idealize.ShloMosaic.TcCoe Idealize.ShloMosaic.Tactic Idealize.SL.Sem

variable (m : (ℓ : Loc nD τ sig) → Buf (Elt Ideal) ℓ) (c : Dev nD)

section groups

variable (cq : FVec Ideal S1024x768 .f32) (ckv : FVec Ideal S1024x256 .f32) (kr1 : FVec Ideal S1024x128 .f32) (kr2 : FVec Ideal S1024x128 .f32) (gmla : FVec Ideal S1024x1024 .f32) (qn : FVec Ideal S1024x1024 .f32) (cmp : FVec Ideal S1024x256 .f32) (slc : FVec Ideal S1024x256 .f32) (slcp : FVec Ideal S1024x512 .f32) (win : FVec Ideal S1024x256 .f32) (winp : FVec Ideal S1024x512 .f32) (gl : FVec Ideal S1024x128 .f32) (gnsa : FVec Ideal S1024x1024 .f32)

theorem laidOut_gmla (e : Fin 1024) (j : Fin 1024) :
    laidOut cq ckv kr1 kr2 gmla qn cmp slc slcp win winp gl gnsa (ix2 e (⟨1280 + j.val, by omega⟩ : Fin 6272)) = gmla (ix2 e j) := by
  pointwise [laidOut]
  repeat first | rw [dif_neg (by omega)] | rw [dif_pos (by omega)]
  exact congrArg (fun z => gmla (ix2 e z)) (Fin.ext (by dsimp only; omega))

theorem laidOut_qn (e : Fin 1024) (j : Fin 1024) :
    laidOut cq ckv kr1 kr2 gmla qn cmp slc slcp win winp gl gnsa (ix2 e (⟨2304 + j.val, by omega⟩ : Fin 6272)) = qn (ix2 e j) := by
  pointwise [laidOut]
  repeat first | rw [dif_neg (by omega)] | rw [dif_pos (by omega)]
  exact congrArg (fun z => qn (ix2 e z)) (Fin.ext (by dsimp only; omega))

theorem laidOut_gnsa (e : Fin 1024) (j : Fin 1024) :
    laidOut cq ckv kr1 kr2 gmla qn cmp slc slcp win winp gl gnsa (ix2 e (⟨5248 + j.val, by omega⟩ : Fin 6272)) = gnsa (ix2 e j) := by
  pointwise [laidOut]
  repeat first | rw [dif_neg (by omega)] | rw [dif_pos (by omega)]
  exact congrArg (fun z => gnsa (ix2 e z)) (Fin.ext (by dsimp only; omega))

theorem laidOut_gl (e : Fin 1024) (j : Fin 128) :
    laidOut cq ckv kr1 kr2 gmla qn cmp slc slcp win winp gl gnsa (ix2 e (⟨5120 + j.val, by omega⟩ : Fin 6272)) = gl (ix2 e j) := by
  pointwise [laidOut]
  repeat first | rw [dif_neg (by omega)] | rw [dif_pos (by omega)]
  exact congrArg (fun z => gl (ix2 e z)) (Fin.ext (by dsimp only; omega))

end groups

/-- The word of padding. -/
def padding : FVec Ideal S_ .f32 := sitofp .f32 (constantI S_ 32 0#32)

theorem padding_eq (i : S_.Idx) : padding i = 0 := sitofp_zero

/-- Columns by heads, padded. -/
def padHeads (x : FVec Ideal S1024x8x64 .f32) : FVec Ideal S1024x8x128 .f32 :=
  pad S1024x8x128 ![0, 0, 0] ![0, 0, 64] ![0, 0, 0] x padding pads_S1024x8x64_S1024x8x128_000_000_0640 h_S_

/-- Columns by heads, padded, one head after another. -/
def padColumns (x : FVec Ideal S1024x512 .f32) : FVec Ideal S1024x1024 .f32 :=
  shapeCast S1024x1024 (padHeads (shapeCast S1024x8x64 x shapeCasts_S1024x512_S1024x8x64)) shapeCasts_S1024x8x128_S1024x1024

/-- The logits' columns, padded. -/
def padLogits (x : FVec Ideal S1024x24 .f32) : FVec Ideal S1024x128 .f32 :=
  pad S1024x128 ![0, 0] ![0, 104] ![0, 0] x padding pads_S1024x24_S1024x128_000_01040 h_S_

theorem padHeads_at (x : FVec Ideal S1024x8x64 .f32) (e : Fin 1024) (h : Fin 8) (v : Fin 128) (hv : v.val < 64) :
    padHeads x (ix3 e h v) = x (ix3 e h (⟨v.val, hv⟩ : Fin 64)) := by
  refine pad_apply_of_inside _ _ _ _ _ pads_S1024x8x64_S1024x8x128_000_000_0640 h_S_ (ix3 e h v) (ix3 e h (⟨v.val, hv⟩ : Fin 64)) ?_
  intro a
  fin_cases a <;> simp

theorem padHeads_pad (x : FVec Ideal S1024x8x64 .f32) (e : Fin 1024) (h : Fin 8) (v : Fin 128) (hv : ¬ v.val < 64) :
    padHeads x (ix3 e h v) = 0 := by
  refine (pad_apply_of_not_inside _ _ _ _ _ pads_S1024x8x64_S1024x8x128_000_000_0640 h_S_ (ix3 e h v) (2 : Fin 3) ?_).trans (padding_eq _)
  simpa [Nat.mod_one] using hv

theorem padColumns_heads (x : FVec Ideal S1024x512 .f32) (e k : Fin 1024) :
    padColumns x (ix2 e k) = padHeads (shapeCast S1024x8x64 x shapeCasts_S1024x512_S1024x8x64) (ix3 e (⟨k.val / 128, by omega⟩ : Fin 8) (⟨k.val % 128, by omega⟩ : Fin 128)) := by
  pointwise [padColumns]

theorem padColumns_at (x : FVec Ideal S1024x512 .f32) (e k : Fin 1024) (hk : k.val % 128 < 64) :
    padColumns x (ix2 e k) = x (ix2 e (⟨k.val / 128 * 64 + k.val % 128, by omega⟩ : Fin 512)) := by
  rw [padColumns_heads, padHeads_at _ _ _ _ hk]
  pointwise []

theorem padColumns_pad (x : FVec Ideal S1024x512 .f32) (e k : Fin 1024) (hk : ¬ k.val % 128 < 64) : padColumns x (ix2 e k) = 0 := by
  rw [padColumns_heads, padHeads_pad _ _ _ _ hk]

theorem padLogits_at (x : FVec Ideal S1024x24 .f32) (e : Fin 1024) (k : Fin 128) (hk : k.val < 24) :
    padLogits x (ix2 e k) = x (ix2 e (⟨k.val, hk⟩ : Fin 24)) := by
  refine pad_apply_of_inside _ _ _ _ _ pads_S1024x24_S1024x128_000_01040 h_S_ (ix2 e k) (ix2 e (⟨k.val, hk⟩ : Fin 24)) ?_
  intro a
  fin_cases a <;> simp

theorem padLogits_pad (x : FVec Ideal S1024x24 .f32) (e : Fin 1024) (k : Fin 128) (hk : ¬ k.val < 24) : padLogits x (ix2 e k) = 0 := by
  refine (pad_apply_of_not_inside _ _ _ _ _ pads_S1024x24_S1024x128_000_01040 h_S_ (ix2 e k) (1 : Fin 2) ?_).trans (padding_eq _)
  simpa [Nat.mod_one] using hk

/-! The padded groups of the laid out matrix. -/

theorem columns_gmla (e j : Fin 1024) :
    @Eq EReal ((V m c main_v37 : FVec Ideal S1024x6272 .bf16) (ix2 e (⟨1280 + j.val, by omega⟩ : Fin 6272)))
      (padColumns (extractStridedSlice S1024x512 ![0, 1056] (m ((c.tc : Thread nD τ).loc main_arg2) : FVec Ideal S1024x3384 .f32) slices_S1024x3384_S1024x512_0_1056) (ix2 e j)) := by
  simp only [V, hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16, List.flatten_cons,
    List.flatten_nil, List.append_nil, List.cons_append, List.nil_append]
  after_reads_simp
  refine (laidOut_gmla _ _ _ _ _ _ _ _ _ _ _ _ _ e j).trans ?_
  change StableHlo.upto _ _ _ (Proc.devRef .tc main_v20) _ = _
  after_reads_simp
  rfl

theorem columns_qn (e j : Fin 1024) :
    @Eq EReal ((V m c main_v37 : FVec Ideal S1024x6272 .bf16) (ix2 e (⟨2304 + j.val, by omega⟩ : Fin 6272)))
      (padColumns (extractStridedSlice S1024x512 ![0, 1568] (m ((c.tc : Thread nD τ).loc main_arg2) : FVec Ideal S1024x3384 .f32) slices_S1024x3384_S1024x512_0_1568) (ix2 e j)) := by
  simp only [V, hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16, List.flatten_cons,
    List.flatten_nil, List.append_nil, List.cons_append, List.nil_append]
  after_reads_simp
  refine (laidOut_qn _ _ _ _ _ _ _ _ _ _ _ _ _ e j).trans ?_
  change StableHlo.upto _ _ _ (Proc.devRef .tc main_v23) _ = _
  after_reads_simp
  rfl

theorem columns_gnsa (e j : Fin 1024) :
    @Eq EReal ((V m c main_v37 : FVec Ideal S1024x6272 .bf16) (ix2 e (⟨5248 + j.val, by omega⟩ : Fin 6272)))
      (padColumns (extractStridedSlice S1024x512 ![0, 2872] (m ((c.tc : Thread nD τ).loc main_arg2) : FVec Ideal S1024x3384 .f32) slices_S1024x3384_S1024x512_0_2872) (ix2 e j)) := by
  simp only [V, hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16, List.flatten_cons,
    List.flatten_nil, List.append_nil, List.cons_append, List.nil_append]
  after_reads_simp
  refine (laidOut_gnsa _ _ _ _ _ _ _ _ _ _ _ _ _ e j).trans ?_
  change StableHlo.upto _ _ _ (Proc.devRef .tc main_v35) _ = _
  after_reads_simp
  rfl

theorem columns_gl (e : Fin 1024) (j : Fin 128) :
    @Eq EReal ((V m c main_v37 : FVec Ideal S1024x6272 .bf16) (ix2 e (⟨5120 + j.val, by omega⟩ : Fin 6272)))
      (padLogits (extractStridedSlice S1024x24 ![0, 2848] (m ((c.tc : Thread nD τ).loc main_arg2) : FVec Ideal S1024x3384 .f32) slices_S1024x3384_S1024x24_0_2848) (ix2 e j)) := by
  simp only [V, hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16, List.flatten_cons,
    List.flatten_nil, List.append_nil, List.cons_append, List.nil_append]
  after_reads_simp
  refine (laidOut_gl _ _ _ _ _ _ _ _ _ _ _ _ _ e j).trans ?_
  change StableHlo.upto _ _ _ (Proc.devRef .tc main_v32) _ = _
  after_reads_simp
  rfl

end Cert.EvenProjIdeal.Even

end
-- ==== Proof.EvenIdeal.Heads.lean ====
/- The even layer's input projection: what the kernel leaves in the arrays of its gates, queries and gate logits, and all that
   it returns, as functions of the arguments. -/
module

public import proofs.«01_k».proof.Proof.EvenIdeal.Arrays
public import proofs.«01_k».proof.Proof.EvenIdeal.HeadMatrix

@[expose] public section

set_option maxRecDepth 16384

noncomputable section

namespace Cert.EvenProjIdeal.Even

open Cert.EvenProjIdeal Cert.EvenProjIdeal.Gen Cert.EvenProj
open Cert.OddProj (normed)
open Idealize.ShloMosaic Idealize.ShloMosaic.TcCoe Idealize.ShloMosaic.Tactic Idealize.SL.Sem

variable (m : (ℓ : Loc nD τ sig) → Buf (Elt Ideal) ℓ) (c : Dev nD)

theorem index_12 : ∀ t : Fin cfg0.N, win0_12.index t = ![t.val, 0] := (by decide +kernel : ∀ t : Fin grid0.N, win0_12.index t = ![t.val, 0])
theorem index_13 : ∀ t : Fin cfg0.N, win0_13.index t = ![t.val, 0] := (by decide +kernel : ∀ t : Fin grid0.N, win0_13.index t = ![t.val, 0])
theorem index_14 : ∀ t : Fin cfg0.N, win0_14.index t = ![t.val, 0] := (by decide +kernel : ∀ t : Fin grid0.N, win0_14.index t = ![t.val, 0])
theorem index_20 : ∀ t : Fin cfg0.N, win0_20.index t = ![t.val, 0] := (by decide +kernel : ∀ t : Fin grid0.N, win0_20.index t = ![t.val, 0])
theorem index_21 : ∀ t : Fin cfg0.N, win0_21.index t = ![t.val, 0] := (by decide +kernel : ∀ t : Fin grid0.N, win0_21.index t = ![t.val, 0])

/-- The copy of the latent rows has their values. -/
theorem out_12_same (x0 : Vec Ideal S256x1024 .f32) (x1 : Vec Ideal S1x1024 .f32) (x2 : Vec Ideal S1024x6272 .bf16) (x3 : Vec Ideal S512x1024 .bf16) (x4 : Vec Ideal S1x768 .f32) (x5 : Vec Ideal S1x256 .f32) (x6 : Vec Ideal S768x1280 .bf16) (x7 : Vec Ideal S8x128x256 .bf16) (x8 x9 : Vec Ideal S256x128 .f32) :
    @Eq (S256x512.Idx → EReal) (out_12 x0 x1 x2 x3 x4 x5 x6 x7 x8 x9) (out_11 x0 x1 x2 x3 x4 x5 x6 x7 x8 x9) := rfl

theorem out_13_at (x0 : Vec Ideal S256x1024 .f32) (x1 : Vec Ideal S1x1024 .f32) (x2 : Vec Ideal S1024x6272 .bf16) (x3 : Vec Ideal S512x1024 .bf16) (x4 : Vec Ideal S1x768 .f32) (x5 : Vec Ideal S1x256 .f32) (x6 : Vec Ideal S768x1280 .bf16) (x7 : Vec Ideal S8x128x256 .bf16) (x8 x9 : Vec Ideal S256x128 .f32) (r : Fin 256) (j : Fin 1024) :
    out_13 x0 x1 x2 x3 x4 x5 x6 x7 x8 x9 (ix2 r j) = prod (k0_pay6 x0 x1) x2 r ⟨1280 + j.val, by omega⟩ := by
  have l0 : View.ld x0 r_0 = x0 := View.ld_unit_lit _ _ (by decide)
  have l1 : View.ld x1 r_1 = x1 := View.ld_unit_lit _ _ (by decide)
  unfold out_13 xin
  rw [l0, l1, View.canon_cons_unit_lit _ _ _ (by decide), prod]
  generalize k0_pay6 (F := Ideal) x0 x1 = h
  pointwise [k0_pay66]

theorem out_14_at (x0 : Vec Ideal S256x1024 .f32) (x1 : Vec Ideal S1x1024 .f32) (x2 : Vec Ideal S1024x6272 .bf16) (x3 : Vec Ideal S512x1024 .bf16) (x4 : Vec Ideal S1x768 .f32) (x5 : Vec Ideal S1x256 .f32) (x6 : Vec Ideal S768x1280 .bf16) (x7 : Vec Ideal S8x128x256 .bf16) (x8 x9 : Vec Ideal S256x128 .f32) (r : Fin 256) (j : Fin 1024) :
    out_14 x0 x1 x2 x3 x4 x5 x6 x7 x8 x9 (ix2 r j) = prod (k0_pay6 x0 x1) x2 r ⟨2304 + j.val, by omega⟩ * Ideal.ofBits .f32 0x3E000000#32 := by
  have l0 : View.ld x0 r_0 = x0 := View.ld_unit_lit _ _ (by decide)
  have l1 : View.ld x1 r_1 = x1 := View.ld_unit_lit _ _ (by decide)
  unfold out_14 xin
  rw [l0, l1, View.canon_cons_unit_lit _ _ _ (by decide), prod]
  generalize k0_pay6 (F := Ideal) x0 x1 = h
  pointwise [k0_pay67]

theorem out_21_at (x0 : Vec Ideal S256x1024 .f32) (x1 : Vec Ideal S1x1024 .f32) (x2 : Vec Ideal S1024x6272 .bf16) (x3 : Vec Ideal S512x1024 .bf16) (x4 : Vec Ideal S1x768 .f32) (x5 : Vec Ideal S1x256 .f32) (x6 : Vec Ideal S768x1280 .bf16) (x7 : Vec Ideal S8x128x256 .bf16) (x8 x9 : Vec Ideal S256x128 .f32) (r : Fin 256) (j : Fin 1024) :
    out_21 x0 x1 x2 x3 x4 x5 x6 x7 x8 x9 (ix2 r j) = prod (k0_pay6 x0 x1) x2 r ⟨5248 + j.val, by omega⟩ := by
  have l0 : View.ld x0 r_0 = x0 := View.ld_unit_lit _ _ (by decide)
  have l1 : View.ld x1 r_1 = x1 := View.ld_unit_lit _ _ (by decide)
  unfold out_21 xin
  rw [l0, l1, View.canon_cons_unit_lit _ _ _ (by decide), prod]
  generalize k0_pay6 (F := Ideal) x0 x1 = h
  pointwise [k0_pay5]

theorem out_20_at (x0 : Vec Ideal S256x1024 .f32) (x1 : Vec Ideal S1x1024 .f32) (x2 : Vec Ideal S1024x6272 .bf16) (x3 : Vec Ideal S512x1024 .bf16) (x4 : Vec Ideal S1x768 .f32) (x5 : Vec Ideal S1x256 .f32) (x6 : Vec Ideal S768x1280 .bf16) (x7 : Vec Ideal S8x128x256 .bf16) (x8 x9 : Vec Ideal S256x128 .f32) (r : Fin 256) (j : Fin 128) :
    out_20 x0 x1 x2 x3 x4 x5 x6 x7 x8 x9 (ix2 r j) = prod (k0_pay6 x0 x1) x2 r ⟨5120 + j.val, by omega⟩ := by
  have l0 : View.ld x0 r_0 = x0 := View.ld_unit_lit _ _ (by decide)
  have l1 : View.ld x1 r_1 = x1 := View.ld_unit_lit _ _ (by decide)
  unfold out_20 xin
  rw [l0, l1, View.canon_cons_unit_lit _ _ _ (by decide), prod]
  generalize k0_pay6 (F := Ideal) x0 x1 = h
  pointwise [k0_pay4]

/-- A row of the block against a column of zeros is zero. -/
theorem prod_zero (t : Fin cfg0.N) (r : Fin 256) (j : Fin 6272)
    (hw : ∀ e : Fin 1024, @Eq EReal ((V m c main_v37 : FVec Ideal S1024x6272 .bf16) (ix2 e j)) 0) :
    prod (k0_pay6 (F := Ideal) (iblk m c 0 t) (iblk m c 1 t)) (iblk m c 2 t) r j = 0 := by
  unfold prod
  refine Finset.sum_eq_zero fun e _ => ?_
  rw [matrix_block, hw, mul_zero]

/-- A row of the block against a padded group of columns. -/
theorem prod_heads (t : Fin cfg0.N) (r : Fin 256) (j : Fin 1024) (k : Fin 6272) (s : ℕ) (hs : s + 512 ≤ 3384) (hb : S1024x3384.Slices (![0, s] : Fin 2 → ℕ) S1024x512)
    (hw : ∀ e : Fin 1024, @Eq EReal ((V m c main_v37 : FVec Ideal S1024x6272 .bf16) (ix2 e k))
      (padColumns (extractStridedSlice S1024x512 ![0, s] (W m c : FVec Ideal S1024x3384 .f32) hb) (ix2 e j))) :
    prod (k0_pay6 (F := Ideal) (iblk m c 0 t) (iblk m c 1 t)) (iblk m c 2 t) r k
      = heads (X m c) (G m c) (W m c) s hs ⟨t.val * 256 + r.val, by have := lt_points t; omega⟩ j := by
  unfold heads
  split
  · rename_i hj
    refine prod_block m c t r _ _ fun e => (hw e).trans ((padColumns_at _ e j hj).trans ?_)
    pointwise []
  · rename_i hj
    exact prod_zero m c t r _ fun e => (hw e).trans (padColumns_pad _ e j hj)

theorem latent_gates_block (t : Fin cfg0.N) (r : Fin 256) (j : Fin 1024) :
    out_13 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r j)
      = latentGates (X m c) (G m c) (W m c) ⟨t.val * 256 + r.val, by have := lt_points t; omega⟩ j := by
  rw [out_13_at, latentGates]
  exact prod_heads m c t r j _ 1056 (by omega) slices_S1024x3384_S1024x512_0_1056 fun e => columns_gmla m c e j

theorem queries_block (t : Fin cfg0.N) (r : Fin 256) (j : Fin 1024) :
    out_14 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r j)
      = queries (X m c) (G m c) (W m c) ⟨t.val * 256 + r.val, by have := lt_points t; omega⟩ j := by
  rw [out_14_at, queries]
  exact congrArg (· * Ideal.ofBits .f32 0x3E000000#32) (prod_heads m c t r j _ 1568 (by omega) slices_S1024x3384_S1024x512_0_1568 fun e => columns_qn m c e j)

theorem sparse_gates_block (t : Fin cfg0.N) (r : Fin 256) (j : Fin 1024) :
    out_21 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r j)
      = sparseGates (X m c) (G m c) (W m c) ⟨t.val * 256 + r.val, by have := lt_points t; omega⟩ j := by
  rw [out_21_at, sparseGates]
  exact prod_heads m c t r j _ 2872 (by omega) slices_S1024x3384_S1024x512_0_2872 fun e => columns_gnsa m c e j

theorem logits_block (t : Fin cfg0.N) (r : Fin 256) (j : Fin 128) :
    out_20 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r j)
      = logits (X m c) (G m c) (W m c) ⟨t.val * 256 + r.val, by have := lt_points t; omega⟩ j := by
  rw [out_20_at, logits]
  split
  · rename_i hj
    refine prod_block m c t r _ _ fun e => (columns_gl m c e j).trans ((padLogits_at _ e j hj).trans ?_)
    pointwise []
  · rename_i hj
    exact prod_zero m c t r _ fun e => (columns_gl m c e j).trans (padLogits_pad _ e j hj)

/-! The arrays after the run. -/

theorem array12 : (dats m 0 c).arrAt 12 cfg0.N = fun i => cacheRow (X m c) (G m c) (W m c) (L m c) (i 0) (i 1) := by
  refine (dats m 0 c).arrAt_eq_of_covers 12 _ (by decide +kernel) fun t hf y => ?_
  blk_simp
  rw [after_12]
  have e0 : ((((View.whole main_v76_2).slice (win0_12.rect t)).emb y 0 : Fin _) : ℕ) = t.val * 256 + (y 0 : ℕ) := by blk_simp [index_12 t]
  have e1 : ((((View.whole main_v76_2).slice (win0_12.rect t)).emb y 1 : Fin _) : ℕ) = (y 1 : ℕ) := by blk_simp [index_12 t]
  refine (congrArg (out_12 (F := Ideal) (iblk m c 0 t) (iblk m c 1 t) (iblk m c 2 t) (iblk m c 3 t) (iblk m c 4 t) (iblk m c 5 t) (iblk m c 6 t) (iblk m c 7 t) (iblk m c 8 t) (iblk m c 9 t)) (eq_ix2 y)).trans
    (((congrFun (out_12_same _ _ _ _ _ _ _ _ _ _) _).trans (latent_block m c t (y 0) (y 1))).trans ?_)
  rw [show (((View.whole main_v76_2).slice (win0_12.rect t)).emb y 1) = y 1 from Fin.ext e1]
  exact congrArg (fun n => cacheRow _ _ _ _ n (y 1)) (Fin.ext e0.symm)

theorem array13 : (dats m 0 c).arrAt 13 cfg0.N = fun i => latentGates (X m c) (G m c) (W m c) (i 0) (i 1) := by
  refine (dats m 0 c).arrAt_eq_of_covers 13 _ (by decide +kernel) fun t hf y => ?_
  blk_simp
  rw [after_13]
  have e0 : ((((View.whole main_v76_3).slice (win0_13.rect t)).emb y 0 : Fin _) : ℕ) = t.val * 256 + (y 0 : ℕ) := by blk_simp [index_13 t]
  have e1 : ((((View.whole main_v76_3).slice (win0_13.rect t)).emb y 1 : Fin _) : ℕ) = (y 1 : ℕ) := by blk_simp [index_13 t]
  refine (congrArg (out_13 (F := Ideal) (iblk m c 0 t) (iblk m c 1 t) (iblk m c 2 t) (iblk m c 3 t) (iblk m c 4 t) (iblk m c 5 t) (iblk m c 6 t) (iblk m c 7 t) (iblk m c 8 t) (iblk m c 9 t)) (eq_ix2 y)).trans
    ((latent_gates_block m c t (y 0) (y 1)).trans ?_)
  rw [show (((View.whole main_v76_3).slice (win0_13.rect t)).emb y 1) = y 1 from Fin.ext e1]
  exact congrArg (fun n => latentGates _ _ _ n (y 1)) (Fin.ext e0.symm)

theorem array14 : (dats m 0 c).arrAt 14 cfg0.N = fun i => queries (X m c) (G m c) (W m c) (i 0) (i 1) := by
  refine (dats m 0 c).arrAt_eq_of_covers 14 _ (by decide +kernel) fun t hf y => ?_
  blk_simp
  rw [after_14]
  have e0 : ((((View.whole main_v76_4).slice (win0_14.rect t)).emb y 0 : Fin _) : ℕ) = t.val * 256 + (y 0 : ℕ) := by blk_simp [index_14 t]
  have e1 : ((((View.whole main_v76_4).slice (win0_14.rect t)).emb y 1 : Fin _) : ℕ) = (y 1 : ℕ) := by blk_simp [index_14 t]
  refine (congrArg (out_14 (F := Ideal) (iblk m c 0 t) (iblk m c 1 t) (iblk m c 2 t) (iblk m c 3 t) (iblk m c 4 t) (iblk m c 5 t) (iblk m c 6 t) (iblk m c 7 t) (iblk m c 8 t) (iblk m c 9 t)) (eq_ix2 y)).trans
    ((queries_block m c t (y 0) (y 1)).trans ?_)
  rw [show (((View.whole main_v76_4).slice (win0_14.rect t)).emb y 1) = y 1 from Fin.ext e1]
  exact congrArg (fun n => queries _ _ _ n (y 1)) (Fin.ext e0.symm)

theorem array21 : (dats m 0 c).arrAt 21 cfg0.N = fun i => sparseGates (X m c) (G m c) (W m c) (i 0) (i 1) := by
  refine (dats m 0 c).arrAt_eq_of_covers 21 _ (by decide +kernel) fun t hf y => ?_
  blk_simp
  rw [after_21]
  have e0 : ((((View.whole main_v76_11).slice (win0_21.rect t)).emb y 0 : Fin _) : ℕ) = t.val * 256 + (y 0 : ℕ) := by blk_simp [index_21 t]
  have e1 : ((((View.whole main_v76_11).slice (win0_21.rect t)).emb y 1 : Fin _) : ℕ) = (y 1 : ℕ) := by blk_simp [index_21 t]
  refine (congrArg (out_21 (F := Ideal) (iblk m c 0 t) (iblk m c 1 t) (iblk m c 2 t) (iblk m c 3 t) (iblk m c 4 t) (iblk m c 5 t) (iblk m c 6 t) (iblk m c 7 t) (iblk m c 8 t) (iblk m c 9 t)) (eq_ix2 y)).trans
    ((sparse_gates_block m c t (y 0) (y 1)).trans ?_)
  rw [show (((View.whole main_v76_11).slice (win0_21.rect t)).emb y 1) = y 1 from Fin.ext e1]
  exact congrArg (fun n => sparseGates _ _ _ n (y 1)) (Fin.ext e0.symm)

theorem array20 : (dats m 0 c).arrAt 20 cfg0.N = fun i => logits (X m c) (G m c) (W m c) (i 0) (i 1) := by
  refine (dats m 0 c).arrAt_eq_of_covers 20 _ (by decide +kernel) fun t hf y => ?_
  blk_simp
  rw [after_20]
  have e0 : ((((View.whole main_v76_10).slice (win0_20.rect t)).emb y 0 : Fin _) : ℕ) = t.val * 256 + (y 0 : ℕ) := by blk_simp [index_20 t]
  have e1 : ((((View.whole main_v76_10).slice (win0_20.rect t)).emb y 1 : Fin _) : ℕ) = (y 1 : ℕ) := by blk_simp [index_20 t]
  refine (congrArg (out_20 (F := Ideal) (iblk m c 0 t) (iblk m c 1 t) (iblk m c 2 t) (iblk m c 3 t) (iblk m c 4 t) (iblk m c 5 t) (iblk m c 6 t) (iblk m c 7 t) (iblk m c 8 t) (iblk m c 9 t)) (eq_ix2 y)).trans
    ((logits_block m c t (y 0) (y 1)).trans ?_)
  rw [show (((View.whole main_v76_10).slice (win0_20.rect t)).emb y 1) = y 1 from Fin.ext e1]
  exact congrArg (fun n => logits _ _ _ n (y 1)) (Fin.ext e0.symm)

theorem post12 (r : PUnit × MemSt nD τ sig (Elt Ideal)) (h : Pipeline.FramePost cfgs (dats m) 0 (V m) r) :
    r.2.mem ((c.tc : Thread nD τ).loc main_v76_2) = (dats m 0 c).arrAt 12 cfg0.N :=
  (h c).1 12

theorem post13 (r : PUnit × MemSt nD τ sig (Elt Ideal)) (h : Pipeline.FramePost cfgs (dats m) 0 (V m) r) :
    r.2.mem ((c.tc : Thread nD τ).loc main_v76_3) = (dats m 0 c).arrAt 13 cfg0.N :=
  (h c).1 13

theorem post14 (r : PUnit × MemSt nD τ sig (Elt Ideal)) (h : Pipeline.FramePost cfgs (dats m) 0 (V m) r) :
    r.2.mem ((c.tc : Thread nD τ).loc main_v76_4) = (dats m 0 c).arrAt 14 cfg0.N :=
  (h c).1 14

theorem post21 (r : PUnit × MemSt nD τ sig (Elt Ideal)) (h : Pipeline.FramePost cfgs (dats m) 0 (V m) r) :
    r.2.mem ((c.tc : Thread nD τ).loc main_v76_11) = (dats m 0 c).arrAt 21 cfg0.N :=
  (h c).1 21

theorem post20 (r : PUnit × MemSt nD τ sig (Elt Ideal)) (h : Pipeline.FramePost cfgs (dats m) 0 (V m) r) :
    r.2.mem ((c.tc : Thread nD τ).loc main_v76_10) = (dats m 0 c).arrAt 20 cfg0.N :=
  (h c).1 20

set_option maxHeartbeats 1600000 in
/-- What the kernel returns. -/
theorem run_value (ρ : Dev nD → PrngReg) :
    θ_run defs (onTc (τ := τ) (main (F := Ideal))) ⟨m, fun _ => 0, ρ⟩ fun r => ∀ c : Dev nD,
      r.2.mem ((c.tc : Thread nD τ).loc main_v76_1) = (fun i => cacheRow (X m c) (G m c) (W m c) (L m c) (i 0) (i 1))
      ∧ r.2.mem ((c.tc : Thread nD τ).loc main_v76_2) = (fun i => cacheRow (X m c) (G m c) (W m c) (L m c) (i 0) (i 1))
      ∧ r.2.mem ((c.tc : Thread nD τ).loc main_v76_3) = (fun i => latentGates (X m c) (G m c) (W m c) (i 0) (i 1))
      ∧ r.2.mem ((c.tc : Thread nD τ).loc main_v76_4) = (fun i => queries (X m c) (G m c) (W m c) (i 0) (i 1))
      ∧ r.2.mem ((c.tc : Thread nD τ).loc main_v76_8) = (fun i => window (X m c) (G m c) (W m c) (i 0) (i 1))
      ∧ r.2.mem ((c.tc : Thread nD τ).loc main_v76_10) = (fun i => logits (X m c) (G m c) (W m c) (i 0) (i 1))
      ∧ r.2.mem ((c.tc : Thread nD τ).loc main_v76_11) = (fun i => sparseGates (X m c) (G m c) (W m c) (i 0) (i 1))
      ∧ r.2.mem ((c.tc : Thread nD τ).loc main_v76_12) = (fun i => compressed (X m c) (G m c) (W m c) (i 0) (i 1) (i 2))
      ∧ r.2.mem ((c.tc : Thread nD τ).loc main_v76_13) = (fun i => selected (X m c) (G m c) (W m c) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(post11 m c _ h.1).trans (array11 m c), (post12 m c _ h.1).trans (array12 m c), (post13 m c _ h.1).trans (array13 m c), (post14 m c _ h.1).trans (array14 m c), (post18 m c _ h.1).trans (array18 m c), (post20 m c _ h.1).trans (array20 m c), (post21 m c _ h.1).trans (array21 m c), (post22 m c _ h.1).trans (array22 m c), (post23 m c _ h.1).trans (array23 m c), h.2 c⟩) (θ_run_and (run_main m ρ) (unchanged m ρ))

end Cert.EvenProjIdeal.Even

end
-- ==== Proof.Even.Ref.lean ====
/- The even layer's input projection: the reference's nine results, as the same functions of the arguments. -/
module

public import proofs.«01_k».proof.Proof.Gen.EvenProjRefIdeal.Run
public import proofs.«01_k».proof.Proof.Even.Spec
public import Idealize.ShloMosaic.Lib.Pointwise
public import Idealize.ShloMosaic.Lib.KernelVsHost
public import Idealize.ShloMosaic.Lib.Tactic.CleanTypes

@[expose] public section

set_option maxRecDepth 16384

noncomputable section

namespace Cert.EvenProjRefIdeal.Value

open Cert.EvenProjRefIdeal Cert.EvenProjRefIdeal.Gen Cert.EvenProj
open Cert.OddProj (normed)
open Idealize.ShloMosaic Idealize.ShloMosaic.TcCoe Idealize.ShloMosaic.Tactic Idealize.SL.Sem

/-! The reference's results, stage by stage. -/

/-- The normalised input times the matrix. -/
def projected (x : FVec Ideal S16384x1024 .f32) (g : FVec Ideal S1024 .f32) (w : FVec Ideal S1024x3384 .f32) : FVec Ideal S2x8192x3384 .f32 :=
  Host.dotGeneral dot_S2x8192x1024_S1024x3384_S2x8192x3384_2_0_01_1_n_n none (mulf (mulf (shapeCast _ x shapeCasts_S16384x1024_S2x8192x1024) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (shapeCast _ x shapeCasts_S16384x1024_S2x8192x1024) (shapeCast _ x shapeCasts_S16384x1024_S2x8192x1024)) (constant (F := Ideal) S_ .f32 0x00000000#32) reducesTo_S2x8192x1024_S2x8192_d2 h_S_)) (broadcastInDim S2x8192x1 ![] bcast_S_S2x8192x1 (constant (F := Ideal) S_ .f32 0x44800000#32))) (broadcastInDim S2x8192x1 ![] bcast_S_S2x8192x1 (constant (F := Ideal) S_ .f32 0x358637BD#32)))))) (broadcastInDim S2x8192x1024 ![0, 1, 2] bcast_S1x1x1024_S2x8192x1024_0_1_2 (broadcastInDim S1x1x1024 ![2] bcast_S1024_S1x1x1024_2 g))) w

/-- The angles by position and frequency. -/
def angles : FVec Ideal S8192x16 .f32 :=
  mulf (broadcastInDim S8192x16 ![0, 1] bcast_S8192x1_S8192x16_0_1 (broadcastInDim S8192x1 ![0] bcast_S8192_S8192x1_0 (sitofp (F := Ideal) .f32 (iotaInDim S8192 32 0)))) (broadcastInDim S8192x16 ![0, 1] bcast_S1x16_S8192x16_0_1 (broadcastInDim S1x16 ![1] bcast_S16_S1x16_1 (Host.powf (broadcastInDim S16 ![] bcast_S_S16 (constant (F := Ideal) S_ .f32 0x461C4000#32)) (Host.divf (Host.negf (sitofp (F := Ideal) .f32 (iotaInDim S16 32 0))) (broadcastInDim S16 ![] bcast_S_S16 (constant (F := Ideal) S_ .f32 0x41800000#32))))))

/-- The latent's columns. -/
def latentOf (z : FVec Ideal S2x8192x3384 .f32) : FVec Ideal S2x8192x256 .f32 :=
  extractStridedSlice S2x8192x256 ![0, 0, 768] z slices_S2x8192x3384_S2x8192x256_0_0_768

/-- The latent, normalised. -/
def latentNorm (u : FVec Ideal S2x8192x256 .f32) (g : FVec Ideal S256 .f32) : FVec Ideal S2x8192x256 .f32 :=
  mulf (mulf u (broadcastInDim S2x8192x256 ![0, 1, 2] bcast_S2x8192x1_S2x8192x256_0_1_2 (Host.rsqrt (addf (Host.divf (broadcastInDim S2x8192x1 ![0, 1] bcast_S2x8192_S2x8192x1_0_1 (Host.reduceAdd (mulf u u) (constant (F := Ideal) S_ .f32 0x00000000#32) reducesTo_S2x8192x256_S2x8192_d2 h_S_)) (broadcastInDim S2x8192x1 ![] bcast_S_S2x8192x1 (constant (F := Ideal) S_ .f32 0x43800000#32))) (broadcastInDim S2x8192x1 ![] bcast_S_S2x8192x1 (constant (F := Ideal) S_ .f32 0x358637BD#32)))))) (broadcastInDim S2x8192x256 ![0, 1, 2] bcast_S1x1x256_S2x8192x256_0_1_2 (broadcastInDim S1x1x256 ![2] bcast_S256_S1x1x256_2 g))

/-- The shared key's columns. -/
def keyOf (z : FVec Ideal S2x8192x3384 .f32) : FVec Ideal S2x8192x32 .f32 :=
  extractStridedSlice S2x8192x32 ![0, 0, 1024] z slices_S2x8192x3384_S2x8192x32_0_0_1024

/-- The shared key, rotated. -/
def rotated (k : FVec Ideal S2x8192x32 .f32) (a : FVec Ideal S8192x16 .f32) : FVec Ideal S2x8192x32 .f32 :=
  concatenate S2x8192x32 2 [⟨S2x8192x16, (subf (mulf (extractStridedSlice S2x8192x16 ![0, 0, 0] k slices_S2x8192x32_S2x8192x16_0_0_0) (broadcastInDim S2x8192x16 ![0, 1, 2] bcast_S1x8192x16_S2x8192x16_0_1_2 (broadcastInDim S1x8192x16 ![1, 2] bcast_S8192x16_S1x8192x16_1_2 (Host.cos a)))) (mulf (extractStridedSlice S2x8192x16 ![0, 0, 16] k slices_S2x8192x32_S2x8192x16_0_0_16) (broadcastInDim S2x8192x16 ![0, 1, 2] bcast_S1x8192x16_S2x8192x16_0_1_2 (broadcastInDim S1x8192x16 ![1, 2] bcast_S8192x16_S1x8192x16_1_2 (Host.sin a)))))⟩, ⟨S2x8192x16, (addf (mulf (extractStridedSlice S2x8192x16 ![0, 0, 0] k slices_S2x8192x32_S2x8192x16_0_0_0) (broadcastInDim S2x8192x16 ![0, 1, 2] bcast_S1x8192x16_S2x8192x16_0_1_2 (broadcastInDim S1x8192x16 ![1, 2] bcast_S8192x16_S1x8192x16_1_2 (Host.sin a)))) (mulf (extractStridedSlice S2x8192x16 ![0, 0, 16] k slices_S2x8192x32_S2x8192x16_0_0_16) (broadcastInDim S2x8192x16 ![0, 1, 2] bcast_S1x8192x16_S2x8192x16_0_1_2 (broadcastInDim S1x8192x16 ![1, 2] bcast_S8192x16_S1x8192x16_1_2 (Host.cos a)))))⟩] concatenates_S2x8192x16_S2x8192x16_S2x8192x32_d2

/-- The rotated key's first half, repeated for the heads. -/
def repeatFirst (k : FVec Ideal S2x8192x32 .f32) : FVec Ideal S2x8192x128 .f32 :=
  shapeCast _ (broadcastInDim S1x2x1x8192x8x16 ![0, 1, 2, 3, 4, 5] bcast_S1x2x1x8192x1x16_S1x2x1x8192x8x16_0_1_2_3_4_5 (shapeCast _ (extractStridedSlice S2x8192x16 ![0, 0, 0] k slices_S2x8192x32_S2x8192x16_0_0_0) shapeCasts_S2x8192x16_S1x2x1x8192x1x16)) shapeCasts_S1x2x1x8192x8x16_S2x8192x128

/-- The rotated key's second half, repeated for the heads. -/
def repeatSecond (k : FVec Ideal S2x8192x32 .f32) : FVec Ideal S2x8192x128 .f32 :=
  shapeCast _ (broadcastInDim S1x2x1x8192x8x16 ![0, 1, 2, 3, 4, 5] bcast_S1x2x1x8192x1x16_S1x2x1x8192x8x16_0_1_2_3_4_5 (shapeCast _ (extractStridedSlice S2x8192x16 ![0, 0, 16] k slices_S2x8192x32_S2x8192x16_0_0_16) shapeCasts_S2x8192x16_S1x2x1x8192x1x16)) shapeCasts_S1x2x1x8192x8x16_S2x8192x128

/-- The latent rows, laid out as the result. -/
def rowsL (u : FVec Ideal S2x8192x256 .f32) (k1 k2 : FVec Ideal S2x8192x128 .f32) : FVec Ideal S16384x512 .f32 :=
  shapeCast _ (concatenate S2x8192x512 2 [⟨S2x8192x256, u⟩, ⟨S2x8192x128, k1⟩, ⟨S2x8192x128, k2⟩] concatenates_S2x8192x256_S2x8192x128_S2x8192x128_S2x8192x512_d2) shapeCasts_S2x8192x512_S16384x512

/-- The window branch, laid out as the result. -/
def rowsW (z : FVec Ideal S2x8192x3384 .f32) : FVec Ideal S16384x256 .f32 :=
  shapeCast _ (extractStridedSlice S2x8192x256 ![0, 0, 2592] z slices_S2x8192x3384_S2x8192x256_0_0_2592) shapeCasts_S2x8192x256_S16384x256

/-- The compressed branch, laid out as the result. -/
def turnedC (z : FVec Ideal S2x8192x3384 .f32) : FVec Ideal S2x256x8192 .f32 :=
  transpose S2x256x8192 [0, 2, 1] (extractStridedSlice S2x8192x256 ![0, 0, 2080] z slices_S2x8192x3384_S2x8192x256_0_0_2080) transposes_S2x8192x256_S2x256x8192_0_2_1

/-- The selected branch, laid out as the result. -/
def turnedS (z : FVec Ideal S2x8192x3384 .f32) : FVec Ideal S2x256x8192 .f32 :=
  transpose S2x256x8192 [0, 2, 1] (extractStridedSlice S2x8192x256 ![0, 0, 2336] z slices_S2x8192x3384_S2x8192x256_0_0_2336) transposes_S2x8192x256_S2x256x8192_0_2_1

/-- The latent rows, as the attention reads them. -/
def rowsK (x : FVec Ideal S16384x512 .f32) : FVec Ideal S16384x512 .bf16 := truncf .bf16 x bitsLt_bf16_f32

/-- The word of padding. -/
def padding : FVec Ideal S_ .f32 := sitofp .f32 (constantI S_ 32 0#32)

/-- Rows by heads, padded. -/
def padHeads (x : FVec Ideal S16384x8x64 .f32) : FVec Ideal S16384x8x128 .f32 :=
  pad S16384x8x128 ![0, 0, 0] ![0, 0, 64] ![0, 0, 0] x padding pads_S16384x8x64_S16384x8x128_000_000_0640 h_S_

/-- Rows by heads, padded, one head after another. -/
def headRows (x : FVec Ideal S2x8192x512 .f32) : FVec Ideal S16384x1024 .f32 :=
  shapeCast S16384x1024 (padHeads (shapeCast S16384x8x64 x shapeCasts_S2x8192x512_S16384x8x64)) shapeCasts_S16384x8x128_S16384x1024

/-- The latent attention's gates, before their padding. -/
def gatesL (z : FVec Ideal S2x8192x3384 .f32) : FVec Ideal S2x8192x512 .f32 :=
  extractStridedSlice S2x8192x512 ![0, 0, 1056] z slices_S2x8192x3384_S2x8192x512_0_0_1056

/-- The sparse attention's gates, before their padding. -/
def gatesS (z : FVec Ideal S2x8192x3384 .f32) : FVec Ideal S2x8192x512 .f32 :=
  extractStridedSlice S2x8192x512 ![0, 0, 2872] z slices_S2x8192x3384_S2x8192x512_0_0_2872

/-- The sparse attention's queries, scaled, before their padding. -/
def scaledQ (z : FVec Ideal S2x8192x3384 .f32) : FVec Ideal S2x8192x512 .f32 :=
  mulf (extractStridedSlice S2x8192x512 ![0, 0, 1568] z slices_S2x8192x3384_S2x8192x512_0_0_1568) (broadcastInDim S2x8192x512 ![] bcast_S_S2x8192x512 (constant (F := Ideal) S_ .f32 0x3E000000#32))

/-- The queries, laid out as the result. -/
def rowsQ (x : FVec Ideal S2x8192x512 .f32) : FVec Ideal S16384x1024 .bf16 := truncf .bf16 (headRows x) bitsLt_bf16_f32

/-- The gate logits, laid out by rows. -/
def rowsG (z : FVec Ideal S2x8192x3384 .f32) : FVec Ideal S16384x24 .f32 :=
  shapeCast _ (extractStridedSlice S2x8192x24 ![0, 0, 2848] z slices_S2x8192x3384_S2x8192x24_0_0_2848) shapeCasts_S2x8192x24_S16384x24

/-- The gate logits, padded. -/
def padLogits (x : FVec Ideal S16384x24 .f32) : FVec Ideal S16384x128 .f32 :=
  pad S16384x128 ![0, 0] ![0, 104] ![0, 0] x padding pads_S16384x24_S16384x128_000_01040 h_S_

/-- The row of the batch at a sequence and a position. -/
abbrev at2 (b : Fin 2) (p : Fin 8192) : Fin 16384 := ⟨b.val * 8192 + p.val, by omega⟩

theorem projected_at (x : FVec Ideal S16384x1024 .f32) (g : FVec Ideal S1024 .f32) (w : FVec Ideal S1024x3384 .f32) (b : Fin 2) (p : Fin 8192) (j : Fin 3384) :
    projected x g w (ix3 b p j) = column x g w (at2 b p) j := by
  unfold column normed
  pointwise [projected]

theorem angles_at (p : Fin 8192) (i : Fin 16) : angles (ix2 p i) = angle p.val i.val := by
  unfold angle
  pointwise [angles]

theorem latentOf_at (z : FVec Ideal S2x8192x3384 .f32) (b : Fin 2) (p : Fin 8192) (j : Fin 256) :
    latentOf z (ix3 b p j) = z (ix3 b p (⟨768 + j.val, by omega⟩ : Fin 3384)) := by
  pointwise [latentOf]

theorem keyOf_at (z : FVec Ideal S2x8192x3384 .f32) (b : Fin 2) (p : Fin 8192) (j : Fin 32) :
    keyOf z (ix3 b p j) = z (ix3 b p (⟨1024 + j.val, by omega⟩ : Fin 3384)) := by
  pointwise [keyOf]

theorem latentNorm_at (u : FVec Ideal S2x8192x256 .f32) (g : FVec Ideal S256 .f32) (b : Fin 2) (p : Fin 8192) (j : Fin 256) :
    latentNorm u g (ix3 b p j) = u (ix3 b p j)
      * Ideal.rsqrt (Ideal.div (∑ d : Fin 256, u (ix3 b p d) * u (ix3 b p d)) (Ideal.ofBits .f32 0x43800000#32)
          + Ideal.ofBits .f32 0x358637BD#32) * g (ix1 j) := by
  pointwise [latentNorm]

theorem rotated_first (k : FVec Ideal S2x8192x32 .f32) (a : FVec Ideal S8192x16 .f32) (b : Fin 2) (p : Fin 8192) (i : Fin 16) :
    rotated k a (ix3 b p (⟨i.val, by omega⟩ : Fin 32)) = k (ix3 b p (⟨i.val, by omega⟩ : Fin 32)) * Ideal.cos (a (ix2 p i))
      - k (ix3 b p (⟨16 + i.val, by omega⟩ : Fin 32)) * Ideal.sin (a (ix2 p i)) := by
  pointwise [rotated]

theorem rotated_second (k : FVec Ideal S2x8192x32 .f32) (a : FVec Ideal S8192x16 .f32) (b : Fin 2) (p : Fin 8192) (i : Fin 16) :
    rotated k a (ix3 b p (⟨16 + i.val, by omega⟩ : Fin 32)) = k (ix3 b p (⟨i.val, by omega⟩ : Fin 32)) * Ideal.sin (a (ix2 p i))
      + k (ix3 b p (⟨16 + i.val, by omega⟩ : Fin 32)) * Ideal.cos (a (ix2 p i)) := by
  pointwise [rotated]

theorem repeatFirst_at (k : FVec Ideal S2x8192x32 .f32) (b : Fin 2) (p : Fin 8192) (l : Fin 128) :
    repeatFirst k (ix3 b p l) = k (ix3 b p (⟨l.val % 16, by omega⟩ : Fin 32)) := by
  pointwise [repeatFirst]

theorem repeatSecond_at (k : FVec Ideal S2x8192x32 .f32) (b : Fin 2) (p : Fin 8192) (l : Fin 128) :
    repeatSecond k (ix3 b p l) = k (ix3 b p (⟨16 + l.val % 16, by omega⟩ : Fin 32)) := by
  pointwise [repeatSecond]

theorem rowsL_at (u : FVec Ideal S2x8192x256 .f32) (k1 k2 : FVec Ideal S2x8192x128 .f32) (n : Fin 16384) (j : Fin 512) :
    rowsL u k1 k2 (ix2 n j) =
      if h : j.val < 256 then u (ix3 (⟨n.val / 8192, by omega⟩ : Fin 2) (⟨n.val % 8192, by omega⟩ : Fin 8192) (⟨j.val, h⟩ : Fin 256))
      else if h' : j.val - 256 < 128 then k1 (ix3 (⟨n.val / 8192, by omega⟩ : Fin 2) (⟨n.val % 8192, by omega⟩ : Fin 8192) (⟨j.val - 256, h'⟩ : Fin 128))
      else k2 (ix3 (⟨n.val / 8192, by omega⟩ : Fin 2) (⟨n.val % 8192, by omega⟩ : Fin 8192) (⟨j.val - 256 - 128, by omega⟩ : Fin 128)) := by
  pointwise [rowsL]

theorem rowsW_at (z : FVec Ideal S2x8192x3384 .f32) (n : Fin 16384) (j : Fin 256) :
    rowsW z (ix2 n j) = z (ix3 (⟨n.val / 8192, by omega⟩ : Fin 2) (⟨n.val % 8192, by omega⟩ : Fin 8192) (⟨2592 + j.val, by omega⟩ : Fin 3384)) := by
  pointwise [rowsW]

theorem turnedC_at (z : FVec Ideal S2x8192x3384 .f32) (b : Fin 2) (j : Fin 256) (p : Fin 8192) :
    turnedC z (ix3 b j p) = z (ix3 b p (⟨2080 + j.val, by omega⟩ : Fin 3384)) := by
  pointwise [turnedC]

theorem turnedS_at (z : FVec Ideal S2x8192x3384 .f32) (b : Fin 2) (j : Fin 256) (p : Fin 8192) :
    turnedS z (ix3 b j p) = z (ix3 b p (⟨2336 + j.val, by omega⟩ : Fin 3384)) := by
  pointwise [turnedS]

theorem outL_at (x : FVec Ideal S16384x1024 .f32) (g : FVec Ideal S1024 .f32) (w : FVec Ideal S1024x3384 .f32) (gl : FVec Ideal S256 .f32) (n : Fin 16384) (j : Fin 512) :
    rowsL (latentNorm (latentOf (projected x g w)) gl) (repeatFirst (rotated (keyOf (projected x g w)) angles))
      (repeatSecond (rotated (keyOf (projected x g w)) angles)) (ix2 n j) = cacheRow x g w gl n j := by
  have e1 : at2 (⟨n.val / 8192, by omega⟩ : Fin 2) (⟨n.val % 8192, by omega⟩ : Fin 8192) = n := Fin.ext (by show n.val / 8192 * 8192 + n.val % 8192 = n.val; omega)
  rw [rowsL_at, cacheRow]
  by_cases h : j.val < 256
  · rw [dif_pos h, dif_pos h, latentNorm_at, latent]
    simp only [latentOf_at, projected_at, e1]
  · rw [dif_neg h, dif_neg h]
    by_cases h' : j.val < 384
    · have e16 : (j.val - 256) % 16 = j.val % 16 := by omega
      rw [dif_pos (by omega), if_pos h', repeatFirst_at, keyFirst]
      refine (rotated_first _ _ _ _ ⟨(j.val - 256) % 16, by omega⟩).trans ?_
      simp only [keyOf_at, projected_at, angles_at, e1, e16, ← Nat.add_assoc, Nat.reduceAdd]
    · have e16 : (j.val - 256 - 128) % 16 = j.val % 16 := by omega
      rw [dif_neg (by omega), if_neg h', repeatSecond_at, keySecond]
      refine (rotated_second _ _ _ _ ⟨(j.val - 256 - 128) % 16, by omega⟩).trans ?_
      simp only [keyOf_at, projected_at, angles_at, e1, e16, ← Nat.add_assoc, Nat.reduceAdd]

theorem outW_at (x : FVec Ideal S16384x1024 .f32) (g : FVec Ideal S1024 .f32) (w : FVec Ideal S1024x3384 .f32) (n : Fin 16384) (j : Fin 256) :
    rowsW (projected x g w) (ix2 n j) = window x g w n j := by
  have e1 : at2 (⟨n.val / 8192, by omega⟩ : Fin 2) (⟨n.val % 8192, by omega⟩ : Fin 8192) = n := Fin.ext (by show n.val / 8192 * 8192 + n.val % 8192 = n.val; omega)
  rw [rowsW_at, projected_at, e1]
  rfl

theorem outC_at (x : FVec Ideal S16384x1024 .f32) (g : FVec Ideal S1024 .f32) (w : FVec Ideal S1024x3384 .f32) (b : Fin 2) (j : Fin 256) (p : Fin 8192) :
    turnedC (projected x g w) (ix3 b j p) = compressed x g w b j p := by
  rw [turnedC_at, projected_at]
  rfl

theorem outS_at (x : FVec Ideal S16384x1024 .f32) (g : FVec Ideal S1024 .f32) (w : FVec Ideal S1024x3384 .f32) (b : Fin 2) (j : Fin 256) (p : Fin 8192) :
    turnedS (projected x g w) (ix3 b j p) = selected x g w b j p := by
  rw [turnedS_at, projected_at]
  rfl

theorem rowsK_at (x : FVec Ideal S16384x512 .f32) (i : S16384x512.Idx) : rowsK x i = x i := rfl

theorem rowsQ_at (x : FVec Ideal S2x8192x512 .f32) (i : S16384x1024.Idx) : rowsQ x i = headRows x i := rfl

theorem padding_eq (i : S_.Idx) : padding i = 0 := sitofp_zero

theorem padHeads_at (x : FVec Ideal S16384x8x64 .f32) (n : Fin 16384) (h : Fin 8) (v : Fin 128) (hv : v.val < 64) :
    padHeads x (ix3 n h v) = x (ix3 n h (⟨v.val, hv⟩ : Fin 64)) := by
  refine pad_apply_of_inside _ _ _ _ _ pads_S16384x8x64_S16384x8x128_000_000_0640 h_S_ (ix3 n h v) (ix3 n h (⟨v.val, hv⟩ : Fin 64)) ?_
  intro a
  fin_cases a <;> simp

theorem padHeads_pad (x : FVec Ideal S16384x8x64 .f32) (n : Fin 16384) (h : Fin 8) (v : Fin 128) (hv : ¬ v.val < 64) :
    padHeads x (ix3 n h v) = 0 := by
  refine (pad_apply_of_not_inside _ _ _ _ _ pads_S16384x8x64_S16384x8x128_000_000_0640 h_S_ (ix3 n h v) (2 : Fin 3) ?_).trans (padding_eq _)
  simpa [Nat.mod_one] using hv

theorem headRows_heads (x : FVec Ideal S2x8192x512 .f32) (n : Fin 16384) (k : Fin 1024) :
    headRows x (ix2 n k) = padHeads (shapeCast S16384x8x64 x shapeCasts_S2x8192x512_S16384x8x64) (ix3 n (⟨k.val / 128, by omega⟩ : Fin 8) (⟨k.val % 128, by omega⟩ : Fin 128)) := by
  pointwise [headRows]

theorem split_at (x : FVec Ideal S2x8192x512 .f32) (n : Fin 16384) (h : Fin 8) (v : Fin 64) :
    shapeCast S16384x8x64 x shapeCasts_S2x8192x512_S16384x8x64 (ix3 n h v)
      = x (ix3 (⟨n.val / 8192, by omega⟩ : Fin 2) (⟨n.val % 8192, by omega⟩ : Fin 8192) (⟨h.val * 64 + v.val, by omega⟩ : Fin 512)) := by
  pointwise []

theorem headRows_at (x : FVec Ideal S2x8192x512 .f32) (n : Fin 16384) (k : Fin 1024) (hk : k.val % 128 < 64) :
    headRows x (ix2 n k) = x (ix3 (⟨n.val / 8192, by omega⟩ : Fin 2) (⟨n.val % 8192, by omega⟩ : Fin 8192) (⟨k.val / 128 * 64 + k.val % 128, by omega⟩ : Fin 512)) := by
  rw [headRows_heads, padHeads_at _ _ _ _ hk, split_at]

theorem headRows_pad (x : FVec Ideal S2x8192x512 .f32) (n : Fin 16384) (k : Fin 1024) (hk : ¬ k.val % 128 < 64) : headRows x (ix2 n k) = 0 := by
  rw [headRows_heads, padHeads_pad _ _ _ _ hk]

theorem padLogits_at (x : FVec Ideal S16384x24 .f32) (n : Fin 16384) (k : Fin 128) (hk : k.val < 24) :
    padLogits x (ix2 n k) = x (ix2 n (⟨k.val, hk⟩ : Fin 24)) := by
  refine pad_apply_of_inside _ _ _ _ _ pads_S16384x24_S16384x128_000_01040 h_S_ (ix2 n k) (ix2 n (⟨k.val, hk⟩ : Fin 24)) ?_
  intro a
  fin_cases a <;> simp

theorem padLogits_pad (x : FVec Ideal S16384x24 .f32) (n : Fin 16384) (k : Fin 128) (hk : ¬ k.val < 24) : padLogits x (ix2 n k) = 0 := by
  refine (pad_apply_of_not_inside _ _ _ _ _ pads_S16384x24_S16384x128_000_01040 h_S_ (ix2 n k) (1 : Fin 2) ?_).trans (padding_eq _)
  simpa [Nat.mod_one] using hk

theorem gatesL_at (z : FVec Ideal S2x8192x3384 .f32) (b : Fin 2) (p : Fin 8192) (j : Fin 512) :
    gatesL z (ix3 b p j) = z (ix3 b p (⟨1056 + j.val, by omega⟩ : Fin 3384)) := by
  pointwise [gatesL]

theorem gatesS_at (z : FVec Ideal S2x8192x3384 .f32) (b : Fin 2) (p : Fin 8192) (j : Fin 512) :
    gatesS z (ix3 b p j) = z (ix3 b p (⟨2872 + j.val, by omega⟩ : Fin 3384)) := by
  pointwise [gatesS]

theorem scaledQ_at (z : FVec Ideal S2x8192x3384 .f32) (b : Fin 2) (p : Fin 8192) (j : Fin 512) :
    scaledQ z (ix3 b p j) = z (ix3 b p (⟨1568 + j.val, by omega⟩ : Fin 3384)) * Ideal.ofBits .f32 0x3E000000#32 := by
  pointwise [scaledQ]

theorem rowsG_at (z : FVec Ideal S2x8192x3384 .f32) (n : Fin 16384) (j : Fin 24) :
    rowsG z (ix2 n j) = z (ix3 (⟨n.val / 8192, by omega⟩ : Fin 2) (⟨n.val % 8192, by omega⟩ : Fin 8192) (⟨2848 + j.val, by omega⟩ : Fin 3384)) := by
  pointwise [rowsG]

theorem outGL_at (x : FVec Ideal S16384x1024 .f32) (g : FVec Ideal S1024 .f32) (w : FVec Ideal S1024x3384 .f32) (n : Fin 16384) (j : Fin 1024) :
    headRows (gatesL (projected x g w)) (ix2 n j) = latentGates x g w n j := by
  have e1 : at2 (⟨n.val / 8192, by omega⟩ : Fin 2) (⟨n.val % 8192, by omega⟩ : Fin 8192) = n := Fin.ext (by show n.val / 8192 * 8192 + n.val % 8192 = n.val; omega)
  unfold latentGates heads
  split
  · rename_i hj
    rw [headRows_at _ _ _ hj, gatesL_at, projected_at, e1]
  · rename_i hj
    exact headRows_pad _ _ _ hj

theorem outGS_at (x : FVec Ideal S16384x1024 .f32) (g : FVec Ideal S1024 .f32) (w : FVec Ideal S1024x3384 .f32) (n : Fin 16384) (j : Fin 1024) :
    headRows (gatesS (projected x g w)) (ix2 n j) = sparseGates x g w n j := by
  have e1 : at2 (⟨n.val / 8192, by omega⟩ : Fin 2) (⟨n.val % 8192, by omega⟩ : Fin 8192) = n := Fin.ext (by show n.val / 8192 * 8192 + n.val % 8192 = n.val; omega)
  unfold sparseGates heads
  split
  · rename_i hj
    rw [headRows_at _ _ _ hj, gatesS_at, projected_at, e1]
  · rename_i hj
    exact headRows_pad _ _ _ hj

theorem outQ_at (x : FVec Ideal S16384x1024 .f32) (g : FVec Ideal S1024 .f32) (w : FVec Ideal S1024x3384 .f32) (n : Fin 16384) (j : Fin 1024) :
    rowsQ (scaledQ (projected x g w)) (ix2 n j) = queries x g w n j := by
  have e1 : at2 (⟨n.val / 8192, by omega⟩ : Fin 2) (⟨n.val % 8192, by omega⟩ : Fin 8192) = n := Fin.ext (by show n.val / 8192 * 8192 + n.val % 8192 = n.val; omega)
  rw [rowsQ_at]
  unfold queries heads
  split
  · rename_i hj
    rw [headRows_at _ _ _ hj, scaledQ_at, projected_at, e1]
  · rename_i hj
    rw [zero_mul]
    exact headRows_pad _ _ _ hj

theorem outG_at (x : FVec Ideal S16384x1024 .f32) (g : FVec Ideal S1024 .f32) (w : FVec Ideal S1024x3384 .f32) (n : Fin 16384) (j : Fin 128) :
    padLogits (rowsG (projected x g w)) (ix2 n j) = logits x g w n j := by
  have e1 : at2 (⟨n.val / 8192, by omega⟩ : Fin 2) (⟨n.val % 8192, by omega⟩ : Fin 8192) = n := Fin.ext (by show n.val / 8192 * 8192 + n.val % 8192 = n.val; omega)
  unfold logits
  split
  · rename_i hj
    rw [padLogits_at _ _ _ hj, rowsG_at, projected_at, e1]
  · rename_i hj
    exact padLogits_pad _ _ _ hj

theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v79) = rowsL (latentNorm (latentOf (projected (m ((c.tc : Thread nD τ).loc main_arg0)) (m ((c.tc : Thread nD τ).loc main_arg1)) (m ((c.tc : Thread nD τ).loc main_arg2)))) (m ((c.tc : Thread nD τ).loc main_arg4)))
          (repeatFirst (rotated (keyOf (projected (m ((c.tc : Thread nD τ).loc main_arg0)) (m ((c.tc : Thread nD τ).loc main_arg1)) (m ((c.tc : Thread nD τ).loc main_arg2)))) angles))
          (repeatSecond (rotated (keyOf (projected (m ((c.tc : Thread nD τ).loc main_arg0)) (m ((c.tc : Thread nD τ).loc main_arg1)) (m ((c.tc : Thread nD τ).loc main_arg2)))) angles))
      ∧ r.2.mem ((c.tc : Thread nD τ).loc main_v81) = rowsK (rowsL (latentNorm (latentOf (projected (m ((c.tc : Thread nD τ).loc main_arg0)) (m ((c.tc : Thread nD τ).loc main_arg1)) (m ((c.tc : Thread nD τ).loc main_arg2)))) (m ((c.tc : Thread nD τ).loc main_arg4)))
          (repeatFirst (rotated (keyOf (projected (m ((c.tc : Thread nD τ).loc main_arg0)) (m ((c.tc : Thread nD τ).loc main_arg1)) (m ((c.tc : Thread nD τ).loc main_arg2)))) angles))
          (repeatSecond (rotated (keyOf (projected (m ((c.tc : Thread nD τ).loc main_arg0)) (m ((c.tc : Thread nD τ).loc main_arg1)) (m ((c.tc : Thread nD τ).loc main_arg2)))) angles)))
      ∧ r.2.mem ((c.tc : Thread nD τ).loc main_v84) = headRows (gatesL (projected (m ((c.tc : Thread nD τ).loc main_arg0)) (m ((c.tc : Thread nD τ).loc main_arg1)) (m ((c.tc : Thread nD τ).loc main_arg2))))
      ∧ r.2.mem ((c.tc : Thread nD τ).loc main_v90) = rowsQ (scaledQ (projected (m ((c.tc : Thread nD τ).loc main_arg0)) (m ((c.tc : Thread nD τ).loc main_arg1)) (m ((c.tc : Thread nD τ).loc main_arg2))))
      ∧ r.2.mem ((c.tc : Thread nD τ).loc main_v91) = rowsW (projected (m ((c.tc : Thread nD τ).loc main_arg0)) (m ((c.tc : Thread nD τ).loc main_arg1)) (m ((c.tc : Thread nD τ).loc main_arg2)))
      ∧ r.2.mem ((c.tc : Thread nD τ).loc main_v93) = padLogits (rowsG (projected (m ((c.tc : Thread nD τ).loc main_arg0)) (m ((c.tc : Thread nD τ).loc main_arg1)) (m ((c.tc : Thread nD τ).loc main_arg2))))
      ∧ r.2.mem ((c.tc : Thread nD τ).loc main_v96) = headRows (gatesS (projected (m ((c.tc : Thread nD τ).loc main_arg0)) (m ((c.tc : Thread nD τ).loc main_arg1)) (m ((c.tc : Thread nD τ).loc main_arg2))))
      ∧ r.2.mem ((c.tc : Thread nD τ).loc main_v97) = turnedC (projected (m ((c.tc : Thread nD τ).loc main_arg0)) (m ((c.tc : Thread nD τ).loc main_arg1)) (m ((c.tc : Thread nD τ).loc main_arg2)))
      ∧ r.2.mem ((c.tc : Thread nD τ).loc main_v98) = turnedS (projected (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1.trans (by rfl), (h c).2.1.trans (by rfl), (h c).2.2.1.trans (by rfl), (h c).2.2.2.1.trans (by rfl), (h c).2.2.2.2.1.trans (by rfl), (h c).2.2.2.2.2.1.trans (by rfl), (h c).2.2.2.2.2.2.1.trans (by rfl), (h c).2.2.2.2.2.2.2.1.trans (by rfl), (h c).2.2.2.2.2.2.2.2.1.trans (by rfl), (h c).2.2.2.2.2.2.2.2.2⟩) (run (F := Ideal) m ρ)

/-- What the reference returns. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v79) = (fun i => cacheRow (m ((c.tc : Thread nD τ).loc main_arg0)) (m ((c.tc : Thread nD τ).loc main_arg1)) (m ((c.tc : Thread nD τ).loc main_arg2)) (m ((c.tc : Thread nD τ).loc main_arg4)) (i 0) (i 1))
      ∧ r.2.mem ((c.tc : Thread nD τ).loc main_v81) = (fun i => cacheRow (m ((c.tc : Thread nD τ).loc main_arg0)) (m ((c.tc : Thread nD τ).loc main_arg1)) (m ((c.tc : Thread nD τ).loc main_arg2)) (m ((c.tc : Thread nD τ).loc main_arg4)) (i 0) (i 1))
      ∧ r.2.mem ((c.tc : Thread nD τ).loc main_v84) = (fun i => latentGates (m ((c.tc : Thread nD τ).loc main_arg0)) (m ((c.tc : Thread nD τ).loc main_arg1)) (m ((c.tc : Thread nD τ).loc main_arg2)) (i 0) (i 1))
      ∧ r.2.mem ((c.tc : Thread nD τ).loc main_v90) = (fun i => queries (m ((c.tc : Thread nD τ).loc main_arg0)) (m ((c.tc : Thread nD τ).loc main_arg1)) (m ((c.tc : Thread nD τ).loc main_arg2)) (i 0) (i 1))
      ∧ r.2.mem ((c.tc : Thread nD τ).loc main_v91) = (fun i => window (m ((c.tc : Thread nD τ).loc main_arg0)) (m ((c.tc : Thread nD τ).loc main_arg1)) (m ((c.tc : Thread nD τ).loc main_arg2)) (i 0) (i 1))
      ∧ r.2.mem ((c.tc : Thread nD τ).loc main_v93) = (fun i => logits (m ((c.tc : Thread nD τ).loc main_arg0)) (m ((c.tc : Thread nD τ).loc main_arg1)) (m ((c.tc : Thread nD τ).loc main_arg2)) (i 0) (i 1))
      ∧ r.2.mem ((c.tc : Thread nD τ).loc main_v96) = (fun i => sparseGates (m ((c.tc : Thread nD τ).loc main_arg0)) (m ((c.tc : Thread nD τ).loc main_arg1)) (m ((c.tc : Thread nD τ).loc main_arg2)) (i 0) (i 1))
      ∧ r.2.mem ((c.tc : Thread nD τ).loc main_v97) = (fun i => compressed (m ((c.tc : Thread nD τ).loc main_arg0)) (m ((c.tc : Thread nD τ).loc main_arg1)) (m ((c.tc : Thread nD τ).loc main_arg2)) (i 0) (i 1) (i 2))
      ∧ r.2.mem ((c.tc : Thread nD τ).loc main_v98) = (fun i => selected (m ((c.tc : Thread nD τ).loc main_arg0)) (m ((c.tc : Thread nD τ).loc main_arg1)) (m ((c.tc : Thread nD τ).loc main_arg2)) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩)
    (run_stages m ρ)
  · funext i
    exact (congrArg _ (eq_ix2 i)).trans (outL_at _ _ _ _ (i 0) (i 1))
  · funext i
    exact (congrArg _ (eq_ix2 i)).trans ((rowsK_at _ _).trans (outL_at _ _ _ _ (i 0) (i 1)))
  · funext i
    exact (congrArg _ (eq_ix2 i)).trans (outGL_at _ _ _ (i 0) (i 1))
  · funext i
    exact (congrArg _ (eq_ix2 i)).trans (outQ_at _ _ _ (i 0) (i 1))
  · funext i
    exact (congrArg _ (eq_ix2 i)).trans (outW_at _ _ _ (i 0) (i 1))
  · funext i
    exact (congrArg _ (eq_ix2 i)).trans (outG_at _ _ _ (i 0) (i 1))
  · funext i
    exact (congrArg _ (eq_ix2 i)).trans (outGS_at _ _ _ (i 0) (i 1))
  · funext i
    exact (congrArg _ (eq_ix3 i)).trans (outC_at _ _ _ (i 0) (i 1) (i 2))
  · funext i
    exact (congrArg _ (eq_ix3 i)).trans (outS_at _ _ _ (i 0) (i 1) (i 2))

end Cert.EvenProjRefIdeal.Value

end
-- ==== Proof.Even.OutSpec.lean ====
/- The even layer's output projection as a function of its arrays: both attentions, gated, times the output matrix, added to
   the layer's input. -/
module

public import Idealize.ShloMosaic.Lib.Pointwise
public import Idealize.ShloMosaic.Lib.IdealHost

@[expose] public section

noncomputable section

namespace Cert.EvenOut

open Idealize.ShloMosaic Idealize.ShloMosaic.Tactic

/-- The layer's input, and every array of padded heads: row, feature. -/
abbrev Rows := (⟨2, ![16384, 1024]⟩ : Shape).Idx → EReal
/-- The latent attention: head, row, latent feature. -/
abbrev Latents := (⟨3, ![8, 16384, 256]⟩ : Shape).Idx → EReal
/-- The value projection: latent feature, head, feature of the head. -/
abbrev Values := (⟨3, ![256, 8, 64]⟩ : Shape).Idx → EReal
/-- The output matrix: feature of the layer's two attentions, model feature. -/
abbrev Output := (⟨2, ![1024, 1024]⟩ : Shape).Idx → EReal

/-- A gate's factor. -/
def silu (z : EReal) : EReal := z * Ideal.logistic z

/-- The lane of a padded array that holds a feature. -/
abbrev lane (e : Fin 512) : Fin 1024 := ⟨e.val / 64 * 128 + e.val % 64, by omega⟩

/-- The latent attention's values at a feature. -/
def valued (l : Latents) (wv : Values) (n : Fin 16384) (e : Fin 512) : EReal :=
  ∑ c : Fin 256, l (ix3 (⟨e.val / 64, by omega⟩ : Fin 8) n c) * wv (ix3 c (⟨e.val / 64, by omega⟩ : Fin 8) (⟨e.val % 64, by omega⟩ : Fin 64))

/-- The layer's output. -/
def out (x : Rows) (l : Latents) (gm on gn : Rows) (wv : Values) (w : Output) (n : Fin 16384) (d : Fin 1024) : EReal :=
  x (ix2 n d) + ((∑ e : Fin 512, valued l wv n e * silu (gm (ix2 n (lane e))) * w (ix2 (⟨e.val, by omega⟩ : Fin 1024) d))
    + ∑ e : Fin 512, on (ix2 n (lane e)) * silu (gn (ix2 n (lane e))) * w (ix2 (⟨512 + e.val, by omega⟩ : Fin 1024) d))

/-- A sum over padded heads whose padding is zero is the sum over the features. -/
theorem sum_lanes (f : Fin 1024 → EReal) (g : Fin 512 → EReal) (hz : ∀ k, ¬ k.val % 128 < 64 → f k = 0) (hg : ∀ e, f (lane e) = g e) :
    ∑ k, f k = ∑ e, g e := by
  refine (Finset.sum_of_injOn lane (fun a _ b _ h => ?_) (fun _ _ => Finset.mem_coe.2 (Finset.mem_univ _)) (fun k _ hk => ?_) (fun e _ => (hg e).symm)).symm
  · have h' := congrArg Fin.val h
    dsimp only at h'
    exact Fin.ext (by omega)
  · refine hz k fun hlt => hk ⟨⟨k.val / 128 * 64 + k.val % 128, by omega⟩, Finset.mem_coe.2 (Finset.mem_univ _), Fin.ext (by dsimp only; omega)⟩

end Cert.EvenOut

end
-- ==== Proof.Even.Out.lean ====
/- The even layer's output projection as the kernel computes it, over the extended reals. -/
module

public import proofs.«01_k».proof.Proof.Gen.EvenOutIdeal.Value
public import proofs.«01_k».proof.Proof.Even.OutSpec
public import Idealize.ShloMosaic.Lib.Pipeline.ValueKit
public import Idealize.ShloMosaic.Lib.Pointwise
public import Idealize.ShloMosaic.Lib.IdealHost
public import Idealize.ShloMosaic.Lib.KernelVsHost
public import Idealize.ShloMosaic.Lib.StableHlo.RunRead

@[expose] public section

set_option maxRecDepth 16384

noncomputable section

namespace Cert.EvenOutIdeal.Value

open Cert.EvenOutIdeal Cert.EvenOutIdeal.Gen Cert.EvenOut
open Idealize.ShloMosaic Idealize.ShloMosaic.TcCoe Idealize.ShloMosaic.Tactic Idealize.SL.Sem

variable (m : (ℓ : Loc nD τ sig) → Buf (Elt Ideal) ℓ) (c : Dev nD)

theorem index_0 : ∀ t : Fin cfg0.N, win0_0.index t = ![t.val, 0] := (by decide +kernel : ∀ t : Fin grid0.N, win0_0.index t = ![t.val, 0])
theorem index_1 : ∀ t : Fin cfg0.N, win0_1.index t = ![0, t.val, 0] := (by decide +kernel : ∀ t : Fin grid0.N, win0_1.index t = ![0, t.val, 0])
theorem index_2 : ∀ t : Fin cfg0.N, win0_2.index t = ![t.val, 0] := (by decide +kernel : ∀ t : Fin grid0.N, win0_2.index t = ![t.val, 0])
theorem index_3 : ∀ t : Fin cfg0.N, win0_3.index t = ![t.val, 0] := (by decide +kernel : ∀ t : Fin grid0.N, win0_3.index t = ![t.val, 0])
theorem index_4 : ∀ t : Fin cfg0.N, win0_4.index t = ![t.val, 0] := (by decide +kernel : ∀ t : Fin grid0.N, win0_4.index t = ![t.val, 0])
theorem index_5 : ∀ t : Fin cfg0.N, win0_5.index t = ![0, 0, 0] := (by decide +kernel : ∀ t : Fin grid0.N, win0_5.index t = ![0, 0, 0])
theorem index_6 : ∀ t : Fin cfg0.N, win0_6.index t = ![0, 0] := (by decide +kernel : ∀ t : Fin grid0.N, win0_6.index t = ![0, 0])
theorem index_7 : ∀ t : Fin cfg0.N, win0_7.index t = ![t.val, 0] := (by decide +kernel : ∀ t : Fin grid0.N, win0_7.index t = ![t.val, 0])

theorem lt_points (t : Fin cfg0.N) : t.val < 64 := t.isLt

/-! The two matrices that the host code pads. -/

/-- The word of padding. -/
def padding : FVec Ideal S_ .f32 := sitofp .f32 (constantI S_ 32 0#32)

theorem padding_eq (i : S_.Idx) : padding i = 0 := sitofp_zero

/-- The value projection by heads, padded. -/
def padValues (x : FVec Ideal S256x8x64 .f32) : FVec Ideal S8x256x128 .bf16 :=
  truncf .bf16 (pad S8x256x128 ![0, 0, 0] ![0, 0, 64] ![0, 0, 0] (transpose S8x256x64 [1, 0, 2] x transposes_S256x8x64_S8x256x64_1_0_2) padding
    pads_S8x256x64_S8x256x128_000_000_0640 h_S_) bitsLt_bf16_f32

/-- The output matrix by heads, padded. -/
def padHeads (x : FVec Ideal S16x64x1024 .f32) : FVec Ideal S16x128x1024 .f32 :=
  pad S16x128x1024 ![0, 0, 0] ![0, 64, 0] ![0, 0, 0] x padding pads_S16x64x1024_S16x128x1024_000_0640_000 h_S_

/-- The padded output matrix, its heads' rows one after another. -/
def padOutput (x : FVec Ideal S1024x1024 .f32) : FVec Ideal S2048x1024 .bf16 :=
  truncf .bf16 (shapeCast S2048x1024 (padHeads (shapeCast S16x64x1024 x shapeCasts_S1024x1024_S16x64x1024)) shapeCasts_S16x128x1024_S2048x1024) bitsLt_bf16_f32

theorem padValues_at (x : FVec Ideal S256x8x64 .f32) (h : Fin 8) (e : Fin 256) (v : Fin 128) (hv : v.val < 64) :
    padValues x (ix3 h e v) = x (ix3 e h (⟨v.val, hv⟩ : Fin 64)) := by
  refine (pad_apply_of_inside _ _ _ _ _ pads_S8x256x64_S8x256x128_000_000_0640 h_S_ (ix3 h e v) (ix3 h e (⟨v.val, hv⟩ : Fin 64)) ?_).trans ?_
  · intro a
    fin_cases a <;> simp
  · pointwise []

theorem padHeads_at (x : FVec Ideal S16x64x1024 .f32) (h : Fin 16) (v : Fin 128) (d : Fin 1024) (hv : v.val < 64) :
    padHeads x (ix3 h v d) = x (ix3 h (⟨v.val, hv⟩ : Fin 64) d) := by
  refine pad_apply_of_inside _ _ _ _ _ pads_S16x64x1024_S16x128x1024_000_0640_000 h_S_ (ix3 h v d) (ix3 h (⟨v.val, hv⟩ : Fin 64) d) ?_
  intro a
  fin_cases a <;> simp

theorem padHeads_pad (x : FVec Ideal S16x64x1024 .f32) (h : Fin 16) (v : Fin 128) (d : Fin 1024) (hv : ¬ v.val < 64) :
    padHeads x (ix3 h v d) = 0 := by
  refine (pad_apply_of_not_inside _ _ _ _ _ pads_S16x64x1024_S16x128x1024_000_0640_000 h_S_ (ix3 h v d) (1 : Fin 3) ?_).trans (padding_eq _)
  simpa [Nat.mod_one] using hv

theorem padOutput_heads (x : FVec Ideal S1024x1024 .f32) (k : Fin 2048) (d : Fin 1024) :
    padOutput x (ix2 k d) = padHeads (shapeCast S16x64x1024 x shapeCasts_S1024x1024_S16x64x1024) (ix3 (⟨k.val / 128, by omega⟩ : Fin 16) (⟨k.val % 128, by omega⟩ : Fin 128) d) := by
  pointwise [padOutput]

theorem padOutput_at (x : FVec Ideal S1024x1024 .f32) (k : Fin 2048) (d : Fin 1024) (hk : k.val % 128 < 64) :
    padOutput x (ix2 k d) = x (ix2 (⟨k.val / 128 * 64 + k.val % 128, by omega⟩ : Fin 1024) d) := by
  rw [padOutput_heads, padHeads_at _ _ _ _ hk]
  pointwise []

theorem padOutput_pad (x : FVec Ideal S1024x1024 .f32) (k : Fin 2048) (d : Fin 1024) (hk : ¬ k.val % 128 < 64) :
    padOutput x (ix2 k d) = 0 := by
  rw [padOutput_heads, padHeads_pad _ _ _ _ hk]

theorem values_eq : (V m c main_v2 : FVec Ideal S8x256x128 .bf16) = padValues (m ((c.tc : Thread nD τ).loc main_arg5)) := by
  simp only [V, hostOps0, hostOps0_1, hostOps0_2, hostOps0_3, hostOps0_4, List.flatten_cons, List.flatten_nil, List.append_nil,
    List.cons_append, List.nil_append]
  after_reads_simp
  rfl

theorem output_eq : (V m c main_v6 : FVec Ideal S2048x1024 .bf16) = padOutput (m ((c.tc : Thread nD τ).loc main_arg6)) := by
  simp only [V, hostOps0, hostOps0_1, hostOps0_2, hostOps0_3, hostOps0_4, List.flatten_cons, List.flatten_nil, List.append_nil,
    List.cons_append, List.nil_append]
  after_reads_simp
  rfl

/-! The body's expressions at one element. -/

theorem pay1_at (a b : FVec Ideal S256x1024 .bf16) (x : Vec Ideal S256x1024 .f32) (u w : Vec Ideal S1024x1024 .bf16) (r : Fin 256) (d : Fin 1024) :
    k0_pay1 a b x u w (ix2 r d) = x (ix2 r d) + (∑ k : Fin 1024, a (ix2 r k) * u (ix2 k d)) + ∑ k : Fin 1024, b (ix2 r k) * w (ix2 k d) := by
  pointwise [k0_pay1]

theorem pay9_at (o g : Vec Ideal S256x1024 .f32) (r : Fin 256) (k : Fin 1024) :
    k0_pay9 o g (ix2 r k) = o (ix2 r k) * silu (g (ix2 r k)) := by
  unfold silu
  pointwise [k0_pay9]

/-- The eight heads' values side by side. -/
theorem pay8_at (x1 : Vec Ideal S8x256x256 .bf16) (x5 : Vec Ideal S8x256x128 .bf16) (g : Vec Ideal S256x1024 .f32) (r : Fin 256) (h : Fin 8) (v : Fin 128) :
    k0_pay8 (k0_pay2 (View.ld x1 r0_0) (View.ld x5 r0_1)) (k0_pay3 (View.ld x1 r0_2) (View.ld x5 r0_3)) (k0_pay4 (View.ld x1 r0_4) (View.ld x5 r0_5)) (k0_pay5 (View.ld x1 r0_6) (View.ld x5 r0_7)) (k0_pay6 (View.ld x1 r0_8)) (k0_pay7 (View.ld x5 r0_9)) (constant S256x128 .f32 0x00000000#32) (View.ld x1 r0_10) (View.ld x5 r0_11) (View.ld x1 r0_12) (View.ld x5 r0_13) (View.ld x1 r0_14) (View.ld x5 r0_15) g
        (ix2 r (⟨128 * h.val + v.val, by omega⟩ : Fin 1024))
      = (∑ e : Fin 256, x1 (ix3 h r e) * x5 (ix3 h e v)) * silu (g (ix2 r (⟨128 * h.val + v.val, by omega⟩ : Fin 1024))) := by
  unfold silu
  fin_cases h
  all_goals
    pointwise [k0_pay2, k0_pay3, k0_pay4, k0_pay5, k0_pay6, k0_pay7, k0_pay8]
    try
      refine congrArg (· * _) ?_
      repeat first | rw [dif_neg (by omega)] | rw [dif_pos (by omega)]
      try exact Finset.sum_congr rfl fun x _ => congrArg (HMul.hMul _) (congrArg x5 (congrArg (ix3 _ x) (Fin.ext (by dsimp only; omega))))

/-- The first attention's features, by their place among the padded heads. -/
theorem heads_at (x1 : Vec Ideal S8x256x256 .bf16) (x5 : Vec Ideal S8x256x128 .bf16) (g : Vec Ideal S256x1024 .f32) (r : Fin 256) (k : Fin 1024) :
    k0_pay8 (k0_pay2 (View.ld x1 r0_0) (View.ld x5 r0_1)) (k0_pay3 (View.ld x1 r0_2) (View.ld x5 r0_3)) (k0_pay4 (View.ld x1 r0_4) (View.ld x5 r0_5)) (k0_pay5 (View.ld x1 r0_6) (View.ld x5 r0_7)) (k0_pay6 (View.ld x1 r0_8)) (k0_pay7 (View.ld x5 r0_9)) (constant S256x128 .f32 0x00000000#32) (View.ld x1 r0_10) (View.ld x5 r0_11) (View.ld x1 r0_12) (View.ld x5 r0_13) (View.ld x1 r0_14) (View.ld x5 r0_15) g
        (ix2 r k)
      = (∑ e : Fin 256, x1 (ix3 (⟨k.val / 128, by omega⟩ : Fin 8) r e) * x5 (ix3 (⟨k.val / 128, by omega⟩ : Fin 8) e (⟨k.val % 128, by omega⟩ : Fin 128))) * silu (g (ix2 r k)) := by
  have hk : k = ⟨128 * (k.val / 128) + k.val % 128, by omega⟩ := Fin.ext (by dsimp only; omega)
  have h := pay8_at x1 x5 g r (⟨k.val / 128, by omega⟩ : Fin 8) (⟨k.val % 128, by omega⟩ : Fin 128)
  dsimp only at h
  rw [← hk] at h
  exact h

theorem upper_at (x : Vec Ideal S2048x1024 .bf16) (k d : Fin 1024) :
    (View.ld x r0_17 : Vec Ideal S1024x1024 .bf16) (ix2 k d) = x (ix2 (⟨k.val, by omega⟩ : Fin 2048) d) := by
  pointwise []

theorem lower_at (x : Vec Ideal S2048x1024 .bf16) (k d : Fin 1024) :
    (View.ld x r0_18 : Vec Ideal S1024x1024 .bf16) (ix2 k d) = x (ix2 (⟨1024 + k.val, by omega⟩ : Fin 2048) d) := by
  pointwise []

/-- What the body stores, at an element. -/
theorem out_at (x0 : Vec Ideal S256x1024 .f32) (x1 : Vec Ideal S8x256x256 .bf16) (x2 x3 x4 : Vec Ideal S256x1024 .f32) (x5 : Vec Ideal S8x256x128 .bf16) (x6 : Vec Ideal S2048x1024 .bf16) (r : Fin 256) (d : Fin 1024) :
    out0_7 x0 x1 x2 x3 x4 x5 x6 (ix2 r d)
      = x0 (ix2 r d)
        + (∑ k : Fin 1024, (∑ e : Fin 256, x1 (ix3 (⟨k.val / 128, by omega⟩ : Fin 8) r e) * x5 (ix3 (⟨k.val / 128, by omega⟩ : Fin 8) e (⟨k.val % 128, by omega⟩ : Fin 128)))
            * silu (x2 (ix2 r k)) * x6 (ix2 (⟨k.val, by omega⟩ : Fin 2048) d))
        + ∑ k : Fin 1024, x3 (ix2 r k) * silu (x4 (ix2 r k)) * x6 (ix2 (⟨1024 + k.val, by omega⟩ : Fin 2048) d) := by
  have l0 : View.ld x0 r0_16 = x0 := View.ld_unit_lit _ _ (by decide)
  have l2 : View.ld x2 r0_16 = x2 := View.ld_unit_lit _ _ (by decide)
  have l3 : View.ld x3 r0_16 = x3 := View.ld_unit_lit _ _ (by decide)
  have l4 : View.ld x4 r0_16 = x4 := View.ld_unit_lit _ _ (by decide)
  unfold out0_7
  rw [View.canon_cons_unit_lit _ _ _ (by decide), l0, l2, l3, l4]
  refine (pay1_at _ _ _ _ _ r d).trans (congr (congrArg _ (congrArg _ (Finset.sum_congr rfl fun k _ => ?_))) (Finset.sum_congr rfl fun k _ => ?_))
  · exact congr (congrArg _ (heads_at x1 x5 x2 r k)) (upper_at x6 k d)
  · exact congr (congrArg _ (pay9_at x3 x4 r k)) (lower_at x6 k d)

/-! A grid point's blocks. -/

theorem input_block (t : Fin cfg0.N) (r : Fin 256) (k : Fin 1024) :
    @Eq EReal (iblk m c 0 t (ix2 r k)) ((m ((c.tc : Thread nD τ).loc main_arg0) : FVec Ideal S16384x1024 .f32) (ix2 (⟨t.val * 256 + r.val, by have := lt_points t; omega⟩ : Fin 16384) k)) := by
  have := lt_points t
  refine Eq.trans ?_ (congrFun (V_main_arg0 m c) (ix2 (⟨t.val * 256 + r.val, by omega⟩ : Fin 16384) k))
  blk_ext [iblk, index_0 t]

theorem latent_block (t : Fin cfg0.N) (h : Fin 8) (r e : Fin 256) :
    @Eq EReal (iblk m c 1 t (ix3 h r e)) ((m ((c.tc : Thread nD τ).loc main_arg1) : FVec Ideal S8x16384x256 .bf16) (ix3 h (⟨t.val * 256 + r.val, by have := lt_points t; omega⟩ : Fin 16384) e)) := by
  have := lt_points t
  refine Eq.trans ?_ (congrFun (V_main_arg1 m c) (ix3 h (⟨t.val * 256 + r.val, by omega⟩ : Fin 16384) e))
  blk_ext [iblk, index_1 t]

theorem latent_gate_block (t : Fin cfg0.N) (r : Fin 256) (k : Fin 1024) :
    @Eq EReal (iblk m c 2 t (ix2 r k)) ((m ((c.tc : Thread nD τ).loc main_arg2) : FVec Ideal S16384x1024 .f32) (ix2 (⟨t.val * 256 + r.val, by have := lt_points t; omega⟩ : Fin 16384) k)) := by
  have := lt_points t
  refine Eq.trans ?_ (congrFun (V_main_arg2 m c) (ix2 (⟨t.val * 256 + r.val, by omega⟩ : Fin 16384) k))
  blk_ext [iblk, index_2 t]

theorem sparse_block (t : Fin cfg0.N) (r : Fin 256) (k : Fin 1024) :
    @Eq EReal (iblk m c 3 t (ix2 r k)) ((m ((c.tc : Thread nD τ).loc main_arg3) : FVec Ideal S16384x1024 .f32) (ix2 (⟨t.val * 256 + r.val, by have := lt_points t; omega⟩ : Fin 16384) k)) := by
  have := lt_points t
  refine Eq.trans ?_ (congrFun (V_main_arg3 m c) (ix2 (⟨t.val * 256 + r.val, by omega⟩ : Fin 16384) k))
  blk_ext [iblk, index_3 t]

theorem sparse_gate_block (t : Fin cfg0.N) (r : Fin 256) (k : Fin 1024) :
    @Eq EReal (iblk m c 4 t (ix2 r k)) ((m ((c.tc : Thread nD τ).loc main_arg4) : FVec Ideal S16384x1024 .f32) (ix2 (⟨t.val * 256 + r.val, by have := lt_points t; omega⟩ : Fin 16384) k)) := by
  have := lt_points t
  refine Eq.trans ?_ (congrFun (V_main_arg4 m c) (ix2 (⟨t.val * 256 + r.val, by omega⟩ : Fin 16384) k))
  blk_ext [iblk, index_4 t]

theorem values_block (t : Fin cfg0.N) (h : Fin 8) (e : Fin 256) (v : Fin 128) :
    @Eq EReal (iblk m c 5 t (ix3 h e v)) (padValues (m ((c.tc : Thread nD τ).loc main_arg5)) (ix3 h e v)) := by
  refine Eq.trans ?_ (congrFun (values_eq m c) (ix3 h e v))
  blk_ext [iblk, index_5 t]

theorem output_block (t : Fin cfg0.N) (k : Fin 2048) (d : Fin 1024) :
    @Eq EReal (iblk m c 6 t (ix2 k d)) (padOutput (m ((c.tc : Thread nD τ).loc main_arg6)) (ix2 k d)) := by
  refine Eq.trans ?_ (congrFun (output_eq m c) (ix2 k d))
  blk_ext [iblk, index_6 t]

/-- One block's result at one element. -/
theorem block_at (t : Fin cfg0.N) (r : Fin 256) (d : Fin 1024) :
    out0_7 (F := Ideal) (iblk m c 0 t) (iblk m c 1 t) (iblk m c 2 t) (iblk m c 3 t) (iblk m c 4 t) (iblk m c 5 t) (iblk m c 6 t) (ix2 r d)
      = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) ⟨t.val * 256 + r.val, by have := lt_points t; omega⟩ d := by
  have := lt_points t
  rw [out_at, add_assoc, out]
  refine congr (congrArg _ (input_block m c t r d)) (congr (congrArg _ (sum_lanes _ _ (fun k hk => ?_) fun e => ?_)) (sum_lanes _ _ (fun k hk => ?_) fun e => ?_))
  · rw [output_block, padOutput_pad _ _ _ (by exact hk), mul_zero]
  · rw [output_block, padOutput_at _ _ _ (by dsimp only [lane]; omega), latent_gate_block, valued]
    refine congr (congrArg _ (congrArg (· * _) (Finset.sum_congr rfl fun l _ => ?_))) (congrArg _ (congrArg (ix2 · d) (Fin.ext (by dsimp only [lane]; omega))))
    rw [latent_block, values_block, padValues_at _ _ _ _ (by dsimp only [lane]; omega)]
    exact congr (congrArg _ (congrArg _ (congrArg (ix3 · _ l) (Fin.ext (by dsimp only [lane]; omega)))))
      (congrArg _ (congr (congrArg _ (Fin.ext (by dsimp only [lane]; omega))) (Fin.ext (by dsimp only [lane]; omega))))
  · rw [output_block, padOutput_pad _ _ _ (by dsimp only; omega), mul_zero]
  · rw [output_block, padOutput_at _ _ _ (by dsimp only [lane]; omega), sparse_block, sparse_gate_block]
    exact congrArg _ (congrArg _ (congrArg (ix2 · d) (Fin.ext (by dsimp only [lane]; omega))))

theorem out_eq : (dats m 0 c).arrAt 7 cfg0.N = fun i => out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (i 0) (i 1) := by
  refine (dats m 0 c).arrAt_eq_of_covers 7 _ (by decide +kernel) fun t hf y => ?_
  blk_simp
  rw [after0_7]
  have e0 : ((((View.whole main_v7).slice (win0_7.rect t)).emb y 0 : Fin _) : ℕ) = t.val * 256 + (y 0 : ℕ) := by blk_simp [index_7 t]
  have e1 : ((((View.whole main_v7).slice (win0_7.rect t)).emb y 1 : Fin _) : ℕ) = (y 1 : ℕ) := by blk_simp [index_7 t]
  refine (congrArg (out0_7 (F := Ideal) (iblk m c 0 t) (iblk m c 1 t) (iblk m c 2 t) (iblk m c 3 t) (iblk m c 4 t) (iblk m c 5 t) (iblk m c 6 t)) (eq_ix2 y)).trans
    ((block_at m c t (y 0) (y 1)).trans ?_)
  rw [show (((View.whole main_v7).slice (win0_7.rect t)).emb y 1) = y 1 from Fin.ext e1]
  exact congrArg (fun n => out _ _ _ _ _ _ _ n (y 1)) (Fin.ext e0.symm)

theorem run_value (ρ : Dev nD → PrngReg) :
    θ_run defs (onTc (τ := τ) (main (F := Ideal))) ⟨m, fun _ => 0, ρ⟩ fun r => ∀ c : Dev nD,
      r.2.mem ((c.tc : Thread nD τ).loc main_v7) = (fun i => out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (out_eq m c), (h c).2⟩) (run_blocks m ρ)

end Cert.EvenOutIdeal.Value

end
-- ==== Proof.Even.OutRef.lean ====
/- The even layer's output projection as the reference computes it, over the extended reals. -/
module

public import proofs.«01_k».proof.Proof.Gen.EvenOutRefIdeal.Run
public import proofs.«01_k».proof.Proof.Even.OutSpec
public import Idealize.ShloMosaic.Lib.Pipeline.ValueKit
public import Idealize.ShloMosaic.Lib.Pointwise
public import Idealize.ShloMosaic.Lib.IdealHost
public import Idealize.ShloMosaic.Lib.Tactic.CleanTypes

@[expose] public section

set_option maxRecDepth 16384

noncomputable section

namespace Cert.EvenOutRefIdeal.Value

open Cert.EvenOutRefIdeal Cert.EvenOutRefIdeal.Gen Cert.EvenOut
open Idealize.ShloMosaic Idealize.ShloMosaic.TcCoe Idealize.ShloMosaic.Tactic Idealize.SL.Sem

/-- The heads' features of a padded array, side by side. -/
def features (a : FVec Ideal S16384x1024 .f32) : FVec Ideal S16384x512 .f32 :=
  shapeCast S16384x512 (extractStridedSlice S16384x8x64 ![0, 0, 0] (shapeCast S16384x8x128 a shapeCasts_S16384x1024_S16384x8x128)
    slices_S16384x8x128_S16384x8x64_0_0_0) shapeCasts_S16384x8x64_S16384x512

theorem features_at (a : FVec Ideal S16384x1024 .f32) (n : Fin 16384) (e : Fin 512) : features a (ix2 n e) = a (ix2 n (lane e)) := by
  pointwise [features]

/-- A gate's factor at every feature. -/
def gates (z : FVec Ideal S16384x512 .f32) : FVec Ideal S16384x512 .f32 :=
  mulf z (Host.divf (broadcastInDim S16384x512 ![] bcast_S_S16384x512 (constant S_ .f32 0x3F800000#32))
    (addf (broadcastInDim S16384x512 ![] bcast_S_S16384x512 (constant S_ .f32 0x3F800000#32)) (Host.exp (Host.negf z))))

theorem gates_at (z : FVec Ideal S16384x512 .f32) (n : Fin 16384) (e : Fin 512) : gates z (ix2 n e) = silu (z (ix2 n e)) := by
  unfold silu Ideal.logistic
  pointwise [gates]

/-- The latent attention's values. -/
def values (l : FVec Ideal S8x16384x256 .bf16) (wv : FVec Ideal S256x8x64 .f32) : FVec Ideal S16384x512 .f32 :=
  shapeCast S16384x512 (transpose S16384x8x64 [2, 0, 1] (Host.dotGeneral dot_S256x8x64_S16384x8x256_S8x64x16384_0_2_2_0_1_1 none wv
    (extf .f32 (transpose S16384x8x256 [1, 0, 2] l transposes_S8x16384x256_S16384x8x256_1_0_2) bitsLt_bf16_f32))
    transposes_S8x64x16384_S16384x8x64_2_0_1) shapeCasts_S16384x8x64_S16384x512

theorem values_at (l : FVec Ideal S8x16384x256 .bf16) (wv : FVec Ideal S256x8x64 .f32) (n : Fin 16384) (e : Fin 512) :
    values l wv (ix2 n e) = valued l wv n e := by
  unfold valued
  pointwise [values]
  exact Finset.sum_congr rfl fun _ _ => mul_comm _ _

/-- Two arrays of features side by side. -/
def both (a b : FVec Ideal S16384x512 .f32) : FVec Ideal S16384x1024 .f32 :=
  concatenate S16384x1024 1 [⟨S16384x512, a⟩, ⟨S16384x512, b⟩] concatenates_S16384x512_S16384x512_S16384x1024_d1

theorem both_left (a b : FVec Ideal S16384x512 .f32) (n : Fin 16384) (e : Fin 512) :
    both a b (ix2 n (⟨e.val, by omega⟩ : Fin 1024)) = a (ix2 n e) := by
  pointwise [both]

theorem both_right (a b : FVec Ideal S16384x512 .f32) (n : Fin 16384) (e : Fin 512) :
    both a b (ix2 n (⟨512 + e.val, by omega⟩ : Fin 1024)) = b (ix2 n e) := by
  pointwise [both]

/-- The layer's input plus the features times the output matrix. -/
def projected (x y : FVec Ideal S16384x1024 .f32) (w : FVec Ideal S1024x1024 .f32) : FVec Ideal S16384x1024 .f32 :=
  addf x (Host.dotGeneral dot_S16384x1024_S1024x1024_S16384x1024_1_0_0_1_n_n none y w)

theorem projected_at (x y : FVec Ideal S16384x1024 .f32) (w : FVec Ideal S1024x1024 .f32) (n : Fin 16384) (d : Fin 1024) :
    projected x y w (ix2 n d) = x (ix2 n d) + ∑ k : Fin 1024, y (ix2 n k) * w (ix2 k d) := by
  pointwise [projected]

/-- The reference's result. -/
def result (x : FVec Ideal S16384x1024 .f32) (l : FVec Ideal S8x16384x256 .bf16) (gm on gn : FVec Ideal S16384x1024 .f32)
    (wv : FVec Ideal S256x8x64 .f32) (w : FVec Ideal S1024x1024 .f32) : FVec Ideal S16384x1024 .f32 :=
  projected x (both (mulf (values l wv) (gates (features gm))) (mulf (features on) (gates (features gn)))) w

theorem result_at (x : FVec Ideal S16384x1024 .f32) (l : FVec Ideal S8x16384x256 .bf16) (gm on gn : FVec Ideal S16384x1024 .f32)
    (wv : FVec Ideal S256x8x64 .f32) (w : FVec Ideal S1024x1024 .f32) (n : Fin 16384) (d : Fin 1024) :
    result x l gm on gn wv w (ix2 n d) = out x l gm on gn wv w n d := by
  refine (projected_at _ _ _ n d).trans (congrArg (x (ix2 n d) + ·) ?_)
  refine (Fin.sum_univ_add (a := 512) (b := 512) fun k : Fin (512 + 512) => both (mulf (values l wv) (gates (features gm)))
    (mulf (features on) (gates (features gn))) (ix2 n (k : Fin 1024)) * w (ix2 (k : Fin 1024) d)).trans
    (congr (congrArg _ (Finset.sum_congr rfl fun e _ => congrArg (· * _) ?_)) (Finset.sum_congr rfl fun e _ => congrArg (· * _) ?_))
  · refine (both_left _ _ n e).trans ?_
    show values l wv (ix2 n e) * gates (features gm) (ix2 n e) = _
    rw [values_at, gates_at, features_at]
  · refine (both_right _ _ n e).trans ?_
    show features on (ix2 n e) * gates (features gn) (ix2 n e) = _
    rw [features_at, gates_at, features_at]

theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20) = (fun i => out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ⟨(h c).1.trans ?_, (h c).2⟩) (run (F := Ideal) m ρ)
  funext i
  refine Eq.trans ?_ ((congrArg (result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (eq_ix2 i)).trans (result_at _ _ _ _ _ _ _ (i 0) (i 1)))
  rfl

end Cert.EvenOutRefIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.KernelIdeal.Value
public import proofs.«01_k».proof.Proof.RefReads
public import proofs.«01_k».proof.Proof.Gen.OddProj
public import proofs.«01_k».proof.Proof.Gen.OddProj.Frame
public import proofs.«01_k».proof.Proof.Gen.OddProjIdeal
public import proofs.«01_k».proof.Proof.Gen.OddProjIdeal.Frame
public import proofs.«01_k».proof.Proof.Gen.OddProjIdeal.Value
public import proofs.«01_k».proof.Proof.Gen.OddProjRefIdeal
public import proofs.«01_k».proof.Proof.Gen.OddProjRefIdeal.Run
public import proofs.«01_k».proof.Proof.Gen.OddOut
public import proofs.«01_k».proof.Proof.Gen.OddOut.Frame
public import proofs.«01_k».proof.Proof.Gen.OddOutIdeal
public import proofs.«01_k».proof.Proof.Gen.OddOutIdeal.Frame
public import proofs.«01_k».proof.Proof.Gen.OddOutIdeal.Value
public import proofs.«01_k».proof.Proof.Gen.OddOutRefIdeal
public import proofs.«01_k».proof.Proof.Gen.OddOutRefIdeal.Run
public import proofs.«01_k».proof.Proof.Gen.EvenProj
public import proofs.«01_k».proof.Proof.Gen.EvenProjIdeal
public import proofs.«01_k».proof.Proof.Gen.EvenProjRefIdeal
public import proofs.«01_k».proof.Proof.Gen.EvenProjRefIdeal.Run
public import proofs.«01_k».proof.Proof.Gen.EvenOut
public import proofs.«01_k».proof.Proof.Gen.EvenOut.Frame
public import proofs.«01_k».proof.Proof.Gen.EvenOutIdeal
public import proofs.«01_k».proof.Proof.Gen.EvenOutIdeal.Frame
public import proofs.«01_k».proof.Proof.Gen.EvenOutIdeal.Value
public import proofs.«01_k».proof.Proof.Gen.EvenOutRefIdeal
public import proofs.«01_k».proof.Proof.Gen.EvenOutRefIdeal.Run
public import proofs.«01_k».proof.Proof.Odd.Proj
public import proofs.«01_k».proof.Proof.Odd.ProjRef
public import proofs.«01_k».proof.Proof.Odd.Out
public import proofs.«01_k».proof.Proof.Even.Run
public import proofs.«01_k».proof.Proof.EvenIdeal.Heads
public import proofs.«01_k».proof.Proof.Even.Ref
public import proofs.«01_k».proof.Proof.Even.Out
public import proofs.«01_k».proof.Proof.Even.OutRef
public import Idealize.ShloMosaic.Adequacy
public import Idealize.ShloMosaic.Init

@[expose] public section

noncomputable section

namespace Cert.Proof

open Idealize.ShloMosaic Idealize.ShloMosaic.TcCoe Idealize.SL.Sem

theorem algebraic : Cert.algebraic_KernelIdeal_ReferenceIdeal (hKernelIdeal := Cert.KernelIdeal.Gen.facts) (hReferenceIdeal := Cert.ReferenceIdeal.Gen.facts) := by
  intro m g m' g' _ hargs
  refine ⟨fun c => fun i => Cert.Attention.attention (Cert.KernelIdeal.Attn.qs m c) (Cert.KernelIdeal.Attn.ks m c) (i 0) (i 1) (i 2),
    Cert.KernelIdeal.Attn.run_value m g, ?_⟩
  refine (θ_run Cert.ReferenceIdeal.defs _ _).mono (fun r h c => ⟨(h c).1.trans ?_, (h c).2⟩) (Cert.ReferenceIdeal.Value.run (F := Ideal) m' g')
  refine (Cert.ReferenceIdeal.Value.out_eq m' c).trans ?_
  rw [(hargs c).1, (hargs c).2]
  rfl

theorem algebraic_proj : Cert.algebraic_OddProjIdeal_OddProjRefIdeal (hOddProjIdeal := Cert.OddProjIdeal.Gen.facts) (hOddProjRefIdeal := Cert.OddProjRefIdeal.Gen.facts) := by
  intro m g m' g' _ hargs
  refine ⟨fun c => fun i => Cert.OddProj.query (m ((c.tc : Thread Cert.OddProjIdeal.nD Cert.OddProjIdeal.τ).loc Cert.OddProjIdeal.main_arg0)) (m ((c.tc : Thread Cert.OddProjIdeal.nD Cert.OddProjIdeal.τ).loc Cert.OddProjIdeal.main_arg1)) (m ((c.tc : Thread Cert.OddProjIdeal.nD Cert.OddProjIdeal.τ).loc Cert.OddProjIdeal.main_arg2)) (i 0) (i 1),
    fun c => fun i => Cert.OddProj.key (m ((c.tc : Thread Cert.OddProjIdeal.nD Cert.OddProjIdeal.τ).loc Cert.OddProjIdeal.main_arg0)) (m ((c.tc : Thread Cert.OddProjIdeal.nD Cert.OddProjIdeal.τ).loc Cert.OddProjIdeal.main_arg1)) (m ((c.tc : Thread Cert.OddProjIdeal.nD Cert.OddProjIdeal.τ).loc Cert.OddProjIdeal.main_arg2)) (i 0) (i 1),
    fun c => fun i => Cert.OddProj.value (m ((c.tc : Thread Cert.OddProjIdeal.nD Cert.OddProjIdeal.τ).loc Cert.OddProjIdeal.main_arg0)) (m ((c.tc : Thread Cert.OddProjIdeal.nD Cert.OddProjIdeal.τ).loc Cert.OddProjIdeal.main_arg1)) (m ((c.tc : Thread Cert.OddProjIdeal.nD Cert.OddProjIdeal.τ).loc Cert.OddProjIdeal.main_arg2)) (i 0) (i 1),
    fun c => fun i => Cert.OddProj.gate (m ((c.tc : Thread Cert.OddProjIdeal.nD Cert.OddProjIdeal.τ).loc Cert.OddProjIdeal.main_arg0)) (m ((c.tc : Thread Cert.OddProjIdeal.nD Cert.OddProjIdeal.τ).loc Cert.OddProjIdeal.main_arg1)) (m ((c.tc : Thread Cert.OddProjIdeal.nD Cert.OddProjIdeal.τ).loc Cert.OddProjIdeal.main_arg2)) (i 0) (i 1),
    Cert.OddProjIdeal.Value.run_value m g, ?_⟩
  refine (θ_run Cert.OddProjRefIdeal.defs _ _).mono (fun r h c => ⟨(h c).1.trans ?_, (h c).2.1.trans ?_, (h c).2.2.1.trans ?_, (h c).2.2.2.1.trans ?_, (h c).2.2.2.2⟩)
    (Cert.OddProjRefIdeal.Value.run_value m' g')
  all_goals
    rw [(hargs c).1, (hargs c).2.1, (hargs c).2.2]
    rfl

theorem algebraic_out : Cert.algebraic_OddOutIdeal_OddOutRefIdeal (hOddOutIdeal := Cert.OddOutIdeal.Gen.facts) (hOddOutRefIdeal := Cert.OddOutRefIdeal.Gen.facts) := by
  intro m g m' g' _ hargs
  refine ⟨fun c => fun i => Cert.OddOut.normed (m ((c.tc : Thread Cert.OddOutIdeal.nD Cert.OddOutIdeal.τ).loc Cert.OddOutIdeal.main_arg0)) (m ((c.tc : Thread Cert.OddOutIdeal.nD Cert.OddOutIdeal.τ).loc Cert.OddOutIdeal.main_arg1)) (m ((c.tc : Thread Cert.OddOutIdeal.nD Cert.OddOutIdeal.τ).loc Cert.OddOutIdeal.main_arg2)) (m ((c.tc : Thread Cert.OddOutIdeal.nD Cert.OddOutIdeal.τ).loc Cert.OddOutIdeal.main_arg3)) (i 0) (i 1),
    Cert.OddOutIdeal.Value.run_value m g, ?_⟩
  refine (θ_run Cert.OddOutRefIdeal.defs _ _).mono (fun r h c => ⟨(h c).1.trans ?_, (h c).2⟩) (Cert.OddOutRefIdeal.Value.run_value m' g')
  rw [(hargs c).1, (hargs c).2.1, (hargs c).2.2.1, (hargs c).2.2.2]
  rfl

set_option maxHeartbeats 3200000 in
theorem algebraic_even : Cert.algebraic_EvenProjIdeal_EvenProjRefIdeal (hEvenProjIdeal := Cert.EvenProjIdeal.Gen.facts) (hEvenProjRefIdeal := Cert.EvenProjRefIdeal.Gen.facts) := by
  intro m g m' g' _ hargs
  refine ⟨fun c => fun i => Cert.EvenProj.cacheRow (m ((c.tc : Thread Cert.EvenProjIdeal.nD Cert.EvenProjIdeal.τ).loc Cert.EvenProjIdeal.main_arg0)) (m ((c.tc : Thread Cert.EvenProjIdeal.nD Cert.EvenProjIdeal.τ).loc Cert.EvenProjIdeal.main_arg1)) (m ((c.tc : Thread Cert.EvenProjIdeal.nD Cert.EvenProjIdeal.τ).loc Cert.EvenProjIdeal.main_arg2)) (m ((c.tc : Thread Cert.EvenProjIdeal.nD Cert.EvenProjIdeal.τ).loc Cert.EvenProjIdeal.main_arg4)) (i 0) (i 1),
    fun c => fun i => Cert.EvenProj.cacheRow (m ((c.tc : Thread Cert.EvenProjIdeal.nD Cert.EvenProjIdeal.τ).loc Cert.EvenProjIdeal.main_arg0)) (m ((c.tc : Thread Cert.EvenProjIdeal.nD Cert.EvenProjIdeal.τ).loc Cert.EvenProjIdeal.main_arg1)) (m ((c.tc : Thread Cert.EvenProjIdeal.nD Cert.EvenProjIdeal.τ).loc Cert.EvenProjIdeal.main_arg2)) (m ((c.tc : Thread Cert.EvenProjIdeal.nD Cert.EvenProjIdeal.τ).loc Cert.EvenProjIdeal.main_arg4)) (i 0) (i 1),
    fun c => fun i => Cert.EvenProj.latentGates (m ((c.tc : Thread Cert.EvenProjIdeal.nD Cert.EvenProjIdeal.τ).loc Cert.EvenProjIdeal.main_arg0)) (m ((c.tc : Thread Cert.EvenProjIdeal.nD Cert.EvenProjIdeal.τ).loc Cert.EvenProjIdeal.main_arg1)) (m ((c.tc : Thread Cert.EvenProjIdeal.nD Cert.EvenProjIdeal.τ).loc Cert.EvenProjIdeal.main_arg2)) (i 0) (i 1),
    fun c => fun i => Cert.EvenProj.queries (m ((c.tc : Thread Cert.EvenProjIdeal.nD Cert.EvenProjIdeal.τ).loc Cert.EvenProjIdeal.main_arg0)) (m ((c.tc : Thread Cert.EvenProjIdeal.nD Cert.EvenProjIdeal.τ).loc Cert.EvenProjIdeal.main_arg1)) (m ((c.tc : Thread Cert.EvenProjIdeal.nD Cert.EvenProjIdeal.τ).loc Cert.EvenProjIdeal.main_arg2)) (i 0) (i 1),
    fun c => fun i => Cert.EvenProj.window (m ((c.tc : Thread Cert.EvenProjIdeal.nD Cert.EvenProjIdeal.τ).loc Cert.EvenProjIdeal.main_arg0)) (m ((c.tc : Thread Cert.EvenProjIdeal.nD Cert.EvenProjIdeal.τ).loc Cert.EvenProjIdeal.main_arg1)) (m ((c.tc : Thread Cert.EvenProjIdeal.nD Cert.EvenProjIdeal.τ).loc Cert.EvenProjIdeal.main_arg2)) (i 0) (i 1),
    fun c => fun i => Cert.EvenProj.logits (m ((c.tc : Thread Cert.EvenProjIdeal.nD Cert.EvenProjIdeal.τ).loc Cert.EvenProjIdeal.main_arg0)) (m ((c.tc : Thread Cert.EvenProjIdeal.nD Cert.EvenProjIdeal.τ).loc Cert.EvenProjIdeal.main_arg1)) (m ((c.tc : Thread Cert.EvenProjIdeal.nD Cert.EvenProjIdeal.τ).loc Cert.EvenProjIdeal.main_arg2)) (i 0) (i 1),
    fun c => fun i => Cert.EvenProj.sparseGates (m ((c.tc : Thread Cert.EvenProjIdeal.nD Cert.EvenProjIdeal.τ).loc Cert.EvenProjIdeal.main_arg0)) (m ((c.tc : Thread Cert.EvenProjIdeal.nD Cert.EvenProjIdeal.τ).loc Cert.EvenProjIdeal.main_arg1)) (m ((c.tc : Thread Cert.EvenProjIdeal.nD Cert.EvenProjIdeal.τ).loc Cert.EvenProjIdeal.main_arg2)) (i 0) (i 1),
    fun c => fun i => Cert.EvenProj.compressed (m ((c.tc : Thread Cert.EvenProjIdeal.nD Cert.EvenProjIdeal.τ).loc Cert.EvenProjIdeal.main_arg0)) (m ((c.tc : Thread Cert.EvenProjIdeal.nD Cert.EvenProjIdeal.τ).loc Cert.EvenProjIdeal.main_arg1)) (m ((c.tc : Thread Cert.EvenProjIdeal.nD Cert.EvenProjIdeal.τ).loc Cert.EvenProjIdeal.main_arg2)) (i 0) (i 1) (i 2),
    fun c => fun i => Cert.EvenProj.selected (m ((c.tc : Thread Cert.EvenProjIdeal.nD Cert.EvenProjIdeal.τ).loc Cert.EvenProjIdeal.main_arg0)) (m ((c.tc : Thread Cert.EvenProjIdeal.nD Cert.EvenProjIdeal.τ).loc Cert.EvenProjIdeal.main_arg1)) (m ((c.tc : Thread Cert.EvenProjIdeal.nD Cert.EvenProjIdeal.τ).loc Cert.EvenProjIdeal.main_arg2)) (i 0) (i 1) (i 2),
    Cert.EvenProjIdeal.Even.run_value m g, ?_⟩
  refine (θ_run Cert.EvenProjRefIdeal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩)
    (Cert.EvenProjRefIdeal.Value.run_value m' g')
  iterate 2
    · rw [(hargs c).1, (hargs c).2.1, (hargs c).2.2.1, (hargs c).2.2.2.2.1]
      rfl
  all_goals
    rw [(hargs c).1, (hargs c).2.1, (hargs c).2.2.1]
    rfl

theorem algebraic_even_out : Cert.algebraic_EvenOutIdeal_EvenOutRefIdeal (hEvenOutIdeal := Cert.EvenOutIdeal.Gen.facts) (hEvenOutRefIdeal := Cert.EvenOutRefIdeal.Gen.facts) := by
  intro m g m' g' _ hargs
  refine ⟨fun c => fun i => Cert.EvenOut.out (m ((c.tc : Thread Cert.EvenOutIdeal.nD Cert.EvenOutIdeal.τ).loc Cert.EvenOutIdeal.main_arg0)) (m ((c.tc : Thread Cert.EvenOutIdeal.nD Cert.EvenOutIdeal.τ).loc Cert.EvenOutIdeal.main_arg1)) (m ((c.tc : Thread Cert.EvenOutIdeal.nD Cert.EvenOutIdeal.τ).loc Cert.EvenOutIdeal.main_arg2)) (m ((c.tc : Thread Cert.EvenOutIdeal.nD Cert.EvenOutIdeal.τ).loc Cert.EvenOutIdeal.main_arg3)) (m ((c.tc : Thread Cert.EvenOutIdeal.nD Cert.EvenOutIdeal.τ).loc Cert.EvenOutIdeal.main_arg4)) (m ((c.tc : Thread Cert.EvenOutIdeal.nD Cert.EvenOutIdeal.τ).loc Cert.EvenOutIdeal.main_arg5)) (m ((c.tc : Thread Cert.EvenOutIdeal.nD Cert.EvenOutIdeal.τ).loc Cert.EvenOutIdeal.main_arg6)) (i 0) (i 1),
    Cert.EvenOutIdeal.Value.run_value m g, ?_⟩
  refine (θ_run Cert.EvenOutRefIdeal.defs _ _).mono (fun r h c => ⟨(h c).1.trans ?_, (h c).2⟩) (Cert.EvenOutRefIdeal.Value.run_value m' g')
  rw [(hargs c).1, (hargs c).2.1, (hargs c).2.2.1, (hargs c).2.2.2.1, (hargs c).2.2.2.2.1, (hargs c).2.2.2.2.2.1, (hargs c).2.2.2.2.2.2]
  rfl

theorem claim : Cert.Claim := ⟨Cert.Kernel.Gen.facts, Cert.KernelIdeal.Gen.facts, Cert.ReferenceIdeal.Gen.facts,
  Cert.OddProj.Gen.facts, Cert.OddProjIdeal.Gen.facts, Cert.OddProjRefIdeal.Gen.facts,
  Cert.OddOut.Gen.facts, Cert.OddOutIdeal.Gen.facts, Cert.OddOutRefIdeal.Gen.facts,
  Cert.EvenProj.Gen.facts, Cert.EvenProjIdeal.Gen.facts, Cert.EvenProjRefIdeal.Gen.facts,
  Cert.EvenOut.Gen.facts, Cert.EvenOutIdeal.Gen.facts, Cert.EvenOutRefIdeal.Gen.facts,
  fun m g _ => Cert.Kernel.Attn.frame m g,
  fun m g _ => Cert.KernelIdeal.Attn.frame m g,
  fun m g _ => (θ_run Cert.ReferenceIdeal.defs _ _).mono (fun r h => ⟨fun c => (h c).2, sem_eq_zero_of_no_sems (by decide) r.2⟩)
    (Cert.ReferenceIdeal.Value.run (F := Ideal) m g),
  fun m g _ => Cert.OddProj.Gen.frame m g,
  fun m g _ => Cert.OddProjIdeal.Gen.frame m g,
  fun m g _ => (θ_run Cert.OddProjRefIdeal.defs _ _).mono (fun r h => ⟨fun c => (h c).2.2.2.2, sem_eq_zero_of_no_sems (by decide) r.2⟩)
    (Cert.OddProjRefIdeal.Value.run (F := Ideal) m g),
  fun m g _ => Cert.OddOut.Gen.frame m g,
  fun m g _ => Cert.OddOutIdeal.Gen.frame m g,
  fun m g _ => (θ_run Cert.OddOutRefIdeal.defs _ _).mono (fun r h => ⟨fun c => (h c).2, sem_eq_zero_of_no_sems (by decide) r.2⟩)
    (Cert.OddOutRefIdeal.Value.run (F := Ideal) m g),
  fun m g _ => Cert.EvenProj.Even.frame m g,
  fun m g _ => Cert.EvenProjIdeal.Even.frame m g,
  fun m g _ => (θ_run Cert.EvenProjRefIdeal.defs _ _).mono (fun r h => ⟨fun c => (h c).2.2.2.2.2.2.2.2.2, sem_eq_zero_of_no_sems (by decide) r.2⟩)
    (Cert.EvenProjRefIdeal.Value.run (F := Ideal) m g),
  fun m g _ => Cert.EvenOut.Gen.frame m g,
  fun m g _ => Cert.EvenOutIdeal.Gen.frame m g,
  fun m g _ => (θ_run Cert.EvenOutRefIdeal.defs _ _).mono (fun r h => ⟨fun c => (h c).2, sem_eq_zero_of_no_sems (by decide) r.2⟩)
    (Cert.EvenOutRefIdeal.Value.run (F := Ideal) m g),
  ⟨IdealRules.named_const.statement Cert.KernelIdeal.κ "mask" .f32 _ _ rfl,
    IdealRules.named_const.statement Cert.KernelIdeal.κ "scale_log2e" .f32 _ _ rfl⟩,
  algebraic, trivial, algebraic_proj, trivial, algebraic_out, trivial, algebraic_even, trivial, algebraic_even_out⟩

end Cert.Proof

end
